-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)) (v4 : (c : Dev Cert.Kernel3Ideal.nD) → Buf (Elt Ideal) ((c.tc : Thread Cert.Kernel3Ideal.nD Cert.Kernel3Ideal.τ).loc Cert.Kernel3Ideal.main_v5_4)) (v5 : (c : Dev Cert.Kernel3Ideal.nD) → Buf (Elt Ideal) ((c.tc : Thread Cert.Kernel3Ideal.nD Cert.Kernel3Ideal.τ).loc Cert.Kernel3Ideal.main_v5_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_v5_4) = v4 c
          ∧ r.2.mem ((c.tc : Thread Cert.Kernel3Ideal.nD Cert.Kernel3Ideal.τ).loc Cert.Kernel3Ideal.main_v5_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v5) = v1 c
          ∧ r.2.mem ((c.tc : Thread Cert.Reference3Ideal.nD Cert.Reference3Ideal.τ).loc Cert.Reference3Ideal.main_v7) = v2 c
          ∧ r.2.mem ((c.tc : Thread Cert.Reference3Ideal.nD Cert.Reference3Ideal.τ).loc Cert.Reference3Ideal.main_v9) = v3 c
          ∧ r.2.mem ((c.tc : Thread Cert.Reference3Ideal.nD Cert.Reference3Ideal.τ).loc Cert.Reference3Ideal.main_v11) = v4 c
          ∧ r.2.mem ((c.tc : Thread Cert.Reference3Ideal.nD Cert.Reference3Ideal.τ).loc Cert.Reference3Ideal.main_v13) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S2x4096x2048 : Shape := ⟨3, ![2, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S1x2048x10704 : Shape := ⟨3, ![1, 2048, 10704]⟩
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S2048x10704 : Shape := ⟨2, ![2048, 10704]⟩
abbrev S10704x2048 : Shape := ⟨2, ![10704, 2048]⟩
abbrev S11264x2048 : Shape := ⟨2, ![11264, 2048]⟩
abbrev S512x2048 : Shape := ⟨2, ![512, 2048]⟩
abbrev S2048x512 : Shape := ⟨2, ![2048, 512]⟩
abbrev S128x2048 : Shape := ⟨2, ![128, 2048]⟩
abbrev S512 : Shape := ⟨1, ![512]⟩
abbrev S512x1 : Shape := ⟨2, ![512, 1]⟩
abbrev S512x512 : Shape := ⟨2, ![512, 512]⟩

abbrev nBuf : Space → Nat
  | .hbm => 23
  | .vmem => 19
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S1x2048x10704, .f32⟩
  | .hbm, ⟨7, _⟩ => ⟨S8192x2048, .f32⟩
  | .hbm, ⟨8, _⟩ => ⟨S2048, .f32⟩
  | .hbm, ⟨9, _⟩ => ⟨S1x2048, .f32⟩
  | .hbm, ⟨10, _⟩ => ⟨S2048x5632, .f32⟩
  | .hbm, ⟨11, _⟩ => ⟨S2048x5632, .bf16⟩
  | .hbm, ⟨12, _⟩ => ⟨S2048x5632, .f32⟩
  | .hbm, ⟨13, _⟩ => ⟨S2048x5632, .bf16⟩
  | .hbm, ⟨14, _⟩ => ⟨S5632x2048, .f32⟩
  | .hbm, ⟨15, _⟩ => ⟨S5632x2048, .bf16⟩
  | .hbm, ⟨16, _⟩ => ⟨S2048, .f32⟩
  | .hbm, ⟨17, _⟩ => ⟨S1x2048, .f32⟩
  | .hbm, ⟨18, _⟩ => ⟨S2048x10704, .f32⟩
  | .hbm, ⟨19, _⟩ => ⟨S10704x2048, .f32⟩
  | .hbm, ⟨20, _⟩ => ⟨S8192x2048, .f32⟩
  | .hbm, ⟨21, _⟩ => ⟨S8192x2048, .bf16⟩
  | .hbm, ⟨22, _⟩ => ⟨S11264x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S128x2048, .f32⟩
  | .local _ .vmem, ⟨11, _⟩ => ⟨S128x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S128x2048, .bf16⟩
  | .local _ .vmem, ⟨17, _⟩ => ⟨S128x2048, .bf16⟩
  | .local _ .vmem, ⟨18, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 11], ![false, false]⟩

def k0_mult1 (i : grid0.Coords) : BitVec 32 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c87_i32 : BitVec 32 := 87#32
  let v2 : BitVec 32 := Scalar.minsi v1 c87_i32
  let c1_i32 : BitVec 32 := 1#32
  let v3 : BitVec 32 := Scalar.muli v2 c1_i32
  let c0_i32 : BitVec 32 := 0#32
  let v4 : BitVec 32 := Scalar.addi v3 c0_i32
  let c128_i32 : BitVec 32 := 128#32
  let v5 : BitVec 32 := Scalar.muli v4 c128_i32
  let c7168_i32 : BitVec 32 := 7168#32
  let v51 : BitVec 1 := Scalar.cmpi .sge v5 c7168_i32
  let c11264_i32 : BitVec 32 := 11264#32
  let v52 : BitVec 1 := Scalar.cmpi .slt v5 c11264_i32
  let v53 : BitVec 1 := Scalar.andi v51 v52
  let c6608_i32 : BitVec 32 := 6608#32
  let v54 : BitVec 32 := Scalar.addi c6608_i32 v5
  let c7168_i32_21 : BitVec 32 := 7168#32
  let v55 : BitVec 32 := Scalar.subi v54 c7168_i32_21
  let c3584_i32_16 : BitVec 32 := 3584#32
  let v42 : BitVec 1 := Scalar.cmpi .sge v5 c3584_i32_16
  let c6672_i32 : BitVec 32 := 6672#32
  let v43 : BitVec 1 := Scalar.cmpi .slt v5 c6672_i32
  let v44 : BitVec 1 := Scalar.andi v42 v43
  let c0_i32_17 : BitVec 32 := 0#32
  let v45 : BitVec 32 := Scalar.addi c0_i32_17 v5
  let c3584_i32_18 : BitVec 32 := 3584#32
  let v46 : BitVec 32 := Scalar.subi v45 c3584_i32_18
  let c3328_i32 : BitVec 32 := 3328#32
  let v33 : BitVec 1 := Scalar.cmpi .sge v5 c3328_i32
  let c3584_i32 : BitVec 32 := 3584#32
  let v34 : BitVec 1 := Scalar.cmpi .slt v5 c3584_i32
  let v35 : BitVec 1 := Scalar.andi v33 v34
  let c6352_i32 : BitVec 32 := 6352#32
  let v36 : BitVec 32 := Scalar.addi c6352_i32 v5
  let c3328_i32_13 : BitVec 32 := 3328#32
  let v37 : BitVec 32 := Scalar.subi v36 c3328_i32_13
  let c3200_i32 : BitVec 32 := 3200#32
  let v24 : BitVec 1 := Scalar.cmpi .sge v5 c3200_i32
  let c3296_i32 : BitVec 32 := 3296#32
  let v25 : BitVec 1 := Scalar.cmpi .slt v5 c3296_i32
  let v26 : BitVec 1 := Scalar.andi v24 v25
  let c6256_i32 : BitVec 32 := 6256#32
  let v27 : BitVec 32 := Scalar.addi c6256_i32 v5
  let c3200_i32_10 : BitVec 32 := 3200#32
  let v28 : BitVec 32 := Scalar.subi v27 c3200_i32_10
  let c3072_i32_6 : BitVec 32 := 3072#32
  let v15 : BitVec 1 := Scalar.cmpi .sge v5 c3072_i32_6
  let c3168_i32 : BitVec 32 := 3168#32
  let v16 : BitVec 1 := Scalar.cmpi .slt v5 c3168_i32
  let v17 : BitVec 1 := Scalar.andi v15 v16
  let c6160_i32 : BitVec 32 := 6160#32
  let v18 : BitVec 32 := Scalar.addi c6160_i32 v5
  let c3072_i32_7 : BitVec 32 := 3072#32
  let v19 : BitVec 32 := Scalar.subi v18 c3072_i32_7
  let c0_i32_0 : BitVec 32 := 0#32
  let v6 : BitVec 1 := Scalar.cmpi .sge v5 c0_i32_0
  let c3072_i32 : BitVec 32 := 3072#32
  let v7 : BitVec 1 := Scalar.cmpi .slt v5 c3072_i32
  let v8 : BitVec 1 := Scalar.andi v6 v7
  let c3088_i32 : BitVec 32 := 3088#32
  let v9 : BitVec 32 := Scalar.addi c3088_i32 v5
  let c0_i32_1 : BitVec 32 := 0#32
  let v10 : BitVec 32 := Scalar.subi v9 c0_i32_1
  let c0_i32_2 : BitVec 32 := 0#32
  let v11 : BitVec 32 := Scalar.select v8 v10 c0_i32_2
  let v20 : BitVec 32 := Scalar.select v17 v19 v11
  let v29 : BitVec 32 := Scalar.select v26 v28 v20
  let v38 : BitVec 32 := Scalar.select v35 v37 v29
  let v47 : BitVec 32 := Scalar.select v44 v46 v38
  let v56 : BitVec 32 := Scalar.select v53 v55 v47
  v56
def k0_cond2 (i : grid0.Coords) : BitVec 1 :=
  let arg1 : BitVec 32 := BitVec.ofNat 32 (i 1).val
  let c10_i32 : BitVec 32 := 10#32
  let v78 : BitVec 1 := Scalar.cmpi .eq arg1 c10_i32
  let v79 : BitVec 32 := Scalar.extui v78
  let c0_i32_39 : BitVec 32 := 0#32
  let v80 : BitVec 1 := Scalar.cmpi .ne v79 c0_i32_39
  v80

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c87_i32 : BitVec 32 := 87#32
  let v2 : BitVec 32 := Scalar.minsi v1 c87_i32
  let c1_i32 : BitVec 32 := 1#32
  let v3 : BitVec 32 := Scalar.muli v2 c1_i32
  let c0_i32 : BitVec 32 := 0#32
  let v4 : BitVec 32 := Scalar.addi v3 c0_i32
  let c128_i32 : BitVec 32 := 128#32
  let v5 : BitVec 32 := Scalar.muli v4 c128_i32
  let c0_i32_0 : BitVec 32 := 0#32
  let v6 : BitVec 1 := Scalar.cmpi .sge v5 c0_i32_0
  let c3072_i32 : BitVec 32 := 3072#32
  let v7 : BitVec 1 := Scalar.cmpi .slt v5 c3072_i32
  let v8 : BitVec 1 := Scalar.andi v6 v7
  let c3088_i32 : BitVec 32 := 3088#32
  let v9 : BitVec 32 := Scalar.addi c3088_i32 v5
  let c0_i32_1 : BitVec 32 := 0#32
  let v10 : BitVec 32 := Scalar.subi v9 c0_i32_1
  let c0_i32_2 : BitVec 32 := 0#32
  let v11 : BitVec 32 := Scalar.select v8 v10 c0_i32_2
  let c3072_i32_3 : BitVec 32 := 3072#32
  let v12 : BitVec 32 := Scalar.subi c3072_i32_3 v5
  let c128_i32_4 : BitVec 32 := 128#32
  let v13 : BitVec 32 := Scalar.minsi v12 c128_i32_4
  let c0_i32_5 : BitVec 32 := 0#32
  let v14 : BitVec 32 := Scalar.select v8 v13 c0_i32_5
  let c3072_i32_6 : BitVec 32 := 3072#32
  let v15 : BitVec 1 := Scalar.cmpi .sge v5 c3072_i32_6
  let c3168_i32 : BitVec 32 := 3168#32
  let v16 : BitVec 1 := Scalar.cmpi .slt v5 c3168_i32
  let v17 : BitVec 1 := Scalar.andi v15 v16
  let c6160_i32 : BitVec 32 := 6160#32
  let v18 : BitVec 32 := Scalar.addi c6160_i32 v5
  let c3072_i32_7 : BitVec 32 := 3072#32
  let v19 : BitVec 32 := Scalar.subi v18 c3072_i32_7
  let v20 : BitVec 32 := Scalar.select v17 v19 v11
  let c3168_i32_8 : BitVec 32 := 3168#32
  let v21 : BitVec 32 := Scalar.subi c3168_i32_8 v5
  let c128_i32_9 : BitVec 32 := 128#32
  let v22 : BitVec 32 := Scalar.minsi v21 c128_i32_9
  let v23 : BitVec 32 := Scalar.select v17 v22 v14
  let c3200_i32 : BitVec 32 := 3200#32
  let v24 : BitVec 1 := Scalar.cmpi .sge v5 c3200_i32
  let c3296_i32 : BitVec 32 := 3296#32
  let v25 : BitVec 1 := Scalar.cmpi .slt v5 c3296_i32
  let v26 : BitVec 1 := Scalar.andi v24 v25
  let c6256_i32 : BitVec 32 := 6256#32
  let v27 : BitVec 32 := Scalar.addi c6256_i32 v5
  let c3200_i32_10 : BitVec 32 := 3200#32
  let v28 : BitVec 32 := Scalar.subi v27 c3200_i32_10
  let v29 : BitVec 32 := Scalar.select v26 v28 v20
  let c3296_i32_11 : BitVec 32 := 3296#32
  let v30 : BitVec 32 := Scalar.subi c3296_i32_11 v5
  let c128_i32_12 : BitVec 32 := 128#32
  let v31 : BitVec 32 := Scalar.minsi v30 c128_i32_12
  let v32 : BitVec 32 := Scalar.select v26 v31 v23
  let c3328_i32 : BitVec 32 := 3328#32
  let v33 : BitVec 1 := Scalar.cmpi .sge v5 c3328_i32
  let c3584_i32 : BitVec 32 := 3584#32
  let v34 : BitVec 1 := Scalar.cmpi .slt v5 c3584_i32
  let v35 : BitVec 1 := Scalar.andi v33 v34
  let c6352_i32 : BitVec 32 := 6352#32
  let v36 : BitVec 32 := Scalar.addi c6352_i32 v5
  let c3328_i32_13 : BitVec 32 := 3328#32
  let v37 : BitVec 32 := Scalar.subi v36 c3328_i32_13
  let v38 : BitVec 32 := Scalar.select v35 v37 v29
  let c3584_i32_14 : BitVec 32 := 3584#32
  let v39 : BitVec 32 := Scalar.subi c3584_i32_14 v5
  let c128_i32_15 : BitVec 32 := 128#32
  let v40 : BitVec 32 := Scalar.minsi v39 c128_i32_15
  let v41 : BitVec 32 := Scalar.select v35 v40 v32
  let c3584_i32_16 : BitVec 32 := 3584#32
  let v42 : BitVec 1 := Scalar.cmpi .sge v5 c3584_i32_16
  let c6672_i32 : BitVec 32 := 6672#32
  let v43 : BitVec 1 := Scalar.cmpi .slt v5 c6672_i32
  let v44 : BitVec 1 := Scalar.andi v42 v43
  let c0_i32_17 : BitVec 32 := 0#32
  let v45 : BitVec 32 := Scalar.addi c0_i32_17 v5
  let c3584_i32_18 : BitVec 32 := 3584#32
  let v46 : BitVec 32 := Scalar.subi v45 c3584_i32_18
  let v47 : BitVec 32 := Scalar.select v44 v46 v38
  let c6672_i32_19 : BitVec 32 := 6672#32
  let v48 : BitVec 32 := Scalar.subi c6672_i32_19 v5
  let c128_i32_20 : BitVec 32 := 128#32
  let v49 : BitVec 32 := Scalar.minsi v48 c128_i32_20
  let v50 : BitVec 32 := Scalar.select v44 v49 v41
  let c7168_i32 : BitVec 32 := 7168#32
  let v51 : BitVec 1 := Scalar.cmpi .sge v5 c7168_i32
  let c11264_i32 : BitVec 32 := 11264#32
  let v52 : BitVec 1 := Scalar.cmpi .slt v5 c11264_i32
  let v53 : BitVec 1 := Scalar.andi v51 v52
  let c6608_i32 : BitVec 32 := 6608#32
  let v54 : BitVec 32 := Scalar.addi c6608_i32 v5
  let c7168_i32_21 : BitVec 32 := 7168#32
  let v55 : BitVec 32 := Scalar.subi v54 c7168_i32_21
  let v56 : BitVec 32 := Scalar.select v53 v55 v47
  let c11264_i32_22 : BitVec 32 := 11264#32
  let v57 : BitVec 32 := Scalar.subi c11264_i32_22 v5
  let c128_i32_23 : BitVec 32 := 128#32
  let v58 : BitVec 32 := Scalar.minsi v57 c128_i32_23
  let v59 : BitVec 32 := Scalar.select v53 v58 v50
  let v60 : BitVec 32 := v56
  let c0_i32_24 : BitVec 32 := 0#32
  let c0_i32_25 : BitVec 32 := 0#32
  ![v60.toNat, c0_i32_24.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c87_i32 : BitVec 32 := 87#32
  let v2 : BitVec 32 := Scalar.minsi v1 c87_i32
  let c0_i32 : BitVec 32 := 0#32
  let c0_i32_0 : BitVec 32 := 0#32
  ![v2.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S2x4096x2048 : Shape := ⟨3, ![2, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S1x2048x10704 : Shape := ⟨3, ![1, 2048, 10704]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x5632 : Shape := ⟨2, ![2048, 5632]⟩
abbrev S5632x2048 : Shape := ⟨2, ![5632, 2048]⟩
abbrev S2x4096x5632 : Shape := ⟨3, ![2, 4096, 5632]⟩
abbrev S8192x2048 : Shape := ⟨2, ![8192, 2048]⟩
abbrev S2048x10704 : Shape := ⟨2, ![2048, 10704]⟩
abbrev S2048x3088 : Shape := ⟨2, ![2048, 3088]⟩
abbrev S2048x3520 : Shape := ⟨2, ![2048, 3520]⟩
abbrev S2048x4096 : Shape := ⟨2, ![2048, 4096]⟩
abbrev S2048x3072 : Shape := ⟨2, ![2048, 3072]⟩
abbrev S2048x96 : Shape := ⟨2, ![2048, 96]⟩
abbrev S2048x256 : Shape := ⟨2, ![2048, 256]⟩
abbrev S2048x32 : Shape := ⟨2, ![2048, 32]⟩
abbrev S2048x496 : Shape := ⟨2, ![2048, 496]⟩
abbrev S2048x11264 : Shape := ⟨2, ![2048, 11264]⟩
abbrev S11264x2048 : Shape := ⟨2, ![11264, 2048]⟩

abbrev nBuf : Space → Nat
  | .hbm => 81
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x2048, .f32⟩
  | .hbm, ⟨6, _⟩ => ⟨S1x2048x10704, .f32⟩
  | .hbm, ⟨7, _⟩ => ⟨S2048, .f32⟩
  | .hbm, ⟨8, _⟩ => ⟨S2x4096x2048, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x2048, .f32⟩
  | .hbm, ⟨20, _⟩ => ⟨S2x4096x2048, .f32⟩
  | .hbm, ⟨21, _⟩ => ⟨S1x1x2048, .f32⟩
  | .hbm, ⟨22, _⟩ => ⟨S2x4096x2048, .f32⟩
  | .hbm, ⟨23, _⟩ => ⟨S2x4096x2048, .f32⟩
  | .hbm, ⟨24, _⟩ => ⟨S2048x5632, .f32⟩
  | .hbm, ⟨25, _⟩ => ⟨S2048x5632, .f32⟩
  | .hbm, ⟨26, _⟩ => ⟨S5632x2048, .f32⟩
  | .hbm, ⟨27, _⟩ => ⟨S2x4096x5632, .f32⟩
  | .hbm, ⟨28, _⟩ => ⟨S2x4096x5632, .f32⟩
  | .hbm, ⟨29, _⟩ => ⟨S2x4096x5632, .f32⟩
  | .hbm, ⟨30, _⟩ => ⟨S_, .f32⟩
  | .hbm, ⟨31, _⟩ => ⟨S2x4096x5632, .f32⟩
  | .hbm, ⟨32, _⟩ => ⟨S2x4096x5632, .f32⟩
  | .hbm, ⟨33, _⟩ => ⟨S_, .f32⟩
  | .hbm, ⟨34, _⟩ => ⟨S2x4096x5632, .f32⟩
  | .hbm, ⟨35, _⟩ => ⟨S2x4096x5632, .f32⟩
  | .hbm, ⟨36, _⟩ => ⟨S2x4096x5632, .f32⟩
  | .hbm, ⟨37, _⟩ => ⟨S2x4096x5632, .f32⟩
  | .hbm, ⟨38, _⟩ => ⟨S2x4096x5632, .f32⟩
  | .hbm, ⟨39, _⟩ => ⟨S2x4096x2048, .f32⟩
  | .hbm, ⟨40, _⟩ => ⟨S_, .f32⟩
  | .hbm, ⟨41, _⟩ => ⟨S2x4096x2048, .f32⟩
  | .hbm, ⟨42, _⟩ => ⟨S2x4096x2048, .f32⟩
  | .hbm, ⟨43, _⟩ => ⟨S2x4096x2048, .f32⟩
  | .hbm, ⟨44, _⟩ => ⟨S2048, .f32⟩
  | .hbm, ⟨45, _⟩ => ⟨S2x4096x2048, .f32⟩
  | .hbm, ⟨46, _⟩ => ⟨S_, .f32⟩
  | .hbm, ⟨47, _⟩ => ⟨S2x4096, .f32⟩
  | .hbm, ⟨48, _⟩ => ⟨S2x4096x1, .f32⟩
  | .hbm, ⟨49, _⟩ => ⟨S_, .f32⟩
  | .hbm, ⟨50, _⟩ => ⟨S2x4096x1, .f32⟩
  | .hbm, ⟨51, _⟩ => ⟨S2x4096x1, .f32⟩
  | .hbm, ⟨52, _⟩ => ⟨S_, .f32⟩
  | .hbm, ⟨53, _⟩ => ⟨S2x4096x1, .f32⟩
  | .hbm, ⟨54, _⟩ => ⟨S2x4096x1, .f32⟩
  | .hbm, ⟨55, _⟩ => ⟨S2x4096x1, .f32⟩
  | .hbm, ⟨56, _⟩ => ⟨S2x4096x2048, .f32⟩
  | .hbm, ⟨57, _⟩ => ⟨S2x4096x2048, .f32⟩
  | .hbm, ⟨58, _⟩ => ⟨S1x1x2048, .f32⟩
  | .hbm, ⟨59, _⟩ => ⟨S2x4096x2048, .f32⟩
  | .hbm, ⟨60, _⟩ => ⟨S2x4096x2048, .f32⟩
  | .hbm, ⟨61, _⟩ => ⟨S8192x2048, .f32⟩
  | .hbm, ⟨62, _⟩ => ⟨S8192x2048, .f32⟩
  | .hbm, ⟨63, _⟩ => ⟨S8192x2048, .bf16⟩
  | .hbm, ⟨64, _⟩ => ⟨S2048x10704, .f32⟩
  | .hbm, ⟨65, _⟩ => ⟨S2048x3088, .f32⟩
  | .hbm, ⟨66, _⟩ => ⟨S2048x3520, .f32⟩
  | .hbm, ⟨67, _⟩ => ⟨S2048x4096, .f32⟩
  | .hbm, ⟨68, _⟩ => ⟨S2048x3072, .f32⟩
  | .hbm, ⟨69, _⟩ => ⟨S2048x96, .f32⟩
  | .hbm, ⟨70, _⟩ => ⟨S2048x96, .f32⟩
  | .hbm, ⟨71, _⟩ => ⟨S2048x256, .f32⟩
  | .hbm, ⟨72, _⟩ => ⟨S_, .f32⟩
  | .hbm, ⟨73, _⟩ => ⟨S2048x32, .f32⟩
  | .hbm, ⟨74, _⟩ => ⟨S_, .f32⟩
  | .hbm, ⟨75, _⟩ => ⟨S2048x32, .f32⟩
  | .hbm, ⟨76, _⟩ => ⟨S_, .f32⟩
  | .hbm, ⟨77, _⟩ => ⟨S2048x496, .f32⟩
  | .hbm, ⟨78, _⟩ => ⟨S2048x11264, .f32⟩
  | .hbm, ⟨79, _⟩ => ⟨S11264x2048, .f32⟩
  | .hbm, ⟨80, _⟩ => ⟨S11264x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩

abbrev nD : Nat := 1
abbrev τ : Topo := Topo.v7x

variable {F : FTy → Type} [FloatOps F]
-- ==== Kernel2.lean ====
abbrev S8192x2048 : Shape := ⟨2, ![8192, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S512x2048 : Shape := ⟨2, ![512, 2048]⟩
abbrev S2x512x2048 : Shape := ⟨3, ![2, 512, 2048]⟩
abbrev S2 : Shape := ⟨1, ![2]⟩
abbrev S2x2048x512 : Shape := ⟨3, ![2, 2048, 512]⟩
abbrev S_ : Shape := ⟨0, ![]⟩
abbrev S1 : Shape := ⟨1, ![1]⟩
abbrev S1x512x2048 : Shape := ⟨3, ![1, 512, 2048]⟩
abbrev S1x2048x512 : Shape := ⟨3, ![1, 2048, 512]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 10
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S512x2048, .bf16⟩
  | .local _ .vmem, ⟨1, _⟩ => ⟨S2x512x2048, .f32⟩
  | .local _ .vmem, ⟨2, _⟩ => ⟨S1x2048, .f32⟩
  | .local _ .vmem, ⟨3, _⟩ => ⟨S2x2048x512, .bf16⟩
  | .local _ .vmem, ⟨4, _⟩ => ⟨S2x2048x512, .bf16⟩
  | .local _ .vmem, ⟨5, _⟩ => ⟨S2x512x2048, .bf16⟩
  | .local _ .vmem, ⟨6, _⟩ => ⟨S1x2048, .f32⟩
  | .local _ .vmem, ⟨7, _⟩ => ⟨S2x512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_scratch0 : Ref sig .tc := ⟨.vmem, 0, rfl⟩
abbrev cc0_scoped0 : Ref sig .tc := ⟨.vmem, 1, rfl⟩
abbrev cc0_scoped2 : Ref sig .tc := ⟨.vmem, 2, rfl⟩
abbrev cc0_scoped3 : Ref sig .tc := ⟨.vmem, 3, rfl⟩
abbrev cc0_scoped5 : Ref sig .tc := ⟨.vmem, 4, rfl⟩
abbrev cc0_scoped7 : Ref sig .tc := ⟨.vmem, 5, rfl⟩
abbrev cc0_scoped9 : Ref sig .tc := ⟨.vmem, 6, rfl⟩
abbrev cc0_scoped10 : Ref sig .tc := ⟨.vmem, 7, rfl⟩

abbrev nD : Nat := 1
abbrev τ : Topo := Topo.v7x

variable {F : FTy → Type} [FloatOps F]

abbrev grid0 : Pipeline.Grid := .none

def k0_off1 : Fin 1 → Nat :=
  let c0_i32_29_r0 : BitVec 32 := 0#32
  let c2_i32_r0 : BitVec 32 := 2#32
  let v31_r0 : BitVec 32 := Scalar.remui c0_i32_29_r0 c2_i32_r0
  ![v31_r0.toNat]
def k0_off2 : Fin 3 → Nat :=
  let c0_i32_29_r0 : BitVec 32 := 0#32
  let c2_i32_r0 : BitVec 32 := 2#32
  let v31_r0 : BitVec 32 := Scalar.remui c0_i32_29_r0 c2_i32_r0
  let c0_i32_30_r0 : BitVec 32 := 0#32
  let c0_i32_31_r0 : BitVec 32 := 0#32
  ![v31_r0.toNat, 0, 0]
def k0_off3 : Fin 3 → Nat :=
  let c0_i32_36_r0 : BitVec 32 := 0#32
  let c2_i32_37_r0 : BitVec 32 := 2#32
  let v38_r0 : BitVec 32 := Scalar.remui c0_i32_36_r0 c2_i32_37_r0
  let c0_i32_38_r0 : BitVec 32 := 0#32
  let c0_i32_39_r0 : BitVec 32 := 0#32
  ![v38_r0.toNat, 0, 0]
@[reducible] def k0_t1_loop : Scf.Loop 32 :=
  let c0_i32_72_r0 : BitVec 32 := 0#32
  let c176_i32_r0 : BitVec 32 := 176#32
  let v59_r0 : BitVec 32 := Scalar.addi c0_i32_72_r0 c176_i32_r0
  let c1_i32_73_r0 : BitVec 32 := 1#32
  ⟨c0_i32_72_r0, v59_r0, c1_i32_73_r0⟩
def k0_off4 (arg9_r0 : BitVec 32) : Fin 1 → Nat :=
  let c2_i32_248_r0 : BitVec 32 := 2#32
  let v349_r0 : BitVec 32 := Scalar.remui arg9_r0 c2_i32_248_r0
  ![v349_r0.toNat]
def k0_cond1 (k0_t1 : Fin k0_t1_loop.trips) (arg21_r0 : BitVec 32) (arg22_r0 : BitVec 32) : BitVec 1 :=
  let c0_i32_116_r0 : BitVec 32 := 0#32
  let v110_r0 : BitVec 32 := Scalar.addi arg21_r0 c0_i32_116_r0
  let true_128_r0 : BitVec 1 := 1#1
  let c1_i32_127_r0 : BitVec 32 := 1#32
  let v122_r0 : BitVec 32 := Scalar.addi arg22_r0 c1_i32_127_r0
  let v123_r0 : BitVec 32 := Scalar.select true_128_r0 v122_r0 arg22_r0
  let c11_i32_129_r0 : BitVec 32 := 11#32
  let v124_r0 : BitVec 1 := Scalar.cmpi .eq v123_r0 c11_i32_129_r0
  let c1_i32_131_r0 : BitVec 32 := 1#32
  let v126_r0 : BitVec 32 := Scalar.addi arg21_r0 c1_i32_131_r0
  let v127_r0 : BitVec 32 := Scalar.select v124_r0 v126_r0 arg21_r0
  let c16_i32_132_r0 : BitVec 32 := 16#32
  let v128_r0 : BitVec 1 := Scalar.cmpi .eq v127_r0 c16_i32_132_r0
  let c0_i32_133_r0 : BitVec 32 := 0#32
  let v129_r0 : BitVec 32 := Scalar.select v128_r0 c0_i32_133_r0 v127_r0
  let c0_i32_134_r0 : BitVec 32 := 0#32
  let v130_r0 : BitVec 32 := Scalar.addi v129_r0 c0_i32_134_r0
  let v142_r0 : BitVec 1 := Scalar.cmpi .ne v110_r0 v130_r0
  let c0_i32_72_r0 : BitVec 32 := 0#32
  let c1_i32_73_r0 : BitVec 32 := 1#32
  let arg8_r0 : BitVec 32 := Scf.iv c0_i32_72_r0 c1_i32_73_r0 k0_t1
  let c175_i32_145_r0 : BitVec 32 := 175#32
  let v143_r0 : BitVec 1 := Scalar.cmpi .sge arg8_r0 c175_i32_145_r0
  let true_146_r0 : BitVec 1 := 1#1
  let v144_r0 : BitVec 1 := Scalar.xori v143_r0 true_146_r0
  let v145_r0 : BitVec 1 := Scalar.andi v142_r0 v144_r0
  let true_147_r0 : BitVec 1 := 1#1
  let v146_r0 : BitVec 1 := Scalar.andi v145_r0 true_147_r0
  let v147_r0 : BitVec 32 := Scalar.extui v146_r0
  let c0_i32_148_r0 : BitVec 32 := 0#32
  let v148_r0 : BitVec 1 := Scalar.cmpi .ne v147_r0 c0_i32_148_r0
  v148_r0

def k0_off5 (arg9_r0 : BitVec 32) : Fin 3 → Nat :=
  let c2_i32_248_r0 : BitVec 32 := 2#32
  let v349_r0 : BitVec 32 := Scalar.remui arg9_r0 c2_i32_248_r0
  let c0_i32_250_r0 : BitVec 32 := 0#32
  let c0_i32_251_r0 : BitVec 32 := 0#32
  ![v349_r0.toNat, 0, 0]
def k0_off6 (arg21_r0 : BitVec 32) (arg22_r0 : BitVec 32) : Fin 2 → Nat :=
  let c512_i32_249_r0 : BitVec 32 := 512#32
  let true_128_r0 : BitVec 1 := 1#1
  let c1_i32_127_r0 : BitVec 32 := 1#32
  let v122_r0 : BitVec 32 := Scalar.addi arg22_r0 c1_i32_127_r0
  let v123_r0 : BitVec 32 := Scalar.select true_128_r0 v122_r0 arg22_r0
  let c11_i32_129_r0 : BitVec 32 := 11#32
  let v124_r0 : BitVec 1 := Scalar.cmpi .eq v123_r0 c11_i32_129_r0
  let c1_i32_131_r0 : BitVec 32 := 1#32
  let v126_r0 : BitVec 32 := Scalar.addi arg21_r0 c1_i32_131_r0
  let v127_r0 : BitVec 32 := Scalar.select v124_r0 v126_r0 arg21_r0
  let c16_i32_132_r0 : BitVec 32 := 16#32
  let v128_r0 : BitVec 1 := Scalar.cmpi .eq v127_r0 c16_i32_132_r0
  let c0_i32_133_r0 : BitVec 32 := 0#32
  let v129_r0 : BitVec 32 := Scalar.select v128_r0 c0_i32_133_r0 v127_r0
  let c0_i32_134_r0 : BitVec 32 := 0#32
  let v130_r0 : BitVec 32 := Scalar.addi v129_r0 c0_i32_134_r0
  let v350_r0 : BitVec 32 := Scalar.muli c512_i32_249_r0 v130_r0
  let c0_i32_252_r0 : BitVec 32 := 0#32
  ![v350_r0.toNat, 0]
def k0_off7 (arg12_r0 : BitVec 32) : Fin 1 → Nat :=
  let c2_i32_248_r0 : BitVec 32 := 2#32
  let v349_r0 : BitVec 32 := Scalar.remui arg12_r0 c2_i32_248_r0
  ![v349_r0.toNat]
def k0_cond2 (k0_t1 : Fin k0_t1_loop.trips) (arg22_r0 : BitVec 32) : BitVec 1 :=
  let c0_i32_117_r0 : BitVec 32 := 0#32
  let v111_r0 : BitVec 32 := Scalar.addi arg22_r0 c0_i32_117_r0
  let true_128_r0 : BitVec 1 := 1#1
  let c1_i32_127_r0 : BitVec 32 := 1#32
  let v122_r0 : BitVec 32 := Scalar.addi arg22_r0 c1_i32_127_r0
  let v123_r0 : BitVec 32 := Scalar.select true_128_r0 v122_r0 arg22_r0
  let c11_i32_129_r0 : BitVec 32 := 11#32
  let v124_r0 : BitVec 1 := Scalar.cmpi .eq v123_r0 c11_i32_129_r0
  let c0_i32_130_r0 : BitVec 32 := 0#32
  let v125_r0 : BitVec 32 := Scalar.select v124_r0 c0_i32_130_r0 v123_r0
  let c0_i32_135_r0 : BitVec 32 := 0#32
  let v131_r0 : BitVec 32 := Scalar.addi v125_r0 c0_i32_135_r0
  let v152_r0 : BitVec 1 := Scalar.cmpi .ne v111_r0 v131_r0
  let c0_i32_72_r0 : BitVec 32 := 0#32
  let c1_i32_73_r0 : BitVec 32 := 1#32
  let arg8_r0 : BitVec 32 := Scf.iv c0_i32_72_r0 c1_i32_73_r0 k0_t1
  let c175_i32_151_r0 : BitVec 32 := 175#32
  let v153_r0 : BitVec 1 := Scalar.cmpi .sge arg8_r0 c175_i32_151_r0
  let true_152_r0 : BitVec 1 := 1#1
  let v154_r0 : BitVec 1 := Scalar.xori v153_r0 true_152_r0
  let v155_r0 : BitVec 1 := Scalar.andi v152_r0 v154_r0
  let true_153_r0 : BitVec 1 := 1#1
  let v156_r0 : BitVec 1 := Scalar.andi v155_r0 true_153_r0
  let v157_r0 : BitVec 32 := Scalar.extui v156_r0
  let c0_i32_154_r0 : BitVec 32 := 0#32
  let v158_r0 : BitVec 1 := Scalar.cmpi .ne v157_r0 c0_i32_154_r0
  v158_r0

def k0_off8 (arg12_r0 : BitVec 32) : Fin 3 → Nat :=
  let c2_i32_248_r0 : BitVec 32 := 2#32
  let v349_r0 : BitVec 32 := Scalar.remui arg12_r0 c2_i32_248_r0
  let c0_i32_250_r0 : BitVec 32 := 0#32
  let c0_i32_251_r0 : BitVec 32 := 0#32
  ![v349_r0.toNat, 0, 0]
def k0_off9 (arg22_r0 : BitVec 32) : Fin 2 → Nat :=
  let c0_i32_252_r0 : BitVec 32 := 0#32
  let c512_i32_249_r0 : BitVec 32 := 512#32
  let true_128_r0 : BitVec 1 := 1#1
  let c1_i32_127_r0 : BitVec 32 := 1#32
  let v122_r0 : BitVec 32 := Scalar.addi arg22_r0 c1_i32_127_r0
  let v123_r0 : BitVec 32 := Scalar.select true_128_r0 v122_r0 arg22_r0
  let c11_i32_129_r0 : BitVec 32 := 11#32
  let v124_r0 : BitVec 1 := Scalar.cmpi .eq v123_r0 c11_i32_129_r0
  let c0_i32_130_r0 : BitVec 32 := 0#32
  let v125_r0 : BitVec 32 := Scalar.select v124_r0 c0_i32_130_r0 v123_r0
  let c0_i32_135_r0 : BitVec 32 := 0#32
  let v131_r0 : BitVec 32 := Scalar.addi v125_r0 c0_i32_135_r0
  let v350_r0 : BitVec 32 := Scalar.muli c512_i32_249_r0 v131_r0
  ![0, v350_r0.toNat]
def k0_off10 (arg14_r0 : BitVec 32) : Fin 1 → Nat :=
  let c2_i32_248_r0 : BitVec 32 := 2#32
  let v349_r0 : BitVec 32 := Scalar.remui arg14_r0 c2_i32_248_r0
  ![v349_r0.toNat]
def k0_cond3 (k0_t1 : Fin k0_t1_loop.trips) (arg22_r0 : BitVec 32) : BitVec 1 :=
  let c0_i32_117_r0 : BitVec 32 := 0#32
  let v111_r0 : BitVec 32 := Scalar.addi arg22_r0 c0_i32_117_r0
  let true_128_r0 : BitVec 1 := 1#1
  let c1_i32_127_r0 : BitVec 32 := 1#32
  let v122_r0 : BitVec 32 := Scalar.addi arg22_r0 c1_i32_127_r0
  let v123_r0 : BitVec 32 := Scalar.select true_128_r0 v122_r0 arg22_r0
  let c11_i32_129_r0 : BitVec 32 := 11#32
  let v124_r0 : BitVec 1 := Scalar.cmpi .eq v123_r0 c11_i32_129_r0
  let c0_i32_130_r0 : BitVec 32 := 0#32
  let v125_r0 : BitVec 32 := Scalar.select v124_r0 c0_i32_130_r0 v123_r0
  let c0_i32_135_r0 : BitVec 32 := 0#32
  let v131_r0 : BitVec 32 := Scalar.addi v125_r0 c0_i32_135_r0
  let v162_r0 : BitVec 1 := Scalar.cmpi .ne v111_r0 v131_r0
  let c0_i32_72_r0 : BitVec 32 := 0#32
  let c1_i32_73_r0 : BitVec 32 := 1#32
  let arg8_r0 : BitVec 32 := Scf.iv c0_i32_72_r0 c1_i32_73_r0 k0_t1
  let c175_i32_157_r0 : BitVec 32 := 175#32
  let v163_r0 : BitVec 1 := Scalar.cmpi .sge arg8_r0 c175_i32_157_r0
  let true_158_r0 : BitVec 1 := 1#1
  let v164_r0 : BitVec 1 := Scalar.xori v163_r0 true_158_r0
  let v165_r0 : BitVec 1 := Scalar.andi v162_r0 v164_r0
  let true_159_r0 : BitVec 1 := 1#1
  let v166_r0 : BitVec 1 := Scalar.andi v165_r0 true_159_r0
  let v167_r0 : BitVec 32 := Scalar.extui v166_r0
  let c0_i32_160_r0 : BitVec 32 := 0#32
  let v168_r0 : BitVec 1 := Scalar.cmpi .ne v167_r0 c0_i32_160_r0
  v168_r0

def k0_off11 (arg14_r0 : BitVec 32) : Fin 3 → Nat :=
  let c2_i32_248_r0 : BitVec 32 := 2#32
  let v349_r0 : BitVec 32 := Scalar.remui arg14_r0 c2_i32_248_r0
  let c0_i32_250_r0 : BitVec 32 := 0#32
  let c0_i32_251_r0 : BitVec 32 := 0#32
  ![v349_r0.toNat, 0, 0]
def k0_off12 (arg22_r0 : BitVec 32) : Fin 2 → Nat :=
  let c0_i32_252_r0 : BitVec 32 := 0#32
  let c512_i32_249_r0 : BitVec 32 := 512#32
  let true_128_r0 : BitVec 1 := 1#1
  let c1_i32_127_r0 : BitVec 32 := 1#32
  let v122_r0 : BitVec 32 := Scalar.addi arg22_r0 c1_i32_127_r0
  let v123_r0 : BitVec 32 := Scalar.select true_128_r0 v122_r0 arg22_r0
  let c11_i32_129_r0 : BitVec 32 := 11#32
  let v124_r0 : BitVec 1 := Scalar.cmpi .eq v123_r0 c11_i32_129_r0
  let c0_i32_130_r0 : BitVec 32 := 0#32
  let v125_r0 : BitVec 32 := Scalar.select v124_r0 c0_i32_130_r0 v123_r0
  let c0_i32_135_r0 : BitVec 32 := 0#32
  let v131_r0 : BitVec 32 := Scalar.addi v125_r0 c0_i32_135_r0
  let v350_r0 : BitVec 32 := Scalar.muli c512_i32_249_r0 v131_r0
  ![0, v350_r0.toNat]
def k0_off13 (arg16_r0 : BitVec 32) : Fin 1 → Nat :=
  let c2_i32_248_r0 : BitVec 32 := 2#32
  let v349_r0 : BitVec 32 := Scalar.remui arg16_r0 c2_i32_248_r0
  ![v349_r0.toNat]
def k0_cond4 (k0_t1 : Fin k0_t1_loop.trips) (arg22_r0 : BitVec 32) : BitVec 1 :=
  let c0_i32_117_r0 : BitVec 32 := 0#32
  let v111_r0 : BitVec 32 := Scalar.addi arg22_r0 c0_i32_117_r0
  let true_128_r0 : BitVec 1 := 1#1
  let c1_i32_127_r0 : BitVec 32 := 1#32
  let v122_r0 : BitVec 32 := Scalar.addi arg22_r0 c1_i32_127_r0
  let v123_r0 : BitVec 32 := Scalar.select true_128_r0 v122_r0 arg22_r0
  let c11_i32_129_r0 : BitVec 32 := 11#32
  let v124_r0 : BitVec 1 := Scalar.cmpi .eq v123_r0 c11_i32_129_r0
  let c0_i32_130_r0 : BitVec 32 := 0#32
  let v125_r0 : BitVec 32 := Scalar.select v124_r0 c0_i32_130_r0 v123_r0
  let c0_i32_135_r0 : BitVec 32 := 0#32
  let v131_r0 : BitVec 32 := Scalar.addi v125_r0 c0_i32_135_r0
  let v172_r0 : BitVec 1 := Scalar.cmpi .ne v111_r0 v131_r0
  let c0_i32_72_r0 : BitVec 32 := 0#32
  let c1_i32_73_r0 : BitVec 32 := 1#32
  let arg8_r0 : BitVec 32 := Scf.iv c0_i32_72_r0 c1_i32_73_r0 k0_t1
  let c175_i32_163_r0 : BitVec 32 := 175#32
  let v173_r0 : BitVec 1 := Scalar.cmpi .sge arg8_r0 c175_i32_163_r0
  let true_164_r0 : BitVec 1 := 1#1
  let v174_r0 : BitVec 1 := Scalar.xori v173_r0 true_164_r0
  let v175_r0 : BitVec 1 := Scalar.andi v172_r0 v174_r0
  let true_165_r0 : BitVec 1 := 1#1
  let v176_r0 : BitVec 1 := Scalar.andi v175_r0 true_165_r0
  let v177_r0 : BitVec 32 := Scalar.extui v176_r0
  let c0_i32_166_r0 : BitVec 32 := 0#32
  let v178_r0 : BitVec 1 := Scalar.cmpi .ne v177_r0 c0_i32_166_r0
  v178_r0

def k0_off14 (arg16_r0 : BitVec 32) : Fin 3 → Nat :=
  let c2_i32_248_r0 : BitVec 32 := 2#32
  let v349_r0 : BitVec 32 := Scalar.remui arg16_r0 c2_i32_248_r0
  let c0_i32_250_r0 : BitVec 32 := 0#32
  let c0_i32_251_r0 : BitVec 32 := 0#32
  ![v349_r0.toNat, 0, 0]
def k0_off15 (arg22_r0 : BitVec 32) : Fin 2 → Nat :=
  let c512_i32_249_r0 : BitVec 32 := 512#32
  let true_128_r0 : BitVec 1 := 1#1
  let c1_i32_127_r0 : BitVec 32 := 1#32
  let v122_r0 : BitVec 32 := Scalar.addi arg22_r0 c1_i32_127_r0
  let v123_r0 : BitVec 32 := Scalar.select true_128_r0 v122_r0 arg22_r0
  let c11_i32_129_r0 : BitVec 32 := 11#32
  let v124_r0 : BitVec 1 := Scalar.cmpi .eq v123_r0 c11_i32_129_r0
  let c0_i32_130_r0 : BitVec 32 := 0#32
  let v125_r0 : BitVec 32 := Scalar.select v124_r0 c0_i32_130_r0 v123_r0
  let c0_i32_135_r0 : BitVec 32 := 0#32
  let v131_r0 : BitVec 32 := Scalar.addi v125_r0 c0_i32_135_r0
  let v350_r0 : BitVec 32 := Scalar.muli c512_i32_249_r0 v131_r0
  let c0_i32_252_r0 : BitVec 32 := 0#32
  ![v350_r0.toNat, 0]
def k0_off16 (arg10_r0 : BitVec 32) : Fin 1 → Nat :=
  let c2_i32_249_r0 : BitVec 32 := 2#32
  let v350_r0 : BitVec 32 := Scalar.remui arg10_r0 c2_i32_249_r0
  ![v350_r0.toNat]
def k0_cond5 (k0_t1 : Fin k0_t1_loop.trips) (arg21_r0 : BitVec 32) (arg22_r0 : BitVec 32) : BitVec 1 :=
  let c0_i32_116_r0 : BitVec 32 := 0#32
  let v110_r0 : BitVec 32 := Scalar.addi arg21_r0 c0_i32_116_r0
  let true_119_r0 : BitVec 1 := 1#1
  let c1_i32_118_r0 : BitVec 32 := 1#32
  let v112_r0 : BitVec 32 := Scalar.subi arg22_r0 c1_i32_118_r0
  let v113_r0 : BitVec 32 := Scalar.select true_119_r0 v112_r0 arg22_r0
  let c_m1_i32_120_r0 : BitVec 32 := 4294967295#32
  let v114_r0 : BitVec 1 := Scalar.cmpi .eq v113_r0 c_m1_i32_120_r0
  let c1_i32_122_r0 : BitVec 32 := 1#32
  let v116_r0 : BitVec 32 := Scalar.subi arg21_r0 c1_i32_122_r0
  let v117_r0 : BitVec 32 := Scalar.select v114_r0 v116_r0 arg21_r0
  let c_m1_i32_123_r0 : BitVec 32 := 4294967295#32
  let v118_r0 : BitVec 1 := Scalar.cmpi .eq v117_r0 c_m1_i32_123_r0
  let c15_i32_124_r0 : BitVec 32 := 15#32
  let v119_r0 : BitVec 32 := Scalar.select v118_r0 c15_i32_124_r0 v117_r0
  let c0_i32_125_r0 : BitVec 32 := 0#32
  let v120_r0 : BitVec 32 := Scalar.addi v119_r0 c0_i32_125_r0
  let v186_r0 : BitVec 1 := Scalar.cmpi .ne v110_r0 v120_r0
  let c0_i32_72_r0 : BitVec 32 := 0#32
  let c1_i32_73_r0 : BitVec 32 := 1#32
  let arg8_r0 : BitVec 32 := Scf.iv c0_i32_72_r0 c1_i32_73_r0 k0_t1
  let c0_i32_115_r0 : BitVec 32 := 0#32
  let v108_r0 : BitVec 1 := Scalar.cmpi .eq arg8_r0 c0_i32_115_r0
  let v187_r0 : BitVec 1 := Scalar.ori v186_r0 v108_r0
  let c0_i32_171_r0 : BitVec 32 := 0#32
  let v188_r0 : BitVec 1 := Scalar.cmpi .sge arg8_r0 c0_i32_171_r0
  let v189_r0 : BitVec 1 := Scalar.andi v187_r0 v188_r0
  let v190_r0 : BitVec 32 := Scalar.extui v189_r0
  let c0_i32_172_r0 : BitVec 32 := 0#32
  let v191_r0 : BitVec 1 := Scalar.cmpi .ne v190_r0 c0_i32_172_r0
  v191_r0

def k0_off17 (arg10_r0 : BitVec 32) : Fin 3 → Nat :=
  let c2_i32_249_r0 : BitVec 32 := 2#32
  let v350_r0 : BitVec 32 := Scalar.remui arg10_r0 c2_i32_249_r0
  let c0_i32_250_r0 : BitVec 32 := 0#32
  let c0_i32_251_r0 : BitVec 32 := 0#32
  ![v350_r0.toNat, 0, 0]
def k0_off18 (arg21_r0 : BitVec 32) : Fin 2 → Nat :=
  let c512_i32_248_r0 : BitVec 32 := 512#32
  let c0_i32_116_r0 : BitVec 32 := 0#32
  let v110_r0 : BitVec 32 := Scalar.addi arg21_r0 c0_i32_116_r0
  let v349_r0 : BitVec 32 := Scalar.muli c512_i32_248_r0 v110_r0
  let c0_i32_252_r0 : BitVec 32 := 0#32
  ![v349_r0.toNat, 0]
def k0_off19 (arg13_r0 : BitVec 32) : Fin 1 → Nat :=
  let c2_i32_249_r0 : BitVec 32 := 2#32
  let v350_r0 : BitVec 32 := Scalar.remui arg13_r0 c2_i32_249_r0
  ![v350_r0.toNat]
def k0_cond6 (k0_t1 : Fin k0_t1_loop.trips) (arg22_r0 : BitVec 32) : BitVec 1 :=
  let c0_i32_117_r0 : BitVec 32 := 0#32
  let v111_r0 : BitVec 32 := Scalar.addi arg22_r0 c0_i32_117_r0
  let true_119_r0 : BitVec 1 := 1#1
  let c1_i32_118_r0 : BitVec 32 := 1#32
  let v112_r0 : BitVec 32 := Scalar.subi arg22_r0 c1_i32_118_r0
  let v113_r0 : BitVec 32 := Scalar.select true_119_r0 v112_r0 arg22_r0
  let c_m1_i32_120_r0 : BitVec 32 := 4294967295#32
  let v114_r0 : BitVec 1 := Scalar.cmpi .eq v113_r0 c_m1_i32_120_r0
  let c10_i32_121_r0 : BitVec 32 := 10#32
  let v115_r0 : BitVec 32 := Scalar.select v114_r0 c10_i32_121_r0 v113_r0
  let c0_i32_126_r0 : BitVec 32 := 0#32
  let v121_r0 : BitVec 32 := Scalar.addi v115_r0 c0_i32_126_r0
  let v192_r0 : BitVec 1 := Scalar.cmpi .ne v111_r0 v121_r0
  let c0_i32_72_r0 : BitVec 32 := 0#32
  let c1_i32_73_r0 : BitVec 32 := 1#32
  let arg8_r0 : BitVec 32 := Scf.iv c0_i32_72_r0 c1_i32_73_r0 k0_t1
  let c0_i32_115_r0 : BitVec 32 := 0#32
  let v108_r0 : BitVec 1 := Scalar.cmpi .eq arg8_r0 c0_i32_115_r0
  let v193_r0 : BitVec 1 := Scalar.ori v192_r0 v108_r0
  let c0_i32_173_r0 : BitVec 32 := 0#32
  let v194_r0 : BitVec 1 := Scalar.cmpi .sge arg8_r0 c0_i32_173_r0
  let v195_r0 : BitVec 1 := Scalar.andi v193_r0 v194_r0
  let v196_r0 : BitVec 32 := Scalar.extui v195_r0
  let c0_i32_174_r0 : BitVec 32 := 0#32
  let v197_r0 : BitVec 1 := Scalar.cmpi .ne v196_r0 c0_i32_174_r0
  v197_r0

def k0_off20 (arg13_r0 : BitVec 32) : Fin 3 → Nat :=
  let c2_i32_249_r0 : BitVec 32 := 2#32
  let v350_r0 : BitVec 32 := Scalar.remui arg13_r0 c2_i32_249_r0
  let c0_i32_250_r0 : BitVec 32 := 0#32
  let c0_i32_251_r0 : BitVec 32 := 0#32
  ![v350_r0.toNat, 0, 0]
def k0_off21 (arg22_r0 : BitVec 32) : Fin 2 → Nat :=
  let c0_i32_252_r0 : BitVec 32 := 0#32
  let c512_i32_248_r0 : BitVec 32 := 512#32
  let c0_i32_117_r0 : BitVec 32 := 0#32
  let v111_r0 : BitVec 32 := Scalar.addi arg22_r0 c0_i32_117_r0
  let v349_r0 : BitVec 32 := Scalar.muli c512_i32_248_r0 v111_r0
  ![0, v349_r0.toNat]
def k0_off22 (arg15_r0 : BitVec 32) : Fin 1 → Nat :=
  let c2_i32_249_r0 : BitVec 32 := 2#32
  let v350_r0 : BitVec 32 := Scalar.remui arg15_r0 c2_i32_249_r0
  ![v350_r0.toNat]
def k0_cond7 (k0_t1 : Fin k0_t1_loop.trips) (arg22_r0 : BitVec 32) : BitVec 1 :=
  let c0_i32_117_r0 : BitVec 32 := 0#32
  let v111_r0 : BitVec 32 := Scalar.addi arg22_r0 c0_i32_117_r0
  let true_119_r0 : BitVec 1 := 1#1
  let c1_i32_118_r0 : BitVec 32 := 1#32
  let v112_r0 : BitVec 32 := Scalar.subi arg22_r0 c1_i32_118_r0
  let v113_r0 : BitVec 32 := Scalar.select true_119_r0 v112_r0 arg22_r0
  let c_m1_i32_120_r0 : BitVec 32 := 4294967295#32
  let v114_r0 : BitVec 1 := Scalar.cmpi .eq v113_r0 c_m1_i32_120_r0
  let c10_i32_121_r0 : BitVec 32 := 10#32
  let v115_r0 : BitVec 32 := Scalar.select v114_r0 c10_i32_121_r0 v113_r0
  let c0_i32_126_r0 : BitVec 32 := 0#32
  let v121_r0 : BitVec 32 := Scalar.addi v115_r0 c0_i32_126_r0
  let v198_r0 : BitVec 1 := Scalar.cmpi .ne v111_r0 v121_r0
  let c0_i32_72_r0 : BitVec 32 := 0#32
  let c1_i32_73_r0 : BitVec 32 := 1#32
  let arg8_r0 : BitVec 32 := Scf.iv c0_i32_72_r0 c1_i32_73_r0 k0_t1
  let c0_i32_115_r0 : BitVec 32 := 0#32
  let v108_r0 : BitVec 1 := Scalar.cmpi .eq arg8_r0 c0_i32_115_r0
  let v199_r0 : BitVec 1 := Scalar.ori v198_r0 v108_r0
  let c0_i32_175_r0 : BitVec 32 := 0#32
  let v200_r0 : BitVec 1 := Scalar.cmpi .sge arg8_r0 c0_i32_175_r0
  let v201_r0 : BitVec 1 := Scalar.andi v199_r0 v200_r0
  let v202_r0 : BitVec 32 := Scalar.extui v201_r0
  let c0_i32_176_r0 : BitVec 32 := 0#32
  let v203_r0 : BitVec 1 := Scalar.cmpi .ne v202_r0 c0_i32_176_r0
  v203_r0

def k0_off23 (arg15_r0 : BitVec 32) : Fin 3 → Nat :=
  let c2_i32_249_r0 : BitVec 32 := 2#32
  let v350_r0 : BitVec 32 := Scalar.remui arg15_r0 c2_i32_249_r0
  let c0_i32_250_r0 : BitVec 32 := 0#32
  let c0_i32_251_r0 : BitVec 32 := 0#32
  ![v350_r0.toNat, 0, 0]
def k0_off24 (arg22_r0 : BitVec 32) : Fin 2 → Nat :=
  let c0_i32_252_r0 : BitVec 32 := 0#32
  let c512_i32_248_r0 : BitVec 32 := 512#32
  let c0_i32_117_r0 : BitVec 32 := 0#32
  let v111_r0 : BitVec 32 := Scalar.addi arg22_r0 c0_i32_117_r0
  let v349_r0 : BitVec 32 := Scalar.muli c512_i32_248_r0 v111_r0
  ![0, v349_r0.toNat]
def k0_off25 (arg17_r0 : BitVec 32) : Fin 1 → Nat :=
  let c2_i32_249_r0 : BitVec 32 := 2#32
  let v350_r0 : BitVec 32 := Scalar.remui arg17_r0 c2_i32_249_r0
  ![v350_r0.toNat]
def k0_cond8 (k0_t1 : Fin k0_t1_loop.trips) (arg22_r0 : BitVec 32) : BitVec 1 :=
  let c0_i32_117_r0 : BitVec 32 := 0#32
  let v111_r0 : BitVec 32 := Scalar.addi arg22_r0 c0_i32_117_r0
  let true_119_r0 : BitVec 1 := 1#1
  let c1_i32_118_r0 : BitVec 32 := 1#32
  let v112_r0 : BitVec 32 := Scalar.subi arg22_r0 c1_i32_118_r0
  let v113_r0 : BitVec 32 := Scalar.select true_119_r0 v112_r0 arg22_r0
  let c_m1_i32_120_r0 : BitVec 32 := 4294967295#32
  let v114_r0 : BitVec 1 := Scalar.cmpi .eq v113_r0 c_m1_i32_120_r0
  let c10_i32_121_r0 : BitVec 32 := 10#32
  let v115_r0 : BitVec 32 := Scalar.select v114_r0 c10_i32_121_r0 v113_r0
  let c0_i32_126_r0 : BitVec 32 := 0#32
  let v121_r0 : BitVec 32 := Scalar.addi v115_r0 c0_i32_126_r0
  let v204_r0 : BitVec 1 := Scalar.cmpi .ne v111_r0 v121_r0
  let c0_i32_72_r0 : BitVec 32 := 0#32
  let c1_i32_73_r0 : BitVec 32 := 1#32
  let arg8_r0 : BitVec 32 := Scf.iv c0_i32_72_r0 c1_i32_73_r0 k0_t1
  let c0_i32_115_r0 : BitVec 32 := 0#32
  let v108_r0 : BitVec 1 := Scalar.cmpi .eq arg8_r0 c0_i32_115_r0
  let v205_r0 : BitVec 1 := Scalar.ori v204_r0 v108_r0
  let c0_i32_177_r0 : BitVec 32 := 0#32
  let v206_r0 : BitVec 1 := Scalar.cmpi .sge arg8_r0 c0_i32_177_r0
  let v207_r0 : BitVec 1 := Scalar.andi v205_r0 v206_r0
  let v208_r0 : BitVec 32 := Scalar.extui v207_r0
  let c0_i32_178_r0 : BitVec 32 := 0#32
  let v209_r0 : BitVec 1 := Scalar.cmpi .ne v208_r0 c0_i32_178_r0
  v209_r0

def k0_off26 (arg17_r0 : BitVec 32) : Fin 3 → Nat :=
  let c2_i32_249_r0 : BitVec 32 := 2#32
  let v350_r0 : BitVec 32 := Scalar.remui arg17_r0 c2_i32_249_r0
  let c0_i32_250_r0 : BitVec 32 := 0#32
  let c0_i32_251_r0 : BitVec 32 := 0#32
  ![v350_r0.toNat, 0, 0]
def k0_off27 (arg22_r0 : BitVec 32) : Fin 2 → Nat :=
  let c512_i32_248_r0 : BitVec 32 := 512#32
  let c0_i32_117_r0 : BitVec 32 := 0#32
  let v111_r0 : BitVec 32 := Scalar.addi arg22_r0 c0_i32_117_r0
  let v349_r0 : BitVec 32 := Scalar.muli c512_i32_248_r0 v111_r0
  let c0_i32_252_r0 : BitVec 32 := 0#32
  ![v349_r0.toNat, 0]
def k0_off28 (arg10_r0 : BitVec 32) : Fin 3 → Nat :=
  let c2_i32_181_r0 : BitVec 32 := 2#32
  let v216_r0 : BitVec 32 := Scalar.remui arg10_r0 c2_i32_181_r0
  let v349_r0 : Index := Scalar.indexCast v216_r0
  let c0_248_r0 : Index := 0#32
  let c0_249_r0 : Index := 0#32
  ![v349_r0.toNat, 0, 0]
def k0_cond10 (arg22_r0 : BitVec 32) : BitVec 1 :=
  let c0_i32_117_r0 : BitVec 32 := 0#32
  let v111_r0 : BitVec 32 := Scalar.addi arg22_r0 c0_i32_117_r0
  let c0_i32_186_r0 : BitVec 32 := 0#32
  let v221_r0 : BitVec 1 := Scalar.cmpi .eq v111_r0 c0_i32_186_r0
  let v222_r0 : BitVec 32 := Scalar.extui v221_r0
  let c0_i32_187_r0 : BitVec 32 := 0#32
  let v223_r0 : BitVec 1 := Scalar.cmpi .ne v222_r0 c0_i32_187_r0
  v223_r0

def k0_off29 (arg19_r0 : BitVec 32) : Fin 3 → Nat :=
  let c2_i32_185_r0 : BitVec 32 := 2#32
  let v220_r0 : BitVec 32 := Scalar.remui arg19_r0 c2_i32_185_r0
  let v371_r0 : Index := Scalar.indexCast v220_r0
  let c0_258_r0 : Index := 0#32
  let c0_259_r0 : Index := 0#32
  ![v371_r0.toNat, 0, 0]
def k0_off30 (arg13_r0 : BitVec 32) : Fin 3 → Nat :=
  let c2_i32_182_r0 : BitVec 32 := 2#32
  let v217_r0 : BitVec 32 := Scalar.remui arg13_r0 c2_i32_182_r0
  let v227_r0 : Index := Scalar.indexCast v217_r0
  let c0_190_r0 : Index := 0#32
  let c0_191_r0 : Index := 0#32
  ![v227_r0.toNat, 0, 0]

def k0_chk2 (arg13_r0 : BitVec 32) : Prop :=
  (∀ a, (k0_off30 arg13_r0) a + S1x2048x512.size a ≤ S2x2048x512.size a)
theorem k0_off30_inb : ∀ (arg13_r0 : BitVec 32) (k0_hw2 : k0_chk2 arg13_r0), ∀ a, (k0_off30 arg13_r0) a + S1x2048x512.size a ≤ S2x2048x512.size a := fun arg13_r0 k0_hw2 => k0_hw2

def k0_off31 (arg15_r0 : BitVec 32) : Fin 3 → Nat :=
  let c2_i32_183_r0 : BitVec 32 := 2#32
  let v218_r0 : BitVec 32 := Scalar.remui arg15_r0 c2_i32_183_r0
  let v231_r0 : Index := Scalar.indexCast v218_r0
  let c0_192_r0 : Index := 0#32
  let c0_193_r0 : Index := 0#32
  ![v231_r0.toNat, 0, 0]

def k0_chk3 (arg15_r0 : BitVec 32) : Prop :=
  (∀ a, (k0_off31 arg15_r0) a + S1x2048x512.size a ≤ S2x2048x512.size a)
theorem k0_off31_inb : ∀ (arg15_r0 : BitVec 32) (k0_hw3 : k0_chk3 arg15_r0), ∀ a, (k0_off31 arg15_r0) a + S1x2048x512.size a ≤ S2x2048x512.size a := fun arg15_r0 k0_hw3 => k0_hw3

def k0_off32 (arg19_r0 : BitVec 32) : Fin 3 → Nat :=
  let c2_i32_185_r0 : BitVec 32 := 2#32
  let v220_r0 : BitVec 32 := Scalar.remui arg19_r0 c2_i32_185_r0
  let v245_r0 : Index := Scalar.indexCast v220_r0
  let c0_198_r0 : Index := 0#32
  let c0_199_r0 : Index := 0#32
  ![v245_r0.toNat, 0, 0]

def k0_chk4 (arg19_r0 : BitVec 32) : Prop :=
  (∀ a, (k0_off32 arg19_r0) a + S1x512x2048.size a ≤ S2x512x2048.size a)
theorem k0_off32_inb : ∀ (arg19_r0 : BitVec 32) (k0_hw4 : k0_chk4 arg19_r0), ∀ a, (k0_off32 arg19_r0) a + S1x512x2048.size a ≤ S2x512x2048.size a := fun arg19_r0 k0_hw4 => k0_hw4

def k0_off33 (arg17_r0 : BitVec 32) : Fin 3 → Nat :=
  let c2_i32_184_r0 : BitVec 32 := 2#32
  let v219_r0 : BitVec 32 := Scalar.remui arg17_r0 c2_i32_184_r0
  let v248_r0 : Index := Scalar.indexCast v219_r0
  let c0_200_r0 : Index := 0#32
  let c0_201_r0 : Index := 0#32
  ![v248_r0.toNat, 0, 0]

def k0_chk5 (arg17_r0 : BitVec 32) : Prop :=
  (∀ a, (k0_off33 arg17_r0) a + S1x512x2048.size a ≤ S2x512x2048.size a)
theorem k0_off33_inb : ∀ (arg17_r0 : BitVec 32) (k0_hw5 : k0_chk5 arg17_r0), ∀ a, (k0_off33 arg17_r0) a + S1x512x2048.size a ≤ S2x512x2048.size a := fun arg17_r0 k0_hw5 => k0_hw5

def k0_off34 (arg10_r0 : BitVec 32) : Fin 3 → Nat :=
  let c2_i32_181_r0 : BitVec 32 := 2#32
  let v216_r0 : BitVec 32 := Scalar.remui arg10_r0 c2_i32_181_r0
  let v349_r0 : Index := Scalar.indexCast v216_r0
  let c0_248_r0 : Index := 0#32
  let c0_249_r0 : Index := 0#32
  ![v349_r0.toNat, 0, 0]
def k0_cond11 (arg22_r0 : BitVec 32) : BitVec 1 :=
  let c0_i32_117_r0 : BitVec 32 := 0#32
  let v111_r0 : BitVec 32 := Scalar.addi arg22_r0 c0_i32_117_r0
  let c10_i32_205_r0 : BitVec 32 := 10#32
  let v257_r0 : BitVec 1 := Scalar.cmpi .eq v111_r0 c10_i32_205_r0
  let v258_r0 : BitVec 32 := Scalar.extui v257_r0
  let c0_i32_206_r0 : BitVec 32 := 0#32
  let v259_r0 : BitVec 1 := Scalar.cmpi .ne v258_r0 c0_i32_206_r0
  v259_r0

def k0_off35 (arg19_r0 : BitVec 32) : Fin 3 → Nat :=
  let c2_i32_185_r0 : BitVec 32 := 2#32
  let v220_r0 : BitVec 32 := Scalar.remui arg19_r0 c2_i32_185_r0
  let v352_r0 : Index := Scalar.indexCast v220_r0
  let c0_250_r0 : Index := 0#32
  let c0_251_r0 : Index := 0#32
  ![v352_r0.toNat, 0, 0]
def k0_off36 (arg19_r0 : BitVec 32) : Fin 1 → Nat :=
  let c2_i32_248_r0 : BitVec 32 := 2#32
  let v349_r0 : BitVec 32 := Scalar.remui arg19_r0 c2_i32_248_r0
  ![v349_r0.toNat]
def k0_cond16 (k0_t1 : Fin k0_t1_loop.trips) (arg21_r0 : BitVec 32) (arg22_r0 : BitVec 32) : BitVec 1 :=
  let c0_i32_116_r0 : BitVec 32 := 0#32
  let v110_r0 : BitVec 32 := Scalar.addi arg21_r0 c0_i32_116_r0
  let true_128_r0 : BitVec 1 := 1#1
  let c1_i32_127_r0 : BitVec 32 := 1#32
  let v122_r0 : BitVec 32 := Scalar.addi arg22_r0 c1_i32_127_r0
  let v123_r0 : BitVec 32 := Scalar.select true_128_r0 v122_r0 arg22_r0
  let c11_i32_129_r0 : BitVec 32 := 11#32
  let v124_r0 : BitVec 1 := Scalar.cmpi .eq v123_r0 c11_i32_129_r0
  let c1_i32_131_r0 : BitVec 32 := 1#32
  let v126_r0 : BitVec 32 := Scalar.addi arg21_r0 c1_i32_131_r0
  let v127_r0 : BitVec 32 := Scalar.select v124_r0 v126_r0 arg21_r0
  let c16_i32_132_r0 : BitVec 32 := 16#32
  let v128_r0 : BitVec 1 := Scalar.cmpi .eq v127_r0 c16_i32_132_r0
  let c0_i32_133_r0 : BitVec 32 := 0#32
  let v129_r0 : BitVec 32 := Scalar.select v128_r0 c0_i32_133_r0 v127_r0
  let c0_i32_134_r0 : BitVec 32 := 0#32
  let v130_r0 : BitVec 32 := Scalar.addi v129_r0 c0_i32_134_r0
  let v280_r0 : BitVec 1 := Scalar.cmpi .ne v110_r0 v130_r0
  let c0_i32_72_r0 : BitVec 32 := 0#32
  let c1_i32_73_r0 : BitVec 32 := 1#32
  let arg8_r0 : BitVec 32 := Scf.iv c0_i32_72_r0 c1_i32_73_r0 k0_t1
  let c175_i32_r0 : BitVec 32 := 175#32
  let v109_r0 : BitVec 1 := Scalar.cmpi .eq arg8_r0 c175_i32_r0
  let v281_r0 : BitVec 1 := Scalar.ori v280_r0 v109_r0
  let v282_r0 : BitVec 32 := Scalar.extui v281_r0
  let c0_i32_214_r0 : BitVec 32 := 0#32
  let v283_r0 : BitVec 1 := Scalar.cmpi .ne v282_r0 c0_i32_214_r0
  v283_r0

def k0_off37 (arg21_r0 : BitVec 32) : Fin 2 → Nat :=
  let c512_i32_249_r0 : BitVec 32 := 512#32
  let c0_i32_116_r0 : BitVec 32 := 0#32
  let v110_r0 : BitVec 32 := Scalar.addi arg21_r0 c0_i32_116_r0
  let v350_r0 : BitVec 32 := Scalar.muli c512_i32_249_r0 v110_r0
  let c0_i32_250_r0 : BitVec 32 := 0#32
  ![v350_r0.toNat, 0]
def k0_off38 (arg19_r0 : BitVec 32) : Fin 3 → Nat :=
  let c2_i32_248_r0 : BitVec 32 := 2#32
  let v349_r0 : BitVec 32 := Scalar.remui arg19_r0 c2_i32_248_r0
  let c0_i32_251_r0 : BitVec 32 := 0#32
  let c0_i32_252_r0 : BitVec 32 := 0#32
  ![v349_r0.toNat, 0, 0]
def k0_off39 (arg20_r0 : BitVec 32) : Fin 1 → Nat :=
  let c2_i32_248_r0 : BitVec 32 := 2#32
  let v349_r0 : BitVec 32 := Scalar.remui arg20_r0 c2_i32_248_r0
  ![v349_r0.toNat]
def k0_cond21 (k0_t1 : Fin k0_t1_loop.trips) (arg21_r0 : BitVec 32) (arg22_r0 : BitVec 32) : BitVec 1 :=
  let c0_i32_116_r0 : BitVec 32 := 0#32
  let v110_r0 : BitVec 32 := Scalar.addi arg21_r0 c0_i32_116_r0
  let true_119_r0 : BitVec 1 := 1#1
  let c1_i32_118_r0 : BitVec 32 := 1#32
  let v112_r0 : BitVec 32 := Scalar.subi arg22_r0 c1_i32_118_r0
  let v113_r0 : BitVec 32 := Scalar.select true_119_r0 v112_r0 arg22_r0
  let c_m1_i32_120_r0 : BitVec 32 := 4294967295#32
  let v114_r0 : BitVec 1 := Scalar.cmpi .eq v113_r0 c_m1_i32_120_r0
  let c1_i32_122_r0 : BitVec 32 := 1#32
  let v116_r0 : BitVec 32 := Scalar.subi arg21_r0 c1_i32_122_r0
  let v117_r0 : BitVec 32 := Scalar.select v114_r0 v116_r0 arg21_r0
  let c_m1_i32_123_r0 : BitVec 32 := 4294967295#32
  let v118_r0 : BitVec 1 := Scalar.cmpi .eq v117_r0 c_m1_i32_123_r0
  let c15_i32_124_r0 : BitVec 32 := 15#32
  let v119_r0 : BitVec 32 := Scalar.select v118_r0 c15_i32_124_r0 v117_r0
  let c0_i32_125_r0 : BitVec 32 := 0#32
  let v120_r0 : BitVec 32 := Scalar.addi v119_r0 c0_i32_125_r0
  let v311_r0 : BitVec 1 := Scalar.cmpi .ne v110_r0 v120_r0
  let c0_i32_72_r0 : BitVec 32 := 0#32
  let c1_i32_73_r0 : BitVec 32 := 1#32
  let arg8_r0 : BitVec 32 := Scf.iv c0_i32_72_r0 c1_i32_73_r0 k0_t1
  let c0_i32_115_r0 : BitVec 32 := 0#32
  let v108_r0 : BitVec 1 := Scalar.cmpi .eq arg8_r0 c0_i32_115_r0
  let true_229_r0 : BitVec 1 := 1#1
  let v312_r0 : BitVec 1 := Scalar.xori v108_r0 true_229_r0
  let v313_r0 : BitVec 1 := Scalar.andi v311_r0 v312_r0
  let v314_r0 : BitVec 32 := Scalar.extui v313_r0
  let c0_i32_230_r0 : BitVec 32 := 0#32
  let v315_r0 : BitVec 1 := Scalar.cmpi .ne v314_r0 c0_i32_230_r0
  v315_r0

def k0_off40 (arg21_r0 : BitVec 32) (arg22_r0 : BitVec 32) : Fin 2 → Nat :=
  let c512_i32_249_r0 : BitVec 32 := 512#32
  let true_119_r0 : BitVec 1 := 1#1
  let c1_i32_118_r0 : BitVec 32 := 1#32
  let v112_r0 : BitVec 32 := Scalar.subi arg22_r0 c1_i32_118_r0
  let v113_r0 : BitVec 32 := Scalar.select true_119_r0 v112_r0 arg22_r0
  let c_m1_i32_120_r0 : BitVec 32 := 4294967295#32
  let v114_r0 : BitVec 1 := Scalar.cmpi .eq v113_r0 c_m1_i32_120_r0
  let c1_i32_122_r0 : BitVec 32 := 1#32
  let v116_r0 : BitVec 32 := Scalar.subi arg21_r0 c1_i32_122_r0
  let v117_r0 : BitVec 32 := Scalar.select v114_r0 v116_r0 arg21_r0
  let c_m1_i32_123_r0 : BitVec 32 := 4294967295#32
  let v118_r0 : BitVec 1 := Scalar.cmpi .eq v117_r0 c_m1_i32_123_r0
  let c15_i32_124_r0 : BitVec 32 := 15#32
  let v119_r0 : BitVec 32 := Scalar.select v118_r0 c15_i32_124_r0 v117_r0
  let c0_i32_125_r0 : BitVec 32 := 0#32
  let v120_r0 : BitVec 32 := Scalar.addi v119_r0 c0_i32_125_r0
  let v350_r0 : BitVec 32 := Scalar.muli c512_i32_249_r0 v120_r0
  let c0_i32_250_r0 : BitVec 32 := 0#32
  ![v350_r0.toNat, 0]
def k0_off41 (arg20_r0 : BitVec 32) : Fin 3 → Nat :=
  let c2_i32_248_r0 : BitVec 32 := 2#32
  let v349_r0 : BitVec 32 := Scalar.remui arg20_r0 c2_i32_248_r0
  let c0_i32_251_r0 : BitVec 32 := 0#32
  let c0_i32_252_r0 : BitVec 32 := 0#32
  ![v349_r0.toNat, 0, 0]

def k0_chk1_0 (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) : Prop :=
  (∀ (k0_h1 : k0_cond1 k0_t1 arg21_r0 arg22_r0 = 1#1), ∀ a, (k0_off4 arg9_r0) a + S1.size a ≤ S2.size a) ∧
  (∀ (k0_h1 : k0_cond1 k0_t1 arg21_r0 arg22_r0 = 1#1), ∀ a, (k0_off5 arg9_r0) a + S1x512x2048.size a ≤ S2x512x2048.size a) ∧
  (∀ (k0_h1 : k0_cond1 k0_t1 arg21_r0 arg22_r0 = 1#1), ∀ a, (k0_off6 arg21_r0 arg22_r0) a + S512x2048.size a ≤ S8192x2048.size a) ∧
  (∀ (k0_h2 : k0_cond2 k0_t1 arg22_r0 = 1#1), ∀ a, (k0_off7 arg12_r0) a + S1.size a ≤ S2.size a) ∧
  (∀ (k0_h2 : k0_cond2 k0_t1 arg22_r0 = 1#1), ∀ a, (k0_off8 arg12_r0) a + S1x2048x512.size a ≤ S2x2048x512.size a) ∧
  (∀ (k0_h2 : k0_cond2 k0_t1 arg22_r0 = 1#1), ∀ a, (k0_off9 arg22_r0) a + S2048x512.size a ≤ S2048x5632.size a) ∧
  (∀ (k0_h2 : k0_cond2 k0_t1 arg22_r0 = 1#1), ∀ (hinb : ∀ a, (k0_off9 arg22_r0) a + S2048x512.size a ≤ S2048x5632.size a), (Rect.unit (s := S2048x5632) (k0_off9 arg22_r0) S2048x512.size hinb).WholeWords (EltTy.packing .bf16)) ∧
  (∀ (k0_h2 : k0_cond2 k0_t1 arg22_r0 = 1#1), ∀ (hinb : ∀ a, (k0_off8 arg12_r0) a + S1x2048x512.size a ≤ S2x2048x512.size a), (Rect.unit (s := S2x2048x512) (k0_off8 arg12_r0) S1x2048x512.size hinb).WholeWords (EltTy.packing .bf16)) ∧
  (∀ (k0_h3 : k0_cond3 k0_t1 arg22_r0 = 1#1), ∀ a, (k0_off10 arg14_r0) a + S1.size a ≤ S2.size a) ∧
  (∀ (k0_h3 : k0_cond3 k0_t1 arg22_r0 = 1#1), ∀ a, (k0_off11 arg14_r0) a + S1x2048x512.size a ≤ S2x2048x512.size a) ∧
  (∀ (k0_h3 : k0_cond3 k0_t1 arg22_r0 = 1#1), ∀ a, (k0_off12 arg22_r0) a + S2048x512.size a ≤ S2048x5632.size a) ∧
  (∀ (k0_h3 : k0_cond3 k0_t1 arg22_r0 = 1#1), ∀ (hinb : ∀ a, (k0_off12 arg22_r0) a + S2048x512.size a ≤ S2048x5632.size a), (Rect.unit (s := S2048x5632) (k0_off12 arg22_r0) S2048x512.size hinb).WholeWords (EltTy.packing .bf16)) ∧
  (∀ (k0_h3 : k0_cond3 k0_t1 arg22_r0 = 1#1), ∀ (hinb : ∀ a, (k0_off11 arg14_r0) a + S1x2048x512.size a ≤ S2x2048x512.size a), (Rect.unit (s := S2x2048x512) (k0_off11 arg14_r0) S1x2048x512.size hinb).WholeWords (EltTy.packing .bf16)) ∧
  (∀ (k0_h4 : k0_cond4 k0_t1 arg22_r0 = 1#1), ∀ a, (k0_off13 arg16_r0) a + S1.size a ≤ S2.size a) ∧
  (∀ (k0_h4 : k0_cond4 k0_t1 arg22_r0 = 1#1), ∀ a, (k0_off14 arg16_r0) a + S1x512x2048.size a ≤ S2x512x2048.size a) ∧
  (∀ (k0_h4 : k0_cond4 k0_t1 arg22_r0 = 1#1), ∀ a, (k0_off15 arg22_r0) a + S512x2048.size a ≤ S5632x2048.size a) ∧
  (∀ (k0_h4 : k0_cond4 k0_t1 arg22_r0 = 1#1), ∀ (hinb : ∀ a, (k0_off15 arg22_r0) a + S512x2048.size a ≤ S5632x2048.size a), (Rect.unit (s := S5632x2048) (k0_off15 arg22_r0) S512x2048.size hinb).WholeWords (EltTy.packing .bf16)) ∧
  (∀ (k0_h4 : k0_cond4 k0_t1 arg22_r0 = 1#1), ∀ (hinb : ∀ a, (k0_off14 arg16_r0) a + S1x512x2048.size a ≤ S2x512x2048.size a), (Rect.unit (s := S2x512x2048) (k0_off14 arg16_r0) S1x512x2048.size hinb).WholeWords (EltTy.packing .bf16)) ∧
  (∀ (k0_h5 : k0_cond5 k0_t1 arg21_r0 arg22_r0 = 1#1), ∀ a, (k0_off16 arg10_r0) a + S1.size a ≤ S2.size a) ∧
  (∀ (k0_h5 : k0_cond5 k0_t1 arg21_r0 arg22_r0 = 1#1), ∀ a, (k0_off17 arg10_r0) a + S1x512x2048.size a ≤ S2x512x2048.size a) ∧
  (∀ (k0_h5 : k0_cond5 k0_t1 arg21_r0 arg22_r0 = 1#1), ∀ a, (k0_off18 arg21_r0) a + S512x2048.size a ≤ S8192x2048.size a) ∧
  (∀ (k0_h6 : k0_cond6 k0_t1 arg22_r0 = 1#1), ∀ a, (k0_off19 arg13_r0) a + S1.size a ≤ S2.size a) ∧
  (∀ (k0_h6 : k0_cond6 k0_t1 arg22_r0 = 1#1), ∀ a, (k0_off20 arg13_r0) a + S1x2048x512.size a ≤ S2x2048x512.size a) ∧
  (∀ (k0_h6 : k0_cond6 k0_t1 arg22_r0 = 1#1), ∀ a, (k0_off21 arg22_r0) a + S2048x512.size a ≤ S2048x5632.size a) ∧
  (∀ (k0_h6 : k0_cond6 k0_t1 arg22_r0 = 1#1), ∀ (hinb : ∀ a, (k0_off21 arg22_r0) a + S2048x512.size a ≤ S2048x5632.size a), (Rect.unit (s := S2048x5632) (k0_off21 arg22_r0) S2048x512.size hinb).WholeWords (EltTy.packing .bf16)) ∧
  (∀ (k0_h6 : k0_cond6 k0_t1 arg22_r0 = 1#1), ∀ (hinb : ∀ a, (k0_off20 arg13_r0) a + S1x2048x512.size a ≤ S2x2048x512.size a), (Rect.unit (s := S2x2048x512) (k0_off20 arg13_r0) S1x2048x512.size hinb).WholeWords (EltTy.packing .bf16)) ∧
  (∀ (k0_h7 : k0_cond7 k0_t1 arg22_r0 = 1#1), ∀ a, (k0_off22 arg15_r0) a + S1.size a ≤ S2.size a) ∧
  (∀ (k0_h7 : k0_cond7 k0_t1 arg22_r0 = 1#1), ∀ a, (k0_off23 arg15_r0) a + S1x2048x512.size a ≤ S2x2048x512.size a) ∧
  (∀ (k0_h7 : k0_cond7 k0_t1 arg22_r0 = 1#1), ∀ a, (k0_off24 arg22_r0) a + S2048x512.size a ≤ S2048x5632.size a) ∧
  (∀ (k0_h7 : k0_cond7 k0_t1 arg22_r0 = 1#1), ∀ (hinb : ∀ a, (k0_off24 arg22_r0) a + S2048x512.size a ≤ S2048x5632.size a), (Rect.unit (s := S2048x5632) (k0_off24 arg22_r0) S2048x512.size hinb).WholeWords (EltTy.packing .bf16)) ∧
  (∀ (k0_h7 : k0_cond7 k0_t1 arg22_r0 = 1#1), ∀ (hinb : ∀ a, (k0_off23 arg15_r0) a + S1x2048x512.size a ≤ S2x2048x512.size a), (Rect.unit (s := S2x2048x512) (k0_off23 arg15_r0) S1x2048x512.size hinb).WholeWords (EltTy.packing .bf16)) ∧
  (∀ (k0_h8 : k0_cond8 k0_t1 arg22_r0 = 1#1), ∀ a, (k0_off25 arg17_r0) a + S1.size a ≤ S2.size a)
def k0_chk1_1 (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) : Prop :=
  (∀ (k0_h8 : k0_cond8 k0_t1 arg22_r0 = 1#1), ∀ a, (k0_off26 arg17_r0) a + S1x512x2048.size a ≤ S2x512x2048.size a) ∧
  (∀ (k0_h8 : k0_cond8 k0_t1 arg22_r0 = 1#1), ∀ a, (k0_off27 arg22_r0) a + S512x2048.size a ≤ S5632x2048.size a) ∧
  (∀ (k0_h8 : k0_cond8 k0_t1 arg22_r0 = 1#1), ∀ (hinb : ∀ a, (k0_off27 arg22_r0) a + S512x2048.size a ≤ S5632x2048.size a), (Rect.unit (s := S5632x2048) (k0_off27 arg22_r0) S512x2048.size hinb).WholeWords (EltTy.packing .bf16)) ∧
  (∀ (k0_h8 : k0_cond8 k0_t1 arg22_r0 = 1#1), ∀ (hinb : ∀ a, (k0_off26 arg17_r0) a + S1x512x2048.size a ≤ S2x512x2048.size a), (Rect.unit (s := S2x512x2048) (k0_off26 arg17_r0) S1x512x2048.size hinb).WholeWords (EltTy.packing .bf16)) ∧
  (∀ (k0_h10 : k0_cond10 arg22_r0 = 1#1), ∀ a, (k0_off28 arg10_r0) a + S1x512x2048.size a ≤ S2x512x2048.size a) ∧
  (∀ (k0_h10 : k0_cond10 arg22_r0 = 1#1), ∀ a, (k0_off29 arg19_r0) a + S1x512x2048.size a ≤ S2x512x2048.size a) ∧
  (∀ (k0_h11 : k0_cond11 arg22_r0 = 1#1), ∀ a, (k0_off34 arg10_r0) a + S1x512x2048.size a ≤ S2x512x2048.size a) ∧
  (∀ (k0_h11 : k0_cond11 arg22_r0 = 1#1), ∀ a, (k0_off35 arg19_r0) a + S1x512x2048.size a ≤ S2x512x2048.size a) ∧
  (∀ (k0_h16 : k0_cond16 k0_t1 arg21_r0 arg22_r0 = 1#1), ∀ a, (k0_off36 arg19_r0) a + S1.size a ≤ S2.size a) ∧
  (∀ (k0_h16 : k0_cond16 k0_t1 arg21_r0 arg22_r0 = 1#1), ∀ a, (k0_off37 arg21_r0) a + S512x2048.size a ≤ S8192x2048.size a) ∧
  (∀ (k0_h16 : k0_cond16 k0_t1 arg21_r0 arg22_r0 = 1#1), ∀ a, (k0_off38 arg19_r0) a + S1x512x2048.size a ≤ S2x512x2048.size a) ∧
  (∀ (k0_h21 : k0_cond21 k0_t1 arg21_r0 arg22_r0 = 1#1), ∀ a, (k0_off39 arg20_r0) a + S1.size a ≤ S2.size a) ∧
  (∀ (k0_h21 : k0_cond21 k0_t1 arg21_r0 arg22_r0 = 1#1), ∀ a, (k0_off40 arg21_r0 arg22_r0) a + S512x2048.size a ≤ S8192x2048.size a) ∧
  (∀ (k0_h21 : k0_cond21 k0_t1 arg21_r0 arg22_r0 = 1#1), ∀ a, (k0_off41 arg20_r0) a + S1x512x2048.size a ≤ S2x512x2048.size a)
def k0_chk1 (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) : Prop :=
  k0_chk1_0 k0_t1 arg9_r0 arg10_r0 arg12_r0 arg13_r0 arg14_r0 arg15_r0 arg16_r0 arg17_r0 arg19_r0 arg20_r0 arg21_r0 arg22_r0 ∧
  k0_chk1_1 k0_t1 arg9_r0 arg10_r0 arg12_r0 arg13_r0 arg14_r0 arg15_r0 arg16_r0 arg17_r0 arg19_r0 arg20_r0 arg21_r0 arg22_r0
theorem k0_off4_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h1 : k0_cond1 k0_t1 arg21_r0 arg22_r0 = 1#1), ∀ a, (k0_off4 arg9_r0) a + S1.size a ≤ S2.size a := fun k0_t1 arg9_r0 arg10_r0 arg12_r0 arg13_r0 arg14_r0 arg15_r0 arg16_r0 arg17_r0 arg19_r0 arg20_r0 arg21_r0 arg22_r0 k0_hw1 k0_h1 => k0_hw1.1.1 k0_h1
theorem k0_off5_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h1 : k0_cond1 k0_t1 arg21_r0 arg22_r0 = 1#1), ∀ a, (k0_off5 arg9_r0) a + S1x512x2048.size a ≤ S2x512x2048.size a := fun k0_t1 arg9_r0 arg10_r0 arg12_r0 arg13_r0 arg14_r0 arg15_r0 arg16_r0 arg17_r0 arg19_r0 arg20_r0 arg21_r0 arg22_r0 k0_hw1 k0_h1 => k0_hw1.1.2.1 k0_h1
theorem k0_off6_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h1 : k0_cond1 k0_t1 arg21_r0 arg22_r0 = 1#1), ∀ a, (k0_off6 arg21_r0 arg22_r0) a + S512x2048.size a ≤ S8192x2048.size a := fun k0_t1 arg9_r0 arg10_r0 arg12_r0 arg13_r0 arg14_r0 arg15_r0 arg16_r0 arg17_r0 arg19_r0 arg20_r0 arg21_r0 arg22_r0 k0_hw1 k0_h1 => k0_hw1.1.2.2.1 k0_h1
theorem k0_off7_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h2 : k0_cond2 k0_t1 arg22_r0 = 1#1), ∀ a, (k0_off7 arg12_r0) a + S1.size a ≤ S2.size a := fun k0_t1 arg9_r0 arg10_r0 arg12_r0 arg13_r0 arg14_r0 arg15_r0 arg16_r0 arg17_r0 arg19_r0 arg20_r0 arg21_r0 arg22_r0 k0_hw1 k0_h2 => k0_hw1.1.2.2.2.1 k0_h2
theorem k0_off8_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h2 : k0_cond2 k0_t1 arg22_r0 = 1#1), ∀ a, (k0_off8 arg12_r0) a + S1x2048x512.size a ≤ S2x2048x512.size a := fun k0_t1 arg9_r0 arg10_r0 arg12_r0 arg13_r0 arg14_r0 arg15_r0 arg16_r0 arg17_r0 arg19_r0 arg20_r0 arg21_r0 arg22_r0 k0_hw1 k0_h2 => k0_hw1.1.2.2.2.2.1 k0_h2
theorem k0_off9_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h2 : k0_cond2 k0_t1 arg22_r0 = 1#1), ∀ a, (k0_off9 arg22_r0) a + S2048x512.size a ≤ S2048x5632.size a := fun k0_t1 arg9_r0 arg10_r0 arg12_r0 arg13_r0 arg14_r0 arg15_r0 arg16_r0 arg17_r0 arg19_r0 arg20_r0 arg21_r0 arg22_r0 k0_hw1 k0_h2 => k0_hw1.1.2.2.2.2.2.1 k0_h2
theorem k0_off9_wordsbf16 : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h2 : k0_cond2 k0_t1 arg22_r0 = 1#1), (Rect.unit (s := S2048x5632) (k0_off9 arg22_r0) S2048x512.size (k0_off9_inb k0_t1 arg9_r0 arg10_r0 arg12_r0 arg13_r0 arg14_r0 arg15_r0 arg16_r0 arg17_r0 arg19_r0 arg20_r0 arg21_r0 arg22_r0 k0_hw1 k0_h2)).WholeWords (EltTy.packing .bf16) := fun k0_t1 arg9_r0 arg10_r0 arg12_r0 arg13_r0 arg14_r0 arg15_r0 arg16_r0 arg17_r0 arg19_r0 arg20_r0 arg21_r0 arg22_r0 k0_hw1 k0_h2 => k0_hw1.1.2.2.2.2.2.2.1 k0_h2 (k0_off9_inb k0_t1 arg9_r0 arg10_r0 arg12_r0 arg13_r0 arg14_r0 arg15_r0 arg16_r0 arg17_r0 arg19_r0 arg20_r0 arg21_r0 arg22_r0 k0_hw1 k0_h2)
theorem k0_off8_wordsbf16 : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h2 : k0_cond2 k0_t1 arg22_r0 = 1#1), (Rect.unit (s := S2x2048x512) (k0_off8 arg12_r0) S1x2048x512.size (k0_off8_inb k0_t1 arg9_r0 arg10_r0 arg12_r0 arg13_r0 arg14_r0 arg15_r0 arg16_r0 arg17_r0 arg19_r0 arg20_r0 arg21_r0 arg22_r0 k0_hw1 k0_h2)).WholeWords (EltTy.packing .bf16) := fun k0_t1 arg9_r0 arg10_r0 arg12_r0 arg13_r0 arg14_r0 arg15_r0 arg16_r0 arg17_r0 arg19_r0 arg20_r0 arg21_r0 arg22_r0 k0_hw1 k0_h2 => k0_hw1.1.2.2.2.2.2.2.2.1 k0_h2 (k0_off8_inb k0_t1 arg9_r0 arg10_r0 arg12_r0 arg13_r0 arg14_r0 arg15_r0 arg16_r0 arg17_r0 arg19_r0 arg20_r0 arg21_r0 arg22_r0 k0_hw1 k0_h2)
theorem k0_off10_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h3 : k0_cond3 k0_t1 arg22_r0 = 1#1), ∀ a, (k0_off10 arg14_r0) a + S1.size a ≤ S2.size a := fun k0_t1 arg9_r0 arg10_r0 arg12_r0 arg13_r0 arg14_r0 arg15_r0 arg16_r0 arg17_r0 arg19_r0 arg20_r0 arg21_r0 arg22_r0 k0_hw1 k0_h3 => k0_hw1.1.2.2.2.2.2.2.2.2.1 k0_h3
theorem k0_off11_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h3 : k0_cond3 k0_t1 arg22_r0 = 1#1), ∀ a, (k0_off11 arg14_r0) a + S1x2048x512.size a ≤ S2x2048x512.size a := fun k0_t1 arg9_r0 arg10_r0 arg12_r0 arg13_r0 arg14_r0 arg15_r0 arg16_r0 arg17_r0 arg19_r0 arg20_r0 arg21_r0 arg22_r0 k0_hw1 k0_h3 => k0_hw1.1.2.2.2.2.2.2.2.2.2.1 k0_h3
theorem k0_off12_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h3 : k0_cond3 k0_t1 arg22_r0 = 1#1), ∀ a, (k0_off12 arg22_r0) a + S2048x512.size a ≤ S2048x5632.size a := fun k0_t1 arg9_r0 arg10_r0 arg12_r0 arg13_r0 arg14_r0 arg15_r0 arg16_r0 arg17_r0 arg19_r0 arg20_r0 arg21_r0 arg22_r0 k0_hw1 k0_h3 => k0_hw1.1.2.2.2.2.2.2.2.2.2.2.1 k0_h3
theorem k0_off12_wordsbf16 : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h3 : k0_cond3 k0_t1 arg22_r0 = 1#1), (Rect.unit (s := S2048x5632) (k0_off12 arg22_r0) S2048x512.size (k0_off12_inb k0_t1 arg9_r0 arg10_r0 arg12_r0 arg13_r0 arg14_r0 arg15_r0 arg16_r0 arg17_r0 arg19_r0 arg20_r0 arg21_r0 arg22_r0 k0_hw1 k0_h3)).WholeWords (EltTy.packing .bf16) := fun k0_t1 arg9_r0 arg10_r0 arg12_r0 arg13_r0 arg14_r0 arg15_r0 arg16_r0 arg17_r0 arg19_r0 arg20_r0 arg21_r0 arg22_r0 k0_hw1 k0_h3 => k0_hw1.1.2.2.2.2.2.2.2.2.2.2.2.1 k0_h3 (k0_off12_inb k0_t1 arg9_r0 arg10_r0 arg12_r0 arg13_r0 arg14_r0 arg15_r0 arg16_r0 arg17_r0 arg19_r0 arg20_r0 arg21_r0 arg22_r0 k0_hw1 k0_h3)
theorem k0_off11_wordsbf16 : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h3 : k0_cond3 k0_t1 arg22_r0 = 1#1), (Rect.unit (s := S2x2048x512) (k0_off11 arg14_r0) S1x2048x512.size (k0_off11_inb k0_t1 arg9_r0 arg10_r0 arg12_r0 arg13_r0 arg14_r0 arg15_r0 arg16_r0 arg17_r0 arg19_r0 arg20_r0 arg21_r0 arg22_r0 k0_hw1 k0_h3)).WholeWords (EltTy.packing .bf16) := fun k0_t1 arg9_r0 arg10_r0 arg12_r0 arg13_r0 arg14_r0 arg15_r0 arg16_r0 arg17_r0 arg19_r0 arg20_r0 arg21_r0 arg22_r0 k0_hw1 k0_h3 => k0_hw1.1.2.2.2.2.2.2.2.2.2.2.2.2.1 k0_h3 (k0_off11_inb k0_t1 arg9_r0 arg10_r0 arg12_r0 arg13_r0 arg14_r0 arg15_r0 arg16_r0 arg17_r0 arg19_r0 arg20_r0 arg21_r0 arg22_r0 k0_hw1 k0_h3)
theorem k0_off13_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h4 : k0_cond4 k0_t1 arg22_r0 = 1#1), ∀ a, (k0_off13 arg16_r0) a + S1.size a ≤ S2.size a := fun k0_t1 arg9_r0 arg10_r0 arg12_r0 arg13_r0 arg14_r0 arg15_r0 arg16_r0 arg17_r0 arg19_r0 arg20_r0 arg21_r0 arg22_r0 k0_hw1 k0_h4 => k0_hw1.1.2.2.2.2.2.2.2.2.2.2.2.2.2.1 k0_h4
theorem k0_off14_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h4 : k0_cond4 k0_t1 arg22_r0 = 1#1), ∀ a, (k0_off14 arg16_r0) a + S1x512x2048.size a ≤ S2x512x2048.size a := fun k0_t1 arg9_r0 arg10_r0 arg12_r0 arg13_r0 arg14_r0 arg15_r0 arg16_r0 arg17_r0 arg19_r0 arg20_r0 arg21_r0 arg22_r0 k0_hw1 k0_h4 => k0_hw1.1.2.2.2.2.2.2.2.2.2.2.2.2.2.2.1 k0_h4
theorem k0_off15_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h4 : k0_cond4 k0_t1 arg22_r0 = 1#1), ∀ a, (k0_off15 arg22_r0) a + S512x2048.size a ≤ S5632x2048.size a := fun k0_t1 arg9_r0 arg10_r0 arg12_r0 arg13_r0 arg14_r0 arg15_r0 arg16_r0 arg17_r0 arg19_r0 arg20_r0 arg21_r0 arg22_r0 k0_hw1 k0_h4 => k0_hw1.1.2.2.2.2.2.2.2.2.2.2.2.2.2.2.2.1 k0_h4
theorem k0_off15_wordsbf16 : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h4 : k0_cond4 k0_t1 arg22_r0 = 1#1), (Rect.unit (s := S5632x2048) (k0_off15 arg22_r0) S512x2048.size (k0_off15_inb k0_t1 arg9_r0 arg10_r0 arg12_r0 arg13_r0 arg14_r0 arg15_r0 arg16_r0 arg17_r0 arg19_r0 arg20_r0 arg21_r0 arg22_r0 k0_hw1 k0_h4)).WholeWords (EltTy.packing .bf16) := fun k0_t1 arg9_r0 arg10_r0 arg12_r0 arg13_r0 arg14_r0 arg15_r0 arg16_r0 arg17_r0 arg19_r0 arg20_r0 arg21_r0 arg22_r0 k0_hw1 k0_h4 => k0_hw1.1.2.2.2.2.2.2.2.2.2.2.2.2.2.2.2.2.1 k0_h4 (k0_off15_inb k0_t1 arg9_r0 arg10_r0 arg12_r0 arg13_r0 arg14_r0 arg15_r0 arg16_r0 arg17_r0 arg19_r0 arg20_r0 arg21_r0 arg22_r0 k0_hw1 k0_h4)
theorem k0_off14_wordsbf16 : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h4 : k0_cond4 k0_t1 arg22_r0 = 1#1), (Rect.unit (s := S2x512x2048) (k0_off14 arg16_r0) S1x512x2048.size (k0_off14_inb k0_t1 arg9_r0 arg10_r0 arg12_r0 arg13_r0 arg14_r0 arg15_r0 arg16_r0 arg17_r0 arg19_r0 arg20_r0 arg21_r0 arg22_r0 k0_hw1 k0_h4)).WholeWords (EltTy.packing .bf16) := fun k0_t1 arg9_r0 arg10_r0 arg12_r0 arg13_r0 arg14_r0 arg15_r0 arg16_r0 arg17_r0 arg19_r0 arg20_r0 arg21_r0 arg22_r0 k0_hw1 k0_h4 => k0_hw1.1.2.2.2.2.2.2.2.2.2.2.2.2.2.2.2.2.2.1 k0_h4 (k0_off14_inb k0_t1 arg9_r0 arg10_r0 arg12_r0 arg13_r0 arg14_r0 arg15_r0 arg16_r0 arg17_r0 arg19_r0 arg20_r0 arg21_r0 arg22_r0 k0_hw1 k0_h4)
theorem k0_off16_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h5 : k0_cond5 k0_t1 arg21_r0 arg22_r0 = 1#1), ∀ a, (k0_off16 arg10_r0) a + S1.size a ≤ S2.size a := fun k0_t1 arg9_r0 arg10_r0 arg12_r0 arg13_r0 arg14_r0 arg15_r0 arg16_r0 arg17_r0 arg19_r0 arg20_r0 arg21_r0 arg22_r0 k0_hw1 k0_h5 => k0_hw1.1.2.2.2.2.2.2.2.2.2.2.2.2.2.2.2.2.2.2.1 k0_h5
theorem k0_off17_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h5 : k0_cond5 k0_t1 arg21_r0 arg22_r0 = 1#1), ∀ a, (k0_off17 arg10_r0) a + S1x512x2048.size a ≤ S2x512x2048.size a := fun k0_t1 arg9_r0 arg10_r0 arg12_r0 arg13_r0 arg14_r0 arg15_r0 arg16_r0 arg17_r0 arg19_r0 arg20_r0 arg21_r0 arg22_r0 k0_hw1 k0_h5 => k0_hw1.1.2.2.2.2.2.2.2.2.2.2.2.2.2.2.2.2.2.2.2.1 k0_h5
theorem k0_off18_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h5 : k0_cond5 k0_t1 arg21_r0 arg22_r0 = 1#1), ∀ a, (k0_off18 arg21_r0) a + S512x2048.size a ≤ S8192x2048.size a := fun k0_t1 arg9_r0 arg10_r0 arg12_r0 arg13_r0 arg14_r0 arg15_r0 arg16_r0 arg17_r0 arg19_r0 arg20_r0 arg21_r0 arg22_r0 k0_hw1 k0_h5 => k0_hw1.1.2.2.2.2.2.2.2.2.2.2.2.2.2.2.2.2.2.2.2.2.1 k0_h5
theorem k0_off19_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h6 : k0_cond6 k0_t1 arg22_r0 = 1#1), ∀ a, (k0_off19 arg13_r0) a + S1.size a ≤ S2.size a := fun k0_t1 arg9_r0 arg10_r0 arg12_r0 arg13_r0 arg14_r0 arg15_r0 arg16_r0 arg17_r0 arg19_r0 arg20_r0 arg21_r0 arg22_r0 k0_hw1 k0_h6 => k0_hw1.1.2.2.2.2.2.2.2.2.2.2.2.2.2.2.2.2.2.2.2.2.2.1 k0_h6
theorem k0_off20_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h6 : k0_cond6 k0_t1 arg22_r0 = 1#1), ∀ a, (k0_off20 arg13_r0) a + S1x2048x512.size a ≤ S2x2048x512.size a := fun k0_t1 arg9_r0 arg10_r0 arg12_r0 arg13_r0 arg14_r0 arg15_r0 arg16_r0 arg17_r0 arg19_r0 arg20_r0 arg21_r0 arg22_r0 k0_hw1 k0_h6 => k0_hw1.1.2.2.2.2.2.2.2.2.2.2.2.2.2.2.2.2.2.2.2.2.2.2.1 k0_h6
theorem k0_off21_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h6 : k0_cond6 k0_t1 arg22_r0 = 1#1), ∀ a, (k0_off21 arg22_r0) a + S2048x512.size a ≤ S2048x5632.size a := fun k0_t1 arg9_r0 arg10_r0 arg12_r0 arg13_r0 arg14_r0 arg15_r0 arg16_r0 arg17_r0 arg19_r0 arg20_r0 arg21_r0 arg22_r0 k0_hw1 k0_h6 => k0_hw1.1.2.2.2.2.2.2.2.2.2.2.2.2.2.2.2.2.2.2.2.2.2.2.2.1 k0_h6
theorem k0_off21_wordsbf16 : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h6 : k0_cond6 k0_t1 arg22_r0 = 1#1), (Rect.unit (s := S2048x5632) (k0_off21 arg22_r0) S2048x512.size (k0_off21_inb k0_t1 arg9_r0 arg10_r0 arg12_r0 arg13_r0 arg14_r0 arg15_r0 arg16_r0 arg17_r0 arg19_r0 arg20_r0 arg21_r0 arg22_r0 k0_hw1 k0_h6)).WholeWords (EltTy.packing .bf16) := fun k0_t1 arg9_r0 arg10_r0 arg12_r0 arg13_r0 arg14_r0 arg15_r0 arg16_r0 arg17_r0 arg19_r0 arg20_r0 arg21_r0 arg22_r0 k0_hw1 k0_h6 => k0_hw1.1.2.2.2.2.2.2.2.2.2.2.2.2.2.2.2.2.2.2.2.2.2.2.2.2.1 k0_h6 (k0_off21_inb k0_t1 arg9_r0 arg10_r0 arg12_r0 arg13_r0 arg14_r0 arg15_r0 arg16_r0 arg17_r0 arg19_r0 arg20_r0 arg21_r0 arg22_r0 k0_hw1 k0_h6)
theorem k0_off20_wordsbf16 : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h6 : k0_cond6 k0_t1 arg22_r0 = 1#1), (Rect.unit (s := S2x2048x512) (k0_off20 arg13_r0) S1x2048x512.size (k0_off20_inb k0_t1 arg9_r0 arg10_r0 arg12_r0 arg13_r0 arg14_r0 arg15_r0 arg16_r0 arg17_r0 arg19_r0 arg20_r0 arg21_r0 arg22_r0 k0_hw1 k0_h6)).WholeWords (EltTy.packing .bf16) := fun k0_t1 arg9_r0 arg10_r0 arg12_r0 arg13_r0 arg14_r0 arg15_r0 arg16_r0 arg17_r0 arg19_r0 arg20_r0 arg21_r0 arg22_r0 k0_hw1 k0_h6 => k0_hw1.1.2.2.2.2.2.2.2.2.2.2.2.2.2.2.2.2.2.2.2.2.2.2.2.2.2.1 k0_h6 (k0_off20_inb k0_t1 arg9_r0 arg10_r0 arg12_r0 arg13_r0 arg14_r0 arg15_r0 arg16_r0 arg17_r0 arg19_r0 arg20_r0 arg21_r0 arg22_r0 k0_hw1 k0_h6)
theorem k0_off22_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h7 : k0_cond7 k0_t1 arg22_r0 = 1#1), ∀ a, (k0_off22 arg15_r0) a + S1.size a ≤ S2.size a := fun k0_t1 arg9_r0 arg10_r0 arg12_r0 arg13_r0 arg14_r0 arg15_r0 arg16_r0 arg17_r0 arg19_r0 arg20_r0 arg21_r0 arg22_r0 k0_hw1 k0_h7 => k0_hw1.1.2.2.2.2.2.2.2.2.2.2.2.2.2.2.2.2.2.2.2.2.2.2.2.2.2.2.1 k0_h7
theorem k0_off23_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h7 : k0_cond7 k0_t1 arg22_r0 = 1#1), ∀ a, (k0_off23 arg15_r0) a + S1x2048x512.size a ≤ S2x2048x512.size a := fun k0_t1 arg9_r0 arg10_r0 arg12_r0 arg13_r0 arg14_r0 arg15_r0 arg16_r0 arg17_r0 arg19_r0 arg20_r0 arg21_r0 arg22_r0 k0_hw1 k0_h7 => k0_hw1.1.2.2.2.2.2.2.2.2.2.2.2.2.2.2.2.2.2.2.2.2.2.2.2.2.2.2.2.1 k0_h7
theorem k0_off24_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h7 : k0_cond7 k0_t1 arg22_r0 = 1#1), ∀ a, (k0_off24 arg22_r0) a + S2048x512.size a ≤ S2048x5632.size a := fun k0_t1 arg9_r0 arg10_r0 arg12_r0 arg13_r0 arg14_r0 arg15_r0 arg16_r0 arg17_r0 arg19_r0 arg20_r0 arg21_r0 arg22_r0 k0_hw1 k0_h7 => k0_hw1.1.2.2.2.2.2.2.2.2.2.2.2.2.2.2.2.2.2.2.2.2.2.2.2.2.2.2.2.2.1 k0_h7
theorem k0_off24_wordsbf16 : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h7 : k0_cond7 k0_t1 arg22_r0 = 1#1), (Rect.unit (s := S2048x5632) (k0_off24 arg22_r0) S2048x512.size (k0_off24_inb k0_t1 arg9_r0 arg10_r0 arg12_r0 arg13_r0 arg14_r0 arg15_r0 arg16_r0 arg17_r0 arg19_r0 arg20_r0 arg21_r0 arg22_r0 k0_hw1 k0_h7)).WholeWords (EltTy.packing .bf16) := fun k0_t1 arg9_r0 arg10_r0 arg12_r0 arg13_r0 arg14_r0 arg15_r0 arg16_r0 arg17_r0 arg19_r0 arg20_r0 arg21_r0 arg22_r0 k0_hw1 k0_h7 => k0_hw1.1.2.2.2.2.2.2.2.2.2.2.2.2.2.2.2.2.2.2.2.2.2.2.2.2.2.2.2.2.2.1 k0_h7 (k0_off24_inb k0_t1 arg9_r0 arg10_r0 arg12_r0 arg13_r0 arg14_r0 arg15_r0 arg16_r0 arg17_r0 arg19_r0 arg20_r0 arg21_r0 arg22_r0 k0_hw1 k0_h7)
theorem k0_off23_wordsbf16 : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h7 : k0_cond7 k0_t1 arg22_r0 = 1#1), (Rect.unit (s := S2x2048x512) (k0_off23 arg15_r0) S1x2048x512.size (k0_off23_inb k0_t1 arg9_r0 arg10_r0 arg12_r0 arg13_r0 arg14_r0 arg15_r0 arg16_r0 arg17_r0 arg19_r0 arg20_r0 arg21_r0 arg22_r0 k0_hw1 k0_h7)).WholeWords (EltTy.packing .bf16) := fun k0_t1 arg9_r0 arg10_r0 arg12_r0 arg13_r0 arg14_r0 arg15_r0 arg16_r0 arg17_r0 arg19_r0 arg20_r0 arg21_r0 arg22_r0 k0_hw1 k0_h7 => k0_hw1.1.2.2.2.2.2.2.2.2.2.2.2.2.2.2.2.2.2.2.2.2.2.2.2.2.2.2.2.2.2.2.1 k0_h7 (k0_off23_inb k0_t1 arg9_r0 arg10_r0 arg12_r0 arg13_r0 arg14_r0 arg15_r0 arg16_r0 arg17_r0 arg19_r0 arg20_r0 arg21_r0 arg22_r0 k0_hw1 k0_h7)
theorem k0_off25_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h8 : k0_cond8 k0_t1 arg22_r0 = 1#1), ∀ a, (k0_off25 arg17_r0) a + S1.size a ≤ S2.size a := fun k0_t1 arg9_r0 arg10_r0 arg12_r0 arg13_r0 arg14_r0 arg15_r0 arg16_r0 arg17_r0 arg19_r0 arg20_r0 arg21_r0 arg22_r0 k0_hw1 k0_h8 => k0_hw1.1.2.2.2.2.2.2.2.2.2.2.2.2.2.2.2.2.2.2.2.2.2.2.2.2.2.2.2.2.2.2.2 k0_h8
theorem k0_off26_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h8 : k0_cond8 k0_t1 arg22_r0 = 1#1), ∀ a, (k0_off26 arg17_r0) a + S1x512x2048.size a ≤ S2x512x2048.size a := fun k0_t1 arg9_r0 arg10_r0 arg12_r0 arg13_r0 arg14_r0 arg15_r0 arg16_r0 arg17_r0 arg19_r0 arg20_r0 arg21_r0 arg22_r0 k0_hw1 k0_h8 => k0_hw1.2.1 k0_h8
theorem k0_off27_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h8 : k0_cond8 k0_t1 arg22_r0 = 1#1), ∀ a, (k0_off27 arg22_r0) a + S512x2048.size a ≤ S5632x2048.size a := fun k0_t1 arg9_r0 arg10_r0 arg12_r0 arg13_r0 arg14_r0 arg15_r0 arg16_r0 arg17_r0 arg19_r0 arg20_r0 arg21_r0 arg22_r0 k0_hw1 k0_h8 => k0_hw1.2.2.1 k0_h8
theorem k0_off27_wordsbf16 : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h8 : k0_cond8 k0_t1 arg22_r0 = 1#1), (Rect.unit (s := S5632x2048) (k0_off27 arg22_r0) S512x2048.size (k0_off27_inb k0_t1 arg9_r0 arg10_r0 arg12_r0 arg13_r0 arg14_r0 arg15_r0 arg16_r0 arg17_r0 arg19_r0 arg20_r0 arg21_r0 arg22_r0 k0_hw1 k0_h8)).WholeWords (EltTy.packing .bf16) := fun k0_t1 arg9_r0 arg10_r0 arg12_r0 arg13_r0 arg14_r0 arg15_r0 arg16_r0 arg17_r0 arg19_r0 arg20_r0 arg21_r0 arg22_r0 k0_hw1 k0_h8 => k0_hw1.2.2.2.1 k0_h8 (k0_off27_inb k0_t1 arg9_r0 arg10_r0 arg12_r0 arg13_r0 arg14_r0 arg15_r0 arg16_r0 arg17_r0 arg19_r0 arg20_r0 arg21_r0 arg22_r0 k0_hw1 k0_h8)
theorem k0_off26_wordsbf16 : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h8 : k0_cond8 k0_t1 arg22_r0 = 1#1), (Rect.unit (s := S2x512x2048) (k0_off26 arg17_r0) S1x512x2048.size (k0_off26_inb k0_t1 arg9_r0 arg10_r0 arg12_r0 arg13_r0 arg14_r0 arg15_r0 arg16_r0 arg17_r0 arg19_r0 arg20_r0 arg21_r0 arg22_r0 k0_hw1 k0_h8)).WholeWords (EltTy.packing .bf16) := fun k0_t1 arg9_r0 arg10_r0 arg12_r0 arg13_r0 arg14_r0 arg15_r0 arg16_r0 arg17_r0 arg19_r0 arg20_r0 arg21_r0 arg22_r0 k0_hw1 k0_h8 => k0_hw1.2.2.2.2.1 k0_h8 (k0_off26_inb k0_t1 arg9_r0 arg10_r0 arg12_r0 arg13_r0 arg14_r0 arg15_r0 arg16_r0 arg17_r0 arg19_r0 arg20_r0 arg21_r0 arg22_r0 k0_hw1 k0_h8)
theorem k0_off28_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h10 : k0_cond10 arg22_r0 = 1#1), ∀ a, (k0_off28 arg10_r0) a + S1x512x2048.size a ≤ S2x512x2048.size a := fun k0_t1 arg9_r0 arg10_r0 arg12_r0 arg13_r0 arg14_r0 arg15_r0 arg16_r0 arg17_r0 arg19_r0 arg20_r0 arg21_r0 arg22_r0 k0_hw1 k0_h10 => k0_hw1.2.2.2.2.2.1 k0_h10
theorem k0_off29_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h10 : k0_cond10 arg22_r0 = 1#1), ∀ a, (k0_off29 arg19_r0) a + S1x512x2048.size a ≤ S2x512x2048.size a := fun k0_t1 arg9_r0 arg10_r0 arg12_r0 arg13_r0 arg14_r0 arg15_r0 arg16_r0 arg17_r0 arg19_r0 arg20_r0 arg21_r0 arg22_r0 k0_hw1 k0_h10 => k0_hw1.2.2.2.2.2.2.1 k0_h10
theorem k0_off34_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h11 : k0_cond11 arg22_r0 = 1#1), ∀ a, (k0_off34 arg10_r0) a + S1x512x2048.size a ≤ S2x512x2048.size a := fun k0_t1 arg9_r0 arg10_r0 arg12_r0 arg13_r0 arg14_r0 arg15_r0 arg16_r0 arg17_r0 arg19_r0 arg20_r0 arg21_r0 arg22_r0 k0_hw1 k0_h11 => k0_hw1.2.2.2.2.2.2.2.1 k0_h11
theorem k0_off35_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h11 : k0_cond11 arg22_r0 = 1#1), ∀ a, (k0_off35 arg19_r0) a + S1x512x2048.size a ≤ S2x512x2048.size a := fun k0_t1 arg9_r0 arg10_r0 arg12_r0 arg13_r0 arg14_r0 arg15_r0 arg16_r0 arg17_r0 arg19_r0 arg20_r0 arg21_r0 arg22_r0 k0_hw1 k0_h11 => k0_hw1.2.2.2.2.2.2.2.2.1 k0_h11
theorem k0_off36_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h16 : k0_cond16 k0_t1 arg21_r0 arg22_r0 = 1#1), ∀ a, (k0_off36 arg19_r0) a + S1.size a ≤ S2.size a := fun k0_t1 arg9_r0 arg10_r0 arg12_r0 arg13_r0 arg14_r0 arg15_r0 arg16_r0 arg17_r0 arg19_r0 arg20_r0 arg21_r0 arg22_r0 k0_hw1 k0_h16 => k0_hw1.2.2.2.2.2.2.2.2.2.1 k0_h16
theorem k0_off37_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h16 : k0_cond16 k0_t1 arg21_r0 arg22_r0 = 1#1), ∀ a, (k0_off37 arg21_r0) a + S512x2048.size a ≤ S8192x2048.size a := fun k0_t1 arg9_r0 arg10_r0 arg12_r0 arg13_r0 arg14_r0 arg15_r0 arg16_r0 arg17_r0 arg19_r0 arg20_r0 arg21_r0 arg22_r0 k0_hw1 k0_h16 => k0_hw1.2.2.2.2.2.2.2.2.2.2.1 k0_h16
theorem k0_off38_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h16 : k0_cond16 k0_t1 arg21_r0 arg22_r0 = 1#1), ∀ a, (k0_off38 arg19_r0) a + S1x512x2048.size a ≤ S2x512x2048.size a := fun k0_t1 arg9_r0 arg10_r0 arg12_r0 arg13_r0 arg14_r0 arg15_r0 arg16_r0 arg17_r0 arg19_r0 arg20_r0 arg21_r0 arg22_r0 k0_hw1 k0_h16 => k0_hw1.2.2.2.2.2.2.2.2.2.2.2.1 k0_h16
theorem k0_off39_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h21 : k0_cond21 k0_t1 arg21_r0 arg22_r0 = 1#1), ∀ a, (k0_off39 arg20_r0) a + S1.size a ≤ S2.size a := fun k0_t1 arg9_r0 arg10_r0 arg12_r0 arg13_r0 arg14_r0 arg15_r0 arg16_r0 arg17_r0 arg19_r0 arg20_r0 arg21_r0 arg22_r0 k0_hw1 k0_h21 => k0_hw1.2.2.2.2.2.2.2.2.2.2.2.2.1 k0_h21
theorem k0_off40_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h21 : k0_cond21 k0_t1 arg21_r0 arg22_r0 = 1#1), ∀ a, (k0_off40 arg21_r0 arg22_r0) a + S512x2048.size a ≤ S8192x2048.size a := fun k0_t1 arg9_r0 arg10_r0 arg12_r0 arg13_r0 arg14_r0 arg15_r0 arg16_r0 arg17_r0 arg19_r0 arg20_r0 arg21_r0 arg22_r0 k0_hw1 k0_h21 => k0_hw1.2.2.2.2.2.2.2.2.2.2.2.2.2.1 k0_h21
theorem k0_off41_inb : ∀ (k0_t1 : Fin k0_t1_loop.trips) (arg9_r0 : BitVec 32) (arg10_r0 : BitVec 32) (arg12_r0 : BitVec 32) (arg13_r0 : BitVec 32) (arg14_r0 : BitVec 32) (arg15_r0 : BitVec 32) (arg16_r0 : BitVec 32) (arg17_r0 : BitVec 32) (arg19_r0 : BitVec 32) (arg20_r0 : BitVec 32) (arg21_r0 : BitVec 32) (arg22_r0 : BitVec 32) (k0_hw1 : k0_chk1 k0_t1 arg9_r0 arg10_r0 arg12_r0 arg13_r0 arg14_r0 arg15_r0 arg16_r0 arg17_r0 arg19_r0 arg20_r0 arg21_r0 arg22_r0), ∀ (k0_h21 : k0_cond21 k0_t1 arg21_r0 arg22_r0 = 1#1), ∀ a, (k0_off41 arg20_r0) a + S1x512x2048.size a ≤ S2x512x2048.size a := fun k0_t1 arg9_r0 arg10_r0 arg12_r0 arg13_r0 arg14_r0 arg15_r0 arg16_r0 arg17_r0 arg19_r0 arg20_r0 arg21_r0 arg22_r0 k0_hw1 k0_h21 => k0_hw1.2.2.2.2.2.2.2.2.2.2.2.2.2.2 k0_h21

def k0_off42 (v60_11_r0 : BitVec 32) : Fin 1 → Nat :=
  let c2_i32_111_r0 : BitVec 32 := 2#32
  let v101_r0 : BitVec 32 := Scalar.remui v60_11_r0 c2_i32_111_r0
  ![v101_r0.toNat]

def k0_off43 (v60_13_r0 : BitVec 32) (v60_12_r0 : BitVec 32) : Fin 2 → Nat :=
  let c512_i32_r0 : BitVec 32 := 512#32
  let true_76_r0 : BitVec 1 := 1#1
  let c1_i32_75_r0 : BitVec 32 := 1#32
  let v61_r0 : BitVec 32 := Scalar.subi v60_13_r0 c1_i32_75_r0
  let v62_r0 : BitVec 32 := Scalar.select true_76_r0 v61_r0 v60_13_r0
  let c_m1_i32_77_r0 : BitVec 32 := 4294967295#32
  let v63_r0 : BitVec 1 := Scalar.cmpi .eq v62_r0 c_m1_i32_77_r0
  let c1_i32_79_r0 : BitVec 32 := 1#32
  let v65_r0 : BitVec 32 := Scalar.subi v60_12_r0 c1_i32_79_r0
  let v66_r0 : BitVec 32 := Scalar.select v63_r0 v65_r0 v60_12_r0
  let c_m1_i32_80_r0 : BitVec 32 := 4294967295#32
  let v67_r0 : BitVec 1 := Scalar.cmpi .eq v66_r0 c_m1_i32_80_r0
  let c15_i32_81_r0 : BitVec 32 := 15#32
  let v68_r0 : BitVec 32 := Scalar.select v67_r0 c15_i32_81_r0 v66_r0
  let c0_i32_82_r0 : BitVec 32 := 0#32
  let v69_r0 : BitVec 32 := Scalar.addi v68_r0 c0_i32_82_r0
  let v102_r0 : BitVec 32 := Scalar.muli c512_i32_r0 v69_r0
  let c0_i32_112_r0 : BitVec 32 := 0#32
  ![v102_r0.toNat, 0]

def k0_chk7 (v60_13_r0 : BitVec 32) (v60_12_r0 : BitVec 32) : Prop :=
  (∀ a, (k0_off43 v60_13_r0 v60_12_r0) a + S512x2048.size a ≤ S8192x2048.size a)
theorem k0_off43_inb : ∀ (v60_13_r0 : BitVec 32) (v60_12_r0 : BitVec 32) (k0_hw7 : k0_chk7 v60_13_r0 v60_12_r0), ∀ a, (k0_off43 v60_13_r0 v60_12_r0) a + S512x2048.size a ≤ S8192x2048.size a := fun v60_13_r0 v60_12_r0 k0_hw7 => k0_hw7

def k0_off44 (v60_11_r0 : BitVec 32) : Fin 3 → Nat :=
  let c2_i32_111_r0 : BitVec 32 := 2#32
  let v101_r0 : BitVec 32 := Scalar.remui v60_11_r0 c2_i32_111_r0
  let c0_i32_113_r0 : BitVec 32 := 0#32
  let c0_i32_114_r0 : BitVec 32 := 0#32
  ![v101_r0.toNat, 0, 0]

def k0_chk6 (v60_11_r0 : BitVec 32) : Prop :=
  (∀ a, (k0_off42 v60_11_r0) a + S1.size a ≤ S2.size a) ∧
  (∀ a, (k0_off44 v60_11_r0) a + S1x512x2048.size a ≤ S2x512x2048.size a)
theorem k0_off42_inb : ∀ (v60_11_r0 : BitVec 32) (k0_hw6 : k0_chk6 v60_11_r0), ∀ a, (k0_off42 v60_11_r0) a + S1.size a ≤ S2.size a := fun v60_11_r0 k0_hw6 => k0_hw6.1
theorem k0_off44_inb : ∀ (v60_11_r0 : BitVec 32) (k0_hw6 : k0_chk6 v60_11_r0), ∀ a, (k0_off44 v60_11_r0) a + S1x512x2048.size a ≤ S2x512x2048.size a := fun v60_11_r0 k0_hw6 => k0_hw6.2
-- ==== Reference2Ideal.lean ====
abbrev S8192x2048 : Shape := ⟨2, ![8192, 2048]⟩
abbrev S1x2048 : Shape := ⟨2, ![1, 2048]⟩
abbrev S2048x5632 : Shape := ⟨2, ![2048, 5632]⟩
abbrev S5632x2048 : Shape := ⟨2, ![5632, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x2048, .f32⟩
  | .hbm, ⟨55, _⟩ => ⟨S8192x2048, .f32⟩
  | .hbm, ⟨56, _⟩ => ⟨S1x2048, .f32⟩
  | .hbm, ⟨57, _⟩ => ⟨S8192x2048, .f32⟩
  | .hbm, ⟨58, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel3.lean ====
abbrev S8192x2048 : Shape := ⟨2, ![8192, 2048]⟩
abbrev S11264x2048 : Shape := ⟨2, ![11264, 2048]⟩
abbrev S1x2048x2048 : Shape := ⟨3, ![1, 2048, 2048]⟩
abbrev S1x2048x5632 : Shape := ⟨3, ![1, 2048, 5632]⟩
abbrev S1x5632x2048 : Shape := ⟨3, ![1, 5632, 2048]⟩
abbrev S2048x2048 : Shape := ⟨2, ![2048, 2048]⟩
abbrev S2048x5632 : Shape := ⟨2, ![2048, 5632]⟩
abbrev S5632x2048 : Shape := ⟨2, ![5632, 2048]⟩
abbrev S8192x11264 : Shape := ⟨2, ![8192, 11264]⟩
abbrev S1024x2048 : Shape := ⟨2, ![1024, 2048]⟩
abbrev S64x2048 : Shape := ⟨2, ![64, 2048]⟩
abbrev S64x5632 : Shape := ⟨2, ![64, 5632]⟩
abbrev S128x2048 : Shape := ⟨2, ![128, 2048]⟩
abbrev S2048x1024 : Shape := ⟨2, ![2048, 1024]⟩

abbrev nBuf : Space → Nat
  | .hbm => 18
  | .vmem => 25
  | .smem => 0
  | _ => 0

abbrev bufTy : (tb : Table) → Fin (tcTables nBuf tb) → BufTy
  | .hbm, ⟨0, _⟩ => ⟨S8192x2048, .bf16⟩
  | .hbm, ⟨1, _⟩ => ⟨S11264x2048, .bf16⟩
  | .hbm, ⟨2, _⟩ => ⟨S1x2048x2048, .f32⟩
  | .hbm, ⟨3, _⟩ => ⟨S1x2048x2048, .f32⟩
  | .hbm, ⟨4, _⟩ => ⟨S1x2048x5632, .f32⟩
  | .hbm, ⟨5, _⟩ => ⟨S1x2048x5632, .f32⟩
  | .hbm, ⟨6, _⟩ => ⟨S1x5632x2048, .f32⟩
  | .hbm, ⟨7, _⟩ => ⟨S2048x2048, .f32⟩
  | .hbm, ⟨8, _⟩ => ⟨S2048x2048, .f32⟩
  | .hbm, ⟨9, _⟩ => ⟨S2048x5632, .f32⟩
  | .hbm, ⟨10, _⟩ => ⟨S2048x5632, .f32⟩
  | .hbm, ⟨11, _⟩ => ⟨S5632x2048, .f32⟩
  | .hbm, ⟨12, _⟩ => ⟨S8192x11264, .f32⟩
  | .hbm, ⟨13, _⟩ => ⟨S2048x2048, .bf16⟩
  | .hbm, ⟨14, _⟩ => ⟨S2048x2048, .bf16⟩
  | .hbm, ⟨15, _⟩ => ⟨S2048x5632, .bf16⟩
  | .hbm, ⟨16, _⟩ => ⟨S2048x5632, .bf16⟩
  | .hbm, ⟨17, _⟩ => ⟨S5632x2048, .bf16⟩
  | .local _ .vmem, ⟨0, _⟩ => ⟨S2048x2048, .bf16⟩
  | .local _ .vmem, ⟨1, _⟩ => ⟨S1024x2048, .bf16⟩
  | .local _ .vmem, ⟨2, _⟩ => ⟨S1024x2048, .bf16⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x5632, .f32⟩
  | .local _ .vmem, ⟨8, _⟩ => ⟨S64x5632, .f32⟩
  | .local _ .vmem, ⟨9, _⟩ => ⟨S64x5632, .f32⟩
  | .local _ .vmem, ⟨10, _⟩ => ⟨S64x5632, .f32⟩
  | .local _ .vmem, ⟨11, _⟩ => ⟨S128x2048, .f32⟩
  | .local _ .vmem, ⟨12, _⟩ => ⟨S128x2048, .f32⟩
  | .local _ .vmem, ⟨13, _⟩ => ⟨S2048x1024, .f32⟩
  | .local _ .vmem, ⟨14, _⟩ => ⟨S2048x1024, .f32⟩
  | .local _ .vmem, ⟨15, _⟩ => ⟨S64x2048, .bf16⟩
  | .local _ .vmem, ⟨16, _⟩ => ⟨S64x2048, .bf16⟩
  | .local _ .vmem, ⟨17, _⟩ => ⟨S64x2048, .bf16⟩
  | .local _ .vmem, ⟨18, _⟩ => ⟨S64x2048, .bf16⟩
  | .local _ .vmem, ⟨19, _⟩ => ⟨S64x5632, .bf16⟩
  | .local _ .vmem, ⟨20, _⟩ => ⟨S64x5632, .bf16⟩
  | .local _ .vmem, ⟨21, _⟩ => ⟨S64x5632, .bf16⟩
  | .local _ .vmem, ⟨22, _⟩ => ⟨S64x5632, .bf16⟩
  | .local _ .vmem, ⟨23, _⟩ => ⟨S128x2048, .bf16⟩
  | .local _ .vmem, ⟨24, _⟩ => ⟨S128x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c43_i32 : BitVec 32 := 43#32
  let v2 : BitVec 32 := Scalar.minsi v1 c43_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c43_i32 : BitVec 32 := 43#32
  let v2 : BitVec 32 := Scalar.minsi v1 c43_i32
  let c0_i32 : BitVec 32 := 0#32
  let c0_i32_0 : BitVec 32 := 0#32
  ![v2.toNat, c0_i32.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S8192x2048 : Shape := ⟨2, ![8192, 2048]⟩
abbrev S11264x2048 : Shape := ⟨2, ![11264, 2048]⟩
abbrev S1x2048x2048 : Shape := ⟨3, ![1, 2048, 2048]⟩
abbrev S1x2048x5632 : Shape := ⟨3, ![1, 2048, 5632]⟩
abbrev S1x5632x2048 : Shape := ⟨3, ![1, 5632, 2048]⟩
abbrev S2048x11264 : Shape := ⟨2, ![2048, 11264]⟩
abbrev S8192x11264 : Shape := ⟨2, ![8192, 11264]⟩
abbrev S2048x2048 : Shape := ⟨2, ![2048, 2048]⟩
abbrev S2048x5632 : Shape := ⟨2, ![2048, 5632]⟩
abbrev S5632x2048 : Shape := ⟨2, ![5632, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S11264x2048, .bf16⟩
  | .hbm, ⟨2, _⟩ => ⟨S1x2048x2048, .f32⟩
  | .hbm, ⟨3, _⟩ => ⟨S1x2048x2048, .f32⟩
  | .hbm, ⟨4, _⟩ => ⟨S1x2048x5632, .f32⟩
  | .hbm, ⟨5, _⟩ => ⟨S1x2048x5632, .f32⟩
  | .hbm, ⟨6, _⟩ => ⟨S1x5632x2048, .f32⟩
  | .hbm, ⟨7, _⟩ => ⟨S8192x2048, .f32⟩
  | .hbm, ⟨8, _⟩ => ⟨S11264x2048, .f32⟩
  | .hbm, ⟨9, _⟩ => ⟨S2048x11264, .f32⟩
  | .hbm, ⟨10, _⟩ => ⟨S8192x11264, .f32⟩
  | .hbm, ⟨11, _⟩ => ⟨S2048x2048, .f32⟩
  | .hbm, ⟨12, _⟩ => ⟨S2048x2048, .bf16⟩
  | .hbm, ⟨13, _⟩ => ⟨S2048x2048, .f32⟩
  | .hbm, ⟨14, _⟩ => ⟨S2048x2048, .bf16⟩
  | .hbm, ⟨15, _⟩ => ⟨S2048x5632, .f32⟩
  | .hbm, ⟨16, _⟩ => ⟨S2048x5632, .bf16⟩
  | .hbm, ⟨17, _⟩ => ⟨S2048x5632, .f32⟩
  | .hbm, ⟨18, _⟩ => ⟨S2048x5632, .bf16⟩
  | .hbm, ⟨19, _⟩ => ⟨S5632x2048, .f32⟩
  | .hbm, ⟨20, _⟩ => ⟨S5632x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Kernel4.lean ====
abbrev S8192x2048 : Shape := ⟨2, ![8192, 2048]⟩
abbrev S8192x1024 : Shape := ⟨2, ![8192, 1024]⟩
abbrev S8192x11264 : Shape := ⟨2, ![8192, 11264]⟩
abbrev S1x4096 : Shape := ⟨2, ![1, 4096]⟩
abbrev S2048x2048 : Shape := ⟨2, ![2048, 2048]⟩
abbrev S4096 : Shape := ⟨1, ![4096]⟩
abbrev S256x2048 : Shape := ⟨2, ![256, 2048]⟩
abbrev S256x1024 : Shape := ⟨2, ![256, 1024]⟩
abbrev S1024x2048 : Shape := ⟨2, ![1024, 2048]⟩
abbrev S1x1024 : Shape := ⟨2, ![1, 1024]⟩

abbrev nBuf : Space → Nat
  | .hbm => 10
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S8192x11264, .f32⟩
  | .hbm, ⟨4, _⟩ => ⟨S1x4096, .f32⟩
  | .hbm, ⟨5, _⟩ => ⟨S2048x2048, .bf16⟩
  | .hbm, ⟨6, _⟩ => ⟨S2048x2048, .bf16⟩
  | .hbm, ⟨7, _⟩ => ⟨S4096, .f32⟩
  | .hbm, ⟨8, _⟩ => ⟨S1x4096, .f32⟩
  | .hbm, ⟨9, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x4096, .f32⟩
  | .local _ .vmem, ⟨7, _⟩ => ⟨S1024x2048, .bf16⟩
  | .local _ .vmem, ⟨8, _⟩ => ⟨S1024x2048, .bf16⟩
  | .local _ .vmem, ⟨9, _⟩ => ⟨S2048x2048, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x2048, .f32⟩
  | .local _ .vmem, ⟨19, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_8 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_9 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_10 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S8192x2048 : Shape := ⟨2, ![8192, 2048]⟩
abbrev S8192x1024 : Shape := ⟨2, ![8192, 1024]⟩
abbrev S8192x11264 : Shape := ⟨2, ![8192, 11264]⟩
abbrev S1x4096 : Shape := ⟨2, ![1, 4096]⟩
abbrev S2048x2048 : Shape := ⟨2, ![2048, 2048]⟩
abbrev S8192x4096 : Shape := ⟨2, ![8192, 4096]⟩
abbrev S4096 : Shape := ⟨1, ![4096]⟩
abbrev S_ : Shape := ⟨0, ![]⟩
abbrev S1024x2048 : Shape := ⟨2, ![1024, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S8192x11264, .f32⟩
  | .hbm, ⟨4, _⟩ => ⟨S1x4096, .f32⟩
  | .hbm, ⟨5, _⟩ => ⟨S2048x2048, .bf16⟩
  | .hbm, ⟨6, _⟩ => ⟨S2048x2048, .bf16⟩
  | .hbm, ⟨7, _⟩ => ⟨S8192x4096, .f32⟩
  | .hbm, ⟨8, _⟩ => ⟨S4096, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x1024, .f32⟩
  | .hbm, ⟨21, _⟩ => ⟨S1024x2048, .bf16⟩
  | .hbm, ⟨22, _⟩ => ⟨S1024x2048, .f32⟩
  | .hbm, ⟨23, _⟩ => ⟨S8192x2048, .f32⟩
  | .hbm, ⟨24, _⟩ => ⟨S8192x1024, .f32⟩
  | .hbm, ⟨25, _⟩ => ⟨S1024x2048, .bf16⟩
  | .hbm, ⟨26, _⟩ => ⟨S1024x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S2048x2048, .f32⟩
  | .hbm, ⟨34, _⟩ => ⟨S8192x2048, .f32⟩
  | .hbm, ⟨35, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel5.lean ====
abbrev S8192x11264 : Shape := ⟨2, ![8192, 11264]⟩
abbrev S1x16x512 : Shape := ⟨3, ![1, 16, 512]⟩
abbrev S1x512 : Shape := ⟨2, ![1, 512]⟩
abbrev S1x256 : Shape := ⟨2, ![1, 256]⟩
abbrev S16x512 : Shape := ⟨2, ![16, 512]⟩
abbrev S_ : Shape := ⟨0, ![]⟩
abbrev S128x512 : Shape := ⟨2, ![128, 512]⟩
abbrev S512 : Shape := ⟨1, ![512]⟩
abbrev S256 : Shape := ⟨1, ![256]⟩
abbrev S8192x1024 : Shape := ⟨2, ![8192, 1024]⟩
abbrev S256x3584 : Shape := ⟨2, ![256, 3584]⟩
abbrev S256x1024 : Shape := ⟨2, ![256, 1024]⟩
abbrev S4x256x128 : Shape := ⟨3, ![4, 256, 128]⟩
abbrev S256x128 : Shape := ⟨2, ![256, 128]⟩
abbrev S256x512 : Shape := ⟨2, ![256, 512]⟩
abbrev S256x256 : Shape := ⟨2, ![256, 256]⟩
abbrev S64x512 : Shape := ⟨2, ![64, 512]⟩
abbrev S64x256 : Shape := ⟨2, ![64, 256]⟩
abbrev S64x128 : Shape := ⟨2, ![64, 128]⟩
abbrev S1x256x128 : Shape := ⟨3, ![1, 256, 128]⟩
abbrev S1x128 : Shape := ⟨2, ![1, 128]⟩
abbrev S64 : Shape := ⟨1, ![64]⟩
abbrev S64x1 : Shape := ⟨2, ![64, 1]⟩

abbrev nBuf : Space → Nat
  | .hbm => 14
  | .vmem => 8
  | .smem => 0
  | _ => 0

abbrev bufTy : (tb : Table) → Fin (tcTables nBuf tb) → BufTy
  | .hbm, ⟨0, _⟩ => ⟨S8192x11264, .f32⟩
  | .hbm, ⟨1, _⟩ => ⟨S1x16x512, .f32⟩
  | .hbm, ⟨2, _⟩ => ⟨S1x512, .f32⟩
  | .hbm, ⟨3, _⟩ => ⟨S1x256, .f32⟩
  | .hbm, ⟨4, _⟩ => ⟨S16x512, .f32⟩
  | .hbm, ⟨5, _⟩ => ⟨S_, .i32⟩
  | .hbm, ⟨6, _⟩ => ⟨S_, .f32⟩
  | .hbm, ⟨7, _⟩ => ⟨S128x512, .f32⟩
  | .hbm, ⟨8, _⟩ => ⟨S128x512, .bf16⟩
  | .hbm, ⟨9, _⟩ => ⟨S512, .f32⟩
  | .hbm, ⟨10, _⟩ => ⟨S1x512, .f32⟩
  | .hbm, ⟨11, _⟩ => ⟨S256, .f32⟩
  | .hbm, ⟨12, _⟩ => ⟨S1x256, .f32⟩
  | .hbm, ⟨13, _⟩ => ⟨S8192x1024, .bf16⟩
  | .local _ .vmem, ⟨0, _⟩ => ⟨S256x3584, .f32⟩
  | .local _ .vmem, ⟨1, _⟩ => ⟨S256x3584, .f32⟩
  | .local _ .vmem, ⟨2, _⟩ => ⟨S128x512, .bf16⟩
  | .local _ .vmem, ⟨3, _⟩ => ⟨S1x512, .f32⟩
  | .local _ .vmem, ⟨4, _⟩ => ⟨S1x256, .f32⟩
  | .local _ .vmem, ⟨5, _⟩ => ⟨S256x1024, .bf16⟩
  | .local _ .vmem, ⟨6, _⟩ => ⟨S256x1024, .bf16⟩
  | .local _ .vmem, ⟨7, _⟩ => ⟨S4x256x128, .f32⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x11264 : Shape := ⟨2, ![8192, 11264]⟩
abbrev S1x16x512 : Shape := ⟨3, ![1, 16, 512]⟩
abbrev S1x512 : Shape := ⟨2, ![1, 512]⟩
abbrev S1x256 : Shape := ⟨2, ![1, 256]⟩
abbrev S8192x3088 : Shape := ⟨2, ![8192, 3088]⟩
abbrev S8192x16 : Shape := ⟨2, ![8192, 16]⟩
abbrev S16x512 : Shape := ⟨2, ![16, 512]⟩
abbrev S8192x512 : Shape := ⟨2, ![8192, 512]⟩
abbrev S512 : Shape := ⟨1, ![512]⟩
abbrev S_ : Shape := ⟨0, ![]⟩
abbrev S2x64x64x4x128 : Shape := ⟨5, ![2, 64, 64, 4, 128]⟩
abbrev S2x64x1x4x128 : Shape := ⟨5, ![2, 64, 1, 4, 128]⟩
abbrev S2x64x4x128 : Shape := ⟨4, ![2, 64, 4, 128]⟩
abbrev S8192x1024 : Shape := ⟨2, ![8192, 1024]⟩
abbrev S2x64x64x4x256 : Shape := ⟨5, ![2, 64, 64, 4, 256]⟩
abbrev S64x2x4x128x256 : Shape := ⟨5, ![64, 2, 4, 128, 256]⟩
abbrev S2x4x128x256 : Shape := ⟨4, ![2, 4, 128, 256]⟩
abbrev S64x2x4x128 : Shape := ⟨4, ![64, 2, 4, 128]⟩
abbrev S1x2x4x128 : Shape := ⟨4, ![1, 2, 4, 128]⟩
abbrev S2x4x128 : Shape := ⟨3, ![2, 4, 128]⟩
abbrev S1x2x4x128x256 : Shape := ⟨5, ![1, 2, 4, 128, 256]⟩
abbrev S2x4x128x1 : Shape := ⟨4, ![2, 4, 128, 1]⟩
abbrev S2x64x4x256x64 : Shape := ⟨5, ![2, 64, 4, 256, 64]⟩
abbrev S2x64x64x4 : Shape := ⟨4, ![2, 64, 64, 4]⟩
abbrev S2x64x64x4x1 : Shape := ⟨5, ![2, 64, 64, 4, 1]⟩
abbrev S256 : Shape := ⟨1, ![256]⟩
abbrev S1x1x1x1x256 : Shape := ⟨5, ![1, 1, 1, 1, 256]⟩

abbrev nBuf : Space → Nat
  | .hbm => 122
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S1x16x512, .f32⟩
  | .hbm, ⟨2, _⟩ => ⟨S1x512, .f32⟩
  | .hbm, ⟨3, _⟩ => ⟨S1x256, .f32⟩
  | .hbm, ⟨4, _⟩ => ⟨S8192x3088, .f32⟩
  | .hbm, ⟨5, _⟩ => ⟨S8192x16, .f32⟩
  | .hbm, ⟨6, _⟩ => ⟨S16x512, .f32⟩
  | .hbm, ⟨7, _⟩ => ⟨S8192x512, .f32⟩
  | .hbm, ⟨8, _⟩ => ⟨S512, .f32⟩
  | .hbm, ⟨9, _⟩ => ⟨S1x512, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .i1⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192x512, .f32⟩
  | .hbm, ⟨30, _⟩ => ⟨S8192x512, .f32⟩
  | .hbm, ⟨31, _⟩ => ⟨S2x64x64x4x128, .f32⟩
  | .hbm, ⟨32, _⟩ => ⟨S_, .f32⟩
  | .hbm, ⟨33, _⟩ => ⟨S_, .f32⟩
  | .hbm, ⟨34, _⟩ => ⟨S2x64x64x4x128, .f32⟩
  | .hbm, ⟨35, _⟩ => ⟨S2x64x1x4x128, .f32⟩
  | .hbm, ⟨36, _⟩ => ⟨S2x64x4x128, .f32⟩
  | .hbm, ⟨37, _⟩ => ⟨S8192x512, .f32⟩
  | .hbm, ⟨38, _⟩ => ⟨S2x64x64x4x128, .f32⟩
  | .hbm, ⟨39, _⟩ => ⟨S2x64x1x4x128, .f32⟩
  | .hbm, ⟨40, _⟩ => ⟨S2x64x64x4x128, .f32⟩
  | .hbm, ⟨41, _⟩ => ⟨S2x64x64x4x128, .f32⟩
  | .hbm, ⟨42, _⟩ => ⟨S2x64x64x4x128, .f32⟩
  | .hbm, ⟨43, _⟩ => ⟨S2x64x64x4x128, .f32⟩
  | .hbm, ⟨44, _⟩ => ⟨S8192x1024, .f32⟩
  | .hbm, ⟨45, _⟩ => ⟨S2x64x64x4x256, .f32⟩
  | .hbm, ⟨46, _⟩ => ⟨S64x2x4x128x256, .f32⟩
  | .hbm, ⟨47, _⟩ => ⟨S_, .f32⟩
  | .hbm, ⟨48, _⟩ => ⟨S2x4x128x256, .f32⟩
  | .hbm, ⟨49, _⟩ => ⟨S64x2x4x128, .f32⟩
  | .hbm, ⟨50, _⟩ => ⟨S_, .f32⟩
  | .hbm, ⟨51, _⟩ => ⟨S64x2x4x128x256, .f32⟩
  | .hbm, ⟨52, _⟩ => ⟨S_, .i32⟩
  | .hbm, ⟨53, _⟩ => ⟨S64x2x4x128, .f32⟩
  | .hbm, ⟨54, _⟩ => ⟨S64x2x4x128x256, .f32⟩
  | .hbm, ⟨55, _⟩ => ⟨S_, .i32⟩
  | .hbm, ⟨56, _⟩ => ⟨S2x4x128x256, .f32⟩
  | .hbm, ⟨57, _⟩ => ⟨S64x2x4x128x256, .f32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1x2x4x128, .f32⟩
  | .hbm, ⟨64, _⟩ => ⟨S2x4x128, .f32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S1x2x4x128x256, .f32⟩
  | .hbm, ⟨70, _⟩ => ⟨S2x4x128x256, .f32⟩
  | .hbm, ⟨71, _⟩ => ⟨S2x4x128, .f32⟩
  | .hbm, ⟨72, _⟩ => ⟨S2x4x128x1, .f32⟩
  | .hbm, ⟨73, _⟩ => ⟨S2x4x128x256, .f32⟩
  | .hbm, ⟨74, _⟩ => ⟨S2x4x128x256, .f32⟩
  | .hbm, ⟨75, _⟩ => ⟨S2x4x128x256, .f32⟩
  | .hbm, ⟨76, _⟩ => ⟨S1x2x4x128x256, .f32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S64x2x4x128x256, .f32⟩
  | .hbm, ⟨82, _⟩ => ⟨S_, .i32⟩
  | .hbm, ⟨83, _⟩ => ⟨S_, .i32⟩
  | .hbm, ⟨84, _⟩ => ⟨S8192x3088, .f32⟩
  | .hbm, ⟨85, _⟩ => ⟨S8192x512, .f32⟩
  | .hbm, ⟨86, _⟩ => ⟨S2x64x64x4x128, .f32⟩
  | .hbm, ⟨87, _⟩ => ⟨S_, .f32⟩
  | .hbm, ⟨88, _⟩ => ⟨S2x64x64x4x128, .f32⟩
  | .hbm, ⟨89, _⟩ => ⟨S2x64x64x4x128, .f32⟩
  | .hbm, ⟨90, _⟩ => ⟨S8192x1024, .f32⟩
  | .hbm, ⟨91, _⟩ => ⟨S2x64x4x256x64, .f32⟩
  | .hbm, ⟨92, _⟩ => ⟨S2x64x64x4x256, .f32⟩
  | .hbm, ⟨93, _⟩ => ⟨S2x64x64x4x256, .f32⟩
  | .hbm, ⟨94, _⟩ => ⟨S_, .f32⟩
  | .hbm, ⟨95, _⟩ => ⟨S2x64x64x4, .f32⟩
  | .hbm, ⟨96, _⟩ => ⟨S2x64x64x4x1, .f32⟩
  | .hbm, ⟨97, _⟩ => ⟨S_, .f32⟩
  | .hbm, ⟨98, _⟩ => ⟨S2x64x64x4x1, .f32⟩
  | .hbm, ⟨99, _⟩ => ⟨S2x64x64x4x1, .f32⟩
  | .hbm, ⟨100, _⟩ => ⟨S_, .f32⟩
  | .hbm, ⟨101, _⟩ => ⟨S2x64x64x4x1, .f32⟩
  | .hbm, ⟨102, _⟩ => ⟨S2x64x64x4x1, .f32⟩
  | .hbm, ⟨103, _⟩ => ⟨S2x64x64x4x1, .f32⟩
  | .hbm, ⟨104, _⟩ => ⟨S2x64x64x4x256, .f32⟩
  | .hbm, ⟨105, _⟩ => ⟨S2x64x64x4x256, .f32⟩
  | .hbm, ⟨106, _⟩ => ⟨S256, .f32⟩
  | .hbm, ⟨107, _⟩ => ⟨S1x1x1x1x256, .f32⟩
  | .hbm, ⟨108, _⟩ => ⟨S2x64x64x4x256, .f32⟩
  | .hbm, ⟨109, _⟩ => ⟨S2x64x64x4x256, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S_, .f32⟩
  | .hbm, ⟨114, _⟩ => ⟨S8192x1024, .f32⟩
  | .hbm, ⟨115, _⟩ => ⟨S8192x1024, .f32⟩
  | .hbm, ⟨116, _⟩ => ⟨S_, .f32⟩
  | .hbm, ⟨117, _⟩ => ⟨S8192x1024, .f32⟩
  | .hbm, ⟨118, _⟩ => ⟨S8192x1024, .f32⟩
  | .hbm, ⟨119, _⟩ => ⟨S8192x1024, .f32⟩
  | .hbm, ⟨120, _⟩ => ⟨S8192x1024, .f32⟩
  | .hbm, ⟨121, _⟩ => ⟨S8192x1024, .bf16⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_call1_call0_cst : Ref sig .tc := ⟨.hbm, 32, rfl⟩
abbrev main_call1_call0_v0 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_0 : Ref sig .tc := ⟨.hbm, 47, rfl⟩
abbrev main_v25 : Ref sig .tc := ⟨.hbm, 48, rfl⟩
abbrev main_v26 : Ref sig .tc := ⟨.hbm, 49, rfl⟩
abbrev main_cst_1 : Ref sig .tc := ⟨.hbm, 50, rfl⟩
abbrev main_v27 : Ref sig .tc := ⟨.hbm, 51, rfl⟩
abbrev main_c : Ref sig .tc := ⟨.hbm, 52, rfl⟩
abbrev main_v28_0 : Ref sig .tc := ⟨.hbm, 53, rfl⟩
abbrev main_v28_1 : Ref sig .tc := ⟨.hbm, 54, rfl⟩
abbrev main_v28_2 : Ref sig .tc := ⟨.hbm, 55, rfl⟩
abbrev main_v28_3 : Ref sig .tc := ⟨.hbm, 56, rfl⟩
abbrev main_v28_4 : Ref sig .tc := ⟨.hbm, 57, rfl⟩
abbrev main_while0c_c_10 : Ref sig .tc := ⟨.hbm, 58, rfl⟩
abbrev main_while0c_v55 : Ref sig .tc := ⟨.hbm, 59, rfl⟩
abbrev main_while0b_call2_c : Ref sig .tc := ⟨.hbm, 60, rfl⟩
abbrev main_while0b_call2_c_0 : Ref sig .tc := ⟨.hbm, 61, rfl⟩
abbrev main_while0b_call2_c_1 : Ref sig .tc := ⟨.hbm, 62, rfl⟩
abbrev main_while0b_call2_v0 : Ref sig .tc := ⟨.hbm, 63, rfl⟩
abbrev main_while0b_v55 : Ref sig .tc := ⟨.hbm, 64, rfl⟩
abbrev main_while0b_call3_c : Ref sig .tc := ⟨.hbm, 65, rfl⟩
abbrev main_while0b_call3_c_0 : Ref sig .tc := ⟨.hbm, 66, rfl⟩
abbrev main_while0b_call3_c_1 : Ref sig .tc := ⟨.hbm, 67, rfl⟩
abbrev main_while0b_call3_c_2 : Ref sig .tc := ⟨.hbm, 68, rfl⟩
abbrev main_while0b_call3_v0 : Ref sig .tc := ⟨.hbm, 69, rfl⟩
abbrev main_while0b_v56 : Ref sig .tc := ⟨.hbm, 70, rfl⟩
abbrev main_while0b_v57 : Ref sig .tc := ⟨.hbm, 71, rfl⟩
abbrev main_while0b_v58 : Ref sig .tc := ⟨.hbm, 72, rfl⟩
abbrev main_while0b_v59 : Ref sig .tc := ⟨.hbm, 73, rfl⟩
abbrev main_while0b_v60 : Ref sig .tc := ⟨.hbm, 74, rfl⟩
abbrev main_while0b_v61 : Ref sig .tc := ⟨.hbm, 75, rfl⟩
abbrev main_while0b_call4_v0 : Ref sig .tc := ⟨.hbm, 76, rfl⟩
abbrev main_while0b_call4_c : Ref sig .tc := ⟨.hbm, 77, rfl⟩
abbrev main_while0b_call4_c_0 : Ref sig .tc := ⟨.hbm, 78, rfl⟩
abbrev main_while0b_call4_c_1 : Ref sig .tc := ⟨.hbm, 79, rfl⟩
abbrev main_while0b_call4_c_2 : Ref sig .tc := ⟨.hbm, 80, rfl⟩
abbrev main_while0b_v62 : Ref sig .tc := ⟨.hbm, 81, rfl⟩
abbrev main_while0b_c_10 : Ref sig .tc := ⟨.hbm, 82, rfl⟩
abbrev main_while0b_v63 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_cst_2 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_cst_3 : Ref sig .tc := ⟨.hbm, 94, rfl⟩
abbrev main_v38 : Ref sig .tc := ⟨.hbm, 95, rfl⟩
abbrev main_v39 : Ref sig .tc := ⟨.hbm, 96, rfl⟩
abbrev main_cst_4 : Ref sig .tc := ⟨.hbm, 97, rfl⟩
abbrev main_v40 : Ref sig .tc := ⟨.hbm, 98, rfl⟩
abbrev main_v41 : Ref sig .tc := ⟨.hbm, 99, rfl⟩
abbrev main_cst_5 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_call5_v0 : Ref sig .tc := ⟨.hbm, 111, rfl⟩
abbrev main_call5_v1 : Ref sig .tc := ⟨.hbm, 112, rfl⟩
abbrev main_call5_cst : Ref sig .tc := ⟨.hbm, 113, rfl⟩
abbrev main_call5_v2 : Ref sig .tc := ⟨.hbm, 114, rfl⟩
abbrev main_call5_v3 : Ref sig .tc := ⟨.hbm, 115, rfl⟩
abbrev main_call5_cst_0 : Ref sig .tc := ⟨.hbm, 116, rfl⟩
abbrev main_call5_v4 : Ref sig .tc := ⟨.hbm, 117, rfl⟩
abbrev main_call5_v5 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩

abbrev nD : Nat := 1
abbrev τ : Topo := Topo.v7x

variable {F : FTy → Type} [FloatOps F]

abbrev main_while0_count : Scf.Loop 32 := ⟨0#32, 64#32, 1#32⟩
-- ==== Proof.Spec.lean ====
/- The scalar functions that both programs of the layer compute at the ideal values, row by row: the root-mean-square
   normalisation, the gated activation and the feed-forward block. -/
module

public import Idealize.ShloMosaic.Lib.Pointwise
public import Mathlib.Analysis.SpecialFunctions.Trigonometric.Basic

@[expose] public section

noncomputable section

namespace Layer

open Idealize.ShloMosaic

/-- The f32 constants 2048, 1e-6 and one half. -/
abbrev cD : EReal := Ideal.ofBits .f32 0x45000000#32
abbrev cE : EReal := Ideal.ofBits .f32 0x358637BD#32
abbrev cH : EReal := Ideal.ofBits .f32 0x3F000000#32

/-- The normalised row `x`, scaled by `g`, at column `k`. -/
def nrm (x g : Fin 2048 → EReal) (k : Fin 2048) : EReal :=
  x k * Ideal.rsqrt (Ideal.div (∑ l, x l * x l) cD + cE) * g k

/-- The sigmoid as a quotient. -/
def sigm (z : EReal) : EReal := Ideal.div 1 (1 + Ideal.exp (-z))

/-- The gated activation of a row `h` against one column of each of the two weights. -/
def act (h wg wu : Fin 2048 → EReal) : EReal :=
  (∑ k, h k * wg k) * sigm (∑ k, h k * wg k) * (∑ k, h k * wu k)

/-- The row of a feed-forward block with its residual, at column `k`. -/
def ffn (x g : Fin 2048 → EReal) (wg wu : Fin 2048 → Fin 5632 → EReal) (wd : Fin 5632 → Fin 2048 → EReal) (k : Fin 2048) : EReal :=
  x k + cH * ∑ f, act (nrm x g) (fun l => wg l f) (fun l => wu l f) * wd f k

theorem cH_eq : cH = ((1 / 2 : ℝ) : EReal) := by
  simp [cH, Ideal.ofBits, Ideal.ieee, -EReal.coe_mul]; norm_num

theorem real_sig (r : ℝ) : (1 + Real.exp (-r))⁻¹ = 1 / 2 + 1 / 2 * Real.tanh (1 / 2 * r) := by
  rw [Real.tanh_eq_sinh_div_cosh, Real.sinh_eq, Real.cosh_eq]
  have h1 : Real.exp (-r) = Real.exp (-(1 / 2 * r)) * Real.exp (-(1 / 2 * r)) := by rw [← Real.exp_add]; ring_nf
  have h2 : Real.exp (1 / 2 * r) * Real.exp (-(1 / 2 * r)) = 1 := by rw [← Real.exp_add]; simp
  have p1 := Real.exp_pos (1 / 2 * r)
  have p2 := Real.exp_pos (-(1 / 2 * r))
  rw [h1]
  set a := Real.exp (1 / 2 * r)
  set b := Real.exp (-(1 / 2 * r))
  have : (1 : ℝ) + b * b ≠ 0 := by positivity
  have : a + b ≠ 0 := by positivity
  field_simp
  nlinarith

/-- The kernel's sigmoid, by the hyperbolic tangent, is the quotient's. -/
theorem tanh_sig (z : EReal) : cH + cH * Ideal.tanh (cH * z) = sigm z := by
  have hs : sigm z = Ideal.logistic z := rfl
  rw [hs, cH_eq]
  induction z using EReal.rec with
  | bot =>
    rw [EReal.coe_mul_bot_of_pos (by norm_num), Ideal.tanh_bot, Ideal.logistic_bot]
    rw [show (-1 : EReal) = ((-1 : ℝ) : EReal) by norm_num, ← EReal.coe_mul, ← EReal.coe_add]
    norm_num
  | top =>
    rw [EReal.coe_mul_top_of_pos (by norm_num), Ideal.tanh_top, Ideal.logistic_top]
    rw [show (1 : EReal) = ((1 : ℝ) : EReal) by norm_num, ← EReal.coe_mul, ← EReal.coe_add]
    norm_num
  | coe r =>
    rw [← EReal.coe_mul, Ideal.tanh_coe, ← EReal.coe_mul, ← EReal.coe_add, Ideal.logistic_coe, real_sig]

end Layer
-- ==== Proof.Tile.lean ====
/- The payloads of the feed-forward kernel at an index. -/
module

public import proofs.«01_k».proof.Proof.Spec
public import proofs.«01_k».proof.Proof.Gen.KernelIdeal.Skeleton

@[expose] public section

set_option maxRecDepth 16384

noncomputable section

namespace Cert.KernelIdeal.Tile

open Cert.KernelIdeal Cert.KernelIdeal.Gen Idealize.ShloMosaic Idealize.ShloMosaic.TcCoe Idealize.SL.Sem Layer

/-- The normalised block. -/
theorem pay4_at (x : FVec Ideal S512x2048 .f32) (g : FVec Ideal S1x2048 .f32) (r : Fin 512) (k : Fin 2048) :
    k0_pay4 (F := Ideal) x g (ix2 r k) = nrm (fun l => x (ix2 r l)) (fun l => g (ix2 0 l)) k := by
  pointwise [k0_pay4, nrm]

/-- The mixer's normalised block. -/
theorem pay3_at (x a : FVec Ideal S512x2048 .f32) (g : FVec Ideal S1x2048 .f32) (r : Fin 512) (k : Fin 2048) :
    k0_pay3 (F := Ideal) x a g (ix2 r k) = nrm (fun l => k0_pay2 (F := Ideal) x a (ix2 r l)) (fun l => g (ix2 0 l)) k := by
  pointwise [k0_pay3, nrm]

theorem pay2_at (x a : FVec Ideal S512x2048 .f32) (r : Fin 512) (k : Fin 2048) :
    k0_pay2 (F := Ideal) x a (ix2 r k) = x (ix2 r k) + cH * a (ix2 r k) := by
  pointwise [k0_pay2]

theorem pay5_at (j : S512x2048.Idx) : k0_pay5 (F := Ideal) j = 0 := by
  pointwise [k0_pay5]

/-- One tile of the hidden axis. -/
theorem pay1_at (h : FVec Ideal S512x2048 .bf16) (wg wu : FVec Ideal S2048x512 .bf16) (a : FVec Ideal S512x2048 .f32) (wd : FVec Ideal S512x2048 .bf16)
    (r : Fin 512) (k : Fin 2048) :
    k0_pay1 (F := Ideal) (k0_pay8 h wg) (k0_pay9 h wu) (k0_pay10 h wg) a wd (ix2 r k)
      = a (ix2 r k) + ∑ f : Fin 512, act (fun l => h (ix2 r l)) (fun l => wg (ix2 l f)) (fun l => wu (ix2 l f)) * wd (ix2 f k) := by
  pointwise [k0_pay1, k0_pay8, k0_pay9, k0_pay10, act, tanh_sig]

end Cert.KernelIdeal.Tile
-- ==== Proof.Cases.lean ====
/- What each grid point leaves in its buffers, as the payloads over the point's input blocks. -/
module

public import proofs.«01_k».proof.Proof.Tile
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Cases

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The accumulator, the normalised rows and the packed block that a point leaves. -/
abbrev acc (c : Dev nD) (n : ℕ) (h : n < cfg0.N) : FVec Ideal S512x2048 .f32 := (outsAt0 m c n h).1
abbrev hm (c : Dev nD) (n : ℕ) (h : n < cfg0.N) : FVec Ideal S512x2048 .bf16 := (outsAt0 m c n h).2.1
abbrev wp (c : Dev nD) (n : ℕ) (h : n < cfg0.N) : FVec Ideal S128x2048 .bf16 := (outsAt0 m c n h).2.2.1
abbrev hs (c : Dev nD) (n : ℕ) (h : n < cfg0.N) : FVec Ideal S512x2048 .bf16 := (outsAt0 m c n h).2.2.2

/-- The accumulator after one more tile. -/
abbrev tile (c : Dev nD) (t : Fin cfg0.N) (h : FVec Ideal S512x2048 .bf16) (a : FVec Ideal S512x2048 .f32) : FVec Ideal S512x2048 .f32 :=
  k0_pay1 (F := Ideal) (k0_pay8 h (iblk m c 2 t)) (k0_pay9 h (iblk m c 3 t)) (k0_pay10 h (iblk m c 2 t)) a (iblk m c 4 t)

theorem hs_A (c : Dev nD) (t : Fin cfg0.N) (h0 : t.val % 11 = 0) (h1 : ¬t.val % 11 = 10) :
    hs m c t.val t.isLt = k0_pay4 (F := Ideal) (iblk m c 0 t) (iblk m c 1 t) := by
  unfold hs; rw [outsAt0_A m c t h0 h1]; frame_out

theorem acc_A (c : Dev nD) (t : Fin cfg0.N) (h0 : t.val % 11 = 0) (h1 : ¬t.val % 11 = 10) :
    acc m c t.val t.isLt = tile m c t (k0_pay4 (F := Ideal) (iblk m c 0 t) (iblk m c 1 t)) (k0_pay5 (F := Ideal)) := by
  unfold acc; rw [outsAt0_A m c t h0 h1]; frame_out

theorem hs_B (c : Dev nD) (t : Fin cfg0.N) (h0 : ¬t.val % 11 = 0) (h1 : ¬t.val % 11 = 10) :
    hs m c t.val t.isLt = hs m c (t.val - 1) (Nat.lt_of_le_of_lt (Nat.sub_le _ _) t.isLt) := by
  unfold hs; rw [outsAt0_B m c t h0 h1]; rfl

theorem hs_C (c : Dev nD) (t : Fin cfg0.N) (h0 : ¬t.val % 11 = 0) (h1 : t.val % 11 = 10) :
    hs m c t.val t.isLt = hs m c (t.val - 1) (Nat.lt_of_le_of_lt (Nat.sub_le _ _) t.isLt) := by
  unfold hs; rw [outsAt0_C m c t h0 h1]; rfl

theorem acc_B (c : Dev nD) (t : Fin cfg0.N) (h0 : ¬t.val % 11 = 0) (h1 : ¬t.val % 11 = 10) :
    acc m c t.val t.isLt = tile m c t (hs m c (t.val - 1) (Nat.lt_of_le_of_lt (Nat.sub_le _ _) t.isLt))
      (acc m c (t.val - 1) (Nat.lt_of_le_of_lt (Nat.sub_le _ _) t.isLt)) := by
  unfold acc hs; rw [outsAt0_B m c t h0 h1]; frame_out; try simp only [read_unread_whole]

theorem acc_C (c : Dev nD) (t : Fin cfg0.N) (h0 : ¬t.val % 11 = 0) (h1 : t.val % 11 = 10) :
    acc m c t.val t.isLt = k0_pay2 (F := Ideal) (iblk m c 0 t) (tile m c t (hs m c (t.val - 1) (Nat.lt_of_le_of_lt (Nat.sub_le _ _) t.isLt))
      (acc m c (t.val - 1) (Nat.lt_of_le_of_lt (Nat.sub_le _ _) t.isLt))) := by
  unfold acc hs; rw [outsAt0_C m c t h0 h1]; frame_out; try simp only [read_unread_whole]

theorem hm_C (c : Dev nD) (t : Fin cfg0.N) (h0 : ¬t.val % 11 = 0) (h1 : t.val % 11 = 10) :
    hm m c t.val t.isLt = k0_pay3 (F := Ideal) (iblk m c 0 t) (tile m c t (hs m c (t.val - 1) (Nat.lt_of_le_of_lt (Nat.sub_le _ _) t.isLt))
      (acc m c (t.val - 1) (Nat.lt_of_le_of_lt (Nat.sub_le _ _) t.isLt))) (iblk m c 5 t) := by
  unfold acc hs hm; rw [outsAt0_C m c t h0 h1]; frame_out; try simp only [read_unread_whole]

/-- The words that the packing computes at a point: the block's first row, and the two it carries through its ladder. -/
abbrev w5 (t : Fin cfg0.N) : BitVec 32 :=
  Scalar.muli (Scalar.addi (Scalar.muli (Scalar.minsi (Scalar.addi (Scalar.muli (BitVec.ofNat 32 ↑(grid0.coords t 0)) 11#32) (BitVec.ofNat 32 ↑(grid0.coords t 1))) 87#32) 1#32) 0#32) 128#32
abbrev band (v lo hi : BitVec 32) : BitVec 1 := Scalar.andi (Scalar.cmpi .sge v lo) (Scalar.cmpi .slt v hi)
abbrev left (v hi : BitVec 32) : BitVec 32 := Scalar.minsi (Scalar.subi hi v) 128#32
abbrev w28 (v : BitVec 32) : BitVec 32 :=
  Scalar.select (band v 3200#32 3296#32) (left v 3296#32) (Scalar.select (band v 3072#32 3168#32) (left v 3168#32) (Scalar.select (band v 0#32 3072#32) (left v 3072#32) 0#32))

/-- The number of rows of a packed block that hold weights. -/
def cnt (v v28 : BitVec 32) (v31 : BitVec 1) (v35 : BitVec 32) : BitVec 32 :=
  Scalar.select (band v 7168#32 11264#32) (left v 11264#32) (Scalar.select (band v 3584#32 6672#32) (left v 6672#32) (Scalar.select v31 (left v v35) v28))

theorem pay7_at (x : FVec Ideal S128x2048 .f32) (v v28 : BitVec 32) (v31 : BitVec 1) (v35 : BitVec 32) (r : Fin 128) (k : Fin 2048) :
    k0_pay7 (F := Ideal) (k0_pay6 x) v v28 v31 v35 (ix2 r k)
      = Scalar.select (Scalar.cmpi .slt (BitVec.ofNat 32 r.val) (cnt v v28 v31 v35)) (x (ix2 r k)) 0 := by
  pointwise [k0_pay7, k0_pay6, cnt]
  rfl

abbrev packed (c : Dev nD) (t : Fin cfg0.N) : FVec Ideal S128x2048 .bf16 :=
  k0_pay7 (F := Ideal) (k0_pay6 (iblk m c 6 t)) (w5 t) (w28 (w5 t)) (band (w5 t) 3328#32 3584#32) 3584#32

theorem wp_all (c : Dev nD) (t : Fin cfg0.N) : wp m c t.val t.isLt = packed m c t := by
  by_cases h0 : t.val % 11 = 0
  · have h1 : ¬t.val % 11 = 10 := by omega
    unfold wp; rw [outsAt0_A m c t h0 h1]; frame_out
  · by_cases h1 : t.val % 11 = 10
    · unfold wp; rw [outsAt0_C m c t h0 h1]; frame_out
    · unfold wp; rw [outsAt0_B m c t h0 h1]; frame_out

/-- The number of rows that hold weights, and the first row they come from, for block `b`. -/
def vl (b : ℕ) : ℕ := if b < 24 then 128 else if b < 26 then 96 else if b < 52 then 128 else if b = 52 then 16 else if b < 56 then 0 else 128
def off (b : ℕ) : ℕ := if b < 25 then 3088 + 128 * b else if b = 25 then 6256 else if b < 28 then 3024 + 128 * b else if b < 53 then 128 * b - 3584 else if b < 56 then 0 else 128 * b - 560

theorem cnt_eq : ∀ t : Fin cfg0.N, cnt (w5 t) (w28 (w5 t)) (band (w5 t) 3328#32 3584#32) 3584#32 = BitVec.ofNat 32 (vl (min t.val 87)) :=
  (by decide +kernel : ∀ t : Fin grid0.N, _)

theorem idx : ∀ t : Fin cfg0.N, win0_0.index t = ![t.val / 11, 0] ∧ win0_1.index t = ![0, 0] ∧ win0_2.index t = ![0, t.val % 11] ∧ win0_3.index t = ![0, t.val % 11]
    ∧ win0_4.index t = ![t.val % 11, 0] ∧ win0_5.index t = ![0, 0] ∧ win0_7.index t = ![t.val / 11, 0] ∧ win0_8.index t = ![t.val / 11, 0]
    ∧ win0_9.index t = ![min t.val 87, 0] ∧ t.val / 11 < 16 :=
  (by decide +kernel : ∀ t : Fin grid0.N, _)

theorem idx6 : ∀ t : Fin cfg0.N, win0_6.index t = ![off (min t.val 87), 0] :=
  (by decide +kernel : ∀ t : Fin grid0.N, _)

end Cert.KernelIdeal.Cases
-- ==== Proof.Rows.lean ====
/- The arguments by row and column, and the rows and columns of a grid point's blocks. -/
module

public import proofs.«01_k».proof.Proof.Cases

@[expose] public section

set_option maxRecDepth 16384

noncomputable section

namespace Cert.KernelIdeal.Blocks

open Cert.KernelIdeal Cert.KernelIdeal.Gen Cert.KernelIdeal.Cases Idealize.ShloMosaic Idealize.ShloMosaic.TcCoe Idealize.SL.Sem Layer
open Idealize.ShloMosaic.Pipeline (Dat)

variable (m : (ℓ : Loc nD τ sig) → Buf (Elt Ideal) ℓ) (c : Dev nD)

abbrev X : FVec Ideal S2x4096x2048 .f32 := m ((c : Thread nD τ).loc main_arg0)
abbrev G : FVec Ideal S1x2048 .f32 := m ((c : Thread nD τ).loc main_arg1)
abbrev WG : FVec Ideal S1x2048x5632 .f32 := m ((c : Thread nD τ).loc main_arg2)
abbrev WU : FVec Ideal S1x2048x5632 .f32 := m ((c : Thread nD τ).loc main_arg3)
abbrev WD : FVec Ideal S1x5632x2048 .f32 := m ((c : Thread nD τ).loc main_arg4)
abbrev G2 : FVec Ideal S1x2048 .f32 := m ((c : Thread nD τ).loc main_arg5)
abbrev WI : FVec Ideal S1x2048x10704 .f32 := m ((c : Thread nD τ).loc main_arg6)

/-- The arguments by row and column. -/
def xr (R : Fin 8192) (l : Fin 2048) : EReal := X m c (ix3 ⟨R / 4096, by omega⟩ ⟨R % 4096, by omega⟩ l)
def gr (l : Fin 2048) : EReal := G m c (ix2 0 l)
def wgr (l : Fin 2048) (f : Fin 5632) : EReal := WG m c (ix3 0 l f)
def wur (l : Fin 2048) (f : Fin 5632) : EReal := WU m c (ix3 0 l f)
def wdr (f : Fin 5632) (l : Fin 2048) : EReal := WD m c (ix3 0 f l)
def g2r (l : Fin 2048) : EReal := G2 m c (ix2 0 l)
def wir (R : Fin 10704) (l : Fin 2048) : EReal := WI m c (ix3 0 l R)

theorem N_lt (t : Fin cfg0.N) : t.val < 176 := lt_of_lt_of_eq t.isLt N_0

/-- Row `r` of the block of point `t`, and column `f` of its tile. -/
def row (t : Fin cfg0.N) (r : Fin 512) : Fin 8192 := ⟨t.val / 11 * 512 + r, by have := N_lt t; omega⟩
def col (t : Fin cfg0.N) (f : Fin 512) : Fin 5632 := ⟨t.val % 11 * 512 + f, by omega⟩

theorem off_lt (b : ℕ) (h : b < 88) : off b + 128 ≤ 10704 := by unfold off; split_ifs <;> omega
def row6 (t : Fin cfg0.N) (r : Fin 128) : Fin 10704 := ⟨off (min t.val 87) + r, by have := off_lt (min t.val 87) (by omega); omega⟩

end Cert.KernelIdeal.Blocks
-- ==== Proof.Blocks.lean ====
/- The input blocks at an index, as elements of the arguments. -/
module

public import proofs.«01_k».proof.Proof.Rows

@[expose] public section

set_option maxRecDepth 16384

noncomputable section

namespace Cert.KernelIdeal.Blocks

open Cert.KernelIdeal Cert.KernelIdeal.Gen Cert.KernelIdeal.Cases Idealize.ShloMosaic Idealize.ShloMosaic.TcCoe Idealize.SL.Sem Layer
open Idealize.ShloMosaic.Pipeline (Dat)

variable (m : (ℓ : Loc nD τ sig) → Buf (Elt Ideal) ℓ) (c : Dev nD)

theorem b0 (t : Fin cfg0.N) (r : Fin 512) (k : Fin 2048) : (iblk m c 0 t : FVec Ideal S512x2048 .f32) (ix2 r k) = xr m c (row t r) k := by
  unfold xr row; blk_ext! [iblk, V, idx t]
theorem b1 (t : Fin cfg0.N) (k : Fin 2048) : (iblk m c 1 t : FVec Ideal S1x2048 .f32) (ix2 0 k) = gr m c k := by
  unfold gr; blk_ext! [iblk, V, idx t]
theorem b2 (t : Fin cfg0.N) (l : Fin 2048) (f : Fin 512) : (iblk m c 2 t : FVec Ideal S2048x512 .bf16) (ix2 l f) = wgr m c l (col t f) := by
  unfold wgr col; blk_ext! [iblk, V, idx t]
theorem b3 (t : Fin cfg0.N) (l : Fin 2048) (f : Fin 512) : (iblk m c 3 t : FVec Ideal S2048x512 .bf16) (ix2 l f) = wur m c l (col t f) := by
  unfold wur col; blk_ext! [iblk, V, idx t]
theorem b4 (t : Fin cfg0.N) (f : Fin 512) (l : Fin 2048) : (iblk m c 4 t : FVec Ideal S512x2048 .bf16) (ix2 f l) = wdr m c (col t f) l := by
  unfold wdr col; blk_ext! [iblk, V, idx t]
theorem b5 (t : Fin cfg0.N) (k : Fin 2048) : (iblk m c 5 t : FVec Ideal S1x2048 .f32) (ix2 0 k) = g2r m c k := by
  unfold g2r; blk_ext! [iblk, V, idx t]

end Cert.KernelIdeal.Blocks
-- ==== Proof.Accum.lean ====
/- The scratch and the accumulator of the feed-forward kernel at every grid point. -/
module

public import proofs.«01_k».proof.Proof.Blocks

@[expose] public section

set_option maxRecDepth 16384

noncomputable section

namespace Cert.KernelIdeal.Blocks

open Cert.KernelIdeal Cert.KernelIdeal.Gen Cert.KernelIdeal.Cases Cert.KernelIdeal.Tile Idealize.ShloMosaic Idealize.ShloMosaic.TcCoe Idealize.SL.Sem Layer

variable (m : (ℓ : Loc nD τ sig) → Buf (Elt Ideal) ℓ) (c : Dev nD)

/-- The product of the hidden activation and the last weight at hidden column `f`. -/
def prod (R : Fin 8192) (k : Fin 2048) (f : Fin 5632) : EReal :=
  act (nrm (xr m c R) (gr m c)) (fun l => wgr m c l f) (fun l => wur m c l f) * wdr m c f k

/-- Tile `s` of the hidden axis. -/
def part (R : Fin 8192) (k : Fin 2048) (s : ℕ) : EReal :=
  ∑ f : Fin 512, prod m c R k ⟨s % 11 * 512 + f, by omega⟩

theorem pay4_blk (t : Fin cfg0.N) (r : Fin 512) (k : Fin 2048) :
    k0_pay4 (F := Ideal) (iblk m c 0 t) (iblk m c 1 t) (ix2 r k) = nrm (xr m c (row t r)) (gr m c) k := by
  refine (pay4_at _ _ r k).trans ?_
  rw [show (fun l => (iblk m c 0 t : FVec Ideal S512x2048 .f32) (ix2 r l)) = xr m c (row t r) from funext fun l => b0 m c t r l,
    show (fun l => (iblk m c 1 t : FVec Ideal S1x2048 .f32) (ix2 0 l)) = gr m c from funext fun l => b1 m c t l]

theorem row_pred (t : Fin cfg0.N) (h0 : ¬t.val % 11 = 0) (r : Fin 512) :
    row ⟨t.val - 1, Nat.lt_of_le_of_lt (Nat.sub_le _ _) t.isLt⟩ r = row t r := by
  apply Fin.ext; simp only [row]; omega

theorem hs_eq (n : ℕ) : ∀ (h : n < cfg0.N) (r : Fin 512) (k : Fin 2048),
    hs m c n h (ix2 r k) = nrm (xr m c (row ⟨n, h⟩ r)) (gr m c) k := by
  induction n using Nat.strong_induction_on with
  | _ n ih =>
    intro h r k
    by_cases h0 : n % 11 = 0
    · rw [hs_A m c ⟨n, h⟩ h0 (by simp only; omega)]; exact pay4_blk m c ⟨n, h⟩ r k
    · have hp := ih (n - 1) (by omega) (Nat.lt_of_le_of_lt (Nat.sub_le _ _) h) r k
      have hr := row_pred ⟨n, h⟩ h0 r
      simp only at hr
      rw [hr] at hp
      by_cases h1 : n % 11 = 10
      · rw [hs_C m c ⟨n, h⟩ h0 h1]; exact hp
      · rw [hs_B m c ⟨n, h⟩ h0 h1]; exact hp

theorem tile_at (t : Fin cfg0.N) (h : FVec Ideal S512x2048 .bf16) (a : FVec Ideal S512x2048 .f32) (r : Fin 512) (k : Fin 2048)
    (hh : ∀ l, h (ix2 r l) = nrm (xr m c (row t r)) (gr m c) l) :
    tile m c t h a (ix2 r k) = a (ix2 r k) + part m c (row t r) k (t.val % 11) := by
  refine (pay1_at h (iblk m c 2 t) (iblk m c 3 t) a (iblk m c 4 t) r k).trans ?_
  rw [show (fun l => h (ix2 r l)) = nrm (xr m c (row t r)) (gr m c) from funext hh]
  refine congrArg (a (ix2 r k) + ·) ?_
  unfold part prod
  refine Finset.sum_congr rfl fun f _ => ?_
  have hc : (⟨t.val % 11 % 11 * 512 + f.val, by omega⟩ : Fin 5632) = col t f := by apply Fin.ext; simp only [col]; omega
  rw [hc, show (fun l => (iblk m c 2 t : FVec Ideal S2048x512 .bf16) (ix2 l f)) = fun l => wgr m c l (col t f) from funext fun l => b2 m c t l f,
    show (fun l => (iblk m c 3 t : FVec Ideal S2048x512 .bf16) (ix2 l f)) = fun l => wur m c l (col t f) from funext fun l => b3 m c t l f]
  exact congrArg _ (b4 m c t f k)

theorem acc_eq (n : ℕ) : ∀ (h : n < cfg0.N) (_ : ¬n % 11 = 10) (r : Fin 512) (k : Fin 2048),
    acc m c n h (ix2 r k) = ∑ s ∈ Finset.range (n % 11 + 1), part m c (row ⟨n, h⟩ r) k s := by
  induction n using Nat.strong_induction_on with
  | _ n ih =>
    intro h h1 r k
    by_cases h0 : n % 11 = 0
    · rw [acc_A m c ⟨n, h⟩ h0 h1]
      refine (tile_at m c ⟨n, h⟩ _ _ r k fun l => pay4_blk m c ⟨n, h⟩ r l).trans ?_
      rw [pay5_at, h0, zero_add, zero_add, Finset.sum_range_one]
    · have hp := ih (n - 1) (by omega) (Nat.lt_of_le_of_lt (Nat.sub_le _ _) h) (by omega) r k
      have hr := row_pred ⟨n, h⟩ h0 r
      simp only at hr
      rw [hr] at hp
      rw [acc_B m c ⟨n, h⟩ h0 h1]
      refine (tile_at m c ⟨n, h⟩ _ _ r k fun l => ?_).trans ?_
      · have := hs_eq m c (n - 1) (Nat.lt_of_le_of_lt (Nat.sub_le _ _) h) r l
        rw [hr] at this; exact this
      · rw [Finset.sum_range_succ]
        have e : n % 11 = (n - 1) % 11 + 1 := by omega
        rw [hp]; simp only [← e]

/-- The whole accumulation, at a row block's last point. -/
theorem last_eq (t : Fin cfg0.N) (h1 : t.val % 11 = 10) (r : Fin 512) (k : Fin 2048) :
    tile m c t (hs m c (t.val - 1) (Nat.lt_of_le_of_lt (Nat.sub_le _ _) t.isLt)) (acc m c (t.val - 1) (Nat.lt_of_le_of_lt (Nat.sub_le _ _) t.isLt)) (ix2 r k)
      = ∑ f, prod m c (row t r) k f := by
  have h0 : ¬t.val % 11 = 0 := by omega
  have hr := row_pred t h0 r
  refine (tile_at m c t _ _ r k fun l => ?_).trans ?_
  · have := hs_eq m c (t.val - 1) (Nat.lt_of_le_of_lt (Nat.sub_le _ _) t.isLt) r l
    rw [hr] at this; exact this
  · have hp := acc_eq m c (t.val - 1) (Nat.lt_of_le_of_lt (Nat.sub_le _ _) t.isLt) (by omega) r k
    rw [hr] at hp
    rw [hp, show (t.val - 1) % 11 + 1 = 10 by omega, h1, ← Finset.sum_range_succ, Finset.sum_range, Fin.sum_univ_tiles 11 512 rfl (prod m c (row t r) k)]
    refine Finset.sum_congr rfl fun s _ => Finset.sum_congr rfl fun f _ => congrArg _ ?_
    apply Fin.ext; simp only; omega

/-- The row that a row block's last point leaves in the first output, and the normalised one in the second. -/
theorem acc_last (t : Fin cfg0.N) (h1 : t.val % 11 = 10) (r : Fin 512) (k : Fin 2048) :
    acc m c t.val t.isLt (ix2 r k) = ffn (xr m c (row t r)) (gr m c) (wgr m c) (wur m c) (wdr m c) k := by
  rw [acc_C m c t (by omega) h1]
  refine (pay2_at _ _ r k).trans ?_
  rw [last_eq m c t h1 r k]
  exact congrArg (· + _) (b0 m c t r k)

theorem hm_last (t : Fin cfg0.N) (h1 : t.val % 11 = 10) (r : Fin 512) (k : Fin 2048) :
    hm m c t.val t.isLt (ix2 r k) = nrm (ffn (xr m c (row t r)) (gr m c) (wgr m c) (wur m c) (wdr m c)) (g2r m c) k := by
  rw [hm_C m c t (by omega) h1]
  refine (pay3_at _ _ _ r k).trans ?_
  rw [show (fun l => (iblk m c 5 t : FVec Ideal S1x2048 .f32) (ix2 0 l)) = g2r m c from funext fun l => b5 m c t l]
  refine congrArg (nrm · (g2r m c) k) (funext fun l => ?_)
  refine (pay2_at _ _ r l).trans ?_
  rw [last_eq m c t h1 r l]
  exact congrArg (· + _) (b0 m c t r l)

end Cert.KernelIdeal.Blocks
-- ==== Proof.Final.lean ====
/- The first two result arrays of the feed-forward kernel after the run. -/
module

public import proofs.«01_k».proof.Proof.Accum

@[expose] public section

set_option maxRecDepth 16384

noncomputable section

namespace Cert.KernelIdeal.Blocks

open Cert.KernelIdeal Cert.KernelIdeal.Gen Cert.KernelIdeal.Cases Cert.KernelIdeal.Tile Idealize.ShloMosaic Idealize.ShloMosaic.TcCoe Idealize.SL.Sem Layer
open Idealize.ShloMosaic.Pipeline (Dat)

variable (m : (ℓ : Loc nD τ sig) → Buf (Elt Ideal) ℓ) (c : Dev nD)

def G7 : FVec Ideal S8192x2048 .f32 := fun j => ffn (xr m c (j 0)) (gr m c) (wgr m c) (wur m c) (wdr m c) (j 1)
def G8 : FVec Ideal S8192x2048 .bf16 := fun j => nrm (ffn (xr m c (j 0)) (gr m c) (wgr m c) (wur m c) (wdr m c)) (g2r m c) (j 1)

theorem emb7 (t : Fin cfg0.N) (r : Fin 512) (k : Fin 2048) : ((cfg0.win 7).blk t).view.emb (ix2 r k) = (ix2 (row t r) k : S8192x2048.Idx) := by
  unfold row; blk_ext [idx t]

theorem emb8 (t : Fin cfg0.N) (r : Fin 512) (k : Fin 2048) : ((cfg0.win 8).blk t).view.emb (ix2 r k) = (ix2 (row t r) k : S8192x2048.Idx) := by
  unfold row; blk_ext [idx t]

theorem final7 : (dats m 0 c).arrAt 7 (cfgs 0).N = G7 m c := by
  refine (dats m 0 c).arrAt_eq_of_covers 7 _ (by decide +kernel) fun t hf y => ?_
  blk_simp
  rw [after0_7]
  idx_vars y
  refine (acc_last m c t ((flush0_7 t).mp hf) y0 y1).trans ?_
  exact (congrArg (G7 m c) (emb7 t y0 y1)).symm

theorem final8 : (dats m 0 c).arrAt 8 (cfgs 0).N = G8 m c := by
  refine (dats m 0 c).arrAt_eq_of_covers 8 _ (by decide +kernel) fun t hf y => ?_
  blk_simp
  rw [after0_8]
  idx_vars y
  refine (hm_last m c t ((flush0_8 t).mp hf) y0 y1).trans ?_
  exact (congrArg (G8 m c) (emb8 t y0 y1)).symm

end Cert.KernelIdeal.Blocks
-- ==== Proof.Block6.lean ====
/- The element-indexed input block at an index. -/
module

public import proofs.«01_k».proof.Proof.Rows

@[expose] public section

set_option maxRecDepth 16384

noncomputable section

namespace Cert.KernelIdeal.Blocks

open Cert.KernelIdeal Cert.KernelIdeal.Gen Cert.KernelIdeal.Cases Idealize.ShloMosaic Idealize.ShloMosaic.TcCoe Idealize.SL.Sem Layer
open Idealize.ShloMosaic.Pipeline (Dat)

variable (m : (ℓ : Loc nD τ sig) → Buf (Elt Ideal) ℓ) (c : Dev nD)

theorem b6 (t : Fin cfg0.N) (r : Fin 128) (k : Fin 2048) : (iblk m c 6 t : FVec Ideal S128x2048 .f32) (ix2 r k) = wir m c (row6 t r) k := by
  have e0 := Pipeline.Window.rect_emb_val_off win0_6 t (ix2 r k) 0
  have e1 := Pipeline.Window.rect_emb_val_off win0_6 t (ix2 r k) 1
  rw [idx6 t] at e0 e1
  unfold wir row6; blk_ext! [iblk, V, idx6 t]
  · exact e1.trans (Nat.zero_add _)
  · exact e0

end Cert.KernelIdeal.Blocks
-- ==== Proof.PackSpec.lean ====
/- The packed weight, row by row. -/
module

public import proofs.«01_k».proof.Proof.Spec

@[expose] public section

noncomputable section

namespace Layer

/-- Row `R` of the packed transposed weight: a row of the transposed weight, or zeros. -/
def pk (w : Fin 10704 → Fin 2048 → EReal) (R : ℕ) (k : Fin 2048) : EReal :=
  if h1 : R < 3168 then w ⟨3088 + R, by omega⟩ k
  else if h2 : R < 3200 then 0
  else if h3 : R < 3296 then w ⟨3056 + R, by omega⟩ k
  else if h4 : R < 3328 then 0
  else if h5 : R < 3584 then w ⟨3024 + R, by omega⟩ k
  else if h6 : R < 6672 then w ⟨R - 3584, by omega⟩ k
  else if h7 : R < 7168 then 0
  else if h8 : R < 11264 then w ⟨R - 560, by omega⟩ k
  else 0

section rows
variable (w : Fin 10704 → Fin 2048 → EReal) (R : ℕ) (k : Fin 2048)

theorem pk_rkv (h : R < 3168) : pk w R k = w ⟨3088 + R, by omega⟩ k := by unfold pk; rw [dif_pos h]
theorem pk_z1 (h : 3168 ≤ R) (h' : R < 3200) : pk w R k = 0 := by unfold pk; rw [dif_neg (by omega), dif_pos h']
theorem pk_ad (h : 3200 ≤ R) (h' : R < 3296) : pk w R k = w ⟨3056 + R, by omega⟩ k := by
  unfold pk; rw [dif_neg (by omega), dif_neg (by omega), dif_pos h']
theorem pk_z2 (h : 3296 ≤ R) (h' : R < 3328) : pk w R k = 0 := by
  unfold pk; rw [dif_neg (by omega), dif_neg (by omega), dif_neg (by omega), dif_pos h']
theorem pk_gd (h : 3328 ≤ R) (h' : R < 3584) : pk w R k = w ⟨3024 + R, by omega⟩ k := by
  unfold pk; rw [dif_neg (by omega), dif_neg (by omega), dif_neg (by omega), dif_neg (by omega), dif_pos h']
theorem pk_gla (h : 3584 ≤ R) (h' : R < 6672) : pk w R k = w ⟨R - 3584, by omega⟩ k := by
  unfold pk; rw [dif_neg (by omega), dif_neg (by omega), dif_neg (by omega), dif_neg (by omega), dif_neg (by omega), dif_pos h']
theorem pk_z3 (h : 6672 ≤ R) (h' : R < 7168) : pk w R k = 0 := by
  unfold pk
  rw [dif_neg (by omega), dif_neg (by omega), dif_neg (by omega), dif_neg (by omega), dif_neg (by omega), dif_neg (by omega), dif_pos h']
theorem pk_gate (h : 7168 ≤ R) (h' : R < 11264) : pk w R k = w ⟨R - 560, by omega⟩ k := by
  unfold pk
  rw [dif_neg (by omega), dif_neg (by omega), dif_neg (by omega), dif_neg (by omega), dif_neg (by omega), dif_neg (by omega), dif_neg (by omega), dif_pos h']

end rows

end Layer
-- ==== Proof.Pack.lean ====
/- The packed transposed weight: the third result array of the kernel after the run. -/
module

public import proofs.«01_k».proof.Proof.Block6
public import proofs.«01_k».proof.Proof.PackSpec

@[expose] public section

set_option maxRecDepth 16384

noncomputable section

namespace Cert.KernelIdeal.Blocks

open Cert.KernelIdeal Cert.KernelIdeal.Gen Cert.KernelIdeal.Cases Cert.KernelIdeal.Tile Idealize.ShloMosaic Idealize.ShloMosaic.TcCoe Idealize.SL.Sem Layer
open Idealize.ShloMosaic.Pipeline (Dat)

variable (m : (ℓ : Loc nD τ sig) → Buf (Elt Ideal) ℓ) (c : Dev nD)

def G9 : FVec Ideal S11264x2048 .bf16 := fun j => pk (wir m c) (j 0).val (j 1)

theorem vl_le (b : ℕ) : vl b ≤ 128 := by unfold vl; split_ifs <;> omega

theorem slt_iff (r : Fin 128) (n : ℕ) (hn : n ≤ 128) :
    Scalar.cmpi .slt (BitVec.ofNat 32 r.val) (BitVec.ofNat 32 n) = if r.val < n then 1#1 else 0#1 := by
  have h1 : (BitVec.ofNat 32 r.val).toInt = r.val := by rw [BitVec.toInt_ofNat']; have := r.isLt; simp only [Int.bmod]; omega
  have h2 : (BitVec.ofNat 32 n).toInt = n := by rw [BitVec.toInt_ofNat']; simp only [Int.bmod]; omega
  have : (BitVec.ofNat 32 r.val).slt (BitVec.ofNat 32 n) = decide (r.val < n) := by
    unfold BitVec.slt; rw [h1, h2]; simp
  show BitVec.ofBool ((BitVec.ofNat 32 r.val).slt (BitVec.ofNat 32 n)) = _
  rw [this]; by_cases h : r.val < n <;> simp [h]

theorem vo_1 (b : ℕ) (h : b < 24) : vl b = 128 ∧ off b = 3088 + 128 * b := by unfold vl off; constructor <;> split_ifs <;> omega
theorem vo_2 (b : ℕ) (h : b = 24) : vl b = 96 ∧ off b = 3088 + 128 * b := by subst h; decide
theorem vo_3 (b : ℕ) (h : b = 25) : vl b = 96 ∧ off b = 6256 := by subst h; decide
theorem vo_4 (b : ℕ) (h : 26 ≤ b) (h' : b < 28) : vl b = 128 ∧ off b = 3024 + 128 * b := by unfold vl off; constructor <;> split_ifs <;> omega
theorem vo_5 (b : ℕ) (h : 28 ≤ b) (h' : b < 52) : vl b = 128 ∧ off b = 128 * b - 3584 := by unfold vl off; constructor <;> split_ifs <;> omega
theorem vo_6 (b : ℕ) (h : b = 52) : vl b = 16 ∧ off b = 128 * b - 3584 := by subst h; decide
theorem vo_7 (b : ℕ) (h : 53 ≤ b) (h' : b < 56) : vl b = 0 := by unfold vl; split_ifs <;> omega
theorem vo_8 (b : ℕ) (h : 56 ≤ b) : vl b = 128 ∧ off b = 128 * b - 560 := by unfold vl off; constructor <;> split_ifs <;> omega

theorem pk_block (w : Fin 10704 → Fin 2048 → EReal) (b : ℕ) (hb : b < 88) (r : Fin 128) (k : Fin 2048) :
    pk w (b * 128 + r) k = if r.val < vl b then w ⟨off b + r, by have := off_lt b hb; omega⟩ k else 0 := by
  have e : ∀ (i j : Fin 10704), i.val = j.val → w i k = w j k := fun i j h => by rw [Fin.ext h]
  have hr := r.isLt
  rcases Nat.lt_or_ge b 24 with h | h
  · obtain ⟨hv, ho⟩ := vo_1 b h
    rw [if_pos (by omega), pk_rkv w _ k (by omega)]; exact e _ _ (by simp only; omega)
  rcases Nat.lt_or_ge b 25 with h2 | h2
  · obtain ⟨hv, ho⟩ := vo_2 b (by omega)
    rcases Nat.lt_or_ge r.val 96 with q | q
    · rw [if_pos (by omega), pk_rkv w _ k (by omega)]; exact e _ _ (by simp only; omega)
    · rw [if_neg (by omega), pk_z1 w _ k (by omega) (by omega)]
  rcases Nat.lt_or_ge b 26 with h3 | h3
  · obtain ⟨hv, ho⟩ := vo_3 b (by omega)
    rcases Nat.lt_or_ge r.val 96 with q | q
    · rw [if_pos (by omega), pk_ad w _ k (by omega) (by omega)]; exact e _ _ (by simp only; omega)
    · rw [if_neg (by omega), pk_z2 w _ k (by omega) (by omega)]
  rcases Nat.lt_or_ge b 28 with h4 | h4
  · obtain ⟨hv, ho⟩ := vo_4 b (by omega) h4
    rw [if_pos (by omega), pk_gd w _ k (by omega) (by omega)]; exact e _ _ (by simp only; omega)
  rcases Nat.lt_or_ge b 52 with h5 | h5
  · obtain ⟨hv, ho⟩ := vo_5 b (by omega) h5
    rw [if_pos (by omega), pk_gla w _ k (by omega) (by omega)]; exact e _ _ (by simp only; omega)
  rcases Nat.lt_or_ge b 53 with h6 | h6
  · obtain ⟨hv, ho⟩ := vo_6 b (by omega)
    rcases Nat.lt_or_ge r.val 16 with q | q
    · rw [if_pos (by omega), pk_gla w _ k (by omega) (by omega)]; exact e _ _ (by simp only; omega)
    · rw [if_neg (by omega), pk_z3 w _ k (by omega) (by omega)]
  rcases Nat.lt_or_ge b 56 with h7 | h7
  · have hv := vo_7 b (by omega) h7
    rw [if_neg (by omega), pk_z3 w _ k (by omega) (by omega)]
  · obtain ⟨hv, ho⟩ := vo_8 b h7
    rw [if_pos (by omega), pk_gate w _ k (by omega) (by omega)]; exact e _ _ (by simp only; omega)

theorem packed_at (t : Fin cfg0.N) (r : Fin 128) (k : Fin 2048) :
    packed m c t (ix2 r k) = pk (wir m c) (min t.val 87 * 128 + r) k := by
  refine (pay7_at _ _ _ _ _ r k).trans ?_
  rw [cnt_eq t, slt_iff r _ (vl_le _), pk_block _ _ (by omega)]
  by_cases h : r.val < vl (min t.val 87)
  · rw [if_pos h, if_pos h]; exact b6 m c t r k
  · rw [if_neg h, if_neg h]; rfl

theorem emb9 (t : Fin cfg0.N) (r : Fin 128) (k : Fin 2048) :
    ((cfg0.win 9).blk t).view.emb (ix2 r k) = (ix2 ⟨min t.val 87 * 128 + r, by omega⟩ k : S11264x2048.Idx) := by
  blk_ext [idx t]

theorem final9 : (dats m 0 c).arrAt 9 (cfgs 0).N = G9 m c := by
  refine (dats m 0 c).arrAt_eq_of_covers 9 _ (by decide +kernel) fun t hf y => ?_
  blk_simp
  rw [after0_9]
  idx_vars y
  refine (congrFun (wp_all m c t) _).trans ((packed_at m c t y0 y1).trans ?_)
  exact (congrArg (G9 m c) (emb9 t y0 y1)).symm

end Cert.KernelIdeal.Blocks
-- ==== Proof.RefRead.lean ====
/- The reference's three results at an index. -/
module

public import proofs.«01_k».proof.Proof.Spec
public import proofs.«01_k».proof.Proof.Gen.ReferenceIdeal.Run

@[expose] public section

set_option maxRecDepth 16384

noncomputable section

namespace Cert.ReferenceIdeal.Read

open Cert.ReferenceIdeal Cert.ReferenceIdeal.Gen Idealize.ShloMosaic Idealize.ShloMosaic.TcCoe Idealize.SL.Sem Layer

/-- The normalisation of a batch of rows. -/
def RN (x : FVec Ideal S2x4096x2048 .f32) (g : FVec Ideal S1x2048 .f32) : FVec Ideal S2x4096x2048 .f32 :=
  mulf (mulf x (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf x x) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ g shapeCasts_S1x2048_S2048)))

/-- The sigmoid's product with its argument. -/
def SL (z : FVec Ideal S2x4096x5632 .f32) : FVec Ideal S2x4096x5632 .f32 :=
  mulf z (Host.divf (broadcastInDim S2x4096x5632 ![] bcast_S_S2x4096x5632 (constant S_ .f32 0x3F800000#32)) (addf (broadcastInDim S2x4096x5632 ![] bcast_S_S2x4096x5632 (constant S_ .f32 0x3F800000#32)) (Host.exp (Host.negf z))))

/-- The product with a weight of the hidden axis. -/
def MM (h : FVec Ideal S2x4096x2048 .f32) (w : FVec Ideal S1x2048x5632 .f32) : FVec Ideal S2x4096x5632 .f32 :=
  Host.dotGeneral dot_S2x4096x2048_S2048x5632_S2x4096x5632_2_0_01_1_n_n none h (shapeCast _ w shapeCasts_S1x2048x5632_S2048x5632)

/-- The feed-forward block with its residual. -/
def FF (x : FVec Ideal S2x4096x2048 .f32) (g : FVec Ideal S1x2048 .f32) (wg wu : FVec Ideal S1x2048x5632 .f32) (wd : FVec Ideal S1x5632x2048 .f32) :
    FVec Ideal S2x4096x2048 .f32 :=
  addf x (mulf (broadcastInDim S2x4096x2048 ![] bcast_S_S2x4096x2048 (constant S_ .f32 0x3F000000#32)) (Host.dotGeneral dot_S2x4096x5632_S5632x2048_S2x4096x2048_2_0_01_1_n_n none (mulf (SL (MM (RN x g) wg)) (MM (RN x g) wu)) (shapeCast _ wd shapeCasts_S1x5632x2048_S5632x2048)))

theorem RN_at (x : FVec Ideal S2x4096x2048 .f32) (g : FVec Ideal S1x2048 .f32) (b : Fin 2) (s : Fin 4096) (k : Fin 2048) :
    RN x g (ix3 b s k) = nrm (fun l => x (ix3 b s l)) (fun l => g (ix2 0 l)) k := by
  pointwise [RN, nrm]

theorem SL_at (z : FVec Ideal S2x4096x5632 .f32) (b : Fin 2) (s : Fin 4096) (f : Fin 5632) :
    SL z (ix3 b s f) = z (ix3 b s f) * sigm (z (ix3 b s f)) := by
  pointwise [SL, sigm]

theorem MM_at (h : FVec Ideal S2x4096x2048 .f32) (w : FVec Ideal S1x2048x5632 .f32) (b : Fin 2) (s : Fin 4096) (f : Fin 5632) :
    MM h w (ix3 b s f) = ∑ k, h (ix3 b s k) * w (ix3 0 k f) := by
  pointwise [MM]

theorem FF_at (x : FVec Ideal S2x4096x2048 .f32) (g : FVec Ideal S1x2048 .f32) (wg wu : FVec Ideal S1x2048x5632 .f32) (wd : FVec Ideal S1x5632x2048 .f32)
    (b : Fin 2) (s : Fin 4096) (k : Fin 2048) :
    FF x g wg wu wd (ix3 b s k)
      = ffn (fun l => x (ix3 b s l)) (fun l => g (ix2 0 l)) (fun l f => wg (ix3 0 l f)) (fun l f => wu (ix3 0 l f)) (fun f l => wd (ix3 0 f l)) k := by
  pointwise [FF, ffn, act, SL_at, MM_at, RN_at]

/-- Row `r` of the flattened batch. -/
abbrev bOf (r : Fin 8192) : Fin 2 := ⟨r / 4096, by omega⟩
abbrev sOf (r : Fin 8192) : Fin 4096 := ⟨r % 4096, by omega⟩

theorem flat_at (v : FVec Ideal S2x4096x2048 .f32) (r : Fin 8192) (k : Fin 2048) :
    (shapeCast S8192x2048 v shapeCasts_S2x4096x2048_S8192x2048 : FVec Ideal S8192x2048 .f32) (ix2 r k) = v (ix3 (bOf r) (sOf r) k) := by
  pointwise

/-- The normalised second result. -/
def O2 (x : FVec Ideal S2x4096x2048 .f32) (g : FVec Ideal S1x2048 .f32) (wg wu : FVec Ideal S1x2048x5632 .f32) (wd : FVec Ideal S1x5632x2048 .f32)
    (g2 : FVec Ideal S1x2048 .f32) : FVec Ideal S8192x2048 .bf16 :=
  truncf .bf16 (shapeCast S8192x2048 (RN (FF x g wg wu wd) g2) shapeCasts_S2x4096x2048_S8192x2048) bitsLt_bf16_f32

theorem O2_at (x : FVec Ideal S2x4096x2048 .f32) (g : FVec Ideal S1x2048 .f32) (wg wu : FVec Ideal S1x2048x5632 .f32) (wd : FVec Ideal S1x5632x2048 .f32)
    (g2 : FVec Ideal S1x2048 .f32) (r : Fin 8192) (k : Fin 2048) :
    O2 x g wg wu wd g2 (ix2 r k)
      = nrm (ffn (fun l => x (ix3 (bOf r) (sOf r) l)) (fun l => g (ix2 0 l)) (fun l f => wg (ix3 0 l f)) (fun l f => wu (ix3 0 l f)) (fun f l => wd (ix3 0 f l)))
          (fun l => g2 (ix2 0 l)) k := by
  pointwise [O2, RN_at, FF_at]

theorem res1_eq (m : (ℓ : Loc nD τ sig) → Buf (Elt Ideal) ℓ) (c : Dev nD) :
    Cert.ReferenceIdeal.Value.res_main_v41 (F := Ideal) m c
      = O2 (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) := rfl

/-- The first result. -/
def O1 (x : FVec Ideal S2x4096x2048 .f32) (g : FVec Ideal S1x2048 .f32) (wg wu : FVec Ideal S1x2048x5632 .f32) (wd : FVec Ideal S1x5632x2048 .f32) :
    FVec Ideal S8192x2048 .f32 :=
  shapeCast S8192x2048 (FF x g wg wu wd) shapeCasts_S2x4096x2048_S8192x2048

theorem O1_at (x : FVec Ideal S2x4096x2048 .f32) (g : FVec Ideal S1x2048 .f32) (wg wu : FVec Ideal S1x2048x5632 .f32) (wd : FVec Ideal S1x5632x2048 .f32)
    (r : Fin 8192) (k : Fin 2048) :
    O1 x g wg wu wd (ix2 r k)
      = ffn (fun l => x (ix3 (bOf r) (sOf r) l)) (fun l => g (ix2 0 l)) (fun l f => wg (ix3 0 l f)) (fun l f => wu (ix3 0 l f)) (fun f l => wd (ix3 0 f l)) k := by
  pointwise [O1, FF_at]

end Cert.ReferenceIdeal.Read
-- ==== Proof.RefPack.lean ====
/- The reference's packed weight at an index. -/
module

public import proofs.«01_k».proof.Proof.PackSpec
public import proofs.«01_k».proof.Proof.Gen.ReferenceIdeal.Run

@[expose] public section

set_option maxRecDepth 16384

noncomputable section

namespace Cert.ReferenceIdeal.Read

open Cert.ReferenceIdeal Cert.ReferenceIdeal.Gen Idealize.ShloMosaic Idealize.ShloMosaic.TcCoe Idealize.SL.Sem Layer

/-- The packed transposed weight as the reference writes it. -/
def O3 (w : FVec Ideal S1x2048x10704 .f32) : FVec Ideal S11264x2048 .bf16 :=
  truncf .bf16 (transpose S11264x2048 [1, 0] ((concatenate S2048x11264 1 [⟨S2048x3072, ((extractStridedSlice S2048x3072 ![0, 0] (extractStridedSlice S2048x3520 ![0, 3088] (shapeCast _ w shapeCasts_S1x2048x10704_S2048x10704) slices_S2048x10704_S2048x3520_0_3088) slices_S2048x3520_S2048x3072_0_0) : (⟨S2048x3072, .f32⟩ : BufTy).Contents (Elt Ideal))⟩, ⟨S2048x96, ((extractStridedSlice S2048x96 ![0, 3072] (extractStridedSlice S2048x3520 ![0, 3088] (shapeCast _ w shapeCasts_S1x2048x10704_S2048x10704) slices_S2048x10704_S2048x3520_0_3088) slices_S2048x3520_S2048x96_0_3072) : (⟨S2048x96, .f32⟩ : BufTy).Contents (Elt Ideal))⟩, ⟨S2048x32, ((broadcastInDim S2048x32 ![] bcast_S_S2048x32 ((constant S_ .f32 0x00000000#32 : FVec Ideal S_ .f32))) : (⟨S2048x32, .f32⟩ : BufTy).Contents (Elt Ideal))⟩, ⟨S2048x96, ((extractStridedSlice S2048x96 ![0, 3168] (extractStridedSlice S2048x3520 ![0, 3088] (shapeCast _ w shapeCasts_S1x2048x10704_S2048x10704) slices_S2048x10704_S2048x3520_0_3088) slices_S2048x3520_S2048x96_0_3168) : (⟨S2048x96, .f32⟩ : BufTy).Contents (Elt Ideal))⟩, ⟨S2048x32, ((broadcastInDim S2048x32 ![] bcast_S_S2048x32 ((constant S_ .f32 0x00000000#32 : FVec Ideal S_ .f32))) : (⟨S2048x32, .f32⟩ : BufTy).Contents (Elt Ideal))⟩, ⟨S2048x256, ((extractStridedSlice S2048x256 ![0, 3264] (extractStridedSlice S2048x3520 ![0, 3088] (shapeCast _ w shapeCasts_S1x2048x10704_S2048x10704) slices_S2048x10704_S2048x3520_0_3088) slices_S2048x3520_S2048x256_0_3264) : (⟨S2048x256, .f32⟩ : BufTy).Contents (Elt Ideal))⟩, ⟨S2048x3088, ((extractStridedSlice S2048x3088 ![0, 0] (shapeCast _ w shapeCasts_S1x2048x10704_S2048x10704) slices_S2048x10704_S2048x3088_0_0) : (⟨S2048x3088, .f32⟩ : BufTy).Contents (Elt Ideal))⟩, ⟨S2048x496, ((broadcastInDim S2048x496 ![] bcast_S_S2048x496 ((constant S_ .f32 0x00000000#32 : FVec Ideal S_ .f32))) : (⟨S2048x496, .f32⟩ : BufTy).Contents (Elt Ideal))⟩, ⟨S2048x4096, ((extractStridedSlice S2048x4096 ![0, 6608] (shapeCast _ w shapeCasts_S1x2048x10704_S2048x10704) slices_S2048x10704_S2048x4096_0_6608) : (⟨S2048x4096, .f32⟩ : BufTy).Contents (Elt Ideal))⟩] concatenates_S2048x3072_S2048x96_S2048x32_S2048x96_S2048x32_S2048x256_S2048x3088_S2048x496_S2048x4096_S2048x11264_d1 : (⟨S2048x11264, .f32⟩ : BufTy).Contents (Elt Ideal))) transposes_S2048x11264_S11264x2048_1_0) bitsLt_bf16_f32

theorem O3_at (w : FVec Ideal S1x2048x10704 .f32) (R : Fin 11264) (k : Fin 2048) :
    O3 w (ix2 R k) = pk (fun R l => w (ix3 0 l R)) R.val k := by
  pointwise [O3]
  have hR := R.isLt
  have e : ∀ (i j : Fin 10704), i.val = j.val → w (ix3 0 k i) = w (ix3 0 k j) := fun i j h => by rw [Fin.ext h]
  rcases Nat.lt_or_ge R.val 3072 with h0 | h0
  · refine (dif_pos (by omega)).trans ?_
    rw [pk_rkv _ _ k (by omega)]
  refine (dif_neg (by omega)).trans ?_
  rcases Nat.lt_or_ge R.val 3168 with h1 | h1
  · refine (dif_pos (by omega)).trans ?_
    rw [pk_rkv _ _ k (by omega)]; exact e _ _ (by simp only; omega)
  refine (dif_neg (by omega)).trans ?_
  rcases Nat.lt_or_ge R.val 3200 with h2 | h2
  · refine (dif_pos (by omega)).trans ?_
    rw [pk_z1 _ _ k (by omega) (by omega)]
  refine (dif_neg (by omega)).trans ?_
  rcases Nat.lt_or_ge R.val 3296 with h3 | h3
  · refine (dif_pos (by omega)).trans ?_
    rw [pk_ad _ _ k (by omega) (by omega)]; exact e _ _ (by simp only; omega)
  refine (dif_neg (by omega)).trans ?_
  rcases Nat.lt_or_ge R.val 3328 with h4 | h4
  · refine (dif_pos (by omega)).trans ?_
    rw [pk_z2 _ _ k (by omega) (by omega)]
  refine (dif_neg (by omega)).trans ?_
  rcases Nat.lt_or_ge R.val 3584 with h5 | h5
  · refine (dif_pos (by omega)).trans ?_
    rw [pk_gd _ _ k (by omega) (by omega)]; exact e _ _ (by simp only; omega)
  refine (dif_neg (by omega)).trans ?_
  rcases Nat.lt_or_ge R.val 6672 with h6 | h6
  · refine (dif_pos (by omega)).trans ?_
    rw [pk_gla _ _ k (by omega) (by omega)]; exact e _ _ (by simp only; omega)
  refine (dif_neg (by omega)).trans ?_
  rcases Nat.lt_or_ge R.val 7168 with h7 | h7
  · refine (dif_pos (by omega)).trans ?_
    rw [pk_z3 _ _ k (by omega) (by omega)]
  refine (dif_neg (by omega)).trans ?_
  rw [pk_gate _ _ k (by omega) (by omega)]; exact e _ _ (by simp only; omega)

end Cert.ReferenceIdeal.Read
-- ==== Proof.Match.lean ====
/- The reference's result terms are the kernel's result arrays. -/
module

public import proofs.«01_k».proof.Proof.Final
public import proofs.«01_k».proof.Proof.Pack
public import proofs.«01_k».proof.Proof.RefRead
public import proofs.«01_k».proof.Proof.RefPack

@[expose] public section

set_option maxRecDepth 16384

noncomputable section

namespace Cert.KernelIdeal.Blocks

open Cert.KernelIdeal Cert.KernelIdeal.Gen Idealize.ShloMosaic Idealize.ShloMosaic.TcCoe Idealize.SL.Sem

variable (m : (ℓ : Loc nD τ sig) → Buf (Elt Ideal) ℓ) (c : Dev nD)

theorem match7 : Cert.ReferenceIdeal.Read.O1 (X m c) (G m c) (WG m c) (WU m c) (WD m c) = G7 m c := by
  funext j
  idx_vars j
  exact Cert.ReferenceIdeal.Read.O1_at _ _ _ _ _ j0 j1

theorem match8 : Cert.ReferenceIdeal.Read.O2 (X m c) (G m c) (WG m c) (WU m c) (WD m c) (G2 m c) = G8 m c := by
  funext j
  idx_vars j
  exact Cert.ReferenceIdeal.Read.O2_at _ _ _ _ _ _ j0 j1

theorem match9 : Cert.ReferenceIdeal.Read.O3 (WI m c) = G9 m c := by
  funext j
  idx_vars j
  exact Cert.ReferenceIdeal.Read.O3_at _ j0 j1

end Cert.KernelIdeal.Blocks
-- ==== Proof.InProj.lean ====
/- The input projection and the five casts of weights that ride along it: the result arrays of the kernel and of the
   reference. -/
module

public import proofs.«01_k».proof.Proof.Spec
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack

@[expose] public section

set_option maxRecDepth 16384

noncomputable section

namespace Cert.Reference3Ideal.Read

open Cert.Reference3Ideal Cert.Reference3Ideal.Gen Idealize.ShloMosaic Idealize.ShloMosaic.TcCoe

/-- The reference's product. -/
def O0 (h : FVec Ideal S8192x2048 .bf16) (w : FVec Ideal S11264x2048 .bf16) : FVec Ideal S8192x11264 .f32 :=
  Host.dotGeneral dot_S8192x2048_S2048x11264_S8192x11264_1_0_0_1_n_n none (extf .f32 h bitsLt_bf16_f32) (transpose S2048x11264 [1, 0] (extf .f32 w bitsLt_bf16_f32) transposes_S11264x2048_S2048x11264_1_0)

theorem O0_at (h : FVec Ideal S8192x2048 .bf16) (w : FVec Ideal S11264x2048 .bf16) (r : Fin 8192) (k : Fin 11264) :
    O0 h w (ix2 r k) = ∑ l : Fin 2048, h (ix2 r l) * w (ix2 k l) := by
  pointwise [O0]

/-- The reference's casts. -/
def CS (x : FVec Ideal S1x2048x2048 .f32) : FVec Ideal S2048x2048 .bf16 := truncf .bf16 (shapeCast _ x shapeCasts_S1x2048x2048_S2048x2048) bitsLt_bf16_f32
def CW (x : FVec Ideal S1x2048x5632 .f32) : FVec Ideal S2048x5632 .bf16 := truncf .bf16 (shapeCast _ x shapeCasts_S1x2048x5632_S2048x5632) bitsLt_bf16_f32
def CT (x : FVec Ideal S1x5632x2048 .f32) : FVec Ideal S5632x2048 .bf16 := truncf .bf16 (shapeCast _ x shapeCasts_S1x5632x2048_S5632x2048) bitsLt_bf16_f32

theorem CS_at (x : FVec Ideal S1x2048x2048 .f32) (r k : Fin 2048) : CS x (ix2 r k) = x (ix3 0 r k) := by pointwise [CS]
theorem CW_at (x : FVec Ideal S1x2048x5632 .f32) (r : Fin 2048) (k : Fin 5632) : CW x (ix2 r k) = x (ix3 0 r k) := by pointwise [CW]
theorem CT_at (x : FVec Ideal S1x5632x2048 .f32) (r : Fin 5632) (k : Fin 2048) : CT x (ix2 r k) = x (ix3 0 r k) := by pointwise [CT]

end Cert.Reference3Ideal.Read

namespace Cert.Kernel3Ideal.Blocks

open Cert.Kernel3Ideal Cert.Kernel3Ideal.Gen Idealize.ShloMosaic Idealize.ShloMosaic.TcCoe Idealize.SL.Sem Layer
open Idealize.ShloMosaic.Pipeline (Dat)

variable (m : (ℓ : Loc nD τ sig) → Buf (Elt Ideal) ℓ) (c : Dev nD)

abbrev A0 : FVec Ideal S8192x2048 .bf16 := m ((c : Thread nD τ).loc main_arg0)
abbrev A1 : FVec Ideal S11264x2048 .bf16 := m ((c : Thread nD τ).loc main_arg1)
abbrev A2 : FVec Ideal S1x2048x2048 .f32 := m ((c : Thread nD τ).loc main_arg2)
abbrev A3 : FVec Ideal S1x2048x2048 .f32 := m ((c : Thread nD τ).loc main_arg3)
abbrev A4 : FVec Ideal S1x2048x5632 .f32 := m ((c : Thread nD τ).loc main_arg4)
abbrev A5 : FVec Ideal S1x2048x5632 .f32 := m ((c : Thread nD τ).loc main_arg5)
abbrev A6 : FVec Ideal S1x5632x2048 .f32 := m ((c : Thread nD τ).loc main_arg6)

theorem N_lt (t : Fin cfg0.N) : t.val < 44 := lt_of_lt_of_eq t.isLt N_0

theorem idx : ∀ t : Fin cfg0.N, win0_0.index t = ![t.val / 11, 0] ∧ win0_1.index t = ![t.val % 11, 0] ∧ win0_2.index t = ![min t.val 31, 0]
    ∧ win0_3.index t = ![min t.val 31, 0] ∧ win0_4.index t = ![min t.val 31, 0] ∧ win0_5.index t = ![min t.val 31, 0] ∧ win0_6.index t = ![min t.val 43, 0]
    ∧ win0_7.index t = ![t.val / 11, t.val % 11] ∧ win0_8.index t = ![min t.val 31, 0] ∧ win0_9.index t = ![min t.val 31, 0]
    ∧ win0_10.index t = ![min t.val 31, 0] ∧ win0_11.index t = ![min t.val 31, 0] ∧ win0_12.index t = ![min t.val 43, 0] :=
  (by decide +kernel : ∀ t : Fin grid0.N, _)

/-- The rows and columns of a point's blocks. -/
def row (t : Fin cfg0.N) (r : Fin 2048) : Fin 8192 := ⟨t.val / 11 * 2048 + r, by have := N_lt t; omega⟩
def col (t : Fin cfg0.N) (f : Fin 1024) : Fin 11264 := ⟨t.val % 11 * 1024 + f, by omega⟩
def rowC (t : Fin cfg0.N) (r : Fin 64) : Fin 2048 := ⟨min t.val 31 * 64 + r, by omega⟩
def rowD (t : Fin cfg0.N) (r : Fin 128) : Fin 5632 := ⟨min t.val 43 * 128 + r, by omega⟩

theorem pay6_at (x : FVec Ideal S2048x2048 .bf16) (w : FVec Ideal S1024x2048 .bf16) (r : Fin 2048) (k : Fin 1024) :
    k0_pay6 (F := Ideal) x w (ix2 r k) = ∑ l : Fin 2048, x (ix2 r l) * w (ix2 k l) := by
  pointwise [k0_pay6]

theorem b0 (t : Fin cfg0.N) (r l : Fin 2048) : (iblk m c 0 t : FVec Ideal S2048x2048 .bf16) (ix2 r l) = A0 m c (ix2 (row t r) l) := by
  unfold row; blk_ext! [iblk, V, idx t]
theorem b1 (t : Fin cfg0.N) (k : Fin 1024) (l : Fin 2048) : (iblk m c 1 t : FVec Ideal S1024x2048 .bf16) (ix2 k l) = A1 m c (ix2 (col t k) l) := by
  unfold col; blk_ext! [iblk, V, idx t]

/-- The result arrays. -/
def G7 : FVec Ideal S8192x11264 .f32 := fun j => ∑ l : Fin 2048, A0 m c (ix2 (j 0) l) * A1 m c (ix2 (j 1) l)
def G8 : FVec Ideal S2048x2048 .bf16 := fun j => A2 m c (ix3 0 (j 0) (j 1))
def G9 : FVec Ideal S2048x2048 .bf16 := fun j => A3 m c (ix3 0 (j 0) (j 1))
def G10 : FVec Ideal S2048x5632 .bf16 := fun j => A4 m c (ix3 0 (j 0) (j 1))
def G11 : FVec Ideal S2048x5632 .bf16 := fun j => A5 m c (ix3 0 (j 0) (j 1))
def G12 : FVec Ideal S5632x2048 .bf16 := fun j => A6 m c (ix3 0 (j 0) (j 1))

theorem out7 (t : Fin cfg0.N) (r : Fin 2048) (k : Fin 1024) :
    (out0_7 (F := Ideal) (iblk m c 0 t) (iblk m c 1 t) (iblk m c 2 t) (iblk m c 3 t) (iblk m c 4 t) (iblk m c 5 t) (iblk m c 6 t)) (ix2 r k)
      = ∑ l : Fin 2048, A0 m c (ix2 (row t r) l) * A1 m c (ix2 (col t k) l) := by
  rw [show out0_7 (F := Ideal) (iblk m c 0 t) (iblk m c 1 t) (iblk m c 2 t) (iblk m c 3 t) (iblk m c 4 t) (iblk m c 5 t) (iblk m c 6 t)
      = k0_pay6 (F := Ideal) (iblk m c 0 t) (iblk m c 1 t) by frame_out]
  refine (pay6_at _ _ r k).trans (Finset.sum_congr rfl fun l _ => ?_)
  rw [b0 m c t r l, b1 m c t k l]

theorem final7 : (dats m 0 c).arrAt 7 (cfgs 0).N = G7 m c := by
  refine (dats m 0 c).arrAt_eq_of_covers 7 _ (by decide +kernel) fun t hf y => ?_
  blk_simp
  rw [after0_7]
  idx_vars y
  refine (out7 m c t y0 y1).trans ?_
  refine (congrArg (G7 m c) (?_ : ((cfg0.win 7).blk t).view.emb (ix2 y0 y1) = (ix2 (row t y0) (col t y1) : S8192x11264.Idx))).symm
  unfold row col; blk_ext [idx t]

theorem out8 (t : Fin cfg0.N) (r : Fin 64) (k : Fin 2048) :
    (out0_8 (F := Ideal) (iblk m c 0 t) (iblk m c 1 t) (iblk m c 2 t) (iblk m c 3 t) (iblk m c 4 t) (iblk m c 5 t) (iblk m c 6 t)) (ix2 r k)
      = A2 m c (ix3 0 (rowC t r) k) := by
  rw [show out0_8 (F := Ideal) (iblk m c 0 t) (iblk m c 1 t) (iblk m c 2 t) (iblk m c 3 t) (iblk m c 4 t) (iblk m c 5 t) (iblk m c 6 t)
      = k0_pay1 (F := Ideal) (iblk m c 2 t) by frame_out]
  refine (show k0_pay1 (F := Ideal) (iblk m c 2 t) (ix2 r k) = (iblk m c 2 t : FVec Ideal S64x2048 .f32) (ix2 r k) by pointwise [k0_pay1]).trans ?_
  unfold rowC; blk_ext! [iblk, V, idx t]

theorem final8 : (dats m 0 c).arrAt 8 (cfgs 0).N = G8 m c := by
  refine (dats m 0 c).arrAt_eq_of_covers 8 _ (by decide +kernel) fun t hf y => ?_
  blk_simp
  rw [after0_8]
  idx_vars y
  refine (out8 m c t y0 y1).trans ?_
  refine (congrArg (G8 m c) (?_ : ((cfg0.win 8).blk t).view.emb (ix2 y0 y1) = (ix2 (rowC t y0) y1 : S2048x2048.Idx))).symm
  unfold rowC; blk_ext [idx t]

theorem out9 (t : Fin cfg0.N) (r : Fin 64) (k : Fin 2048) :
    (out0_9 (F := Ideal) (iblk m c 0 t) (iblk m c 1 t) (iblk m c 2 t) (iblk m c 3 t) (iblk m c 4 t) (iblk m c 5 t) (iblk m c 6 t)) (ix2 r k)
      = A3 m c (ix3 0 (rowC t r) k) := by
  rw [show out0_9 (F := Ideal) (iblk m c 0 t) (iblk m c 1 t) (iblk m c 2 t) (iblk m c 3 t) (iblk m c 4 t) (iblk m c 5 t) (iblk m c 6 t)
      = k0_pay2 (F := Ideal) (iblk m c 3 t) by frame_out]
  refine (show k0_pay2 (F := Ideal) (iblk m c 3 t) (ix2 r k) = (iblk m c 3 t : FVec Ideal S64x2048 .f32) (ix2 r k) by pointwise [k0_pay2]).trans ?_
  unfold rowC; blk_ext! [iblk, V, idx t]

theorem final9 : (dats m 0 c).arrAt 9 (cfgs 0).N = G9 m c := by
  refine (dats m 0 c).arrAt_eq_of_covers 9 _ (by decide +kernel) fun t hf y => ?_
  blk_simp
  rw [after0_9]
  idx_vars y
  refine (out9 m c t y0 y1).trans ?_
  refine (congrArg (G9 m c) (?_ : ((cfg0.win 9).blk t).view.emb (ix2 y0 y1) = (ix2 (rowC t y0) y1 : S2048x2048.Idx))).symm
  unfold rowC; blk_ext [idx t]

theorem out10 (t : Fin cfg0.N) (r : Fin 64) (k : Fin 5632) :
    (out0_10 (F := Ideal) (iblk m c 0 t) (iblk m c 1 t) (iblk m c 2 t) (iblk m c 3 t) (iblk m c 4 t) (iblk m c 5 t) (iblk m c 6 t)) (ix2 r k)
      = A4 m c (ix3 0 (rowC t r) k) := by
  rw [show out0_10 (F := Ideal) (iblk m c 0 t) (iblk m c 1 t) (iblk m c 2 t) (iblk m c 3 t) (iblk m c 4 t) (iblk m c 5 t) (iblk m c 6 t)
      = k0_pay3 (F := Ideal) (iblk m c 4 t) by frame_out]
  refine (show k0_pay3 (F := Ideal) (iblk m c 4 t) (ix2 r k) = (iblk m c 4 t : FVec Ideal S64x5632 .f32) (ix2 r k) by pointwise [k0_pay3]).trans ?_
  unfold rowC; blk_ext! [iblk, V, idx t]

theorem final10 : (dats m 0 c).arrAt 10 (cfgs 0).N = G10 m c := by
  refine (dats m 0 c).arrAt_eq_of_covers 10 _ (by decide +kernel) fun t hf y => ?_
  blk_simp
  rw [after0_10]
  idx_vars y
  refine (out10 m c t y0 y1).trans ?_
  refine (congrArg (G10 m c) (?_ : ((cfg0.win 10).blk t).view.emb (ix2 y0 y1) = (ix2 (rowC t y0) y1 : S2048x5632.Idx))).symm
  unfold rowC; blk_ext [idx t]

theorem out11 (t : Fin cfg0.N) (r : Fin 64) (k : Fin 5632) :
    (out0_11 (F := Ideal) (iblk m c 0 t) (iblk m c 1 t) (iblk m c 2 t) (iblk m c 3 t) (iblk m c 4 t) (iblk m c 5 t) (iblk m c 6 t)) (ix2 r k)
      = A5 m c (ix3 0 (rowC t r) k) := by
  rw [show out0_11 (F := Ideal) (iblk m c 0 t) (iblk m c 1 t) (iblk m c 2 t) (iblk m c 3 t) (iblk m c 4 t) (iblk m c 5 t) (iblk m c 6 t)
      = k0_pay4 (F := Ideal) (iblk m c 5 t) by frame_out]
  refine (show k0_pay4 (F := Ideal) (iblk m c 5 t) (ix2 r k) = (iblk m c 5 t : FVec Ideal S64x5632 .f32) (ix2 r k) by pointwise [k0_pay4]).trans ?_
  unfold rowC; blk_ext! [iblk, V, idx t]

theorem final11 : (dats m 0 c).arrAt 11 (cfgs 0).N = G11 m c := by
  refine (dats m 0 c).arrAt_eq_of_covers 11 _ (by decide +kernel) fun t hf y => ?_
  blk_simp
  rw [after0_11]
  idx_vars y
  refine (out11 m c t y0 y1).trans ?_
  refine (congrArg (G11 m c) (?_ : ((cfg0.win 11).blk t).view.emb (ix2 y0 y1) = (ix2 (rowC t y0) y1 : S2048x5632.Idx))).symm
  unfold rowC; blk_ext [idx t]

theorem out12 (t : Fin cfg0.N) (r : Fin 128) (k : Fin 2048) :
    (out0_12 (F := Ideal) (iblk m c 0 t) (iblk m c 1 t) (iblk m c 2 t) (iblk m c 3 t) (iblk m c 4 t) (iblk m c 5 t) (iblk m c 6 t)) (ix2 r k)
      = A6 m c (ix3 0 (rowD t r) k) := by
  rw [show out0_12 (F := Ideal) (iblk m c 0 t) (iblk m c 1 t) (iblk m c 2 t) (iblk m c 3 t) (iblk m c 4 t) (iblk m c 5 t) (iblk m c 6 t)
      = k0_pay5 (F := Ideal) (iblk m c 6 t) by frame_out]
  refine (show k0_pay5 (F := Ideal) (iblk m c 6 t) (ix2 r k) = (iblk m c 6 t : FVec Ideal S128x2048 .f32) (ix2 r k) by pointwise [k0_pay5]).trans ?_
  unfold rowD; blk_ext! [iblk, V, idx t]

theorem final12 : (dats m 0 c).arrAt 12 (cfgs 0).N = G12 m c := by
  refine (dats m 0 c).arrAt_eq_of_covers 12 _ (by decide +kernel) fun t hf y => ?_
  blk_simp
  rw [after0_12]
  idx_vars y
  refine (out12 m c t y0 y1).trans ?_
  refine (congrArg (G12 m c) (?_ : ((cfg0.win 12).blk t).view.emb (ix2 y0 y1) = (ix2 (rowD t y0) y1 : S5632x2048.Idx))).symm
  unfold rowD; blk_ext [idx t]

theorem match7 : Cert.Reference3Ideal.Read.O0 (A0 m c) (A1 m c) = G7 m c := by
  funext j
  idx_vars j
  exact Cert.Reference3Ideal.Read.O0_at _ _ j0 j1
theorem match8 : Cert.Reference3Ideal.Read.CS (A2 m c) = G8 m c := by
  funext j
  idx_vars j
  exact Cert.Reference3Ideal.Read.CS_at _ j0 j1
theorem match9 : Cert.Reference3Ideal.Read.CS (A3 m c) = G9 m c := by
  funext j
  idx_vars j
  exact Cert.Reference3Ideal.Read.CS_at _ j0 j1
theorem match10 : Cert.Reference3Ideal.Read.CW (A4 m c) = G10 m c := by
  funext j
  idx_vars j
  exact Cert.Reference3Ideal.Read.CW_at _ j0 j1
theorem match11 : Cert.Reference3Ideal.Read.CW (A5 m c) = G11 m c := by
  funext j
  idx_vars j
  exact Cert.Reference3Ideal.Read.CW_at _ j0 j1
theorem match12 : Cert.Reference3Ideal.Read.CT (A6 m c) = G12 m c := by
  funext j
  idx_vars j
  exact Cert.Reference3Ideal.Read.CT_at _ j0 j1

end Cert.Kernel3Ideal.Blocks
-- ==== Proof.Merge.lean ====
/- The merge of the two branches: the result array of the kernel and of the reference. -/
module

public import proofs.«01_k».proof.Proof.Spec
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack

@[expose] public section

set_option maxRecDepth 16384

noncomputable section

namespace Layer

/-- The merged row of the two gated branches, at column `j`. -/
def mrg (p : Fin 11264 → EReal) (b : Fin 4096 → EReal) (og orw : Fin 1024 → EReal) (wb : Fin 2048 → Fin 2048 → EReal) (j : Fin 2048) : EReal :=
  sigm (p ⟨7168 + j, by omega⟩ + b ⟨j, by omega⟩) * (∑ l : Fin 1024, og l * wb ⟨l, by omega⟩ j)
    + sigm (p ⟨7168 + (2048 + j), by omega⟩ + b ⟨2048 + j, by omega⟩) * (∑ l : Fin 1024, orw l * wb ⟨1024 + l, by omega⟩ j)

/-- The row after the output projection and the residual, at column `k`. -/
def mout (x : Fin 2048 → EReal) (p : Fin 11264 → EReal) (b : Fin 4096 → EReal) (og orw : Fin 1024 → EReal) (wb wo : Fin 2048 → Fin 2048 → EReal) (k : Fin 2048) : EReal :=
  x k + ∑ j : Fin 2048, mrg p b og orw wb j * wo j k

end Layer

namespace Cert.Reference4Ideal.Read

open Cert.Reference4Ideal Cert.Reference4Ideal.Gen Idealize.ShloMosaic Idealize.ShloMosaic.TcCoe Layer

/-- The reference's gates, and its result. -/
def GT (p : FVec Ideal S8192x11264 .f32) (b : FVec Ideal S1x4096 .f32) : FVec Ideal S8192x4096 .f32 :=
  Host.divf (broadcastInDim S8192x4096 ![] bcast_S_S8192x4096 (constant S_ .f32 0x3F800000#32)) (addf (broadcastInDim S8192x4096 ![] bcast_S_S8192x4096 (constant S_ .f32 0x3F800000#32)) (Host.exp (Host.negf (addf (extractStridedSlice S8192x4096 ![0, 7168] p slices_S8192x11264_S8192x4096_0_7168) (broadcastInDim S8192x4096 ![0, 1] bcast_S1x4096_S8192x4096_0_1 (broadcastInDim S1x4096 ![1] bcast_S4096_S1x4096_1 (shapeCast _ b shapeCasts_S1x4096_S4096)))))))

def O (x : FVec Ideal S8192x2048 .f32) (og orw : FVec Ideal S8192x1024 .bf16) (p : FVec Ideal S8192x11264 .f32) (b : FVec Ideal S1x4096 .f32)
    (wb wo : FVec Ideal S2048x2048 .bf16) : FVec Ideal S8192x2048 .f32 :=
  addf x (Host.dotGeneral dot_S8192x2048_S2048x2048_S8192x2048_1_0_0_1_n_n none (addf (mulf (extractStridedSlice S8192x2048 ![0, 0] (GT p b) slices_S8192x4096_S8192x2048_0_0) (Host.dotGeneral dot_S8192x1024_S1024x2048_S8192x2048_1_0_0_1_n_n none (extf .f32 og bitsLt_bf16_f32) (extf .f32 (extractStridedSlice S1024x2048 ![0, 0] wb slices_S2048x2048_S1024x2048_0_0) bitsLt_bf16_f32))) (mulf (extractStridedSlice S8192x2048 ![0, 2048] (GT p b) slices_S8192x4096_S8192x2048_0_2048) (Host.dotGeneral dot_S8192x1024_S1024x2048_S8192x2048_1_0_0_1_n_n none (extf .f32 orw bitsLt_bf16_f32) (extf .f32 (extractStridedSlice S1024x2048 ![1024, 0] wb slices_S2048x2048_S1024x2048_1024_0) bitsLt_bf16_f32)))) (extf .f32 wo bitsLt_bf16_f32))

theorem GT_at (p : FVec Ideal S8192x11264 .f32) (b : FVec Ideal S1x4096 .f32) (r : Fin 8192) (k : Fin 4096) :
    GT p b (ix2 r k) = sigm (p (ix2 r ⟨7168 + k, by omega⟩) + b (ix2 0 k)) := by
  pointwise [GT, sigm]

theorem O_at (x : FVec Ideal S8192x2048 .f32) (og orw : FVec Ideal S8192x1024 .bf16) (p : FVec Ideal S8192x11264 .f32) (b : FVec Ideal S1x4096 .f32)
    (wb wo : FVec Ideal S2048x2048 .bf16) (r : Fin 8192) (k : Fin 2048) :
    O x og orw p b wb wo (ix2 r k) = mout (fun l => x (ix2 r l)) (fun l => p (ix2 r l)) (fun l => b (ix2 0 l)) (fun l => og (ix2 r l)) (fun l => orw (ix2 r l))
      (fun i j => wb (ix2 i j)) (fun i j => wo (ix2 i j)) k := by
  pointwise [O, GT_at, mout, mrg]

end Cert.Reference4Ideal.Read

namespace Cert.Kernel4Ideal.Blocks

open Cert.Kernel4Ideal Cert.Kernel4Ideal.Gen Idealize.ShloMosaic Idealize.ShloMosaic.TcCoe Idealize.SL.Sem Layer
open Idealize.ShloMosaic.Pipeline (Dat)

variable (m : (ℓ : Loc nD τ sig) → Buf (Elt Ideal) ℓ) (c : Dev nD)

abbrev A0 : FVec Ideal S8192x2048 .f32 := m ((c : Thread nD τ).loc main_arg0)
abbrev A1 : FVec Ideal S8192x1024 .bf16 := m ((c : Thread nD τ).loc main_arg1)
abbrev A2 : FVec Ideal S8192x1024 .bf16 := m ((c : Thread nD τ).loc main_arg2)
abbrev A3 : FVec Ideal S8192x11264 .f32 := m ((c : Thread nD τ).loc main_arg3)
abbrev A4 : FVec Ideal S1x4096 .f32 := m ((c : Thread nD τ).loc main_arg4)
abbrev A5 : FVec Ideal S2048x2048 .bf16 := m ((c : Thread nD τ).loc main_arg5)
abbrev A6 : FVec Ideal S2048x2048 .bf16 := m ((c : Thread nD τ).loc main_arg6)

theorem N_lt (t : Fin cfg0.N) : t.val < 32 := lt_of_lt_of_eq t.isLt N_0

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![1, 0] ∧ win0_6.index t = ![0, 0]
    ∧ win0_7.index t = ![t.val, 7] ∧ win0_8.index t = ![t.val, 8] ∧ win0_9.index t = ![t.val, 9] ∧ win0_10.index t = ![t.val, 10] ∧ win0_11.index t = ![t.val, 0] :=
  (by decide +kernel : ∀ t : Fin grid0.N, _)

/-- The rows of a point's blocks. -/
def row (t : Fin cfg0.N) (r : Fin 256) : Fin 8192 := ⟨t.val * 256 + r, by have := N_lt t; omega⟩

theorem b0 (t : Fin cfg0.N) (r : Fin 256) (l : Fin 2048) : (iblk m c 0 t : FVec Ideal S256x2048 .f32) (ix2 r l) = A0 m c (ix2 (row t r) l) := by
  unfold row; blk_ext! [iblk, V, idx t]
theorem b1 (t : Fin cfg0.N) (r : Fin 256) (l : Fin 1024) : (iblk m c 1 t : FVec Ideal S256x1024 .bf16) (ix2 r l) = A1 m c (ix2 (row t r) l) := by
  unfold row; blk_ext! [iblk, V, idx t]
theorem b2 (t : Fin cfg0.N) (r : Fin 256) (l : Fin 1024) : (iblk m c 2 t : FVec Ideal S256x1024 .bf16) (ix2 r l) = A2 m c (ix2 (row t r) l) := by
  unfold row; blk_ext! [iblk, V, idx t]
theorem b3 (t : Fin cfg0.N) (l : Fin 4096) : (iblk m c 3 t : FVec Ideal S1x4096 .f32) (ix2 0 l) = A4 m c (ix2 0 l) := by
  blk_ext! [iblk, V, idx t]
theorem b4 (t : Fin cfg0.N) (i : Fin 1024) (j : Fin 2048) : (iblk m c 4 t : FVec Ideal S1024x2048 .bf16) (ix2 i j) = A5 m c (ix2 ⟨i, by omega⟩ j) := by
  blk_ext! [iblk, V, idx t]
theorem b5 (t : Fin cfg0.N) (i : Fin 1024) (j : Fin 2048) : (iblk m c 5 t : FVec Ideal S1024x2048 .bf16) (ix2 i j) = A5 m c (ix2 ⟨1024 + i, by omega⟩ j) := by
  blk_ext! [iblk, V, idx t]
theorem b6 (t : Fin cfg0.N) (i j : Fin 2048) : (iblk m c 6 t : FVec Ideal S2048x2048 .bf16) (ix2 i j) = A6 m c (ix2 i j) := by
  blk_ext! [iblk, V, idx t]
theorem b7 (t : Fin cfg0.N) (r : Fin 256) (l : Fin 1024) : (iblk m c 7 t : FVec Ideal S256x1024 .f32) (ix2 r l) = A3 m c (ix2 (row t r) ⟨7168 + l, by omega⟩) := by
  unfold row; blk_ext! [iblk, V, idx t]
theorem b8 (t : Fin cfg0.N) (r : Fin 256) (l : Fin 1024) : (iblk m c 8 t : FVec Ideal S256x1024 .f32) (ix2 r l) = A3 m c (ix2 (row t r) ⟨8192 + l, by omega⟩) := by
  unfold row; blk_ext! [iblk, V, idx t]
theorem b9 (t : Fin cfg0.N) (r : Fin 256) (l : Fin 1024) : (iblk m c 9 t : FVec Ideal S256x1024 .f32) (ix2 r l) = A3 m c (ix2 (row t r) ⟨9216 + l, by omega⟩) := by
  unfold row; blk_ext! [iblk, V, idx t]
theorem b10 (t : Fin cfg0.N) (r : Fin 256) (l : Fin 1024) : (iblk m c 10 t : FVec Ideal S256x1024 .f32) (ix2 r l) = A3 m c (ix2 (row t r) ⟨10240 + l, by omega⟩) := by
  unfold row; blk_ext! [iblk, V, idx t]

/-- The payload of the left half of the merged block. -/
theorem pay3_at (v0 : FVec Ideal S256x1024 .bf16) (v1 : FVec Ideal S1024x2048 .bf16) (v3 : FVec Ideal S256x1024 .bf16) (v4 : FVec Ideal S1024x2048 .bf16)
    (v6 : FVec Ideal S256x1024 .f32) (v7 : FVec Ideal S1x1024 .f32) (v18 : FVec Ideal S256x1024 .f32) (v19 : FVec Ideal S1x1024 .f32) (r : Fin 256) (j : Fin 1024) :
    k0_pay3 (F := Ideal) v0 v1 v3 v4 v6 v7 v18 v19 (ix2 r j)
      = sigm (v6 (ix2 r j) + v7 (ix2 0 j)) * (∑ l : Fin 1024, v0 (ix2 r l) * v1 (ix2 l ⟨j, by omega⟩))
        + sigm (v18 (ix2 r j) + v19 (ix2 0 j)) * (∑ l : Fin 1024, v3 (ix2 r l) * v4 (ix2 l ⟨j, by omega⟩)) := by
  rw [← tanh_sig, ← tanh_sig]
  pointwise [k0_pay3, k0_pay1, k0_pay2]

/-- The payload of the right half. -/
def HI (v2 v5 : FVec Ideal S256x2048 .f32) (v36 : FVec Ideal S256x1024 .f32) (v37 : FVec Ideal S1x1024 .f32) (v48 : FVec Ideal S256x1024 .f32) (v49 : FVec Ideal S1x1024 .f32)
    (r : Fin 256) (j : Fin 1024) : EReal :=
  (cH + cH * Ideal.tanh (cH * (v36 (ix2 r j) + v37 (ix2 0 j)))) * v2 (ix2 r ⟨1024 + j, by omega⟩)
    + (cH + cH * Ideal.tanh (cH * (v48 (ix2 r j) + v49 (ix2 0 j)))) * v5 (ix2 r ⟨1024 + j, by omega⟩)

theorem pay4_at (v2 v5 : FVec Ideal S256x2048 .f32) (v34 : FVec Ideal S256x1024 .f32) (v36 : FVec Ideal S256x1024 .f32) (v37 : FVec Ideal S1x1024 .f32)
    (v48 : FVec Ideal S256x1024 .f32) (v49 : FVec Ideal S1x1024 .f32) (v66 : FVec Ideal S256x2048 .f32) (v68 : FVec Ideal S2048x2048 .bf16) (r : Fin 256) (k : Fin 2048) :
    k0_pay4 (F := Ideal) v2 v5 v34 v36 v37 v48 v49 v66 v68 (ix2 r k)
      = v66 (ix2 r k) + ∑ j : Fin 2048, (if h : j.val < 1024 then v34 (ix2 r ⟨j, h⟩) else HI v2 v5 v36 v37 v48 v49 r ⟨j - 1024, by omega⟩) * v68 (ix2 j k) := by
  pointwise [k0_pay4, HI]

theorem pay1_at (v0 : FVec Ideal S256x1024 .bf16) (v1 : FVec Ideal S1024x2048 .bf16) (r : Fin 256) (j : Fin 2048) :
    k0_pay1 (F := Ideal) v0 v1 (ix2 r j) = ∑ l : Fin 1024, v0 (ix2 r l) * v1 (ix2 l j) := by
  pointwise [k0_pay1]
theorem pay2_at (v0 : FVec Ideal S256x1024 .bf16) (v1 : FVec Ideal S1024x2048 .bf16) (r : Fin 256) (j : Fin 2048) :
    k0_pay2 (F := Ideal) v0 v1 (ix2 r j) = ∑ l : Fin 1024, v0 (ix2 r l) * v1 (ix2 l j) := by
  pointwise [k0_pay2]

/-- The four pieces of the bias row. -/
def B0 (b : FVec Ideal S1x4096 .f32) : FVec Ideal S1x1024 .f32 := View.ld (Val := Elt Ideal) (e' := .f32) b r0_2
def B1 (b : FVec Ideal S1x4096 .f32) : FVec Ideal S1x1024 .f32 := View.ld (Val := Elt Ideal) (e' := .f32) b r0_4
def B2 (b : FVec Ideal S1x4096 .f32) : FVec Ideal S1x1024 .f32 := View.ld (Val := Elt Ideal) (e' := .f32) b r0_3
def B3 (b : FVec Ideal S1x4096 .f32) : FVec Ideal S1x1024 .f32 := View.ld (Val := Elt Ideal) (e' := .f32) b r0_5
theorem B0_at (b : FVec Ideal S1x4096 .f32) (j : Fin 1024) : B0 b (ix2 0 j) = b (ix2 0 ⟨j, by omega⟩) := by pointwise [B0]
theorem B1_at (b : FVec Ideal S1x4096 .f32) (j : Fin 1024) : B1 b (ix2 0 j) = b (ix2 0 ⟨1024 + j, by omega⟩) := by pointwise [B1]
theorem B2_at (b : FVec Ideal S1x4096 .f32) (j : Fin 1024) : B2 b (ix2 0 j) = b (ix2 0 ⟨2048 + j, by omega⟩) := by pointwise [B2]
theorem B3_at (b : FVec Ideal S1x4096 .f32) (j : Fin 1024) : B3 b (ix2 0 j) = b (ix2 0 ⟨3072 + j, by omega⟩) := by pointwise [B3]

/-- The result array. -/
def G11 : FVec Ideal S8192x2048 .f32 := fun j =>
  mout (fun l => A0 m c (ix2 (j 0) l)) (fun l => A3 m c (ix2 (j 0) l)) (fun l => A4 m c (ix2 0 l)) (fun l => A1 m c (ix2 (j 0) l)) (fun l => A2 m c (ix2 (j 0) l))
    (fun i j => A5 m c (ix2 i j)) (fun i j => A6 m c (ix2 i j)) (j 1)

theorem match11 : Cert.Reference4Ideal.Read.O (A0 m c) (A1 m c) (A2 m c) (A3 m c) (A4 m c) (A5 m c) (A6 m c) = G11 m c := by
  funext j
  idx_vars j
  exact Cert.Reference4Ideal.Read.O_at _ _ _ _ _ _ _ j0 j1

theorem mrg_of {p : Fin 11264 → EReal} {b : Fin 4096 → EReal} {og orw : Fin 1024 → EReal} {wb : Fin 2048 → Fin 2048 → EReal} {j : Fin 2048}
    {p0 b0 p1 b1 : EReal} {w0 w1 : Fin 1024 → EReal}
    (e0 : p0 = p ⟨7168 + j, by omega⟩) (f0 : b0 = b ⟨j, by omega⟩) (e1 : p1 = p ⟨7168 + (2048 + j), by omega⟩) (f1 : b1 = b ⟨2048 + j, by omega⟩)
    (g0 : ∀ l : Fin 1024, w0 l = wb ⟨l, by omega⟩ j) (g1 : ∀ l : Fin 1024, w1 l = wb ⟨1024 + l, by omega⟩ j) :
    sigm (p0 + b0) * (∑ l : Fin 1024, og l * w0 l) + sigm (p1 + b1) * (∑ l : Fin 1024, orw l * w1 l) = mrg p b og orw wb j := by
  subst e0 f0 e1 f1
  rw [funext g0, funext g1]; rfl

theorem out11 (t : Fin cfg0.N) (r : Fin 256) (k : Fin 2048) :
    (out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2 r k)
      = G11 m c (ix2 (row t r) k) := by
  rw [show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)
      = k0_pay4 (F := Ideal) (k0_pay1 (iblk m c 1 t) (iblk m c 4 t)) (k0_pay2 (iblk m c 2 t) (iblk m c 5 t))
          (k0_pay3 (iblk m c 1 t) (iblk m c 4 t) (iblk m c 2 t) (iblk m c 5 t) (iblk m c 7 t) (B0 (iblk m c 3 t)) (iblk m c 9 t) (B2 (iblk m c 3 t)))
          (iblk m c 8 t) (B1 (iblk m c 3 t)) (iblk m c 10 t) (B3 (iblk m c 3 t)) (iblk m c 0 t) (iblk m c 6 t) by unfold B0 B1 B2 B3; frame_out]
  refine (pay4_at _ _ _ _ _ _ _ _ _ r k).trans ?_
  refine congrArg₂ (· + ·) (b0 m c t r k) (Finset.sum_congr rfl fun j _ => congrArg₂ (· * ·) ?_ (b6 m c t j k))
  by_cases h : j.val < 1024
  · rw [dif_pos h, pay3_at, B0_at, B2_at, b3 m c t, b3 m c t]
    simp only [b1 m c t r, b2 m c t r]
    exact mrg_of (b7 m c t r _) rfl ((b9 m c t r _).trans (congrArg (fun i => A3 m c (ix2 (row t r) i)) (Fin.ext (show 9216 + j.val = 7168 + (2048 + j.val) by omega)))) rfl
      (fun l => b4 m c t l _) (fun l => b5 m c t l _)
  · rw [dif_neg h, HI, tanh_sig, tanh_sig, pay1_at, pay2_at, B1_at, B3_at, b3 m c t, b3 m c t]
    simp only [b1 m c t r, b2 m c t r]
    have hj : (⟨1024 + (j.val - 1024), by omega⟩ : Fin 2048) = j := Fin.ext (show 1024 + (j.val - 1024) = j.val by omega)
    refine mrg_of ((b8 m c t r _).trans (congrArg (fun i => A3 m c (ix2 (row t r) i)) (Fin.ext (show 8192 + (j.val - 1024) = 7168 + j.val by omega))))
      (congrArg (fun i => A4 m c (ix2 0 i)) (Fin.ext (show 1024 + (j.val - 1024) = j.val by omega)))
      ((b10 m c t r _).trans (congrArg (fun i => A3 m c (ix2 (row t r) i)) (Fin.ext (show 10240 + (j.val - 1024) = 7168 + (2048 + j.val) by omega))))
      (congrArg (fun i => A4 m c (ix2 0 i)) (Fin.ext (show 3072 + (j.val - 1024) = 2048 + j.val by omega)))
      (fun l => (b4 m c t l _).trans (congrArg (fun i => A5 m c (ix2 ⟨l, by omega⟩ i)) hj))
      (fun l => (b5 m c t l _).trans (congrArg (fun i => A5 m c (ix2 ⟨1024 + l, by omega⟩ i)) hj))

theorem final11 : (dats m 0 c).arrAt 11 (cfgs 0).N = G11 m c := by
  refine (dats m 0 c).arrAt_eq_of_covers 11 _ (by decide +kernel) fun t hf y => ?_
  blk_simp
  rw [after0_11]
  idx_vars y
  refine (out11 m c t y0 y1).trans ?_
  refine (congrArg (G11 m c) (?_ : ((cfg0.win 11).blk t).view.emb (ix2 y0 y1) = (ix2 (row t y0) y1 : S8192x2048.Idx))).symm
  unfold row; blk_ext [idx t]

end Cert.Kernel4Ideal.Blocks
-- ==== Proof.GlaSpec.lean ====
/- The gated linear attention at the ideal values, as functions of natural indices: the log decay, its running sums inside a
   chunk, the decayed keys, a chunk's increment, the states at the ends of the chunks, and the gated output. -/
module

public import proofs.«01_k».proof.Proof.Spec

@[expose] public section

noncomputable section

namespace Gla

open Idealize.ShloMosaic Layer

/-- An array of two axes at natural indices, zero outside. -/
def n2 {a b : ℕ} (x : (⟨2, ![a, b]⟩ : Shape).Idx → EReal) (R C : ℕ) : EReal :=
  if h : R < a ∧ C < b then x (ix2 ⟨R, h.1⟩ ⟨C, h.2⟩) else 0
theorem n2_at {a b : ℕ} (x : (⟨2, ![a, b]⟩ : Shape).Idx → EReal) (R : Fin a) (C : Fin b) : x (ix2 R C) = n2 x R.val C.val := by
  unfold n2; rw [dif_pos ⟨R.isLt, C.isLt⟩]

/-- A stack of one array of two axes at natural indices, zero outside. -/
def n3 {a b : ℕ} (x : (⟨3, ![1, a, b]⟩ : Shape).Idx → EReal) (R C : ℕ) : EReal :=
  if h : R < a ∧ C < b then x (ix3 0 ⟨R, h.1⟩ ⟨C, h.2⟩) else 0
theorem n3_at {a b : ℕ} (x : (⟨3, ![1, a, b]⟩ : Shape).Idx → EReal) (R : Fin a) (C : Fin b) : x (ix3 0 R C) = n3 x R.val C.val := by
  unfold n3; rw [dif_pos ⟨R.isLt, C.isLt⟩]

/-- The f32 constants of the two programs. -/
abbrev c16 : EReal := Ideal.ofBits .f32 0x41800000#32
abbrev cS : EReal := Ideal.ofBits .f32 0x3DB504F3#32
abbrev c256 : EReal := Ideal.ofBits .f32 0x43800000#32

/-- The softplus of `z`. -/
def sp (z : EReal) : EReal := max z 0 + Ideal.log (1 + Ideal.exp (-(max z (-z))))

/-- The log decay of a preactivation. -/
def lsig (z : EReal) : EReal := Ideal.div (-(sp (-z))) c16

theorem exp_nonneg (x : EReal) : 0 ≤ Ideal.exp x := by
  induction x using EReal.rec with
  | bot => exact le_refl _
  | top => exact le_top
  | coe r => rw [Ideal.exp_coe]; exact_mod_cast (Real.exp_pos r).le

theorem log_nonneg {x : EReal} (h : 1 ≤ x) : 0 ≤ Ideal.log x := by
  induction x using EReal.rec with
  | bot => exact absurd h (not_le.mpr (EReal.bot_lt_coe 1))
  | top => exact le_top
  | coe r =>
    have h1 : (1 : ℝ) ≤ r := by exact_mod_cast h
    rw [Ideal.log_coe, if_neg (by linarith)]
    exact_mod_cast Real.log_nonneg h1

theorem sp_nonneg (z : EReal) : 0 ≤ sp z := by
  unfold sp
  refine add_nonneg (le_max_right _ _) (log_nonneg ?_)
  have := add_le_add (le_refl (1 : EReal)) (exp_nonneg (-(max z (-z))))
  rwa [add_zero] at this

theorem c16_eq : c16 = ((16 : ℝ) : EReal) := by
  simp [c16, Ideal.ofBits, Ideal.ieee, -EReal.coe_mul]; norm_num
theorem c16i_eq : Ideal.ofBits .f32 0x3D800000#32 = ((1 / 16 : ℝ) : EReal) := by
  simp [Ideal.ofBits, Ideal.ieee, -EReal.coe_mul]; norm_num

theorem lsig_mul (z : EReal) : -(sp (-z)) * Ideal.ofBits .f32 0x3D800000#32 = lsig z := by
  unfold lsig
  rw [c16i_eq, c16_eq, Ideal.div_coe (by norm_num)]

theorem lsig_nonpos (z : EReal) : lsig z ≤ 0 := by
  rw [← lsig_mul, c16i_eq]
  have h : -(sp (-z)) ≤ 0 := by
    have := EReal.neg_le_neg_iff.mpr (sp_nonneg (-z)); rwa [neg_zero] at this
  exact mul_nonpos_of_nonpos_of_nonneg h (by exact_mod_cast (by norm_num : (0 : ℝ) ≤ 1 / 16))

/-- A value and what is left of it after its high part is taken away. -/
theorem split_eq {f : EReal} (h : f ≤ 0) : f + (f - f) = f := by
  induction f using EReal.rec with
  | bot => rfl
  | top => exact absurd h (by simp)
  | coe r => rw [← EReal.coe_sub, ← EReal.coe_add]; simp

/-- A masked sum of the high parts and of the rests is the sum over the mask. -/
theorem split_sum {n : ℕ} (q : Fin n → Prop) [DecidablePred q] (f : Fin n → EReal) (h : ∀ i, f i ≤ 0) (z o : EReal) (hz : z = 0) (ho : o = 1) :
    ∑ i, (if q i then o else z) * f i + ∑ i, (if q i then o else z) * (f i - f i) = ∑ i, if q i then f i else 0 := by
  subst hz ho
  rw [← Finset.sum_add_distrib]
  refine Finset.sum_congr rfl fun i _ => ?_
  by_cases hq : q i
  · simp only [if_pos hq, one_mul]; exact split_eq (h i)
  · simp only [if_neg hq, zero_mul, add_zero]

section
variable (P W : ℕ → ℕ → EReal) (B G : ℕ → EReal)

/-- The log decay of row `R`, key column `K`. -/
def la (R K : ℕ) : EReal := lsig (∑ d : Fin 16, P R (6656 + d.val) * W d.val K + B K)
/-- Its sum over the first rows of chunk `N`, up to row `c`. -/
def cum (N c K : ℕ) : EReal := ∑ s : Fin 64, if s.val ≤ c then la P W B (64 * N + s.val) K else 0
/-- The decayed key. -/
def kd (N c K : ℕ) : EReal := P (64 * N + c) (4096 + K) * Ideal.exp (cum P W B N 63 K - cum P W B N c K)
/-- The increment of chunk `N` to head `h`'s state. -/
def inc (N h k v : ℕ) : EReal := ∑ c : Fin 64, kd P W B N c.val (128 * h + k) * P (64 * N + c.val) (4608 + 256 * h + v)
/-- Head `h`'s state of batch `b` after `n` chunks. -/
def st (b h k v : ℕ) : ℕ → EReal
  | 0 => 0
  | n + 1 => Ideal.exp (cum P W B (64 * b + n) 63 (128 * h + k)) * st b h k v n + inc P W B (64 * b + n) h k v
/-- The output of row `R` (its chunk `N`, with the state after it), before the normalisation. -/
def oo (R h v : ℕ) : EReal :=
  ∑ k : Fin 128, P R (3584 + 128 * h + k.val) * cS * st P W B (R / 4096) h k.val v (R % 4096 / 64 + 1)
/-- The normalised output times its gate. -/
def res (R h v : ℕ) : EReal :=
  oo P W B R h v * Ideal.rsqrt (Ideal.div (∑ w : Fin 256, oo P W B R h w.val * oo P W B R h w.val) c256 + cE) * G v
    * (P R (5632 + 256 * h + v) * sigm (P R (5632 + 256 * h + v)))
end

theorem dite_inst {α : Type} {p q : Prop} {ip : Decidable p} {iq : Decidable q} (h : p ↔ q) {a : p → α} {b : q → α} {c : α} (hab : ∀ h1 h2, a h1 = b h2) :
    (if h1 : p then a h1 else c) = if h2 : q then b h2 else c := by
  by_cases h1 : p
  · rw [dif_pos h1, dif_pos (h.mp h1)]; exact hab _ _
  · rw [dif_neg h1, dif_neg (fun h2 => h1 (h.mpr h2))]

/-- A left fold of sums from zero is the sum. -/
theorem foldl_sum {n : ℕ} (g : Fin n → EReal) : ∀ (l : List (Fin n)) (r : EReal), l.foldl (fun r i => r + g i) r = r + (l.map g).sum
  | [], r => by simp
  | a :: l, r => by rw [List.foldl_cons, foldl_sum g l, List.map_cons, List.sum_cons, add_assoc]

/-- The window of the running sum, turned around. -/
theorem window_sum (x : ℕ → EReal) (j : ℕ) (hj : j < 64) :
    (∑ n : Fin 64, if 63 ≤ j + n.val then x (j + n.val - 63) else 0) = ∑ s : Fin 64, if s.val ≤ j then x s.val else 0 := by
  rw [← Finset.sum_filter, ← Finset.sum_filter]
  refine Finset.sum_bij' (fun n hn => ⟨j + n.val - 63, by omega⟩) (fun s hs => ⟨s.val + 63 - j, by
    have := (Finset.mem_filter.mp hs).2; omega⟩) ?_ ?_ ?_ ?_ ?_
  · intro n hn; have := (Finset.mem_filter.mp hn).2; simp only [Finset.mem_filter, Finset.mem_univ, true_and]; omega
  · intro s hs; have := (Finset.mem_filter.mp hs).2; simp only [Finset.mem_filter, Finset.mem_univ, true_and]; omega
  · intro n hn; have := (Finset.mem_filter.mp hn).2; apply Fin.ext; simp only; omega
  · intro s hs; have := (Finset.mem_filter.mp hs).2; apply Fin.ext; simp only; omega
  · intro n hn; rfl

abbrev W5 : Shape := ⟨5, ![1, 1, 64, 1, 1]⟩
def w5 (n : Fin 64) : W5.Idx := ix5 0 0 n 0 0
def eW : W5.Idx ≃ Fin 64 where
  toFun i := i 2
  invFun := w5
  left_inv i := by
    funext a
    fin_cases a
    · exact Subsingleton.elim (α := Fin 1) _ _
    · exact Subsingleton.elim (α := Fin 1) _ _
    · rfl
    · exact Subsingleton.elim (α := Fin 1) _ _
    · exact Subsingleton.elim (α := Fin 1) _ _
  right_inv n := rfl

/-- The host's running sum along the third of five axes of a block of 64. -/
theorem cumsum5 {a b d e : ℕ} (x : (⟨5, ![a, b, 64, d, e]⟩ : Shape).Idx → EReal) (init : (⟨0, ![]⟩ : Shape).Idx → EReal) (hi : ∀ i, init i = 0)
    (h : (⟨5, ![a, b, 64, d, e]⟩ : Shape).ReduceWindows (![1, 1, 64, 1, 1] : Fin 5 → ℕ) ![1, 1, 1, 1, 1] ![0, 0, 63, 0, 0] ![0, 0, 0, 0, 0] ⟨5, ![a, b, 64, d, e]⟩)
    (hu : 0 < (⟨0, ![]⟩ : Shape).numel) (A : Fin a) (B : Fin b) (j : Fin 64) (D : Fin d) (E : Fin e) :
    Host.reduceWindowAdd (F := Ideal) (φ := .f32) (![1, 1, 64, 1, 1] : Fin 5 → ℕ) ![1, 1, 1, 1, 1] ![0, 0, 63, 0, 0] ![0, 0, 0, 0, 0] x init h hu (ix5 A B j D E)
      = ∑ s : Fin 64, if s.val ≤ j.val then x (ix5 A B s D E) else 0 := by
  let f : ℕ → EReal := fun n => if hn : n < 64 then x (ix5 A B ⟨n, hn⟩ D E) else 0
  have hf : ∀ s : Fin 64, x (ix5 A B s D E) = f s.val := fun s => by simp only [f]; rw [dif_pos s.isLt]
  have key : ∀ (w : W5.Idx) [inst : Decidable (∀ q, (![0, 0, 63, 0, 0] : Fin 5 → ℕ) q ≤ ((ix5 A B j D E : (⟨5, ![a, b, 64, d, e]⟩ : Shape).Idx) (q.cast h.1.symm)).val * (![1, 1, 1, 1, 1] : Fin 5 → ℕ) q + (w q).val
        ∧ ((ix5 A B j D E : (⟨5, ![a, b, 64, d, e]⟩ : Shape).Idx) (q.cast h.1.symm)).val * (![1, 1, 1, 1, 1] : Fin 5 → ℕ) q + (w q).val - (![0, 0, 63, 0, 0] : Fin 5 → ℕ) q < (⟨5, ![a, b, 64, d, e]⟩ : Shape).size q)], (if hin : ∀ q, (![0, 0, 63, 0, 0] : Fin 5 → ℕ) q ≤ ((ix5 A B j D E : (⟨5, ![a, b, 64, d, e]⟩ : Shape).Idx) (q.cast h.1.symm)).val * (![1, 1, 1, 1, 1] : Fin 5 → ℕ) q + (w q).val
        ∧ ((ix5 A B j D E : (⟨5, ![a, b, 64, d, e]⟩ : Shape).Idx) (q.cast h.1.symm)).val * (![1, 1, 1, 1, 1] : Fin 5 → ℕ) q + (w q).val - (![0, 0, 63, 0, 0] : Fin 5 → ℕ) q < (⟨5, ![a, b, 64, d, e]⟩ : Shape).size q
        then x (fun q => ⟨((ix5 A B j D E : (⟨5, ![a, b, 64, d, e]⟩ : Shape).Idx) (q.cast h.1.symm)).val * (![1, 1, 1, 1, 1] : Fin 5 → ℕ) q + (w q).val - (![0, 0, 63, 0, 0] : Fin 5 → ℕ) q, (hin q).2⟩) else (0 : EReal))
      = if 63 ≤ j.val + (eW w).val then f (j.val + (eW w).val - 63) else 0 := by
    intro w inst
    have hw0 : (w 0).val = 0 := by have := (w 0).isLt; change _ < 1 at this; omega
    have hw1 : (w 1).val = 0 := by have := (w 1).isLt; change _ < 1 at this; omega
    have hw3 : (w 3).val = 0 := by have := (w 3).isLt; change _ < 1 at this; omega
    have hw4 : (w 4).val = 0 := by have := (w 4).isLt; change _ < 1 at this; omega
    have hw2 : (eW w).val = (w 2).val := rfl
    have hl : (w 2).val < 64 := (w 2).isLt
    have hA := A.isLt; have hB := B.isLt; have hD := D.isLt; have hE := E.isLt; have hj := j.isLt
    rw [hw2]
    split
    · next hin =>
      have h2 : 63 ≤ j.val * 1 + (w 2).val := (hin 2).1
      rw [if_pos (by omega)]
      simp only [f]
      rw [dif_pos (by omega)]
      refine congrArg x (funext fun q => Fin.ext ?_)
      fin_cases q
      · show A.val * 1 + (w 0).val - 0 = A.val; omega
      · show B.val * 1 + (w 1).val - 0 = B.val; omega
      · show j.val * 1 + (w 2).val - 63 = j.val + (w 2).val - 63; omega
      · show D.val * 1 + (w 3).val - 0 = D.val; omega
      · show E.val * 1 + (w 4).val - 0 = E.val; omega
    · next hin =>
      rw [if_neg]
      intro h63
      refine hin fun q => ?_
      fin_cases q
      · show 0 ≤ A.val * 1 + (w 0).val ∧ A.val * 1 + (w 0).val - 0 < a; omega
      · show 0 ≤ B.val * 1 + (w 1).val ∧ B.val * 1 + (w 1).val - 0 < b; omega
      · show 63 ≤ j.val * 1 + (w 2).val ∧ j.val * 1 + (w 2).val - 63 < 64; omega
      · show 0 ≤ D.val * 1 + (w 3).val ∧ D.val * 1 + (w 3).val - 0 < d; omega
      · show 0 ≤ E.val * 1 + (w 4).val ∧ E.val * 1 + (w 4).val - 0 < e; omega
  unfold Host.reduceWindowAdd
  rw [hi, Ideal.hostReduceWindowAdd_def]
  unfold Ideal.hostReduceWindowAdd Host.reduceWindow
  refine (foldl_sum _ _ _).trans ?_
  rw [zero_add, ← List.ofFn_eq_map, List.sum_ofFn]
  refine ((Fintype.sum_equiv (W5.rowMajor.symm.trans eW) _ (fun n : Fin 64 => if 63 ≤ j.val + n.val then f (j.val + n.val - 63) else 0) fun n => ?_).trans
    (window_sum f j.val j.isLt)).trans (Finset.sum_congr rfl fun s _ => by rw [hf])
  refine Eq.trans ?_ (key (W5.rowMajor.symm n))
  refine dite_inst ?_ ?_
  · exact Iff.rfl
  · intro h1 h2; rfl

end Gla
-- ==== Proof.GlaPay.lean ====
/- The payloads of the gated attention kernel at an index: what each one holds when the ones it reads hold theirs. -/
module

public import proofs.«01_k».proof.Proof.GlaSpec
public import proofs.«01_k».proof.Proof.Gen.Kernel5Ideal.Skeleton

@[expose] public section

set_option maxRecDepth 16384

noncomputable section

namespace Cert.Kernel5Ideal.Pay

open Cert.Kernel5Ideal Cert.Kernel5Ideal.Gen Idealize.ShloMosaic Idealize.ShloMosaic.TcCoe Idealize.SL.Sem Gla Layer

/-! What a block of the kernel holds at grid point `T` (`c` a chunk of the block, `h` a head). -/
section
variable (P W : ℕ → ℕ → EReal) (B G : ℕ → EReal) (T : ℕ)
/-- The running sums. -/
abbrev isC (u : FVec Ideal S256x512 .f32) : Prop := ∀ (R : Fin 256) (K : Fin 512) (c s : ℕ), R.val = 64 * c + s → s < 64 → u (ix2 R K) = cum P W B (4 * T + c) s K.val
/-- The exponentials of a chunk's whole sum. -/
abbrev isE (c : ℕ) (u : FVec Ideal S1x512 .f32) : Prop := ∀ K : Fin 512, u (ix2 0 K) = Ideal.exp (cum P W B (4 * T + c) 63 K.val)
/-- The keys, the decayed keys, the scaled queries, the values, the gates. -/
abbrev isKey (c : ℕ) (u : FVec Ideal S64x512 .f32) : Prop := ∀ (r : Fin 64) (K : Fin 512), u (ix2 r K) = P (64 * (4 * T + c) + r.val) (4096 + K.val)
abbrev isKd (c : ℕ) (u : FVec Ideal S64x512 .bf16) : Prop := ∀ (r : Fin 64) (K : Fin 512), u (ix2 r K) = kd P W B (4 * T + c) r.val K.val
abbrev isQry (c : ℕ) (u : FVec Ideal S64x512 .f32) : Prop := ∀ (r : Fin 64) (K : Fin 512), u (ix2 r K) = P (64 * (4 * T + c) + r.val) (3584 + K.val)
abbrev isQ (c : ℕ) (u : FVec Ideal S64x512 .bf16) : Prop := ∀ (r : Fin 64) (K : Fin 512), u (ix2 r K) = P (64 * (4 * T + c) + r.val) (3584 + K.val) * cS
abbrev isV (c h : ℕ) (u : FVec Ideal S64x256 .f32) : Prop := ∀ (r : Fin 64) (v : Fin 256), u (ix2 r v) = P (64 * (4 * T + c) + r.val) (4608 + 256 * h + v.val)
abbrev isR (c h : ℕ) (u : FVec Ideal S64x256 .f32) : Prop := ∀ (r : Fin 64) (v : Fin 256), u (ix2 r v) = P (64 * (4 * T + c) + r.val) (5632 + 256 * h + v.val)
/-- The increments, the states before chunk `c` and their decayed values. -/
abbrev isI (c h : ℕ) (u : FVec Ideal S256x128 .f32) : Prop := ∀ (v : Fin 256) (k : Fin 128), u (ix2 v k) = inc P W B (4 * T + c) h k.val v.val
abbrev isS (c h : ℕ) (u : FVec Ideal S256x128 .f32) : Prop := ∀ (v : Fin 256) (k : Fin 128), u (ix2 v k) = st P W B (T / 16) h k.val v.val (4 * (T % 16) + c)
abbrev isT (c h : ℕ) (u : FVec Ideal S1x256x128 .f32) : Prop := ∀ (v : Fin 256) (k : Fin 128), u (ix3 0 v k) = st P W B (T / 16) h k.val v.val (4 * (T % 16) + c)
abbrev isM (c h : ℕ) (u : FVec Ideal S256x128 .f32) : Prop := ∀ (v : Fin 256) (k : Fin 128),
  u (ix2 v k) = Ideal.exp (cum P W B (4 * T + c) 63 (128 * h + k.val)) * st P W B (T / 16) h k.val v.val (4 * (T % 16) + c)
/-- The outputs, and the normalised and gated ones. -/
abbrev isO (c h : ℕ) (u : FVec Ideal S64x256 .f32) : Prop := ∀ (r : Fin 64) (v : Fin 256), u (ix2 r v) = oo P W B (64 * (4 * T + c) + r.val) h v.val
abbrev isF (c h : ℕ) (u : FVec Ideal S64x256 .bf16) : Prop := ∀ (r : Fin 64) (v : Fin 256), u (ix2 r v) = res P W B G (64 * (4 * T + c) + r.val) h v.val
abbrev isG (u : FVec Ideal S1x256 .f32) : Prop := ∀ v : Fin 256, u (ix2 0 v) = G v.val

theorem st_step (c h k v : ℕ) (hc : c < 4) : st P W B (T / 16) h k v (4 * (T % 16) + (c + 1))
    = Ideal.exp (cum P W B (4 * T + c) 63 (128 * h + k)) * st P W B (T / 16) h k v (4 * (T % 16) + c) + inc P W B (4 * T + c) h k v := by
  rw [show 4 * (T % 16) + (c + 1) = 4 * (T % 16) + c + 1 by omega, st, show 64 * (T / 16) + (4 * (T % 16) + c) = 4 * T + c by omega]

theorem oo_eq (c h r v : ℕ) (hc : c < 4) (hr : r < 64) : oo P W B (64 * (4 * T + c) + r) h v
    = ∑ k : Fin 128, P (64 * (4 * T + c) + r) (3584 + (128 * h + k.val)) * cS * st P W B (T / 16) h k.val v (4 * (T % 16) + (c + 1)) := by
  unfold oo
  rw [show (64 * (4 * T + c) + r) / 4096 = T / 16 by omega, show (64 * (4 * T + c) + r) % 4096 / 64 + 1 = 4 * (T % 16) + (c + 1) by omega]
  refine Finset.sum_congr rfl fun k _ => ?_
  rw [show 3584 + (128 * h + k.val) = 3584 + 128 * h + k.val by omega]
end

variable {P W : ℕ → ℕ → EReal} {B G : ℕ → EReal} {T : ℕ}

theorem g11 {x : FVec Ideal S1x256 .f32} (hx : isG G x) : isG G (k0_pay11 (F := Ideal) x) := by
  intro v; pointwise [k0_pay11]; exact hx v

theorem kd0 {f : FVec Ideal S256x512 .f32} {q : FVec Ideal S256x256 .bf16} {g : FVec Ideal S256x512 .bf16} {x : FVec Ideal S64x512 .f32}
    (hU : isC P W B T (k0_pay10 f q g)) (hx : isKey P T 0 x) : isKd P W B T 0 (k0_pay20 (F := Ideal) f q g x) := by
  intro r K
  unfold k0_pay20 k0_pay12
  generalize k0_pay10 f q g = u at hU ⊢
  pointwise
  have h2 := hU ⟨r.val, by omega⟩ K 0 r.val (by dsimp only; omega) r.isLt
  rw [hU 63 K 0 63 rfl (by omega), h2, hx r K, kd]
  simp only [Nat.add_zero]

theorem e0 {f : FVec Ideal S256x512 .f32} {q : FVec Ideal S256x256 .bf16} {g : FVec Ideal S256x512 .bf16}
    (hU : isC P W B T (k0_pay10 f q g)) : isE P W B T 0 (k0_pay16 (F := Ideal) f q g) := by
  intro K
  unfold k0_pay16 k0_pay12
  generalize k0_pay10 f q g = u at hU ⊢
  pointwise
  rw [hU 63 K 0 63 rfl (by omega)]
  simp only [Nat.add_zero]

theorem q0 {x : FVec Ideal S64x512 .f32} (hx : isQry P T 0 x) : isQ P T 0 (k0_pay24 (F := Ideal) x) := by
  intro r K
  refine Eq.trans (b := x (ix2 r K) * cS) ?_ (by rw [hx])
  pointwise [k0_pay24]

theorem kd1 {f : FVec Ideal S256x512 .f32} {q : FVec Ideal S256x256 .bf16} {g : FVec Ideal S256x512 .bf16} {x : FVec Ideal S64x512 .f32}
    (hU : isC P W B T (k0_pay10 f q g)) (hx : isKey P T 1 x) : isKd P W B T 1 (k0_pay21 (F := Ideal) f q g x) := by
  intro r K
  unfold k0_pay21 k0_pay13
  generalize k0_pay10 f q g = u at hU ⊢
  pointwise
  have h2 := hU ⟨64 + r.val, by omega⟩ K 1 r.val rfl r.isLt
  rw [hU 127 K 1 63 rfl (by omega), h2, hx r K, kd]

theorem e1 {f : FVec Ideal S256x512 .f32} {q : FVec Ideal S256x256 .bf16} {g : FVec Ideal S256x512 .bf16}
    (hU : isC P W B T (k0_pay10 f q g)) : isE P W B T 1 (k0_pay17 (F := Ideal) f q g) := by
  intro K
  unfold k0_pay17 k0_pay13
  generalize k0_pay10 f q g = u at hU ⊢
  pointwise
  rw [hU 127 K 1 63 rfl (by omega)]

theorem q1 {x : FVec Ideal S64x512 .f32} (hx : isQry P T 1 x) : isQ P T 1 (k0_pay25 (F := Ideal) x) := by
  intro r K
  refine Eq.trans (b := x (ix2 r K) * cS) ?_ (by rw [hx])
  pointwise [k0_pay25]

theorem kd2 {f : FVec Ideal S256x512 .f32} {q : FVec Ideal S256x256 .bf16} {g : FVec Ideal S256x512 .bf16} {x : FVec Ideal S64x512 .f32}
    (hU : isC P W B T (k0_pay10 f q g)) (hx : isKey P T 2 x) : isKd P W B T 2 (k0_pay22 (F := Ideal) f q g x) := by
  intro r K
  unfold k0_pay22 k0_pay14
  generalize k0_pay10 f q g = u at hU ⊢
  pointwise
  have h2 := hU ⟨128 + r.val, by omega⟩ K 2 r.val rfl r.isLt
  rw [hU 191 K 2 63 rfl (by omega), h2, hx r K, kd]

theorem e2 {f : FVec Ideal S256x512 .f32} {q : FVec Ideal S256x256 .bf16} {g : FVec Ideal S256x512 .bf16}
    (hU : isC P W B T (k0_pay10 f q g)) : isE P W B T 2 (k0_pay18 (F := Ideal) f q g) := by
  intro K
  unfold k0_pay18 k0_pay14
  generalize k0_pay10 f q g = u at hU ⊢
  pointwise
  rw [hU 191 K 2 63 rfl (by omega)]

theorem q2 {x : FVec Ideal S64x512 .f32} (hx : isQry P T 2 x) : isQ P T 2 (k0_pay26 (F := Ideal) x) := by
  intro r K
  refine Eq.trans (b := x (ix2 r K) * cS) ?_ (by rw [hx])
  pointwise [k0_pay26]

theorem kd3 {f : FVec Ideal S256x512 .f32} {q : FVec Ideal S256x256 .bf16} {g : FVec Ideal S256x512 .bf16} {x : FVec Ideal S64x512 .f32}
    (hU : isC P W B T (k0_pay10 f q g)) (hx : isKey P T 3 x) : isKd P W B T 3 (k0_pay23 (F := Ideal) f q g x) := by
  intro r K
  unfold k0_pay23 k0_pay15
  generalize k0_pay10 f q g = u at hU ⊢
  pointwise
  have h2 := hU ⟨192 + r.val, by omega⟩ K 3 r.val rfl r.isLt
  rw [hU 255 K 3 63 rfl (by omega), h2, hx r K, kd]

theorem e3 {f : FVec Ideal S256x512 .f32} {q : FVec Ideal S256x256 .bf16} {g : FVec Ideal S256x512 .bf16}
    (hU : isC P W B T (k0_pay10 f q g)) : isE P W B T 3 (k0_pay19 (F := Ideal) f q g) := by
  intro K
  unfold k0_pay19 k0_pay15
  generalize k0_pay10 f q g = u at hU ⊢
  pointwise
  rw [hU 255 K 3 63 rfl (by omega)]

theorem q3 {x : FVec Ideal S64x512 .f32} (hx : isQry P T 3 x) : isQ P T 3 (k0_pay27 (F := Ideal) x) := by
  intro r K
  refine Eq.trans (b := x (ix2 r K) * cS) ?_ (by rw [hx])
  pointwise [k0_pay27]

theorem i00 {a : FVec Ideal S64x512 .bf16} {x : FVec Ideal S64x256 .f32} (ha : isKd P W B T 0 a) (hx : isV P T 0 0 x) :
    isI P W B T 0 0 (k0_pay28 (F := Ideal) a x) := by
  intro v k
  pointwise [k0_pay28]
  unfold inc
  refine Finset.sum_congr rfl fun s _ => ?_
  rw [mul_comm]
  simp only [hx _ _, ha _ _, Nat.add_zero, Nat.mul_zero, Nat.zero_add, Nat.mul_one, Nat.reduceMul]

theorem i01 {a : FVec Ideal S64x512 .bf16} {x : FVec Ideal S64x256 .f32} (ha : isKd P W B T 0 a) (hx : isV P T 0 1 x) :
    isI P W B T 0 1 (k0_pay29 (F := Ideal) a x) := by
  intro v k
  pointwise [k0_pay29]
  unfold inc
  refine Finset.sum_congr rfl fun s _ => ?_
  rw [mul_comm]
  simp only [hx _ _, ha _ _, Nat.add_zero, Nat.mul_zero, Nat.zero_add, Nat.mul_one, Nat.reduceMul]

theorem i02 {a : FVec Ideal S64x512 .bf16} {x : FVec Ideal S64x256 .f32} (ha : isKd P W B T 0 a) (hx : isV P T 0 2 x) :
    isI P W B T 0 2 (k0_pay30 (F := Ideal) a x) := by
  intro v k
  pointwise [k0_pay30]
  unfold inc
  refine Finset.sum_congr rfl fun s _ => ?_
  rw [mul_comm]
  simp only [hx _ _, ha _ _, Nat.add_zero, Nat.mul_zero, Nat.zero_add, Nat.mul_one, Nat.reduceMul]

theorem i03 {a : FVec Ideal S64x512 .bf16} {x : FVec Ideal S64x256 .f32} (ha : isKd P W B T 0 a) (hx : isV P T 0 3 x) :
    isI P W B T 0 3 (k0_pay31 (F := Ideal) a x) := by
  intro v k
  pointwise [k0_pay31]
  unfold inc
  refine Finset.sum_congr rfl fun s _ => ?_
  rw [mul_comm]
  simp only [hx _ _, ha _ _, Nat.add_zero, Nat.mul_zero, Nat.zero_add, Nat.mul_one, Nat.reduceMul]

theorem i10 {a : FVec Ideal S64x512 .bf16} {x : FVec Ideal S64x256 .f32} (ha : isKd P W B T 1 a) (hx : isV P T 1 0 x) :
    isI P W B T 1 0 (k0_pay33 (F := Ideal) a (k0_pay32 (F := Ideal) x)) := by
  intro v k
  pointwise [k0_pay33, k0_pay32]
  unfold inc
  refine Finset.sum_congr rfl fun s _ => ?_
  rw [mul_comm]
  simp only [hx _ _, ha _ _, Nat.add_zero, Nat.mul_zero, Nat.zero_add, Nat.mul_one, Nat.reduceMul]

theorem i11 {a : FVec Ideal S64x512 .bf16} {x : FVec Ideal S64x256 .f32} (ha : isKd P W B T 1 a) (hx : isV P T 1 1 x) :
    isI P W B T 1 1 (k0_pay34 (F := Ideal) a x) := by
  intro v k
  pointwise [k0_pay34]
  unfold inc
  refine Finset.sum_congr rfl fun s _ => ?_
  rw [mul_comm]
  simp only [hx _ _, ha _ _, Nat.add_zero, Nat.mul_zero, Nat.zero_add, Nat.mul_one, Nat.reduceMul]

theorem i12 {a : FVec Ideal S64x512 .bf16} {x : FVec Ideal S64x256 .f32} (ha : isKd P W B T 1 a) (hx : isV P T 1 2 x) :
    isI P W B T 1 2 (k0_pay35 (F := Ideal) a x) := by
  intro v k
  pointwise [k0_pay35]
  unfold inc
  refine Finset.sum_congr rfl fun s _ => ?_
  rw [mul_comm]
  simp only [hx _ _, ha _ _, Nat.add_zero, Nat.mul_zero, Nat.zero_add, Nat.mul_one, Nat.reduceMul]

theorem i13 {a : FVec Ideal S64x512 .bf16} {x : FVec Ideal S64x256 .f32} (ha : isKd P W B T 1 a) (hx : isV P T 1 3 x) :
    isI P W B T 1 3 (k0_pay36 (F := Ideal) a x) := by
  intro v k
  pointwise [k0_pay36]
  unfold inc
  refine Finset.sum_congr rfl fun s _ => ?_
  rw [mul_comm]
  simp only [hx _ _, ha _ _, Nat.add_zero, Nat.mul_zero, Nat.zero_add, Nat.mul_one, Nat.reduceMul]

theorem i20 {a : FVec Ideal S64x512 .bf16} {x : FVec Ideal S64x256 .f32} (ha : isKd P W B T 2 a) (hx : isV P T 2 0 x) :
    isI P W B T 2 0 (k0_pay37 (F := Ideal) a x) := by
  intro v k
  pointwise [k0_pay37]
  unfold inc
  refine Finset.sum_congr rfl fun s _ => ?_
  rw [mul_comm]
  simp only [hx _ _, ha _ _, Nat.add_zero, Nat.mul_zero, Nat.zero_add, Nat.mul_one, Nat.reduceMul]

theorem i21 {a : FVec Ideal S64x512 .bf16} {x : FVec Ideal S64x256 .f32} (ha : isKd P W B T 2 a) (hx : isV P T 2 1 x) :
    isI P W B T 2 1 (k0_pay38 (F := Ideal) a x) := by
  intro v k
  pointwise [k0_pay38]
  unfold inc
  refine Finset.sum_congr rfl fun s _ => ?_
  rw [mul_comm]
  simp only [hx _ _, ha _ _, Nat.add_zero, Nat.mul_zero, Nat.zero_add, Nat.mul_one, Nat.reduceMul]

theorem i22 {a : FVec Ideal S64x512 .bf16} {x : FVec Ideal S64x256 .f32} (ha : isKd P W B T 2 a) (hx : isV P T 2 2 x) :
    isI P W B T 2 2 (k0_pay39 (F := Ideal) a x) := by
  intro v k
  pointwise [k0_pay39]
  unfold inc
  refine Finset.sum_congr rfl fun s _ => ?_
  rw [mul_comm]
  simp only [hx _ _, ha _ _, Nat.add_zero, Nat.mul_zero, Nat.zero_add, Nat.mul_one, Nat.reduceMul]

theorem i23 {a : FVec Ideal S64x512 .bf16} {x : FVec Ideal S64x256 .f32} (ha : isKd P W B T 2 a) (hx : isV P T 2 3 x) :
    isI P W B T 2 3 (k0_pay40 (F := Ideal) a x) := by
  intro v k
  pointwise [k0_pay40]
  unfold inc
  refine Finset.sum_congr rfl fun s _ => ?_
  rw [mul_comm]
  simp only [hx _ _, ha _ _, Nat.add_zero, Nat.mul_zero, Nat.zero_add, Nat.mul_one, Nat.reduceMul]

theorem i30 {a : FVec Ideal S64x512 .bf16} {x : FVec Ideal S64x256 .f32} (ha : isKd P W B T 3 a) (hx : isV P T 3 0 x) :
    isI P W B T 3 0 (k0_pay41 (F := Ideal) a x) := by
  intro v k
  pointwise [k0_pay41]
  unfold inc
  refine Finset.sum_congr rfl fun s _ => ?_
  rw [mul_comm]
  simp only [hx _ _, ha _ _, Nat.add_zero, Nat.mul_zero, Nat.zero_add, Nat.mul_one, Nat.reduceMul]

theorem i31 {a : FVec Ideal S64x512 .bf16} {x : FVec Ideal S64x256 .f32} (ha : isKd P W B T 3 a) (hx : isV P T 3 1 x) :
    isI P W B T 3 1 (k0_pay42 (F := Ideal) a x) := by
  intro v k
  pointwise [k0_pay42]
  unfold inc
  refine Finset.sum_congr rfl fun s _ => ?_
  rw [mul_comm]
  simp only [hx _ _, ha _ _, Nat.add_zero, Nat.mul_zero, Nat.zero_add, Nat.mul_one, Nat.reduceMul]

theorem i32 {a : FVec Ideal S64x512 .bf16} {x : FVec Ideal S64x256 .f32} (ha : isKd P W B T 3 a) (hx : isV P T 3 2 x) :
    isI P W B T 3 2 (k0_pay43 (F := Ideal) a x) := by
  intro v k
  pointwise [k0_pay43]
  unfold inc
  refine Finset.sum_congr rfl fun s _ => ?_
  rw [mul_comm]
  simp only [hx _ _, ha _ _, Nat.add_zero, Nat.mul_zero, Nat.zero_add, Nat.mul_one, Nat.reduceMul]

theorem i33 {a : FVec Ideal S64x512 .bf16} {x : FVec Ideal S64x256 .f32} (ha : isKd P W B T 3 a) (hx : isV P T 3 3 x) :
    isI P W B T 3 3 (k0_pay44 (F := Ideal) a x) := by
  intro v k
  pointwise [k0_pay44]
  unfold inc
  refine Finset.sum_congr rfl fun s _ => ?_
  rw [mul_comm]
  simp only [hx _ _, ha _ _, Nat.add_zero, Nat.mul_zero, Nat.zero_add, Nat.mul_one, Nat.reduceMul]

theorem s00 {e : FVec Ideal S1x512 .f32} {i : FVec Ideal S256x128 .f32} {s : FVec Ideal S1x256x128 .f32} (he : isE P W B T 0 e) (hi : isI P W B T 0 0 i) (hs : isT P W B T 0 0 s) :
    isS P W B T 1 0 (k0_pay45 (F := Ideal) e i s) := by
  intro v k
  pointwise [k0_pay45]
  rw [st_step P W B T 0 0 k.val v.val (by omega), mul_comm]
  simp only [hs _ _, he _, hi _ _, Nat.add_zero, Nat.mul_zero, Nat.zero_add, Nat.mul_one, Nat.reduceMul]

theorem s01 {e0 : FVec Ideal S1x512 .f32} {e1 : FVec Ideal S1x512 .f32} {i0 : FVec Ideal S256x128 .f32} {i1 : FVec Ideal S256x128 .f32} {s : FVec Ideal S1x256x128 .f32} (he0 : isE P W B T 0 e0) (he1 : isE P W B T 1 e1) (hi0 : isI P W B T 0 0 i0) (hi1 : isI P W B T 1 0 i1) (hs : isT P W B T 0 0 s) :
    isS P W B T 2 0 (k0_pay46 (F := Ideal) e0 e1 i0 i1 s) := by
  have hu := s00 he0 hi0 hs
  intro v k
  unfold k0_pay46
  generalize k0_pay45 (F := Ideal) e0 i0 s = u at hu ⊢
  pointwise
  rw [st_step P W B T 1 0 k.val v.val (by omega), mul_comm]
  simp only [hu _ _, he1 _, hi1 _ _, Nat.add_zero, Nat.mul_zero, Nat.zero_add, Nat.mul_one, Nat.reduceMul]

theorem s02 {e0 : FVec Ideal S1x512 .f32} {e1 : FVec Ideal S1x512 .f32} {e2 : FVec Ideal S1x512 .f32} {i0 : FVec Ideal S256x128 .f32} {i1 : FVec Ideal S256x128 .f32} {i2 : FVec Ideal S256x128 .f32} {s : FVec Ideal S1x256x128 .f32} (he0 : isE P W B T 0 e0) (he1 : isE P W B T 1 e1) (he2 : isE P W B T 2 e2) (hi0 : isI P W B T 0 0 i0) (hi1 : isI P W B T 1 0 i1) (hi2 : isI P W B T 2 0 i2) (hs : isT P W B T 0 0 s) :
    isS P W B T 3 0 (k0_pay47 (F := Ideal) e0 e1 e2 i0 i1 i2 s) := by
  have hu := s01 he0 he1 hi0 hi1 hs
  intro v k
  unfold k0_pay47
  generalize k0_pay46 (F := Ideal) e0 e1 i0 i1 s = u at hu ⊢
  pointwise
  rw [st_step P W B T 2 0 k.val v.val (by omega), mul_comm]
  simp only [hu _ _, he2 _, hi2 _ _, Nat.add_zero, Nat.mul_zero, Nat.zero_add, Nat.mul_one, Nat.reduceMul]

theorem s03 {e0 : FVec Ideal S1x512 .f32} {e1 : FVec Ideal S1x512 .f32} {e2 : FVec Ideal S1x512 .f32} {e3 : FVec Ideal S1x512 .f32} {i0 : FVec Ideal S256x128 .f32} {i1 : FVec Ideal S256x128 .f32} {i2 : FVec Ideal S256x128 .f32} {i3 : FVec Ideal S256x128 .f32} {s : FVec Ideal S1x256x128 .f32} (he0 : isE P W B T 0 e0) (he1 : isE P W B T 1 e1) (he2 : isE P W B T 2 e2) (he3 : isE P W B T 3 e3) (hi0 : isI P W B T 0 0 i0) (hi1 : isI P W B T 1 0 i1) (hi2 : isI P W B T 2 0 i2) (hi3 : isI P W B T 3 0 i3) (hs : isT P W B T 0 0 s) :
    isS P W B T 4 0 (k0_pay48 (F := Ideal) e0 e1 e2 e3 i0 i1 i2 i3 s) := by
  have hu := s02 he0 he1 he2 hi0 hi1 hi2 hs
  intro v k
  unfold k0_pay48
  generalize k0_pay47 (F := Ideal) e0 e1 e2 i0 i1 i2 s = u at hu ⊢
  pointwise
  rw [st_step P W B T 3 0 k.val v.val (by omega), mul_comm]
  simp only [hu _ _, he3 _, hi3 _ _, Nat.add_zero, Nat.mul_zero, Nat.zero_add, Nat.mul_one, Nat.reduceMul]

theorem t0 {e0 : FVec Ideal S1x512 .f32} {e1 : FVec Ideal S1x512 .f32} {e2 : FVec Ideal S1x512 .f32} {e3 : FVec Ideal S1x512 .f32} {i0 : FVec Ideal S256x128 .f32} {i1 : FVec Ideal S256x128 .f32} {i2 : FVec Ideal S256x128 .f32} {i3 : FVec Ideal S256x128 .f32} {s : FVec Ideal S1x256x128 .f32} (he0 : isE P W B T 0 e0) (he1 : isE P W B T 1 e1) (he2 : isE P W B T 2 e2) (he3 : isE P W B T 3 e3) (hi0 : isI P W B T 0 0 i0) (hi1 : isI P W B T 1 0 i1) (hi2 : isI P W B T 2 0 i2) (hi3 : isI P W B T 3 0 i3) (hs : isT P W B T 0 0 s) :
    isT P W B T 4 0 (k0_pay49 (F := Ideal) e0 e1 e2 e3 i0 i1 i2 i3 s) := by
  have hu := s03 he0 he1 he2 he3 hi0 hi1 hi2 hi3 hs
  intro v k
  unfold k0_pay49
  generalize k0_pay48 (F := Ideal) e0 e1 e2 e3 i0 i1 i2 i3 s = u at hu ⊢
  refine Eq.trans ?_ (hu v k)
  pointwise

theorem s20 {e : FVec Ideal S1x512 .f32} {i : FVec Ideal S256x128 .f32} {s : FVec Ideal S1x256x128 .f32} (he : isE P W B T 0 e) (hi : isI P W B T 0 2 i) (hs : isT P W B T 0 2 s) :
    isS P W B T 1 2 (k0_pay56 (F := Ideal) e i s) := by
  intro v k
  pointwise [k0_pay56]
  rw [st_step P W B T 0 2 k.val v.val (by omega), mul_comm]
  simp only [hs _ _, he _, hi _ _, Nat.add_zero, Nat.mul_zero, Nat.zero_add, Nat.mul_one, Nat.reduceMul]

theorem s21 {e0 : FVec Ideal S1x512 .f32} {e1 : FVec Ideal S1x512 .f32} {i0 : FVec Ideal S256x128 .f32} {i1 : FVec Ideal S256x128 .f32} {s : FVec Ideal S1x256x128 .f32} (he0 : isE P W B T 0 e0) (he1 : isE P W B T 1 e1) (hi0 : isI P W B T 0 2 i0) (hi1 : isI P W B T 1 2 i1) (hs : isT P W B T 0 2 s) :
    isS P W B T 2 2 (k0_pay57 (F := Ideal) e0 e1 i0 i1 s) := by
  have hu := s20 he0 hi0 hs
  intro v k
  unfold k0_pay57
  generalize k0_pay56 (F := Ideal) e0 i0 s = u at hu ⊢
  pointwise
  rw [st_step P W B T 1 2 k.val v.val (by omega), mul_comm]
  simp only [hu _ _, he1 _, hi1 _ _, Nat.add_zero, Nat.mul_zero, Nat.zero_add, Nat.mul_one, Nat.reduceMul]

theorem s22 {e0 : FVec Ideal S1x512 .f32} {e1 : FVec Ideal S1x512 .f32} {e2 : FVec Ideal S1x512 .f32} {i0 : FVec Ideal S256x128 .f32} {i1 : FVec Ideal S256x128 .f32} {i2 : FVec Ideal S256x128 .f32} {s : FVec Ideal S1x256x128 .f32} (he0 : isE P W B T 0 e0) (he1 : isE P W B T 1 e1) (he2 : isE P W B T 2 e2) (hi0 : isI P W B T 0 2 i0) (hi1 : isI P W B T 1 2 i1) (hi2 : isI P W B T 2 2 i2) (hs : isT P W B T 0 2 s) :
    isS P W B T 3 2 (k0_pay58 (F := Ideal) e0 e1 e2 i0 i1 i2 s) := by
  have hu := s21 he0 he1 hi0 hi1 hs
  intro v k
  unfold k0_pay58
  generalize k0_pay57 (F := Ideal) e0 e1 i0 i1 s = u at hu ⊢
  pointwise
  rw [st_step P W B T 2 2 k.val v.val (by omega), mul_comm]
  simp only [hu _ _, he2 _, hi2 _ _, Nat.add_zero, Nat.mul_zero, Nat.zero_add, Nat.mul_one, Nat.reduceMul]

theorem s23 {e0 : FVec Ideal S1x512 .f32} {e1 : FVec Ideal S1x512 .f32} {e2 : FVec Ideal S1x512 .f32} {e3 : FVec Ideal S1x512 .f32} {i0 : FVec Ideal S256x128 .f32} {i1 : FVec Ideal S256x128 .f32} {i2 : FVec Ideal S256x128 .f32} {i3 : FVec Ideal S256x128 .f32} {s : FVec Ideal S1x256x128 .f32} (he0 : isE P W B T 0 e0) (he1 : isE P W B T 1 e1) (he2 : isE P W B T 2 e2) (he3 : isE P W B T 3 e3) (hi0 : isI P W B T 0 2 i0) (hi1 : isI P W B T 1 2 i1) (hi2 : isI P W B T 2 2 i2) (hi3 : isI P W B T 3 2 i3) (hs : isT P W B T 0 2 s) :
    isS P W B T 4 2 (k0_pay59 (F := Ideal) e0 e1 e2 e3 i0 i1 i2 i3 s) := by
  have hu := s22 he0 he1 he2 hi0 hi1 hi2 hs
  intro v k
  unfold k0_pay59
  generalize k0_pay58 (F := Ideal) e0 e1 e2 i0 i1 i2 s = u at hu ⊢
  pointwise
  rw [st_step P W B T 3 2 k.val v.val (by omega), mul_comm]
  simp only [hu _ _, he3 _, hi3 _ _, Nat.add_zero, Nat.mul_zero, Nat.zero_add, Nat.mul_one, Nat.reduceMul]

theorem t2 {e0 : FVec Ideal S1x512 .f32} {e1 : FVec Ideal S1x512 .f32} {e2 : FVec Ideal S1x512 .f32} {e3 : FVec Ideal S1x512 .f32} {i0 : FVec Ideal S256x128 .f32} {i1 : FVec Ideal S256x128 .f32} {i2 : FVec Ideal S256x128 .f32} {i3 : FVec Ideal S256x128 .f32} {s : FVec Ideal S1x256x128 .f32} (he0 : isE P W B T 0 e0) (he1 : isE P W B T 1 e1) (he2 : isE P W B T 2 e2) (he3 : isE P W B T 3 e3) (hi0 : isI P W B T 0 2 i0) (hi1 : isI P W B T 1 2 i1) (hi2 : isI P W B T 2 2 i2) (hi3 : isI P W B T 3 2 i3) (hs : isT P W B T 0 2 s) :
    isT P W B T 4 2 (k0_pay60 (F := Ideal) e0 e1 e2 e3 i0 i1 i2 i3 s) := by
  have hu := s23 he0 he1 he2 he3 hi0 hi1 hi2 hi3 hs
  intro v k
  unfold k0_pay60
  generalize k0_pay59 (F := Ideal) e0 e1 e2 e3 i0 i1 i2 i3 s = u at hu ⊢
  refine Eq.trans ?_ (hu v k)
  pointwise

theorem s10 {e : FVec Ideal S1x512 .f32} {i : FVec Ideal S256x128 .f32} {s : FVec Ideal S1x256x128 .f32} (he : isE P W B T 0 e) (hi : isI P W B T 0 1 i) (hs : isT P W B T 0 1 s) :
    isS P W B T 1 1 (k0_pay50 (F := Ideal) e i s) := by
  intro v k
  pointwise [k0_pay50]
  rw [st_step P W B T 0 1 k.val v.val (by omega), mul_comm]
  simp only [hs _ _, he _, hi _ _, Nat.add_zero, Nat.mul_zero, Nat.zero_add, Nat.mul_one, Nat.reduceMul]

theorem m11 {e0 : FVec Ideal S1x512 .f32} {e1 : FVec Ideal S1x512 .f32} {i0 : FVec Ideal S256x128 .f32} {s : FVec Ideal S1x256x128 .f32} (he0 : isE P W B T 0 e0) (he1 : isE P W B T 1 e1) (hi0 : isI P W B T 0 1 i0) (hs : isT P W B T 0 1 s) :
    isM P W B T 1 1 (k0_pay51 (F := Ideal) e0 e1 i0 s) := by
  have hu := s10 he0 hi0 hs
  intro v k
  unfold k0_pay51
  generalize k0_pay50 (F := Ideal) e0 i0 s = u at hu ⊢
  pointwise
  rw [mul_comm]
  simp only [hu _ _, he1 _, Nat.add_zero, Nat.mul_zero, Nat.zero_add, Nat.mul_one, Nat.reduceMul]

theorem s11 {i : FVec Ideal S256x128 .f32} {m : FVec Ideal S256x128 .f32} (hi : isI P W B T 1 1 i) (hm : isM P W B T 1 1 m) : isS P W B T 2 1 (k0_pay52 (F := Ideal) i m) := by
  intro v k
  refine Eq.trans (b := m (ix2 v k) + i (ix2 v k)) ?_ (by rw [hi, hm, st_step P W B T 1 1 k.val v.val (by omega)])
  pointwise [k0_pay52]

theorem s12 {e2 : FVec Ideal S1x512 .f32} {i1 : FVec Ideal S256x128 .f32} {i2 : FVec Ideal S256x128 .f32} {m : FVec Ideal S256x128 .f32} (he2 : isE P W B T 2 e2) (hi1 : isI P W B T 1 1 i1) (hi2 : isI P W B T 2 1 i2) (hm : isM P W B T 1 1 m) :
    isS P W B T 3 1 (k0_pay53 (F := Ideal) e2 i1 i2 m) := by
  have hu := s11 hi1 hm
  intro v k
  unfold k0_pay53
  generalize k0_pay52 (F := Ideal) i1 m = u at hu ⊢
  pointwise
  rw [st_step P W B T 2 1 k.val v.val (by omega), mul_comm]
  simp only [hu _ _, he2 _, hi2 _ _, Nat.add_zero, Nat.mul_zero, Nat.zero_add, Nat.mul_one, Nat.reduceMul]

theorem s13 {e2 : FVec Ideal S1x512 .f32} {e3 : FVec Ideal S1x512 .f32} {i1 : FVec Ideal S256x128 .f32} {i2 : FVec Ideal S256x128 .f32} {i3 : FVec Ideal S256x128 .f32} {m : FVec Ideal S256x128 .f32} (he2 : isE P W B T 2 e2) (he3 : isE P W B T 3 e3) (hi1 : isI P W B T 1 1 i1) (hi2 : isI P W B T 2 1 i2) (hi3 : isI P W B T 3 1 i3) (hm : isM P W B T 1 1 m) :
    isS P W B T 4 1 (k0_pay54 (F := Ideal) e2 e3 i1 i2 i3 m) := by
  have hu := s12 he2 hi1 hi2 hm
  intro v k
  unfold k0_pay54
  generalize k0_pay53 (F := Ideal) e2 i1 i2 m = u at hu ⊢
  pointwise
  rw [st_step P W B T 3 1 k.val v.val (by omega), mul_comm]
  simp only [hu _ _, he3 _, hi3 _ _, Nat.add_zero, Nat.mul_zero, Nat.zero_add, Nat.mul_one, Nat.reduceMul]

theorem t1 {e2 : FVec Ideal S1x512 .f32} {e3 : FVec Ideal S1x512 .f32} {i1 : FVec Ideal S256x128 .f32} {i2 : FVec Ideal S256x128 .f32} {i3 : FVec Ideal S256x128 .f32} {m : FVec Ideal S256x128 .f32} (he2 : isE P W B T 2 e2) (he3 : isE P W B T 3 e3) (hi1 : isI P W B T 1 1 i1) (hi2 : isI P W B T 2 1 i2) (hi3 : isI P W B T 3 1 i3) (hm : isM P W B T 1 1 m) :
    isT P W B T 4 1 (k0_pay55 (F := Ideal) e2 e3 i1 i2 i3 m) := by
  have hu := s13 he2 he3 hi1 hi2 hi3 hm
  intro v k
  unfold k0_pay55
  generalize k0_pay54 (F := Ideal) e2 e3 i1 i2 i3 m = u at hu ⊢
  refine Eq.trans ?_ (hu v k)
  pointwise

theorem s30 {e : FVec Ideal S1x512 .f32} {i : FVec Ideal S256x128 .f32} {s : FVec Ideal S1x256x128 .f32} (he : isE P W B T 0 e) (hi : isI P W B T 0 3 i) (hs : isT P W B T 0 3 s) :
    isS P W B T 1 3 (k0_pay61 (F := Ideal) e i s) := by
  intro v k
  pointwise [k0_pay61]
  rw [st_step P W B T 0 3 k.val v.val (by omega), mul_comm]
  simp only [hs _ _, he _, hi _ _, Nat.add_zero, Nat.mul_zero, Nat.zero_add, Nat.mul_one, Nat.reduceMul]

theorem s31 {e0 : FVec Ideal S1x512 .f32} {e1 : FVec Ideal S1x512 .f32} {i0 : FVec Ideal S256x128 .f32} {i1 : FVec Ideal S256x128 .f32} {s : FVec Ideal S1x256x128 .f32} (he0 : isE P W B T 0 e0) (he1 : isE P W B T 1 e1) (hi0 : isI P W B T 0 3 i0) (hi1 : isI P W B T 1 3 i1) (hs : isT P W B T 0 3 s) :
    isS P W B T 2 3 (k0_pay62 (F := Ideal) e0 e1 i0 i1 s) := by
  have hu := s30 he0 hi0 hs
  intro v k
  unfold k0_pay62
  generalize k0_pay61 (F := Ideal) e0 i0 s = u at hu ⊢
  pointwise
  rw [st_step P W B T 1 3 k.val v.val (by omega), mul_comm]
  simp only [hu _ _, he1 _, hi1 _ _, Nat.add_zero, Nat.mul_zero, Nat.zero_add, Nat.mul_one, Nat.reduceMul]

theorem m32 {e0 : FVec Ideal S1x512 .f32} {e1 : FVec Ideal S1x512 .f32} {e2 : FVec Ideal S1x512 .f32} {i0 : FVec Ideal S256x128 .f32} {i1 : FVec Ideal S256x128 .f32} {s : FVec Ideal S1x256x128 .f32} (he0 : isE P W B T 0 e0) (he1 : isE P W B T 1 e1) (he2 : isE P W B T 2 e2) (hi0 : isI P W B T 0 3 i0) (hi1 : isI P W B T 1 3 i1) (hs : isT P W B T 0 3 s) :
    isM P W B T 2 3 (k0_pay63 (F := Ideal) e0 e1 e2 i0 i1 s) := by
  have hu := s31 he0 he1 hi0 hi1 hs
  intro v k
  unfold k0_pay63
  generalize k0_pay62 (F := Ideal) e0 e1 i0 i1 s = u at hu ⊢
  pointwise
  rw [mul_comm]
  simp only [hu _ _, he2 _, Nat.add_zero, Nat.mul_zero, Nat.zero_add, Nat.mul_one, Nat.reduceMul]

theorem s32 {i : FVec Ideal S256x128 .f32} {m : FVec Ideal S256x128 .f32} (hi : isI P W B T 2 3 i) (hm : isM P W B T 2 3 m) : isS P W B T 3 3 (k0_pay64 (F := Ideal) i m) := by
  intro v k
  refine Eq.trans (b := m (ix2 v k) + i (ix2 v k)) ?_ (by rw [hi, hm, st_step P W B T 2 3 k.val v.val (by omega)])
  pointwise [k0_pay64]

theorem s33 {e3 : FVec Ideal S1x512 .f32} {i2 : FVec Ideal S256x128 .f32} {i3 : FVec Ideal S256x128 .f32} {m : FVec Ideal S256x128 .f32} (he3 : isE P W B T 3 e3) (hi2 : isI P W B T 2 3 i2) (hi3 : isI P W B T 3 3 i3) (hm : isM P W B T 2 3 m) :
    isS P W B T 4 3 (k0_pay65 (F := Ideal) e3 i2 i3 m) := by
  have hu := s32 hi2 hm
  intro v k
  unfold k0_pay65
  generalize k0_pay64 (F := Ideal) i2 m = u at hu ⊢
  pointwise
  rw [st_step P W B T 3 3 k.val v.val (by omega), mul_comm]
  simp only [hu _ _, he3 _, hi3 _ _, Nat.add_zero, Nat.mul_zero, Nat.zero_add, Nat.mul_one, Nat.reduceMul]

theorem t3 {e3 : FVec Ideal S1x512 .f32} {i2 : FVec Ideal S256x128 .f32} {i3 : FVec Ideal S256x128 .f32} {m : FVec Ideal S256x128 .f32} (he3 : isE P W B T 3 e3) (hi2 : isI P W B T 2 3 i2) (hi3 : isI P W B T 3 3 i3) (hm : isM P W B T 2 3 m) :
    isT P W B T 4 3 (k0_pay66 (F := Ideal) e3 i2 i3 m) := by
  have hu := s33 he3 hi2 hi3 hm
  intro v k
  unfold k0_pay66
  generalize k0_pay65 (F := Ideal) e3 i2 i3 m = u at hu ⊢
  refine Eq.trans ?_ (hu v k)
  pointwise

theorem o00 {q : FVec Ideal S64x512 .bf16} {s : FVec Ideal S256x128 .f32} (hq : isQ P T 0 q) (hs : isS P W B T 1 0 s) : isO P W B T 0 0 (k0_pay67 (F := Ideal) q s) := by
  intro r v
  refine Eq.trans ?_ (oo_eq P W B T 0 0 r.val v.val (by omega) r.isLt).symm
  pointwise [k0_pay67]
  refine Finset.sum_congr rfl fun k _ => ?_
  simp only [hq _ _, hs _ _, Nat.add_zero, Nat.mul_zero, Nat.zero_add, Nat.mul_one, Nat.reduceMul, Nat.reduceAdd]

theorem o01 {q : FVec Ideal S64x512 .bf16} {s : FVec Ideal S256x128 .f32} (hq : isQ P T 0 q) (hs : isS P W B T 1 1 s) : isO P W B T 0 1 (k0_pay68 (F := Ideal) q s) := by
  intro r v
  refine Eq.trans ?_ (oo_eq P W B T 0 1 r.val v.val (by omega) r.isLt).symm
  pointwise [k0_pay68]
  refine Finset.sum_congr rfl fun k _ => ?_
  simp only [hq _ _, hs _ _, Nat.add_zero, Nat.mul_zero, Nat.zero_add, Nat.mul_one, Nat.reduceMul, Nat.reduceAdd]

theorem o02 {q : FVec Ideal S64x512 .bf16} {s : FVec Ideal S256x128 .f32} (hq : isQ P T 0 q) (hs : isS P W B T 1 2 s) : isO P W B T 0 2 (k0_pay69 (F := Ideal) q s) := by
  intro r v
  refine Eq.trans ?_ (oo_eq P W B T 0 2 r.val v.val (by omega) r.isLt).symm
  pointwise [k0_pay69]
  refine Finset.sum_congr rfl fun k _ => ?_
  simp only [hq _ _, hs _ _, Nat.add_zero, Nat.mul_zero, Nat.zero_add, Nat.mul_one, Nat.reduceMul, Nat.reduceAdd]

theorem o03 {q : FVec Ideal S64x512 .bf16} {s : FVec Ideal S256x128 .f32} (hq : isQ P T 0 q) (hs : isS P W B T 1 3 s) : isO P W B T 0 3 (k0_pay70 (F := Ideal) q s) := by
  intro r v
  refine Eq.trans ?_ (oo_eq P W B T 0 3 r.val v.val (by omega) r.isLt).symm
  pointwise [k0_pay70]
  refine Finset.sum_congr rfl fun k _ => ?_
  simp only [hq _ _, hs _ _, Nat.add_zero, Nat.mul_zero, Nat.zero_add, Nat.mul_one, Nat.reduceMul, Nat.reduceAdd]

theorem o10 {q : FVec Ideal S64x512 .bf16} {s : FVec Ideal S256x128 .f32} (hq : isQ P T 1 q) (hs : isS P W B T 2 0 s) : isO P W B T 1 0 (k0_pay71 (F := Ideal) q s) := by
  intro r v
  refine Eq.trans ?_ (oo_eq P W B T 1 0 r.val v.val (by omega) r.isLt).symm
  pointwise [k0_pay71]
  refine Finset.sum_congr rfl fun k _ => ?_
  simp only [hq _ _, hs _ _, Nat.add_zero, Nat.mul_zero, Nat.zero_add, Nat.mul_one, Nat.reduceMul, Nat.reduceAdd]

theorem o11 {q : FVec Ideal S64x512 .bf16} {s : FVec Ideal S256x128 .f32} (hq : isQ P T 1 q) (hs : isS P W B T 2 1 s) : isO P W B T 1 1 (k0_pay72 (F := Ideal) q s) := by
  intro r v
  refine Eq.trans ?_ (oo_eq P W B T 1 1 r.val v.val (by omega) r.isLt).symm
  pointwise [k0_pay72]
  refine Finset.sum_congr rfl fun k _ => ?_
  simp only [hq _ _, hs _ _, Nat.add_zero, Nat.mul_zero, Nat.zero_add, Nat.mul_one, Nat.reduceMul, Nat.reduceAdd]

theorem o12 {q : FVec Ideal S64x512 .bf16} {s : FVec Ideal S256x128 .f32} (hq : isQ P T 1 q) (hs : isS P W B T 2 2 s) : isO P W B T 1 2 (k0_pay73 (F := Ideal) q s) := by
  intro r v
  refine Eq.trans ?_ (oo_eq P W B T 1 2 r.val v.val (by omega) r.isLt).symm
  pointwise [k0_pay73]
  refine Finset.sum_congr rfl fun k _ => ?_
  simp only [hq _ _, hs _ _, Nat.add_zero, Nat.mul_zero, Nat.zero_add, Nat.mul_one, Nat.reduceMul, Nat.reduceAdd]

theorem o13 {q : FVec Ideal S64x512 .bf16} {s : FVec Ideal S256x128 .f32} (hq : isQ P T 1 q) (hs : isS P W B T 2 3 s) : isO P W B T 1 3 (k0_pay74 (F := Ideal) q s) := by
  intro r v
  refine Eq.trans ?_ (oo_eq P W B T 1 3 r.val v.val (by omega) r.isLt).symm
  pointwise [k0_pay74]
  refine Finset.sum_congr rfl fun k _ => ?_
  simp only [hq _ _, hs _ _, Nat.add_zero, Nat.mul_zero, Nat.zero_add, Nat.mul_one, Nat.reduceMul, Nat.reduceAdd]

theorem o20 {q : FVec Ideal S64x512 .bf16} {s : FVec Ideal S256x128 .f32} (hq : isQ P T 2 q) (hs : isS P W B T 3 0 s) : isO P W B T 2 0 (k0_pay75 (F := Ideal) q s) := by
  intro r v
  refine Eq.trans ?_ (oo_eq P W B T 2 0 r.val v.val (by omega) r.isLt).symm
  pointwise [k0_pay75]
  refine Finset.sum_congr rfl fun k _ => ?_
  simp only [hq _ _, hs _ _, Nat.add_zero, Nat.mul_zero, Nat.zero_add, Nat.mul_one, Nat.reduceMul, Nat.reduceAdd]

theorem o21 {q : FVec Ideal S64x512 .bf16} {s : FVec Ideal S256x128 .f32} (hq : isQ P T 2 q) (hs : isS P W B T 3 1 s) : isO P W B T 2 1 (k0_pay76 (F := Ideal) q s) := by
  intro r v
  refine Eq.trans ?_ (oo_eq P W B T 2 1 r.val v.val (by omega) r.isLt).symm
  pointwise [k0_pay76]
  refine Finset.sum_congr rfl fun k _ => ?_
  simp only [hq _ _, hs _ _, Nat.add_zero, Nat.mul_zero, Nat.zero_add, Nat.mul_one, Nat.reduceMul, Nat.reduceAdd]

theorem o22 {q : FVec Ideal S64x512 .bf16} {s : FVec Ideal S256x128 .f32} (hq : isQ P T 2 q) (hs : isS P W B T 3 2 s) : isO P W B T 2 2 (k0_pay77 (F := Ideal) q s) := by
  intro r v
  refine Eq.trans ?_ (oo_eq P W B T 2 2 r.val v.val (by omega) r.isLt).symm
  pointwise [k0_pay77]
  refine Finset.sum_congr rfl fun k _ => ?_
  simp only [hq _ _, hs _ _, Nat.add_zero, Nat.mul_zero, Nat.zero_add, Nat.mul_one, Nat.reduceMul, Nat.reduceAdd]

theorem o23 {q : FVec Ideal S64x512 .bf16} {i m : FVec Ideal S256x128 .f32} (hq : isQ P T 2 q) (hi : isI P W B T 2 3 i) (hm : isM P W B T 2 3 m) : isO P W B T 2 3 (k0_pay78 (F := Ideal) q i m) := by
  have hs := s32 hi hm
  intro r v
  refine Eq.trans ?_ (oo_eq P W B T 2 3 r.val v.val (by omega) r.isLt).symm
  unfold k0_pay78
  generalize k0_pay64 (F := Ideal) i m = s at hs ⊢
  pointwise
  refine Finset.sum_congr rfl fun k _ => ?_
  simp only [hq _ _, hs _ _, Nat.add_zero, Nat.mul_zero, Nat.zero_add, Nat.mul_one, Nat.reduceMul, Nat.reduceAdd]

theorem o30 {q : FVec Ideal S64x512 .bf16} {s : FVec Ideal S256x128 .f32} (hq : isQ P T 3 q) (hs : isS P W B T 4 0 s) : isO P W B T 3 0 (k0_pay79 (F := Ideal) q s) := by
  intro r v
  refine Eq.trans ?_ (oo_eq P W B T 3 0 r.val v.val (by omega) r.isLt).symm
  pointwise [k0_pay79]
  refine Finset.sum_congr rfl fun k _ => ?_
  simp only [hq _ _, hs _ _, Nat.add_zero, Nat.mul_zero, Nat.zero_add, Nat.mul_one, Nat.reduceMul, Nat.reduceAdd]

theorem o31 {q : FVec Ideal S64x512 .bf16} {s : FVec Ideal S256x128 .f32} (hq : isQ P T 3 q) (hs : isS P W B T 4 1 s) : isO P W B T 3 1 (k0_pay80 (F := Ideal) q s) := by
  intro r v
  refine Eq.trans ?_ (oo_eq P W B T 3 1 r.val v.val (by omega) r.isLt).symm
  pointwise [k0_pay80]
  refine Finset.sum_congr rfl fun k _ => ?_
  simp only [hq _ _, hs _ _, Nat.add_zero, Nat.mul_zero, Nat.zero_add, Nat.mul_one, Nat.reduceMul, Nat.reduceAdd]

theorem o32 {q : FVec Ideal S64x512 .bf16} {s : FVec Ideal S256x128 .f32} (hq : isQ P T 3 q) (hs : isS P W B T 4 2 s) : isO P W B T 3 2 (k0_pay81 (F := Ideal) q s) := by
  intro r v
  refine Eq.trans ?_ (oo_eq P W B T 3 2 r.val v.val (by omega) r.isLt).symm
  pointwise [k0_pay81]
  refine Finset.sum_congr rfl fun k _ => ?_
  simp only [hq _ _, hs _ _, Nat.add_zero, Nat.mul_zero, Nat.zero_add, Nat.mul_one, Nat.reduceMul, Nat.reduceAdd]

theorem o33 {q : FVec Ideal S64x512 .bf16} {s : FVec Ideal S256x128 .f32} (hq : isQ P T 3 q) (hs : isS P W B T 4 3 s) : isO P W B T 3 3 (k0_pay82 (F := Ideal) q s) := by
  intro r v
  refine Eq.trans ?_ (oo_eq P W B T 3 3 r.val v.val (by omega) r.isLt).symm
  pointwise [k0_pay82]
  refine Finset.sum_congr rfl fun k _ => ?_
  simp only [hq _ _, hs _ _, Nat.add_zero, Nat.mul_zero, Nat.zero_add, Nat.mul_one, Nat.reduceMul, Nat.reduceAdd]

theorem f00 {g : FVec Ideal S1x256 .f32} {o x : FVec Ideal S64x256 .f32} (hg : isG G g) (ho : isO P W B T 0 0 o) (hx : isR P T 0 0 x) :
    isF P W B G T 0 0 (k0_pay83 (F := Ideal) g o x) := by
  intro r v
  refine Eq.trans (b := o (ix2 r v) * Ideal.rsqrt (Ideal.div (∑ w : Fin 256, o (ix2 r w) * o (ix2 r w)) c256 + cE) * g (ix2 0 v) * (x (ix2 r v) * (cH + cH * Ideal.tanh (cH * x (ix2 r v))))) ?_ ?_
  · pointwise [k0_pay83]
  · simp only [ho _ _, hx _ _, hg _, tanh_sig]; rfl

theorem f01 {g : FVec Ideal S1x256 .f32} {o x : FVec Ideal S64x256 .f32} (hg : isG G g) (ho : isO P W B T 0 1 o) (hx : isR P T 0 1 x) :
    isF P W B G T 0 1 (k0_pay86 (F := Ideal) g o x ( k0_pay84 (F := Ideal) o)  (k0_pay85 (F := Ideal))) := by
  intro r v
  refine Eq.trans (b := o (ix2 r v) * Ideal.rsqrt (Ideal.div (∑ w : Fin 256, o (ix2 r w) * o (ix2 r w)) c256 + cE) * g (ix2 0 v) * (x (ix2 r v) * (cH + cH * Ideal.tanh (cH * x (ix2 r v))))) ?_ ?_
  · pointwise [k0_pay86, k0_pay84, k0_pay85]
  · simp only [ho _ _, hx _ _, hg _, tanh_sig]; rfl

theorem f02 {g : FVec Ideal S1x256 .f32} {o x : FVec Ideal S64x256 .f32} (hg : isG G g) (ho : isO P W B T 0 2 o) (hx : isR P T 0 2 x) :
    isF P W B G T 0 2 (k0_pay87 (F := Ideal) g o x) := by
  intro r v
  refine Eq.trans (b := o (ix2 r v) * Ideal.rsqrt (Ideal.div (∑ w : Fin 256, o (ix2 r w) * o (ix2 r w)) c256 + cE) * g (ix2 0 v) * (x (ix2 r v) * (cH + cH * Ideal.tanh (cH * x (ix2 r v))))) ?_ ?_
  · pointwise [k0_pay87]
  · simp only [ho _ _, hx _ _, hg _, tanh_sig]; rfl

theorem f03 {g : FVec Ideal S1x256 .f32} {o x : FVec Ideal S64x256 .f32} (hg : isG G g) (ho : isO P W B T 0 3 o) (hx : isR P T 0 3 x) :
    isF P W B G T 0 3 (k0_pay88 (F := Ideal) g o x) := by
  intro r v
  refine Eq.trans (b := o (ix2 r v) * Ideal.rsqrt (Ideal.div (∑ w : Fin 256, o (ix2 r w) * o (ix2 r w)) c256 + cE) * g (ix2 0 v) * (x (ix2 r v) * (cH + cH * Ideal.tanh (cH * x (ix2 r v))))) ?_ ?_
  · pointwise [k0_pay88]
  · simp only [ho _ _, hx _ _, hg _, tanh_sig]; rfl

theorem f10 {g : FVec Ideal S1x256 .f32} {o x : FVec Ideal S64x256 .f32} (hg : isG G g) (ho : isO P W B T 1 0 o) (hx : isR P T 1 0 x) :
    isF P W B G T 1 0 (k0_pay92 (F := Ideal) x ( k0_pay89 (F := Ideal) g o) ( k0_pay90 (F := Ideal) x)  (k0_pay91 (F := Ideal))) := by
  intro r v
  refine Eq.trans (b := o (ix2 r v) * Ideal.rsqrt (Ideal.div (∑ w : Fin 256, o (ix2 r w) * o (ix2 r w)) c256 + cE) * g (ix2 0 v) * (x (ix2 r v) * (cH + cH * Ideal.tanh (cH * x (ix2 r v))))) ?_ ?_
  · pointwise [k0_pay92, k0_pay89, k0_pay90, k0_pay91]
  · simp only [ho _ _, hx _ _, hg _, tanh_sig]; rfl

theorem f11 {g : FVec Ideal S1x256 .f32} {o x : FVec Ideal S64x256 .f32} (hg : isG G g) (ho : isO P W B T 1 1 o) (hx : isR P T 1 1 x) :
    isF P W B G T 1 1 (k0_pay93 (F := Ideal) g o x) := by
  intro r v
  refine Eq.trans (b := o (ix2 r v) * Ideal.rsqrt (Ideal.div (∑ w : Fin 256, o (ix2 r w) * o (ix2 r w)) c256 + cE) * g (ix2 0 v) * (x (ix2 r v) * (cH + cH * Ideal.tanh (cH * x (ix2 r v))))) ?_ ?_
  · pointwise [k0_pay93]
  · simp only [ho _ _, hx _ _, hg _, tanh_sig]; rfl

theorem f12 {g : FVec Ideal S1x256 .f32} {o x : FVec Ideal S64x256 .f32} (hg : isG G g) (ho : isO P W B T 1 2 o) (hx : isR P T 1 2 x) :
    isF P W B G T 1 2 (k0_pay95 (F := Ideal) g o x ( k0_pay94 (F := Ideal) o)) := by
  intro r v
  refine Eq.trans (b := o (ix2 r v) * Ideal.rsqrt (Ideal.div (∑ w : Fin 256, o (ix2 r w) * o (ix2 r w)) c256 + cE) * g (ix2 0 v) * (x (ix2 r v) * (cH + cH * Ideal.tanh (cH * x (ix2 r v))))) ?_ ?_
  · pointwise [k0_pay95, k0_pay94]
  · simp only [ho _ _, hx _ _, hg _, tanh_sig]; rfl

theorem f13 {g : FVec Ideal S1x256 .f32} {o x : FVec Ideal S64x256 .f32} (hg : isG G g) (ho : isO P W B T 1 3 o) (hx : isR P T 1 3 x) :
    isF P W B G T 1 3 (k0_pay96 (F := Ideal) g o x) := by
  intro r v
  refine Eq.trans (b := o (ix2 r v) * Ideal.rsqrt (Ideal.div (∑ w : Fin 256, o (ix2 r w) * o (ix2 r w)) c256 + cE) * g (ix2 0 v) * (x (ix2 r v) * (cH + cH * Ideal.tanh (cH * x (ix2 r v))))) ?_ ?_
  · pointwise [k0_pay96]
  · simp only [ho _ _, hx _ _, hg _, tanh_sig]; rfl

theorem f20 {g : FVec Ideal S1x256 .f32} {o x : FVec Ideal S64x256 .f32} (hg : isG G g) (ho : isO P W B T 2 0 o) (hx : isR P T 2 0 x) :
    isF P W B G T 2 0 (k0_pay98 (F := Ideal) g o x ( k0_pay97 (F := Ideal) o)) := by
  intro r v
  refine Eq.trans (b := o (ix2 r v) * Ideal.rsqrt (Ideal.div (∑ w : Fin 256, o (ix2 r w) * o (ix2 r w)) c256 + cE) * g (ix2 0 v) * (x (ix2 r v) * (cH + cH * Ideal.tanh (cH * x (ix2 r v))))) ?_ ?_
  · pointwise [k0_pay98, k0_pay97]
  · simp only [ho _ _, hx _ _, hg _, tanh_sig]; rfl

theorem f21 {g : FVec Ideal S1x256 .f32} {o x : FVec Ideal S64x256 .f32} (hg : isG G g) (ho : isO P W B T 2 1 o) (hx : isR P T 2 1 x) :
    isF P W B G T 2 1 (k0_pay101 (F := Ideal) ( k0_pay99 (F := Ideal) g o) ( k0_pay100 (F := Ideal) x)) := by
  intro r v
  refine Eq.trans (b := o (ix2 r v) * Ideal.rsqrt (Ideal.div (∑ w : Fin 256, o (ix2 r w) * o (ix2 r w)) c256 + cE) * g (ix2 0 v) * (x (ix2 r v) * (cH + cH * Ideal.tanh (cH * x (ix2 r v))))) ?_ ?_
  · pointwise [k0_pay101, k0_pay99, k0_pay100]
  · simp only [ho _ _, hx _ _, hg _, tanh_sig]; rfl

theorem f22 {g : FVec Ideal S1x256 .f32} {o x : FVec Ideal S64x256 .f32} (hg : isG G g) (ho : isO P W B T 2 2 o) (hx : isR P T 2 2 x) :
    isF P W B G T 2 2 (k0_pay102 (F := Ideal) g o x) := by
  intro r v
  refine Eq.trans (b := o (ix2 r v) * Ideal.rsqrt (Ideal.div (∑ w : Fin 256, o (ix2 r w) * o (ix2 r w)) c256 + cE) * g (ix2 0 v) * (x (ix2 r v) * (cH + cH * Ideal.tanh (cH * x (ix2 r v))))) ?_ ?_
  · pointwise [k0_pay102]
  · simp only [ho _ _, hx _ _, hg _, tanh_sig]; rfl

theorem f23 {g : FVec Ideal S1x256 .f32} {o x : FVec Ideal S64x256 .f32} (hg : isG G g) (ho : isO P W B T 2 3 o) (hx : isR P T 2 3 x) :
    isF P W B G T 2 3 (k0_pay104 (F := Ideal) x ( k0_pay103 (F := Ideal) g o) (Scalar.ofBits .f32 0x3F000000#32)) := by
  intro r v
  refine Eq.trans (b := o (ix2 r v) * Ideal.rsqrt (Ideal.div (∑ w : Fin 256, o (ix2 r w) * o (ix2 r w)) c256 + cE) * g (ix2 0 v) * (x (ix2 r v) * (cH + cH * Ideal.tanh (cH * x (ix2 r v))))) ?_ ?_
  · pointwise [k0_pay104, k0_pay103]
  · simp only [ho _ _, hx _ _, hg _, tanh_sig]; rfl

theorem f30 {g : FVec Ideal S1x256 .f32} {o x : FVec Ideal S64x256 .f32} (hg : isG G g) (ho : isO P W B T 3 0 o) (hx : isR P T 3 0 x) :
    isF P W B G T 3 0 (k0_pay105 (F := Ideal) g o x) := by
  intro r v
  refine Eq.trans (b := o (ix2 r v) * Ideal.rsqrt (Ideal.div (∑ w : Fin 256, o (ix2 r w) * o (ix2 r w)) c256 + cE) * g (ix2 0 v) * (x (ix2 r v) * (cH + cH * Ideal.tanh (cH * x (ix2 r v))))) ?_ ?_
  · pointwise [k0_pay105]
  · simp only [ho _ _, hx _ _, hg _, tanh_sig]; rfl

theorem f31 {g : FVec Ideal S1x256 .f32} {o x : FVec Ideal S64x256 .f32} (hg : isG G g) (ho : isO P W B T 3 1 o) (hx : isR P T 3 1 x) :
    isF P W B G T 3 1 (k0_pay108 (F := Ideal) g o x ( k0_pay106 (F := Ideal) o)  (k0_pay107 (F := Ideal))) := by
  intro r v
  refine Eq.trans (b := o (ix2 r v) * Ideal.rsqrt (Ideal.div (∑ w : Fin 256, o (ix2 r w) * o (ix2 r w)) c256 + cE) * g (ix2 0 v) * (x (ix2 r v) * (cH + cH * Ideal.tanh (cH * x (ix2 r v))))) ?_ ?_
  · pointwise [k0_pay108, k0_pay106, k0_pay107]
  · simp only [ho _ _, hx _ _, hg _, tanh_sig]; rfl

theorem f32 {g : FVec Ideal S1x256 .f32} {o x : FVec Ideal S64x256 .f32} (hg : isG G g) (ho : isO P W B T 3 2 o) (hx : isR P T 3 2 x) :
    isF P W B G T 3 2 (k0_pay109 (F := Ideal) g o x) := by
  intro r v
  refine Eq.trans (b := o (ix2 r v) * Ideal.rsqrt (Ideal.div (∑ w : Fin 256, o (ix2 r w) * o (ix2 r w)) c256 + cE) * g (ix2 0 v) * (x (ix2 r v) * (cH + cH * Ideal.tanh (cH * x (ix2 r v))))) ?_ ?_
  · pointwise [k0_pay109]
  · simp only [ho _ _, hx _ _, hg _, tanh_sig]; rfl

theorem f33 {g : FVec Ideal S1x256 .f32} {o x : FVec Ideal S64x256 .f32} (hg : isG G g) (ho : isO P W B T 3 3 o) (hx : isR P T 3 3 x) :
    isF P W B G T 3 3 (k0_pay1 (F := Ideal) g o x) := by
  intro r v
  refine Eq.trans (b := o (ix2 r v) * Ideal.rsqrt (Ideal.div (∑ w : Fin 256, o (ix2 r w) * o (ix2 r w)) c256 + cE) * g (ix2 0 v) * (x (ix2 r v) * (cH + cH * Ideal.tanh (cH * x (ix2 r v))))) ?_ ?_
  · pointwise [k0_pay1]
  · simp only [ho _ _, hx _ _, hg _, tanh_sig]; rfl

end Cert.Kernel5Ideal.Pay
-- ==== Proof.GlaCum.lean ====
/- The log decays and their running sums in the gated attention kernel, and its loads from the block. -/
module

public import proofs.«01_k».proof.Proof.GlaPay

@[expose] public section

set_option maxRecDepth 16384

noncomputable section

namespace Cert.Kernel5Ideal.Pay

open Cert.Kernel5Ideal Cert.Kernel5Ideal.Gen Idealize.ShloMosaic Idealize.ShloMosaic.TcCoe Idealize.SL.Sem Gla Layer

/-- The kernel's quotient by the chunk's length. -/
abbrev quo (a : BitVec 32) : BitVec 32 :=
  Scalar.select
    (IntOp.andi
      (IntOp.cmpi CmpIPredicate.ne
        (IntOp.subi (BitVec.setWidth 32 (IntOp.cmpi CmpIPredicate.sgt a 0#32)) (BitVec.setWidth 32 (IntOp.cmpi CmpIPredicate.slt a 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector a 64#32) 0#32))
    (IntOp.subi (IntOp.divsi ArithUnit.vector a 64#32) 1#32)
    (IntOp.divsi ArithUnit.vector a 64#32)

theorem quo_eq : ∀ r : Fin 256, quo (BitVec.ofNat 32 r.val) = BitVec.ofNat 32 (r.val / 64) := by decide +kernel
theorem ge_eq : ∀ r s : Fin 256, IntOp.cmpi CmpIPredicate.sge (BitVec.ofNat 32 r.val) (BitVec.ofNat 32 s.val) = if s.val ≤ r.val then 1#1 else 0#1 := by decide +kernel
theorem eq_eq : ∀ r s : Fin 4, IntOp.cmpi CmpIPredicate.eq (BitVec.ofNat 32 r.val) (BitVec.ofNat 32 s.val) = if r.val = s.val then 1#1 else 0#1 := by decide +kernel

/-- The kernel's mask. -/
abbrev TRI : FVec Ideal S256x256 .bf16 :=
  k0_pay8 (F := Ideal) (iota Kind.tc S256x256 32 [0] iota_S256x256_d0_w32) (iota Kind.tc S256x256 32 [1] iota_S256x256_d1_w32) k0_pay4 (64#32) k0_pay5 k0_pay6 k0_pay7

theorem tri_at (r s : Fin 256) : TRI (ix2 r s) = if s.val ≤ r.val ∧ r.val / 64 = s.val / 64 then 1 else 0 := by
  refine Eq.trans (b := Scalar.select (IntOp.andi (IntOp.cmpi CmpIPredicate.sge (BitVec.ofNat 32 r.val) (BitVec.ofNat 32 s.val))
    (IntOp.cmpi CmpIPredicate.eq (quo (BitVec.ofNat 32 r.val)) (quo (BitVec.ofNat 32 s.val)))) (1 : EReal) 0) ?_ ?_
  · pointwise [TRI, k0_pay8, k0_pay4, k0_pay5, k0_pay6, k0_pay7]
  · rw [quo_eq, quo_eq, ge_eq, eq_eq ⟨r.val / 64, by omega⟩ ⟨s.val / 64, by omega⟩]
    by_cases h1 : s.val ≤ r.val <;> by_cases h2 : r.val / 64 = s.val / 64 <;> simp [h1, h2, Scalar.select, IntOp.andi]

/-- A sum over the block's rows of the same chunk. -/
theorem tile_sum (y : ℕ → EReal) (c s : ℕ) (hc : c < 4) (hs : s < 64) :
    (∑ i : Fin 256, if i.val ≤ 64 * c + s ∧ (64 * c + s) / 64 = i.val / 64 then y i.val else 0) = ∑ i : Fin 64, if i.val ≤ s then y (64 * c + i.val) else 0 := by
  rw [← Finset.sum_filter, ← Finset.sum_filter]
  refine Finset.sum_bij' (fun n hn => ⟨n.val - 64 * c, by have := (Finset.mem_filter.mp hn).2; omega⟩) (fun n hn => ⟨64 * c + n.val, by omega⟩) ?_ ?_ ?_ ?_ ?_
  · intro n hn; have := (Finset.mem_filter.mp hn).2; simp only [Finset.mem_filter, Finset.mem_univ, true_and]; omega
  · intro n hn; have := (Finset.mem_filter.mp hn).2; simp only [Finset.mem_filter, Finset.mem_univ, true_and]; omega
  · intro n hn; have := (Finset.mem_filter.mp hn).2; apply Fin.ext; simp only; omega
  · intro n hn; apply Fin.ext; simp only; omega
  · intro n hn; have := (Finset.mem_filter.mp hn).2; simp only; congr 1; omega

variable {P W : ℕ → ℕ → EReal} {B G : ℕ → EReal} {T : ℕ}

/-- The block of the projections, the padded weight, the bias. -/
abbrev isX (P : ℕ → ℕ → EReal) (T : ℕ) (X : Vec Ideal S256x3584 .f32) : Prop := ∀ (r : Fin 256) (C : Fin 3584), X (ix2 r C) = P (256 * T + r.val) (3584 + C.val)
abbrev isW (W : ℕ → ℕ → EReal) (w : Vec Ideal S128x512 .bf16) : Prop := ∀ (d : Fin 128) (K : Fin 512), w (ix2 d K) = if d.val < 16 then W d.val K.val else 0
abbrev isB (B : ℕ → EReal) (b : Vec Ideal S1x512 .f32) : Prop := ∀ K : Fin 512, b (ix2 0 K) = B K.val

theorem la_at {X : Vec Ideal S256x3584 .f32} {w : Vec Ideal S128x512 .bf16} {b : Vec Ideal S1x512 .f32} (hX : isX P T X) (hw : isW W w) (hb : isB B b)
    (r : Fin 256) (K : Fin 512) :
    k0_pay3 (F := Ideal) (View.ld X (Rect.unit ![0, 3072] ![256, 128] inb_S256x3584_S256x128_0_3072)) w b (ix2 r K) = la P W B (256 * T + r.val) K.val := by
  have hs : ∑ d : Fin 128, X (ix2 r ⟨3072 + d.val, by omega⟩) * w (ix2 d K) + b (ix2 0 K)
      = ∑ d : Fin 16, P (256 * T + r.val) (6656 + d.val) * W d.val K.val + B K.val := by
    rw [hb K]
    refine congrArg (· + _) ?_
    rw [Fin.sum_univ_add (a := 16) (b := 112) (fun d : Fin 128 => X (ix2 r ⟨3072 + d.val, by omega⟩) * w (ix2 d K)), Finset.sum_eq_zero (s := (Finset.univ : Finset (Fin 112))), add_zero]
    · refine Finset.sum_congr rfl fun d _ => ?_
      have hd : (Fin.castAdd 112 d).val = d.val := rfl
      rw [hX, hw, if_pos (by rw [hd]; exact d.isLt)]
      simp only [hd]
      rw [show 3584 + (3072 + d.val) = 6656 + d.val by omega]
    · intro d _
      have hd : (Fin.natAdd 16 d).val = 16 + d.val := rfl
      rw [hw, if_neg (by rw [hd]; omega), mul_zero]
  unfold la
  rw [← hs, ← lsig_mul]
  unfold sp
  generalize hz : ∑ d : Fin 128, X (ix2 r ⟨3072 + d.val, by omega⟩) * w (ix2 d K) + b (ix2 0 K) = z
  rw [← hz]
  pointwise [k0_pay3]
  simp only [zero_sub]
  rfl

theorem cum_at {X : Vec Ideal S256x3584 .f32} {w : Vec Ideal S128x512 .bf16} {b : Vec Ideal S1x512 .f32} (hX : isX P T X) (hw : isW W w) (hb : isB B b) :
    isC P W B T (k0_pay10 (F := Ideal) (k0_pay3 (F := Ideal) (View.ld X (Rect.unit ![0, 3072] ![256, 128] inb_S256x3584_S256x128_0_3072)) w b) TRI
      (k0_pay9 (F := Ideal) (k0_pay3 (F := Ideal) (View.ld X (Rect.unit ![0, 3072] ![256, 128] inb_S256x3584_S256x128_0_3072)) w b))) := by
  have hf := la_at hX hw hb
  generalize k0_pay3 (F := Ideal) (View.ld X (Rect.unit ![0, 3072] ![256, 128] inb_S256x3584_S256x128_0_3072)) w b = f at hf ⊢
  have hq := tri_at
  generalize TRI = q at hq ⊢
  intro R K c s hR hs
  refine Eq.trans (b := (∑ s : Fin 256, q (ix2 R s) * f (ix2 s K)) + (∑ s : Fin 256, q (ix2 R s) * (f (ix2 s K) - f (ix2 s K)))) ?_ ?_
  · pointwise [k0_pay10, k0_pay9]
  · simp only [hq, hf]
    rw [split_sum (fun i : Fin 256 => i.val ≤ R.val ∧ R.val / 64 = i.val / 64) (fun i => la P W B (256 * T + i.val) K.val) (fun i => lsig_nonpos _) 0 1 rfl rfl]
    rw [hR, tile_sum (fun i => la P W B (256 * T + i) K.val) c s (by omega) hs]
    unfold cum
    refine Finset.sum_congr rfl fun i _ => ?_
    rw [show 256 * T + (64 * c + i.val) = 64 * (4 * T + c) + i.val by omega]
theorem key0 {X : Vec Ideal S256x3584 .f32} (hX : isX P T X) : isKey P T 0 (View.ld X (Rect.unit ![0, 512] ![64, 512] inb_S256x3584_S64x512_0_512)) := by
  intro r K
  refine Eq.trans (b := X (ix2 ⟨0 + r.val, by omega⟩ ⟨512 + K.val, by omega⟩)) (by pointwise) ?_
  exact (hX _ _).trans (congrArg₂ P (by dsimp only; omega) (by dsimp only; omega))

theorem qry0 {X : Vec Ideal S256x3584 .f32} (hX : isX P T X) : isQry P T 0 (View.ld X (Rect.unit ![0, 0] ![64, 512] inb_S256x3584_S64x512_0_0)) := by
  intro r K
  refine Eq.trans (b := X (ix2 ⟨0 + r.val, by omega⟩ ⟨0 + K.val, by omega⟩)) (by pointwise) ?_
  exact (hX _ _).trans (congrArg₂ P (by dsimp only; omega) (by dsimp only; omega))

theorem val00 {X : Vec Ideal S256x3584 .f32} (hX : isX P T X) : isV P T 0 0 (View.ld X (Rect.unit ![0, 1024] ![64, 256] inb_S256x3584_S64x256_0_1024)) := by
  intro r K
  refine Eq.trans (b := X (ix2 ⟨0 + r.val, by omega⟩ ⟨1024 + K.val, by omega⟩)) (by pointwise) ?_
  exact (hX _ _).trans (congrArg₂ P (by dsimp only; omega) (by dsimp only; omega))

theorem gat00 {X : Vec Ideal S256x3584 .f32} (hX : isX P T X) : isR P T 0 0 (View.ld X (Rect.unit ![0, 2048] ![64, 256] inb_S256x3584_S64x256_0_2048)) := by
  intro r K
  refine Eq.trans (b := X (ix2 ⟨0 + r.val, by omega⟩ ⟨2048 + K.val, by omega⟩)) (by pointwise) ?_
  exact (hX _ _).trans (congrArg₂ P (by dsimp only; omega) (by dsimp only; omega))

theorem val01 {X : Vec Ideal S256x3584 .f32} (hX : isX P T X) : isV P T 0 1 (View.ld X (Rect.unit ![0, 1280] ![64, 256] inb_S256x3584_S64x256_0_1280)) := by
  intro r K
  refine Eq.trans (b := X (ix2 ⟨0 + r.val, by omega⟩ ⟨1280 + K.val, by omega⟩)) (by pointwise) ?_
  exact (hX _ _).trans (congrArg₂ P (by dsimp only; omega) (by dsimp only; omega))

theorem gat01 {X : Vec Ideal S256x3584 .f32} (hX : isX P T X) : isR P T 0 1 (View.ld X (Rect.unit ![0, 2304] ![64, 256] inb_S256x3584_S64x256_0_2304)) := by
  intro r K
  refine Eq.trans (b := X (ix2 ⟨0 + r.val, by omega⟩ ⟨2304 + K.val, by omega⟩)) (by pointwise) ?_
  exact (hX _ _).trans (congrArg₂ P (by dsimp only; omega) (by dsimp only; omega))

theorem val02 {X : Vec Ideal S256x3584 .f32} (hX : isX P T X) : isV P T 0 2 (View.ld X (Rect.unit ![0, 1536] ![64, 256] inb_S256x3584_S64x256_0_1536)) := by
  intro r K
  refine Eq.trans (b := X (ix2 ⟨0 + r.val, by omega⟩ ⟨1536 + K.val, by omega⟩)) (by pointwise) ?_
  exact (hX _ _).trans (congrArg₂ P (by dsimp only; omega) (by dsimp only; omega))

theorem gat02 {X : Vec Ideal S256x3584 .f32} (hX : isX P T X) : isR P T 0 2 (View.ld X (Rect.unit ![0, 2560] ![64, 256] inb_S256x3584_S64x256_0_2560)) := by
  intro r K
  refine Eq.trans (b := X (ix2 ⟨0 + r.val, by omega⟩ ⟨2560 + K.val, by omega⟩)) (by pointwise) ?_
  exact (hX _ _).trans (congrArg₂ P (by dsimp only; omega) (by dsimp only; omega))

theorem val03 {X : Vec Ideal S256x3584 .f32} (hX : isX P T X) : isV P T 0 3 (View.ld X (Rect.unit ![0, 1792] ![64, 256] inb_S256x3584_S64x256_0_1792)) := by
  intro r K
  refine Eq.trans (b := X (ix2 ⟨0 + r.val, by omega⟩ ⟨1792 + K.val, by omega⟩)) (by pointwise) ?_
  exact (hX _ _).trans (congrArg₂ P (by dsimp only; omega) (by dsimp only; omega))

theorem gat03 {X : Vec Ideal S256x3584 .f32} (hX : isX P T X) : isR P T 0 3 (View.ld X (Rect.unit ![0, 2816] ![64, 256] inb_S256x3584_S64x256_0_2816)) := by
  intro r K
  refine Eq.trans (b := X (ix2 ⟨0 + r.val, by omega⟩ ⟨2816 + K.val, by omega⟩)) (by pointwise) ?_
  exact (hX _ _).trans (congrArg₂ P (by dsimp only; omega) (by dsimp only; omega))

theorem key1 {X : Vec Ideal S256x3584 .f32} (hX : isX P T X) : isKey P T 1 (View.ld X (Rect.unit ![64, 512] ![64, 512] inb_S256x3584_S64x512_64_512)) := by
  intro r K
  refine Eq.trans (b := X (ix2 ⟨64 + r.val, by omega⟩ ⟨512 + K.val, by omega⟩)) (by pointwise) ?_
  exact (hX _ _).trans (congrArg₂ P (by dsimp only; omega) (by dsimp only; omega))

theorem qry1 {X : Vec Ideal S256x3584 .f32} (hX : isX P T X) : isQry P T 1 (View.ld X (Rect.unit ![64, 0] ![64, 512] inb_S256x3584_S64x512_64_0)) := by
  intro r K
  refine Eq.trans (b := X (ix2 ⟨64 + r.val, by omega⟩ ⟨0 + K.val, by omega⟩)) (by pointwise) ?_
  exact (hX _ _).trans (congrArg₂ P (by dsimp only; omega) (by dsimp only; omega))

theorem val10 {X : Vec Ideal S256x3584 .f32} (hX : isX P T X) : isV P T 1 0 (View.ld X (Rect.unit ![64, 1024] ![64, 256] inb_S256x3584_S64x256_64_1024)) := by
  intro r K
  refine Eq.trans (b := X (ix2 ⟨64 + r.val, by omega⟩ ⟨1024 + K.val, by omega⟩)) (by pointwise) ?_
  exact (hX _ _).trans (congrArg₂ P (by dsimp only; omega) (by dsimp only; omega))

theorem gat10 {X : Vec Ideal S256x3584 .f32} (hX : isX P T X) : isR P T 1 0 (View.ld X (Rect.unit ![64, 2048] ![64, 256] inb_S256x3584_S64x256_64_2048)) := by
  intro r K
  refine Eq.trans (b := X (ix2 ⟨64 + r.val, by omega⟩ ⟨2048 + K.val, by omega⟩)) (by pointwise) ?_
  exact (hX _ _).trans (congrArg₂ P (by dsimp only; omega) (by dsimp only; omega))

theorem val11 {X : Vec Ideal S256x3584 .f32} (hX : isX P T X) : isV P T 1 1 (View.ld X (Rect.unit ![64, 1280] ![64, 256] inb_S256x3584_S64x256_64_1280)) := by
  intro r K
  refine Eq.trans (b := X (ix2 ⟨64 + r.val, by omega⟩ ⟨1280 + K.val, by omega⟩)) (by pointwise) ?_
  exact (hX _ _).trans (congrArg₂ P (by dsimp only; omega) (by dsimp only; omega))

theorem gat11 {X : Vec Ideal S256x3584 .f32} (hX : isX P T X) : isR P T 1 1 (View.ld X (Rect.unit ![64, 2304] ![64, 256] inb_S256x3584_S64x256_64_2304)) := by
  intro r K
  refine Eq.trans (b := X (ix2 ⟨64 + r.val, by omega⟩ ⟨2304 + K.val, by omega⟩)) (by pointwise) ?_
  exact (hX _ _).trans (congrArg₂ P (by dsimp only; omega) (by dsimp only; omega))

theorem val12 {X : Vec Ideal S256x3584 .f32} (hX : isX P T X) : isV P T 1 2 (View.ld X (Rect.unit ![64, 1536] ![64, 256] inb_S256x3584_S64x256_64_1536)) := by
  intro r K
  refine Eq.trans (b := X (ix2 ⟨64 + r.val, by omega⟩ ⟨1536 + K.val, by omega⟩)) (by pointwise) ?_
  exact (hX _ _).trans (congrArg₂ P (by dsimp only; omega) (by dsimp only; omega))

theorem gat12 {X : Vec Ideal S256x3584 .f32} (hX : isX P T X) : isR P T 1 2 (View.ld X (Rect.unit ![64, 2560] ![64, 256] inb_S256x3584_S64x256_64_2560)) := by
  intro r K
  refine Eq.trans (b := X (ix2 ⟨64 + r.val, by omega⟩ ⟨2560 + K.val, by omega⟩)) (by pointwise) ?_
  exact (hX _ _).trans (congrArg₂ P (by dsimp only; omega) (by dsimp only; omega))

theorem val13 {X : Vec Ideal S256x3584 .f32} (hX : isX P T X) : isV P T 1 3 (View.ld X (Rect.unit ![64, 1792] ![64, 256] inb_S256x3584_S64x256_64_1792)) := by
  intro r K
  refine Eq.trans (b := X (ix2 ⟨64 + r.val, by omega⟩ ⟨1792 + K.val, by omega⟩)) (by pointwise) ?_
  exact (hX _ _).trans (congrArg₂ P (by dsimp only; omega) (by dsimp only; omega))

theorem gat13 {X : Vec Ideal S256x3584 .f32} (hX : isX P T X) : isR P T 1 3 (View.ld X (Rect.unit ![64, 2816] ![64, 256] inb_S256x3584_S64x256_64_2816)) := by
  intro r K
  refine Eq.trans (b := X (ix2 ⟨64 + r.val, by omega⟩ ⟨2816 + K.val, by omega⟩)) (by pointwise) ?_
  exact (hX _ _).trans (congrArg₂ P (by dsimp only; omega) (by dsimp only; omega))

theorem key2 {X : Vec Ideal S256x3584 .f32} (hX : isX P T X) : isKey P T 2 (View.ld X (Rect.unit ![128, 512] ![64, 512] inb_S256x3584_S64x512_128_512)) := by
  intro r K
  refine Eq.trans (b := X (ix2 ⟨128 + r.val, by omega⟩ ⟨512 + K.val, by omega⟩)) (by pointwise) ?_
  exact (hX _ _).trans (congrArg₂ P (by dsimp only; omega) (by dsimp only; omega))

theorem qry2 {X : Vec Ideal S256x3584 .f32} (hX : isX P T X) : isQry P T 2 (View.ld X (Rect.unit ![128, 0] ![64, 512] inb_S256x3584_S64x512_128_0)) := by
  intro r K
  refine Eq.trans (b := X (ix2 ⟨128 + r.val, by omega⟩ ⟨0 + K.val, by omega⟩)) (by pointwise) ?_
  exact (hX _ _).trans (congrArg₂ P (by dsimp only; omega) (by dsimp only; omega))

theorem val20 {X : Vec Ideal S256x3584 .f32} (hX : isX P T X) : isV P T 2 0 (View.ld X (Rect.unit ![128, 1024] ![64, 256] inb_S256x3584_S64x256_128_1024)) := by
  intro r K
  refine Eq.trans (b := X (ix2 ⟨128 + r.val, by omega⟩ ⟨1024 + K.val, by omega⟩)) (by pointwise) ?_
  exact (hX _ _).trans (congrArg₂ P (by dsimp only; omega) (by dsimp only; omega))

theorem gat20 {X : Vec Ideal S256x3584 .f32} (hX : isX P T X) : isR P T 2 0 (View.ld X (Rect.unit ![128, 2048] ![64, 256] inb_S256x3584_S64x256_128_2048)) := by
  intro r K
  refine Eq.trans (b := X (ix2 ⟨128 + r.val, by omega⟩ ⟨2048 + K.val, by omega⟩)) (by pointwise) ?_
  exact (hX _ _).trans (congrArg₂ P (by dsimp only; omega) (by dsimp only; omega))

theorem val21 {X : Vec Ideal S256x3584 .f32} (hX : isX P T X) : isV P T 2 1 (View.ld X (Rect.unit ![128, 1280] ![64, 256] inb_S256x3584_S64x256_128_1280)) := by
  intro r K
  refine Eq.trans (b := X (ix2 ⟨128 + r.val, by omega⟩ ⟨1280 + K.val, by omega⟩)) (by pointwise) ?_
  exact (hX _ _).trans (congrArg₂ P (by dsimp only; omega) (by dsimp only; omega))

theorem gat21 {X : Vec Ideal S256x3584 .f32} (hX : isX P T X) : isR P T 2 1 (View.ld X (Rect.unit ![128, 2304] ![64, 256] inb_S256x3584_S64x256_128_2304)) := by
  intro r K
  refine Eq.trans (b := X (ix2 ⟨128 + r.val, by omega⟩ ⟨2304 + K.val, by omega⟩)) (by pointwise) ?_
  exact (hX _ _).trans (congrArg₂ P (by dsimp only; omega) (by dsimp only; omega))

theorem val22 {X : Vec Ideal S256x3584 .f32} (hX : isX P T X) : isV P T 2 2 (View.ld X (Rect.unit ![128, 1536] ![64, 256] inb_S256x3584_S64x256_128_1536)) := by
  intro r K
  refine Eq.trans (b := X (ix2 ⟨128 + r.val, by omega⟩ ⟨1536 + K.val, by omega⟩)) (by pointwise) ?_
  exact (hX _ _).trans (congrArg₂ P (by dsimp only; omega) (by dsimp only; omega))

theorem gat22 {X : Vec Ideal S256x3584 .f32} (hX : isX P T X) : isR P T 2 2 (View.ld X (Rect.unit ![128, 2560] ![64, 256] inb_S256x3584_S64x256_128_2560)) := by
  intro r K
  refine Eq.trans (b := X (ix2 ⟨128 + r.val, by omega⟩ ⟨2560 + K.val, by omega⟩)) (by pointwise) ?_
  exact (hX _ _).trans (congrArg₂ P (by dsimp only; omega) (by dsimp only; omega))

theorem val23 {X : Vec Ideal S256x3584 .f32} (hX : isX P T X) : isV P T 2 3 (View.ld X (Rect.unit ![128, 1792] ![64, 256] inb_S256x3584_S64x256_128_1792)) := by
  intro r K
  refine Eq.trans (b := X (ix2 ⟨128 + r.val, by omega⟩ ⟨1792 + K.val, by omega⟩)) (by pointwise) ?_
  exact (hX _ _).trans (congrArg₂ P (by dsimp only; omega) (by dsimp only; omega))

theorem gat23 {X : Vec Ideal S256x3584 .f32} (hX : isX P T X) : isR P T 2 3 (View.ld X (Rect.unit ![128, 2816] ![64, 256] inb_S256x3584_S64x256_128_2816)) := by
  intro r K
  refine Eq.trans (b := X (ix2 ⟨128 + r.val, by omega⟩ ⟨2816 + K.val, by omega⟩)) (by pointwise) ?_
  exact (hX _ _).trans (congrArg₂ P (by dsimp only; omega) (by dsimp only; omega))

theorem key3 {X : Vec Ideal S256x3584 .f32} (hX : isX P T X) : isKey P T 3 (View.ld X (Rect.unit ![192, 512] ![64, 512] inb_S256x3584_S64x512_192_512)) := by
  intro r K
  refine Eq.trans (b := X (ix2 ⟨192 + r.val, by omega⟩ ⟨512 + K.val, by omega⟩)) (by pointwise) ?_
  exact (hX _ _).trans (congrArg₂ P (by dsimp only; omega) (by dsimp only; omega))

theorem qry3 {X : Vec Ideal S256x3584 .f32} (hX : isX P T X) : isQry P T 3 (View.ld X (Rect.unit ![192, 0] ![64, 512] inb_S256x3584_S64x512_192_0)) := by
  intro r K
  refine Eq.trans (b := X (ix2 ⟨192 + r.val, by omega⟩ ⟨0 + K.val, by omega⟩)) (by pointwise) ?_
  exact (hX _ _).trans (congrArg₂ P (by dsimp only; omega) (by dsimp only; omega))

theorem val30 {X : Vec Ideal S256x3584 .f32} (hX : isX P T X) : isV P T 3 0 (View.ld X (Rect.unit ![192, 1024] ![64, 256] inb_S256x3584_S64x256_192_1024)) := by
  intro r K
  refine Eq.trans (b := X (ix2 ⟨192 + r.val, by omega⟩ ⟨1024 + K.val, by omega⟩)) (by pointwise) ?_
  exact (hX _ _).trans (congrArg₂ P (by dsimp only; omega) (by dsimp only; omega))

theorem gat30 {X : Vec Ideal S256x3584 .f32} (hX : isX P T X) : isR P T 3 0 (View.ld X (Rect.unit ![192, 2048] ![64, 256] inb_S256x3584_S64x256_192_2048)) := by
  intro r K
  refine Eq.trans (b := X (ix2 ⟨192 + r.val, by omega⟩ ⟨2048 + K.val, by omega⟩)) (by pointwise) ?_
  exact (hX _ _).trans (congrArg₂ P (by dsimp only; omega) (by dsimp only; omega))

theorem val31 {X : Vec Ideal S256x3584 .f32} (hX : isX P T X) : isV P T 3 1 (View.ld X (Rect.unit ![192, 1280] ![64, 256] inb_S256x3584_S64x256_192_1280)) := by
  intro r K
  refine Eq.trans (b := X (ix2 ⟨192 + r.val, by omega⟩ ⟨1280 + K.val, by omega⟩)) (by pointwise) ?_
  exact (hX _ _).trans (congrArg₂ P (by dsimp only; omega) (by dsimp only; omega))

theorem gat31 {X : Vec Ideal S256x3584 .f32} (hX : isX P T X) : isR P T 3 1 (View.ld X (Rect.unit ![192, 2304] ![64, 256] inb_S256x3584_S64x256_192_2304)) := by
  intro r K
  refine Eq.trans (b := X (ix2 ⟨192 + r.val, by omega⟩ ⟨2304 + K.val, by omega⟩)) (by pointwise) ?_
  exact (hX _ _).trans (congrArg₂ P (by dsimp only; omega) (by dsimp only; omega))

theorem val32 {X : Vec Ideal S256x3584 .f32} (hX : isX P T X) : isV P T 3 2 (View.ld X (Rect.unit ![192, 1536] ![64, 256] inb_S256x3584_S64x256_192_1536)) := by
  intro r K
  refine Eq.trans (b := X (ix2 ⟨192 + r.val, by omega⟩ ⟨1536 + K.val, by omega⟩)) (by pointwise) ?_
  exact (hX _ _).trans (congrArg₂ P (by dsimp only; omega) (by dsimp only; omega))

theorem gat32 {X : Vec Ideal S256x3584 .f32} (hX : isX P T X) : isR P T 3 2 (View.ld X (Rect.unit ![192, 2560] ![64, 256] inb_S256x3584_S64x256_192_2560)) := by
  intro r K
  refine Eq.trans (b := X (ix2 ⟨192 + r.val, by omega⟩ ⟨2560 + K.val, by omega⟩)) (by pointwise) ?_
  exact (hX _ _).trans (congrArg₂ P (by dsimp only; omega) (by dsimp only; omega))

theorem val33 {X : Vec Ideal S256x3584 .f32} (hX : isX P T X) : isV P T 3 3 (View.ld X (Rect.unit ![192, 1792] ![64, 256] inb_S256x3584_S64x256_192_1792)) := by
  intro r K
  refine Eq.trans (b := X (ix2 ⟨192 + r.val, by omega⟩ ⟨1792 + K.val, by omega⟩)) (by pointwise) ?_
  exact (hX _ _).trans (congrArg₂ P (by dsimp only; omega) (by dsimp only; omega))

theorem gat33 {X : Vec Ideal S256x3584 .f32} (hX : isX P T X) : isR P T 3 3 (View.ld X (Rect.unit ![192, 2816] ![64, 256] inb_S256x3584_S64x256_192_2816)) := by
  intro r K
  refine Eq.trans (b := X (ix2 ⟨192 + r.val, by omega⟩ ⟨2816 + K.val, by omega⟩)) (by pointwise) ?_
  exact (hX _ _).trans (congrArg₂ P (by dsimp only; omega) (by dsimp only; omega))

end Cert.Kernel5Ideal.Pay
-- ==== Proof.GlaScr.lean ====
/- The gated attention kernel's loads and stores of its state. -/
module

public import proofs.«01_k».proof.Proof.GlaPay
public import proofs.«01_k».proof.Proof.Gen.Kernel5Ideal.Value
public import Idealize.ShloMosaic.Lib.Pipeline.ValueKit
public import Idealize.ShloMosaic.Lib.Pipeline.ReadBack

@[expose] public section

set_option maxRecDepth 16384

noncomputable section

namespace Cert.Kernel5Ideal.Pay

open Cert.Kernel5Ideal Cert.Kernel5Ideal.Gen Idealize.ShloMosaic Idealize.ShloMosaic.TcCoe Idealize.SL.Sem Gla Layer

abbrev R0 : Rect S4x256x128 := Rect.unit ![0, 0, 0] ![1, 256, 128] inb_S4x256x128_S1x256x128_0_0_0
abbrev R1 : Rect S4x256x128 := Rect.unit ![1, 0, 0] ![1, 256, 128] inb_S4x256x128_S1x256x128_1_0_0
abbrev R2 : Rect S4x256x128 := Rect.unit ![2, 0, 0] ![1, 256, 128] inb_S4x256x128_S1x256x128_2_0_0
abbrev R3 : Rect S4x256x128 := Rect.unit ![3, 0, 0] ![1, 256, 128] inb_S4x256x128_S1x256x128_3_0_0
abbrev RW : Rect S4x256x128 := Rect.unit ![0, 0, 0] ![4, 256, 128] inb_S4x256x128_S4x256x128_0_0_0

/-- A store of head `a` is read at head `a` and not at another. -/
theorem skip {a : ℕ} {inb} (w : FVec Ideal S1x256x128 .f32) (L : List (View.Piece (Elt Ideal) S4x256x128 .f32)) (h : Fin 4) (v : Fin 256) (k : Fin 128) (hn : h.val ≠ a) :
    View.canon ((⟨Rect.unit ![a, 0, 0] ![1, 256, 128] inb, w⟩ : View.Piece (Elt Ideal) S4x256x128 .f32) :: L) (ix3 h v k) = View.canon L (ix3 h v k) := by
  refine View.canon_cons_of_not_mem _ _ ?_
  rw [Rect.mem_set_unit]
  intro hh
  have h0 : a ≤ h.val ∧ h.val < a + 1 := hh 0
  omega

theorem hit {a : ℕ} {inb} (w : FVec Ideal S1x256x128 .f32) (L : List (View.Piece (Elt Ideal) S4x256x128 .f32)) (h : Fin 4) (v : Fin 256) (k : Fin 128) (e : h.val = a) :
    View.canon ((⟨Rect.unit ![a, 0, 0] ![1, 256, 128] inb, w⟩ : View.Piece (Elt Ideal) S4x256x128 .f32) :: L) (ix3 h v k) = w (ix3 0 v k) := by
  have hx : (Rect.unit ![a, 0, 0] ![1, 256, 128] inb : Rect S4x256x128).emb (ix3 0 v k) = ix3 h v k := by
    funext x
    apply Fin.ext
    fin_cases x
    · show a + 1 * 0 = h.val; omega
    · show 0 + 1 * v.val = v.val; omega
    · show 0 + 1 * k.val = k.val; omega
  rw [← hx]
  exact View.canon_cons_emb _ _ _ _

theorem whole_at (w : FVec Ideal S4x256x128 .f32) (h : Fin 4) (v : Fin 256) (k : Fin 128) :
    View.canon [(⟨RW, w⟩ : View.Piece (Elt Ideal) S4x256x128 .f32)] (ix3 h v k) = w (ix3 h v k) := by
  have hx : RW.emb (ix3 h v k) = ix3 h v k := by
    funext x
    apply Fin.ext
    fin_cases x
    · show 0 + 1 * h.val = h.val; omega
    · show 0 + 1 * v.val = v.val; omega
    · show 0 + 1 * k.val = k.val; omega
  have := View.canon_cons_emb (Val := Elt Ideal) (e := .f32) RW w [] (ix3 h v k)
  rw [hx] at this
  exact this

theorem zero_at (y : S4x256x128.Idx) : (k0_pay2 (F := Ideal)) y = 0 := by
  idx_vars y
  pointwise [k0_pay2]

variable {P W : ℕ → ℕ → EReal} {B : ℕ → EReal} {T : ℕ}

/-- The state the block before left, head by head. -/
abbrev isSt (P W : ℕ → ℕ → EReal) (B : ℕ → EReal) (T n : ℕ) (s : FVec Ideal S4x256x128 .f32) : Prop :=
  ∀ (h : Fin 4) (v : Fin 256) (k : Fin 128), s (ix3 h v k) = st P W B (T / 16) h.val k.val v.val (4 * (T % 16) + n)

theorem scr_at (p0 p1 p2 p3 : FVec Ideal S1x256x128 .f32) (L : List (View.Piece (Elt Ideal) S4x256x128 .f32))
    (h0 : isT P W B T 4 0 p0) (h1 : isT P W B T 4 1 p1) (h2 : isT P W B T 4 2 p2) (h3 : isT P W B T 4 3 p3) :
    isSt P W B T 4 (View.canon ((⟨R3, p3⟩ : View.Piece (Elt Ideal) S4x256x128 .f32) :: ⟨R2, p2⟩ :: ⟨R1, p1⟩ :: ⟨R0, p0⟩ :: L)) := by
  intro h v k
  obtain ⟨h, hh⟩ := h
  rcases (by omega : h = 0 ∨ h = 1 ∨ h = 2 ∨ h = 3) with e | e | e | e <;> subst e
  · rw [skip (a := 3) _ _ ⟨0, hh⟩ v k (show (0 : ℕ) ≠ 3 by decide), skip (a := 2) _ _ ⟨0, hh⟩ v k (show (0 : ℕ) ≠ 2 by decide), skip (a := 1) _ _ ⟨0, hh⟩ v k (show (0 : ℕ) ≠ 1 by decide), hit (a := 0) _ _ ⟨0, hh⟩ v k rfl]; exact h0 v k
  · rw [skip (a := 3) _ _ ⟨1, hh⟩ v k (show (1 : ℕ) ≠ 3 by decide), skip (a := 2) _ _ ⟨1, hh⟩ v k (show (1 : ℕ) ≠ 2 by decide), hit (a := 1) _ _ ⟨1, hh⟩ v k rfl]; exact h1 v k
  · rw [skip (a := 3) _ _ ⟨2, hh⟩ v k (show (2 : ℕ) ≠ 3 by decide), hit (a := 2) _ _ ⟨2, hh⟩ v k rfl]; exact h2 v k
  · rw [hit (a := 3) _ _ ⟨3, hh⟩ v k rfl]; exact h3 v k

theorem ldB0 {s : FVec Ideal S4x256x128 .f32} (hs : isSt P W B T 0 s) : isT P W B T 0 0 (View.ld (Val := Elt Ideal) (e' := .f32) s R0) := by
  intro v k
  refine Eq.trans (b := s (ix3 0 v k)) (by pointwise) (hs 0 v k)

theorem ldA0 (hT : T % 16 = 0)  :
    isT P W B T 0 0 ((View.whole cc0_scratch0).readCov (Val := Elt Ideal) [⟨RW, k0_pay2 (F := Ideal)⟩] R0.toLoadRect) := by
  intro v k
  rw [hT, View.readCov_eq_canon']
  have hx : R0.toLoadRect.idx (ix3 0 v k) = (ix3 0 v k : S4x256x128.Idx) := by
    funext x
    apply Fin.ext
    fin_cases x
    · rfl
    · show 0 + 1 * v.val = v.val; omega
    · show 0 + 1 * k.val = k.val; omega
  show View.canon _ (R0.toLoadRect.idx (ix3 0 v k)) = _
  rw [hx]
  rw [whole_at, zero_at]
  rfl

theorem ldB1 {s : FVec Ideal S4x256x128 .f32} (hs : isSt P W B T 0 s) : isT P W B T 0 1 (View.ld (Val := Elt Ideal) (e' := .f32) s R1) := by
  intro v k
  refine Eq.trans (b := s (ix3 1 v k)) (by pointwise) (hs 1 v k)

theorem ldA1 (hT : T % 16 = 0) (w0 : FVec Ideal S1x256x128 .f32) :
    isT P W B T 0 1 ((View.whole cc0_scratch0).readCov (Val := Elt Ideal) [⟨R0, w0⟩, ⟨RW, k0_pay2 (F := Ideal)⟩] R1.toLoadRect) := by
  intro v k
  rw [hT, View.readCov_eq_canon']
  have hx : R1.toLoadRect.idx (ix3 0 v k) = (ix3 1 v k : S4x256x128.Idx) := by
    funext x
    apply Fin.ext
    fin_cases x
    · rfl
    · show 0 + 1 * v.val = v.val; omega
    · show 0 + 1 * k.val = k.val; omega
  show View.canon _ (R1.toLoadRect.idx (ix3 0 v k)) = _
  rw [hx]
  rw [skip (a := 0) _ _ 1 v k (by decide), whole_at, zero_at]
  rfl

theorem ldB2 {s : FVec Ideal S4x256x128 .f32} (hs : isSt P W B T 0 s) : isT P W B T 0 2 (View.ld (Val := Elt Ideal) (e' := .f32) s R2) := by
  intro v k
  refine Eq.trans (b := s (ix3 2 v k)) (by pointwise) (hs 2 v k)

theorem ldA2 (hT : T % 16 = 0) (w0 w1 : FVec Ideal S1x256x128 .f32) :
    isT P W B T 0 2 ((View.whole cc0_scratch0).readCov (Val := Elt Ideal) [⟨R1, w1⟩, ⟨R0, w0⟩, ⟨RW, k0_pay2 (F := Ideal)⟩] R2.toLoadRect) := by
  intro v k
  rw [hT, View.readCov_eq_canon']
  have hx : R2.toLoadRect.idx (ix3 0 v k) = (ix3 2 v k : S4x256x128.Idx) := by
    funext x
    apply Fin.ext
    fin_cases x
    · rfl
    · show 0 + 1 * v.val = v.val; omega
    · show 0 + 1 * k.val = k.val; omega
  show View.canon _ (R2.toLoadRect.idx (ix3 0 v k)) = _
  rw [hx]
  rw [skip (a := 1) _ _ 2 v k (by decide), skip (a := 0) _ _ 2 v k (by decide), whole_at, zero_at]
  rfl

theorem ldB3 {s : FVec Ideal S4x256x128 .f32} (hs : isSt P W B T 0 s) : isT P W B T 0 3 (View.ld (Val := Elt Ideal) (e' := .f32) s R3) := by
  intro v k
  refine Eq.trans (b := s (ix3 3 v k)) (by pointwise) (hs 3 v k)

theorem ldA3 (hT : T % 16 = 0) (w0 w1 w2 : FVec Ideal S1x256x128 .f32) :
    isT P W B T 0 3 ((View.whole cc0_scratch0).readCov (Val := Elt Ideal) [⟨R2, w2⟩, ⟨R1, w1⟩, ⟨R0, w0⟩, ⟨RW, k0_pay2 (F := Ideal)⟩] R3.toLoadRect) := by
  intro v k
  rw [hT, View.readCov_eq_canon']
  have hx : R3.toLoadRect.idx (ix3 0 v k) = (ix3 3 v k : S4x256x128.Idx) := by
    funext x
    apply Fin.ext
    fin_cases x
    · rfl
    · show 0 + 1 * v.val = v.val; omega
    · show 0 + 1 * k.val = k.val; omega
  show View.canon _ (R3.toLoadRect.idx (ix3 0 v k)) = _
  rw [hx]
  rw [skip (a := 2) _ _ 3 v k (by decide), skip (a := 1) _ _ 3 v k (by decide), skip (a := 0) _ _ 3 v k (by decide), whole_at, zero_at]
  rfl

end Cert.Kernel5Ideal.Pay
-- ==== Proof.GlaPoint.lean ====
/- What a grid point of the gated attention kernel leaves in its output block and in its state. -/
module

public import proofs.«01_k».proof.Proof.GlaCum
public import proofs.«01_k».proof.Proof.GlaScr

@[expose] public section

set_option maxRecDepth 16384

noncomputable section

namespace Cert.Kernel5Ideal.Pay

open Cert.Kernel5Ideal Cert.Kernel5Ideal.Gen Idealize.ShloMosaic Idealize.ShloMosaic.TcCoe Idealize.SL.Sem Gla Layer

variable (m : (ℓ : Loc nD τ sig) → Buf (Elt Ideal) ℓ) (c : Dev nD)
variable {P W : ℕ → ℕ → EReal} {B G : ℕ → EReal}

theorem res_row {R R' h h' v v' : ℕ} (a : R = R') (b : h = h') (d : v = v') : res P W B G R h v = res P W B G R' h' v' := by
  subst a b d; rfl

theorem outA (t : Fin cfg0.N) (h0 : t.val % 16 = 0)
    (hX : isX P t.val (X0_0 m c t)) (hw : isW W (iblk m c 1 t)) (hb : isB B (iblk m c 2 t)) (hg : isG G (iblk m c 3 t)) :
    ∀ (r : Fin 256) (C : Fin 1024), (outsAt0 m c t.val t.isLt).1 (ix2 r C) = res P W B G (256 * t.val + r.val) (C.val / 256) (C.val % 256) := by
  intro r C
  rw [outsAt0_A m c t h0]
  frame_out
  generalize iblk m c 1 t = w at hw ⊢
  generalize iblk m c 2 t = b at hb ⊢
  generalize iblk m c 3 t = g at hg ⊢
  generalize X0_0 m c t = X at hX ⊢
  have hU := cum_at hX hw hb
  have E0 := e0 hU
  have D0 := kd0 hU (key0 hX)
  have Q0 := q0 (qry0 hX)
  have E1 := e1 hU
  have D1 := kd1 hU (key1 hX)
  have Q1 := q1 (qry1 hX)
  have E2 := e2 hU
  have D2 := kd2 hU (key2 hX)
  have Q2 := q2 (qry2 hX)
  have E3 := e3 hU
  have D3 := kd3 hU (key3 hX)
  have Q3 := q3 (qry3 hX)
  have I00 := i00 D0 (val00 hX)
  have I01 := i01 D0 (val01 hX)
  have I02 := i02 D0 (val02 hX)
  have I03 := i03 D0 (val03 hX)
  have I10 := i10 D1 (val10 hX)
  have I11 := i11 D1 (val11 hX)
  have I12 := i12 D1 (val12 hX)
  have I13 := i13 D1 (val13 hX)
  have I20 := i20 D2 (val20 hX)
  have I21 := i21 D2 (val21 hX)
  have I22 := i22 D2 (val22 hX)
  have I23 := i23 D2 (val23 hX)
  have I30 := i30 D3 (val30 hX)
  have I31 := i31 D3 (val31 hX)
  have I32 := i32 D3 (val32 hX)
  have I33 := i33 D3 (val33 hX)
  have H := g11 hg
  canon_tiles x hx
  · idx_vars x
    exact (f33 H (o33 Q3 (s33 E3 I23 I33 (m32 E0 E1 E2 I03 I13 (ldA3 h0 _ _ _)))) (gat33 hX) x0 x1).trans (res_row (by omega) (by omega) (by omega))
  · idx_vars x
    exact (f32 H (o32 Q3 (s23 E0 E1 E2 E3 I02 I12 I22 I32 (ldA2 h0 _ _))) (gat32 hX) x0 x1).trans (res_row (by omega) (by omega) (by omega))
  · idx_vars x
    exact (f31 H (o31 Q3 (s13 E2 E3 I11 I21 I31 (m11 E0 E1 I01 (ldA1 h0 _)))) (gat31 hX) x0 x1).trans (res_row (by omega) (by omega) (by omega))
  · idx_vars x
    exact (f30 H (o30 Q3 (s03 E0 E1 E2 E3 I00 I10 I20 I30 (ldA0 h0))) (gat30 hX) x0 x1).trans (res_row (by omega) (by omega) (by omega))
  · idx_vars x
    exact (f23 H (o23 Q2 I23 (m32 E0 E1 E2 I03 I13 (ldA3 h0 _ _ _))) (gat23 hX) x0 x1).trans (res_row (by omega) (by omega) (by omega))
  · idx_vars x
    exact (f22 H (o22 Q2 (s22 E0 E1 E2 I02 I12 I22 (ldA2 h0 _ _))) (gat22 hX) x0 x1).trans (res_row (by omega) (by omega) (by omega))
  · idx_vars x
    exact (f21 H (o21 Q2 (s12 E2 I11 I21 (m11 E0 E1 I01 (ldA1 h0 _)))) (gat21 hX) x0 x1).trans (res_row (by omega) (by omega) (by omega))
  · idx_vars x
    exact (f20 H (o20 Q2 (s02 E0 E1 E2 I00 I10 I20 (ldA0 h0))) (gat20 hX) x0 x1).trans (res_row (by omega) (by omega) (by omega))
  · idx_vars x
    exact (f13 H (o13 Q1 (s31 E0 E1 I03 I13 (ldA3 h0 _ _ _))) (gat13 hX) x0 x1).trans (res_row (by omega) (by omega) (by omega))
  · idx_vars x
    exact (f12 H (o12 Q1 (s21 E0 E1 I02 I12 (ldA2 h0 _ _))) (gat12 hX) x0 x1).trans (res_row (by omega) (by omega) (by omega))
  · idx_vars x
    exact (f11 H (o11 Q1 (s11 I11 (m11 E0 E1 I01 (ldA1 h0 _)))) (gat11 hX) x0 x1).trans (res_row (by omega) (by omega) (by omega))
  · idx_vars x
    exact (f10 H (o10 Q1 (s01 E0 E1 I00 I10 (ldA0 h0))) (gat10 hX) x0 x1).trans (res_row (by omega) (by omega) (by omega))
  · idx_vars x
    exact (f03 H (o03 Q0 (s30 E0 I03 (ldA3 h0 _ _ _))) (gat03 hX) x0 x1).trans (res_row (by omega) (by omega) (by omega))
  · idx_vars x
    exact (f02 H (o02 Q0 (s20 E0 I02 (ldA2 h0 _ _))) (gat02 hX) x0 x1).trans (res_row (by omega) (by omega) (by omega))
  · idx_vars x
    exact (f01 H (o01 Q0 (s10 E0 I01 (ldA1 h0 _))) (gat01 hX) x0 x1).trans (res_row (by omega) (by omega) (by omega))
  · idx_vars x
    exact (f00 H (o00 Q0 (s00 E0 I00 (ldA0 h0))) (gat00 hX) x0 x1).trans (res_row (by omega) (by omega) (by omega))

theorem scrA (t : Fin cfg0.N) (h0 : t.val % 16 = 0)
    (hX : isX P t.val (X0_0 m c t)) (hw : isW W (iblk m c 1 t)) (hb : isB B (iblk m c 2 t)) (hg : isG G (iblk m c 3 t)) :
    isSt P W B t.val 4 (outsAt0 m c t.val t.isLt).2 := by
  rw [outsAt0_A m c t h0]
  frame_out
  generalize iblk m c 1 t = w at hw ⊢
  generalize iblk m c 2 t = b at hb ⊢
  generalize iblk m c 3 t = g at hg ⊢
  generalize X0_0 m c t = X at hX ⊢
  have hU := cum_at hX hw hb
  have E0 := e0 hU
  have D0 := kd0 hU (key0 hX)
  have Q0 := q0 (qry0 hX)
  have E1 := e1 hU
  have D1 := kd1 hU (key1 hX)
  have Q1 := q1 (qry1 hX)
  have E2 := e2 hU
  have D2 := kd2 hU (key2 hX)
  have Q2 := q2 (qry2 hX)
  have E3 := e3 hU
  have D3 := kd3 hU (key3 hX)
  have Q3 := q3 (qry3 hX)
  have I00 := i00 D0 (val00 hX)
  have I01 := i01 D0 (val01 hX)
  have I02 := i02 D0 (val02 hX)
  have I03 := i03 D0 (val03 hX)
  have I10 := i10 D1 (val10 hX)
  have I11 := i11 D1 (val11 hX)
  have I12 := i12 D1 (val12 hX)
  have I13 := i13 D1 (val13 hX)
  have I20 := i20 D2 (val20 hX)
  have I21 := i21 D2 (val21 hX)
  have I22 := i22 D2 (val22 hX)
  have I23 := i23 D2 (val23 hX)
  have I30 := i30 D3 (val30 hX)
  have I31 := i31 D3 (val31 hX)
  have I32 := i32 D3 (val32 hX)
  have I33 := i33 D3 (val33 hX)
  exact scr_at _ _ _ _ _ (t0 E0 E1 E2 E3 I00 I10 I20 I30 (ldA0 h0)) (t1 E2 E3 I11 I21 I31 (m11 E0 E1 I01 (ldA1 h0 _))) (t2 E0 E1 E2 E3 I02 I12 I22 I32 (ldA2 h0 _ _)) (t3 E3 I23 I33 (m32 E0 E1 E2 I03 I13 (ldA3 h0 _ _ _)))

theorem outB (t : Fin cfg0.N) (h0 : ¬t.val % 16 = 0)
    (hX : isX P t.val (X0_0 m c t)) (hw : isW W (iblk m c 1 t)) (hb : isB B (iblk m c 2 t)) (hg : isG G (iblk m c 3 t))
    (hs : isSt P W B t.val 0 (outsAt0 m c (t.val - 1) (Nat.lt_of_le_of_lt (Nat.sub_le _ _) t.isLt)).2) :
    ∀ (r : Fin 256) (C : Fin 1024), (outsAt0 m c t.val t.isLt).1 (ix2 r C) = res P W B G (256 * t.val + r.val) (C.val / 256) (C.val % 256) := by
  intro r C
  rw [outsAt0_B m c t h0]
  frame_out
  simp only [read_unread_whole]
  generalize (outsAt0 m c (t.val - 1) (Nat.lt_of_le_of_lt (Nat.sub_le _ _) t.isLt)).2 = s at hs ⊢
  generalize iblk m c 1 t = w at hw ⊢
  generalize iblk m c 2 t = b at hb ⊢
  generalize iblk m c 3 t = g at hg ⊢
  generalize X0_0 m c t = X at hX ⊢
  have hU := cum_at hX hw hb
  have E0 := e0 hU
  have D0 := kd0 hU (key0 hX)
  have Q0 := q0 (qry0 hX)
  have E1 := e1 hU
  have D1 := kd1 hU (key1 hX)
  have Q1 := q1 (qry1 hX)
  have E2 := e2 hU
  have D2 := kd2 hU (key2 hX)
  have Q2 := q2 (qry2 hX)
  have E3 := e3 hU
  have D3 := kd3 hU (key3 hX)
  have Q3 := q3 (qry3 hX)
  have I00 := i00 D0 (val00 hX)
  have I01 := i01 D0 (val01 hX)
  have I02 := i02 D0 (val02 hX)
  have I03 := i03 D0 (val03 hX)
  have I10 := i10 D1 (val10 hX)
  have I11 := i11 D1 (val11 hX)
  have I12 := i12 D1 (val12 hX)
  have I13 := i13 D1 (val13 hX)
  have I20 := i20 D2 (val20 hX)
  have I21 := i21 D2 (val21 hX)
  have I22 := i22 D2 (val22 hX)
  have I23 := i23 D2 (val23 hX)
  have I30 := i30 D3 (val30 hX)
  have I31 := i31 D3 (val31 hX)
  have I32 := i32 D3 (val32 hX)
  have I33 := i33 D3 (val33 hX)
  have L0 := ldB0 hs
  have L1 := ldB1 hs
  have L2 := ldB2 hs
  have L3 := ldB3 hs
  have H := g11 hg
  canon_tiles x hx
  · idx_vars x
    exact (f33 H (o33 Q3 (s33 E3 I23 I33 (m32 E0 E1 E2 I03 I13 L3))) (gat33 hX) x0 x1).trans (res_row (by omega) (by omega) (by omega))
  · idx_vars x
    exact (f32 H (o32 Q3 (s23 E0 E1 E2 E3 I02 I12 I22 I32 L2)) (gat32 hX) x0 x1).trans (res_row (by omega) (by omega) (by omega))
  · idx_vars x
    exact (f31 H (o31 Q3 (s13 E2 E3 I11 I21 I31 (m11 E0 E1 I01 L1))) (gat31 hX) x0 x1).trans (res_row (by omega) (by omega) (by omega))
  · idx_vars x
    exact (f30 H (o30 Q3 (s03 E0 E1 E2 E3 I00 I10 I20 I30 L0)) (gat30 hX) x0 x1).trans (res_row (by omega) (by omega) (by omega))
  · idx_vars x
    exact (f23 H (o23 Q2 I23 (m32 E0 E1 E2 I03 I13 L3)) (gat23 hX) x0 x1).trans (res_row (by omega) (by omega) (by omega))
  · idx_vars x
    exact (f22 H (o22 Q2 (s22 E0 E1 E2 I02 I12 I22 L2)) (gat22 hX) x0 x1).trans (res_row (by omega) (by omega) (by omega))
  · idx_vars x
    exact (f21 H (o21 Q2 (s12 E2 I11 I21 (m11 E0 E1 I01 L1))) (gat21 hX) x0 x1).trans (res_row (by omega) (by omega) (by omega))
  · idx_vars x
    exact (f20 H (o20 Q2 (s02 E0 E1 E2 I00 I10 I20 L0)) (gat20 hX) x0 x1).trans (res_row (by omega) (by omega) (by omega))
  · idx_vars x
    exact (f13 H (o13 Q1 (s31 E0 E1 I03 I13 L3)) (gat13 hX) x0 x1).trans (res_row (by omega) (by omega) (by omega))
  · idx_vars x
    exact (f12 H (o12 Q1 (s21 E0 E1 I02 I12 L2)) (gat12 hX) x0 x1).trans (res_row (by omega) (by omega) (by omega))
  · idx_vars x
    exact (f11 H (o11 Q1 (s11 I11 (m11 E0 E1 I01 L1))) (gat11 hX) x0 x1).trans (res_row (by omega) (by omega) (by omega))
  · idx_vars x
    exact (f10 H (o10 Q1 (s01 E0 E1 I00 I10 L0)) (gat10 hX) x0 x1).trans (res_row (by omega) (by omega) (by omega))
  · idx_vars x
    exact (f03 H (o03 Q0 (s30 E0 I03 L3)) (gat03 hX) x0 x1).trans (res_row (by omega) (by omega) (by omega))
  · idx_vars x
    exact (f02 H (o02 Q0 (s20 E0 I02 L2)) (gat02 hX) x0 x1).trans (res_row (by omega) (by omega) (by omega))
  · idx_vars x
    exact (f01 H (o01 Q0 (s10 E0 I01 L1)) (gat01 hX) x0 x1).trans (res_row (by omega) (by omega) (by omega))
  · idx_vars x
    exact (f00 H (o00 Q0 (s00 E0 I00 L0)) (gat00 hX) x0 x1).trans (res_row (by omega) (by omega) (by omega))

theorem scrB (t : Fin cfg0.N) (h0 : ¬t.val % 16 = 0)
    (hX : isX P t.val (X0_0 m c t)) (hw : isW W (iblk m c 1 t)) (hb : isB B (iblk m c 2 t)) (hg : isG G (iblk m c 3 t))
    (hs : isSt P W B t.val 0 (outsAt0 m c (t.val - 1) (Nat.lt_of_le_of_lt (Nat.sub_le _ _) t.isLt)).2) :
    isSt P W B t.val 4 (outsAt0 m c t.val t.isLt).2 := by
  rw [outsAt0_B m c t h0]
  frame_out
  simp only [read_unread_whole]
  generalize (outsAt0 m c (t.val - 1) (Nat.lt_of_le_of_lt (Nat.sub_le _ _) t.isLt)).2 = s at hs ⊢
  generalize iblk m c 1 t = w at hw ⊢
  generalize iblk m c 2 t = b at hb ⊢
  generalize iblk m c 3 t = g at hg ⊢
  generalize X0_0 m c t = X at hX ⊢
  have hU := cum_at hX hw hb
  have E0 := e0 hU
  have D0 := kd0 hU (key0 hX)
  have Q0 := q0 (qry0 hX)
  have E1 := e1 hU
  have D1 := kd1 hU (key1 hX)
  have Q1 := q1 (qry1 hX)
  have E2 := e2 hU
  have D2 := kd2 hU (key2 hX)
  have Q2 := q2 (qry2 hX)
  have E3 := e3 hU
  have D3 := kd3 hU (key3 hX)
  have Q3 := q3 (qry3 hX)
  have I00 := i00 D0 (val00 hX)
  have I01 := i01 D0 (val01 hX)
  have I02 := i02 D0 (val02 hX)
  have I03 := i03 D0 (val03 hX)
  have I10 := i10 D1 (val10 hX)
  have I11 := i11 D1 (val11 hX)
  have I12 := i12 D1 (val12 hX)
  have I13 := i13 D1 (val13 hX)
  have I20 := i20 D2 (val20 hX)
  have I21 := i21 D2 (val21 hX)
  have I22 := i22 D2 (val22 hX)
  have I23 := i23 D2 (val23 hX)
  have I30 := i30 D3 (val30 hX)
  have I31 := i31 D3 (val31 hX)
  have I32 := i32 D3 (val32 hX)
  have I33 := i33 D3 (val33 hX)
  have L0 := ldB0 hs
  have L1 := ldB1 hs
  have L2 := ldB2 hs
  have L3 := ldB3 hs
  exact scr_at _ _ _ _ _ (t0 E0 E1 E2 E3 I00 I10 I20 I30 L0) (t1 E2 E3 I11 I21 I31 (m11 E0 E1 I01 L1)) (t2 E0 E1 E2 E3 I02 I12 I22 I32 L2) (t3 E3 I23 I33 (m32 E0 E1 E2 I03 I13 L3))

end Cert.Kernel5Ideal.Pay
-- ==== Proof.GlaRef.lean ====
/- The reference's arrays at the loop's entry, as functions of the arguments' elements. -/
module

public import proofs.«01_k».proof.Proof.GlaSpec
public import proofs.«01_k».proof.Proof.Gen.Reference5Ideal.Run

@[expose] public section

set_option maxRecDepth 16384

noncomputable section

namespace Cert.Reference5Ideal.Read

open Cert.Reference5Ideal Cert.Reference5Ideal.Gen Cert.Reference5Ideal.Value
open Idealize.ShloMosaic Idealize.ShloMosaic.TcCoe Idealize.ShloMosaic.Tactic Idealize.SL Idealize.SL.Sem Idealize.ShloMosaic.StableHlo Gla

/-- The group of columns the branch reads. -/
def E0 (p : FVec Ideal S8192x11264 .f32) : FVec Ideal S8192x3088 .f32 := extractStridedSlice S8192x3088 ![0, 3584] p slices_S8192x11264_S8192x3088_0_3584
/-- The preactivation. -/
def E7 (p : FVec Ideal S8192x11264 .f32) (w : FVec Ideal S1x16x512 .f32) (b : FVec Ideal S1x512 .f32) : FVec Ideal S8192x512 .f32 :=
  addf (Host.dotGeneral dot_S8192x16_S16x512_S8192x512_1_0_0_1_n_n none (extractStridedSlice S8192x16 ![0, 3072] (E0 p) slices_S8192x3088_S8192x16_0_3072)
      (shapeCast S16x512 w shapeCasts_S1x16x512_S16x512))
    (broadcastInDim S8192x512 ![0, 1] bcast_S1x512_S8192x512_0_1 (broadcastInDim S1x512 ![1] bcast_S512_S1x512_1 (shapeCast S512 b shapeCasts_S1x512_S512)))
abbrev zr : FVec Ideal S8192x512 .f32 := broadcastInDim S8192x512 ![] bcast_S_S8192x512 (constant S_ .f32 0x00000000#32)
/-- The log-sigmoid. -/
def E8 (z : FVec Ideal S8192x512 .f32) : FVec Ideal S8192x512 .f32 :=
  Host.negf (select (cmpf .une (subf (Host.negf z) zr) (subf (Host.negf z) zr)) (addf (Host.negf z) zr)
    (addf (maximumf (Host.negf z) zr) (Host.log1p (Host.exp (Host.negf (Host.absf (subf (Host.negf z) zr)))))))
def E11 (y : FVec Ideal S8192x512 .f32) : FVec Ideal S2x64x64x4x128 .f32 :=
  shapeCast S2x64x64x4x128 (Host.divf y (broadcastInDim S8192x512 ![] bcast_S_S8192x512 (constant S_ .f32 0x41800000#32))) shapeCasts_S8192x512_S2x64x64x4x128
/-- The running sums. -/
def E12 (x : FVec Ideal S2x64x64x4x128 .f32) : FVec Ideal S2x64x64x4x128 .f32 :=
  Host.reduceWindowAdd ![1, 1, 64, 1, 1] ![1, 1, 1, 1, 1] ![0, 0, 63, 0, 0] ![0, 0, 0, 0, 0] x (broadcastInDim S_ ![] bcast_S_S_ (constant S_ .f32 0x00000000#32))
    reduceWindows_S2x64x64x4x128_S2x64x64x4x128_w1s1p0_0_w1s1p0_0_w64s1p63_0_w1s1p0_0_w1s1p0_0 h_S_
def E14 (x : FVec Ideal S2x64x64x4x128 .f32) : FVec Ideal S2x64x4x128 .f32 :=
  shapeCast S2x64x4x128 (extractStridedSlice S2x64x1x4x128 ![0, 0, 63, 0, 0] x slices_S2x64x64x4x128_S2x64x1x4x128_0_0_63_0_0) shapeCasts_S2x64x1x4x128_S2x64x4x128
def E26 (x : FVec Ideal S2x64x64x4x128 .f32) : FVec Ideal S64x2x4x128 .f32 := transpose S64x2x4x128 [1, 0, 2, 3] (E14 x) transposes_S2x64x4x128_S64x2x4x128_1_0_2_3
/-- The decayed keys. -/
def E21 (g : FVec Ideal S8192x3088 .f32) (x : FVec Ideal S2x64x64x4x128 .f32) : FVec Ideal S2x64x64x4x128 .f32 :=
  mulf (shapeCast S2x64x64x4x128 (extractStridedSlice S8192x512 ![0, 512] g slices_S8192x3088_S8192x512_0_512) shapeCasts_S8192x512_S2x64x64x4x128)
    (Host.exp (subf (broadcastInDim S2x64x64x4x128 ![0, 1, 2, 3, 4] bcast_S2x64x1x4x128_S2x64x64x4x128_0_1_2_3_4
      (broadcastInDim S2x64x1x4x128 ![0, 1, 3, 4] bcast_S2x64x4x128_S2x64x1x4x128_0_1_3_4 (E14 x))) x))
/-- The increments. -/
def E24 (g : FVec Ideal S8192x3088 .f32) (x : FVec Ideal S2x64x64x4x128 .f32) : FVec Ideal S64x2x4x128x256 .f32 :=
  Host.dotGeneral dot_S2x64x64x4x128_S2x64x64x4x256_S64x2x4x128x256_2_2_4_4_103_103 none (E21 g x)
    (shapeCast S2x64x64x4x256 (extractStridedSlice S8192x1024 ![0, 1024] g slices_S8192x3088_S8192x1024_0_1024) shapeCasts_S8192x1024_S2x64x64x4x256)

section
variable (V : Valuation τ sig (Elt Ideal))
theorem s0_v0 : after hostOps0 V (Proc.devRef .tc main_v0) = E0 (V (Proc.devRef .tc main_arg0)) := by
  after_reads_simp; rfl
theorem s0_v7 : after hostOps0 V (Proc.devRef .tc main_v7) = E7 (V (Proc.devRef .tc main_arg0)) (V (Proc.devRef .tc main_arg1)) (V (Proc.devRef .tc main_arg2)) := by
  after_reads_simp; rfl
theorem s1_v8 : after hostOps0_1 V (Proc.devRef .tc main_v8) = E8 (V (Proc.devRef .tc main_v7)) := by
  after_reads_simp; rfl
theorem s2_v11 : after hostOps0_2 V (Proc.devRef .tc main_v11) = E11 (V (Proc.devRef .tc main_v8)) := by
  after_reads_simp; rfl
theorem s3_v12 : after hostOps0_3 V (Proc.devRef .tc main_v12) = E12 (V (Proc.devRef .tc main_v11)) := by
  after_reads_simp; rfl
theorem s4_v28_0 : after hostOps0_4 V (Proc.devRef .tc main_v28_0) = E26 (V (Proc.devRef .tc main_v12)) := by
  after_reads_simp; rfl
theorem s4_v28_1 : after hostOps0_4 V (Proc.devRef .tc main_v28_1) = E24 (V (Proc.devRef .tc main_v0)) (V (Proc.devRef .tc main_v12)) := by
  after_reads_simp; rfl
theorem s4_v28_3 : after hostOps0_4 V (Proc.devRef .tc main_v28_3) = (broadcastInDim S2x4x128x256 ![] bcast_S_S2x4x128x256 (constant S_ .f32 0x00000000#32 : FVec Ideal S_ .f32)) := by
  after_reads_simp; rfl
end

variable (m : (ℓ : Loc nD τ sig) → Buf (Elt Ideal) ℓ) (c : Dev nD)

/-- The running sums of the arguments. -/
def cumA (p : FVec Ideal S8192x11264 .f32) (w : FVec Ideal S1x16x512 .f32) (b : FVec Ideal S1x512 .f32) : FVec Ideal S2x64x64x4x128 .f32 := E12 (E11 (E8 (E7 p w b)))

abbrev a0 : FVec Ideal S8192x11264 .f32 := m ((c.tc : Thread nD τ).loc main_arg0)
abbrev a1 : FVec Ideal S1x16x512 .f32 := m ((c.tc : Thread nD τ).loc main_arg1)
abbrev a2 : FVec Ideal S1x512 .f32 := m ((c.tc : Thread nD τ).loc main_arg2)
abbrev a3 : FVec Ideal S1x256 .f32 := m ((c.tc : Thread nD τ).loc main_arg3)

theorem entry0 : entryContents preI m c (Proc.devRef .tc main_v28_0) = E26 (cumA (a0 m c) (a1 m c) (a2 m c)) := by
  simp only [entryContents, afterL_cons, afterL_nil]
  rw [s4_v28_0, s3_v12, s2_v11, s1_v8, s0_v7]; rfl
theorem entry1 : entryContents preI m c (Proc.devRef .tc main_v28_1) = E24 (E0 (a0 m c)) (cumA (a0 m c) (a1 m c) (a2 m c)) := by
  simp only [entryContents, afterL_cons, afterL_nil]
  rw [s4_v28_1, s3_v12, s2_v11, s1_v8, s0_v7, after_of_writes_sub hostOps0_3 _ hostOps0_3_writes (by decide +kernel),
    after_of_writes_sub hostOps0_2 _ hostOps0_2_writes (by decide +kernel), after_of_writes_sub hostOps0_1 _ hostOps0_1_writes (by decide +kernel), s0_v0]; rfl
theorem entry3 : entryContents preI m c (Proc.devRef .tc main_v28_3) = (broadcastInDim S2x4x128x256 ![] bcast_S_S2x4x128x256 (constant S_ .f32 0x00000000#32 : FVec Ideal S_ .f32)) := by
  simp only [entryContents, afterL_cons, afterL_nil]
  rw [s4_v28_3]

/-- The row of a batch, a chunk and a place in it. -/
def rw5 (b : Fin 2) (n s : Fin 64) : Fin 8192 := ⟨4096 * b.val + 64 * n.val + s.val, by omega⟩

theorem E7_at (p : FVec Ideal S8192x11264 .f32) (w : FVec Ideal S1x16x512 .f32) (b : FVec Ideal S1x512 .f32) (R : Fin 8192) (K : Fin 512) :
    E7 p w b (ix2 R K) = ∑ d : Fin 16, n2 p R.val (6656 + d.val) * n3 w d.val K.val + n2 b 0 K.val := by
  pointwise [E7, E0]
  rw [n2_at b 0 K]
  refine congrArg (· + _) (Finset.sum_congr rfl fun d _ => ?_)
  rw [n2_at p, n3_at w]
  simp only [show 3584 + (3072 + d.val) = 6656 + d.val by omega]

theorem E8_at (z : FVec Ideal S8192x512 .f32) (R : Fin 8192) (K : Fin 512) :
    Ideal.div (E8 z (ix2 R K)) c16 = lsig (z (ix2 R K)) := by
  pointwise [E8]
  rw [if_neg (by simp)]
  rfl

theorem E11_at (y : FVec Ideal S8192x512 .f32) (b : Fin 2) (n s : Fin 64) (h : Fin 4) (k : Fin 128) :
    E11 y (ix5 b n s h k) = Ideal.div (y (ix2 (rw5 b n s) ⟨128 * h.val + k.val, by omega⟩)) c16 := by
  pointwise [E11]
  have e1 : (⟨b.val * 4096 + n.val * 64 + s.val, by omega⟩ : Fin 8192) = rw5 b n s := Fin.ext (by simp only [rw5]; omega)
  have e2 : (⟨h.val * 128 + k.val, by omega⟩ : Fin 512) = ⟨128 * h.val + k.val, by omega⟩ := Fin.ext (by simp only; omega)
  rw [e1, e2]

theorem E26_at (x : FVec Ideal S2x64x64x4x128 .f32) (b : Fin 2) (n : Fin 64) (h : Fin 4) (k : Fin 128) :
    E26 x (ix4 n b h k) = x (ix5 b n 63 h k) := by
  pointwise [E26, E14]

theorem E24_at (p : FVec Ideal S8192x11264 .f32) (x : FVec Ideal S2x64x64x4x128 .f32) (b : Fin 2) (n : Fin 64) (h : Fin 4) (k : Fin 128) (v : Fin 256) :
    E24 (E0 p) x (ix5 n b h k v) = ∑ s : Fin 64, n2 p (4096 * b.val + 64 * n.val + s.val) (4096 + 128 * h.val + k.val) * Ideal.exp (x (ix5 b n 63 h k) - x (ix5 b n s h k))
      * n2 p (4096 * b.val + 64 * n.val + s.val) (4608 + 256 * h.val + v.val) := by
  pointwise [E24, E21, E14, E0]
  refine Finset.sum_congr rfl fun s _ => ?_
  rw [n2_at p, n2_at p]
  simp only [show b.val * 4096 + n.val * 64 + s.val = 4096 * b.val + 64 * n.val + s.val by omega,
    show 3584 + (512 + (h.val * 128 + k.val)) = 4096 + 128 * h.val + k.val by omega,
    show 3584 + (1024 + (h.val * 256 + v.val)) = 4608 + 256 * h.val + v.val by omega]

theorem cumA_at (p : FVec Ideal S8192x11264 .f32) (w : FVec Ideal S1x16x512 .f32) (b : FVec Ideal S1x512 .f32) (β : Fin 2) (n c : Fin 64) (h : Fin 4) (k : Fin 128) :
    cumA p w b (ix5 β n c h k) = cum (n2 p) (n3 w) (n2 b 0) (64 * β.val + n.val) c.val (128 * h.val + k.val) := by
  unfold cumA E12
  refine (cumsum5 _ _ (fun i => by pointwise) _ _ β n c h k).trans ?_
  unfold cum
  refine Finset.sum_congr rfl fun s _ => ?_
  rw [E11_at, E8_at, E7_at]
  simp only [rw5, la]
  simp only [show 4096 * β.val + 64 * n.val + s.val = 64 * (64 * β.val + n.val) + s.val by omega]

theorem tot_at (p : FVec Ideal S8192x11264 .f32) (w : FVec Ideal S1x16x512 .f32) (b : FVec Ideal S1x512 .f32) (β : Fin 2) (n : Fin 64) (h : Fin 4) (k : Fin 128) :
    E26 (cumA p w b) (ix4 n β h k) = cum (n2 p) (n3 w) (n2 b 0) (64 * β.val + n.val) 63 (128 * h.val + k.val) := by
  rw [E26_at, cumA_at]; rfl

theorem inc_at (p : FVec Ideal S8192x11264 .f32) (w : FVec Ideal S1x16x512 .f32) (b : FVec Ideal S1x512 .f32) (β : Fin 2) (n : Fin 64) (h : Fin 4) (k : Fin 128) (v : Fin 256) :
    E24 (E0 p) (cumA p w b) (ix5 n β h k v) = inc (n2 p) (n3 w) (n2 b 0) (64 * β.val + n.val) h.val k.val v.val := by
  rw [E24_at]
  unfold inc kd
  refine Finset.sum_congr rfl fun s _ => ?_
  rw [cumA_at, cumA_at]
  simp only [show 4096 * β.val + 64 * n.val + s.val = 64 * (64 * β.val + n.val) + s.val by omega, add_assoc]
  rfl

end Cert.Reference5Ideal.Read
-- ==== Proof.GlaLoop.lean ====
/- The reference's loop: the state and the states kept after each trip. -/
module

public import proofs.«01_k».proof.Proof.GlaRef
public import Idealize.ShloMosaic.Lib.DynamicIndex

@[expose] public section

set_option maxRecDepth 16384

noncomputable section

namespace Cert.Reference5Ideal.Read

open Cert.Reference5Ideal Cert.Reference5Ideal.Gen Cert.Reference5Ideal.Value
open Idealize.ShloMosaic Idealize.ShloMosaic.TcCoe Idealize.ShloMosaic.Tactic Idealize.SL Idealize.SL.Sem Idealize.ShloMosaic.StableHlo Gla

theorem s4 (n : ℕ) (hn : n < 64) : S64x2x4x128.Slices ![n, 0, 0, 0] S1x2x4x128 :=
  ⟨rfl, fun a => by fin_cases a <;> simp [Shape.size] <;> omega⟩
theorem s5 (n : ℕ) (hn : n < 64) : S64x2x4x128x256.Slices ![n, 0, 0, 0, 0] S1x2x4x128x256 :=
  ⟨rfl, fun a => by fin_cases a <;> simp [Shape.size] <;> omega⟩

theorem ds4 (n : ℕ) (hn : n < 64) (x : FVec Ideal S64x2x4x128 .f32) (start : Fin 4 → Int) (h : S64x2x4x128.Slices (fun _ => 0) S1x2x4x128)
    (hs : start = ![(n : Int), 0, 0, 0]) :
    Host.dynamicSlice S1x2x4x128 x start h = extractStridedSlice S1x2x4x128 ![n, 0, 0, 0] x (s4 n hn) :=
  Host.dynamicSlice_eq_extractStridedSlice S1x2x4x128 x start ![n, 0, 0, 0] h (s4 n hn) (fun a => by subst hs; fin_cases a <;> rfl)
theorem ds5 (n : ℕ) (hn : n < 64) (x : FVec Ideal S64x2x4x128x256 .f32) (start : Fin 5 → Int) (h : S64x2x4x128x256.Slices (fun _ => 0) S1x2x4x128x256)
    (hs : start = ![(n : Int), 0, 0, 0, 0]) :
    Host.dynamicSlice S1x2x4x128x256 x start h = extractStridedSlice S1x2x4x128x256 ![n, 0, 0, 0, 0] x (s5 n hn) :=
  Host.dynamicSlice_eq_extractStridedSlice S1x2x4x128x256 x start ![n, 0, 0, 0, 0] h (s5 n hn) (fun a => by subst hs; fin_cases a <;> rfl)
theorem du5 (n : ℕ) (hn : n < 64) (x : FVec Ideal S64x2x4x128x256 .f32) (u : FVec Ideal S1x2x4x128x256 .f32) (start : Fin 5 → Int) (h : S64x2x4x128x256.Slices (fun _ => 0) S1x2x4x128x256)
    (hs : start = ![(n : Int), 0, 0, 0, 0]) :
    Host.dynamicUpdateSlice x u start h = updateSlice x u ![n, 0, 0, 0, 0] (s5 n hn) := by
  refine Host.dynamicUpdateSlice_eq_updateSlice x u start h ![n, 0, 0, 0, 0] (fun a => ?_) (s5 n hn)
  subst hs
  have := (s5 n hn).2 a
  have e : (![(n : Int), 0, 0, 0, 0] : Fin 5 → Int) a = ((![n, 0, 0, 0, 0] : Fin 5 → ℕ) a : Int) := by fin_cases a <;> rfl
  change (![n, 0, 0, 0, 0] : Fin 5 → ℕ) a + _ ≤ _ at this
  change (min (max ((![(n : Int), 0, 0, 0, 0] : Fin 5 → Int) a) 0) _).toNat = _
  rw [e]
  omega

theorem start4 (n : ℕ) (hn : n < 64) : (fun k : Fin 4 => BitVec.toInt ((![fun _ => BitVec.ofNat 32 n, constantI S_ 32 0#32, constantI S_ 32 0#32, constantI S_ 32 0#32] : Fin 4 → IVec S_ 32) k (Shape.Idx.first h_S_)))
    = ![(n : Int), 0, 0, 0] := by
  funext k
  fin_cases k
  · exact toInt_ofNat_of_lt (by omega)
  · rfl
  · rfl
  · rfl
theorem start5 (n : ℕ) (hn : n < 64) : (fun k : Fin 5 => BitVec.toInt ((![fun _ => BitVec.ofNat 32 n, constantI S_ 32 0#32, constantI S_ 32 0#32, constantI S_ 32 0#32, constantI S_ 32 0#32] : Fin 5 → IVec S_ 32) k (Shape.Idx.first h_S_)))
    = ![(n : Int), 0, 0, 0, 0] := by
  funext k
  fin_cases k
  · exact toInt_ofNat_of_lt (by omega)
  · rfl
  · rfl
  · rfl
  · rfl

section
variable (V : Valuation τ sig (Elt Ideal)) (n : ℕ) (hn : n < 64) (hc : V (Proc.devRef .tc main_v28_2) = fun _ => BitVec.ofNat 32 n)
include hn hc

/-- The state after a trip. -/
def nst (T : FVec Ideal S64x2x4x128 .f32) (U : FVec Ideal S64x2x4x128x256 .f32) (Z : FVec Ideal S2x4x128x256 .f32) : FVec Ideal S2x4x128x256 .f32 :=
  addf (mulf (broadcastInDim S2x4x128x256 ![0, 1, 2, 3] bcast_S2x4x128x1_S2x4x128x256_0_1_2_3 (broadcastInDim S2x4x128x1 ![0, 1, 2] bcast_S2x4x128_S2x4x128x1_0_1_2
    (Host.exp (shapeCast S2x4x128 (extractStridedSlice S1x2x4x128 ![n, 0, 0, 0] T (s4 n hn)) shapeCasts_S1x2x4x128_S2x4x128)))) Z)
    (shapeCast S2x4x128x256 (extractStridedSlice S1x2x4x128x256 ![n, 0, 0, 0, 0] U (s5 n hn)) shapeCasts_S1x2x4x128x256_S2x4x128x256)

omit hc in
theorem nst_at (T : FVec Ideal S64x2x4x128 .f32) (U : FVec Ideal S64x2x4x128x256 .f32) (Z : FVec Ideal S2x4x128x256 .f32) (b : Fin 2) (h : Fin 4) (k : Fin 128) (v : Fin 256) :
    nst n hn T U Z (ix4 b h k v) = Ideal.exp (T (ix4 ⟨n, hn⟩ b h k)) * Z (ix4 b h k v) + U (ix5 ⟨n, hn⟩ b h k v) := by
  pointwise [nst]

omit hc in
theorem nst_of (T : FVec Ideal S64x2x4x128 .f32) (U : FVec Ideal S64x2x4x128x256 .f32) (Z : FVec Ideal S2x4x128x256 .f32) (t4 : Fin 4 → Int) (t5 : Fin 5 → Int)
    (h4 : t4 = ![(n : Int), 0, 0, 0]) (h5 : t5 = ![(n : Int), 0, 0, 0, 0]) :
    addf (mulf (broadcastInDim S2x4x128x256 ![0, 1, 2, 3] bcast_S2x4x128x1_S2x4x128x256_0_1_2_3 (broadcastInDim S2x4x128x1 ![0, 1, 2] bcast_S2x4x128_S2x4x128x1_0_1_2
      (Host.exp (shapeCast S2x4x128 (Host.dynamicSlice S1x2x4x128 T t4 sliceFits_S64x2x4x128_S1x2x4x128) shapeCasts_S1x2x4x128_S2x4x128)))) Z)
      (shapeCast S2x4x128x256 (Host.dynamicSlice S1x2x4x128x256 U t5 sliceFits_S64x2x4x128x256_S1x2x4x128x256) shapeCasts_S1x2x4x128x256_S2x4x128x256) = nst n hn T U Z := by
  rw [ds4 n hn T t4 _ h4, ds5 n hn U t5 _ h5]
  rfl

theorem trip3 (T : FVec Ideal S64x2x4x128 .f32) (U : FVec Ideal S64x2x4x128x256 .f32) (Z : FVec Ideal S2x4x128x256 .f32)
    (hT : V (Proc.devRef .tc main_v28_0) = T) (hU : V (Proc.devRef .tc main_v28_1) = U) (hZ : V (Proc.devRef .tc main_v28_3) = Z) :
    res_main_while0b_v61 V = nst n hn T U Z := by
  unfold res_main_while0b_v61
  rw [hT, hU, hZ, hc]
  have h4 := start4 n hn
  have h5 := start5 n hn
  exact nst_of n hn T U Z _ _ h4 h5

omit hc in
theorem upd_at (S : FVec Ideal S64x2x4x128x256 .f32) (Y : FVec Ideal S2x4x128x256 .f32) (n' : Fin 64) (b : Fin 2) (h : Fin 4) (k : Fin 128) (v : Fin 256) :
    updateSlice S (broadcastInDim S1x2x4x128x256 ![1, 2, 3, 4] bcast_S2x4x128x256_S1x2x4x128x256_1_2_3_4 Y) ![n, 0, 0, 0, 0] (s5 n hn) (ix5 n' b h k v)
      = if n'.val = n then Y (ix4 b h k v) else S (ix5 n' b h k v) := by
  rw [updateSlice_apply]
  by_cases e : n'.val = n
  · rw [if_pos e, dif_pos (fun a => by
      have := b.isLt; have := h.isLt; have := k.isLt; have := v.isLt
      fin_cases a
      · show n ≤ n'.val ∧ n'.val < n + 1; omega
      · show 0 ≤ b.val ∧ b.val < 0 + 2; omega
      · show 0 ≤ h.val ∧ h.val < 0 + 4; omega
      · show 0 ≤ k.val ∧ k.val < 0 + 128; omega
      · show 0 ≤ v.val ∧ v.val < 0 + 256; omega)]
    pointwise
  · rw [if_neg e, dif_neg (fun hin => by
      have h0 : n ≤ n'.val ∧ n'.val < n + 1 := hin 0
      omega)]

theorem trip4 (S : FVec Ideal S64x2x4x128x256 .f32) (Y : FVec Ideal S2x4x128x256 .f32) (hS : V (Proc.devRef .tc main_v28_4) = S) (hY : res_main_while0b_v61 V = Y) :
    step_main_v28_4 V = updateSlice S (broadcastInDim S1x2x4x128x256 ![1, 2, 3, 4] bcast_S2x4x128x256_S1x2x4x128x256_1_2_3_4 Y) ![n, 0, 0, 0, 0] (s5 n hn) := by
  unfold step_main_v28_4
  rw [hS, hc, hY]
  exact du5 n hn S _ _ updateFits_S64x2x4x128x256_S1x2x4x128x256 (start5 n hn)
end

variable (m : (ℓ : Loc nD τ sig) → Buf (Elt Ideal) ℓ) (c : Dev nD)

/-- The contents before trip `n`. -/
abbrev VK (n : ℕ) : Valuation τ sig (Elt Ideal) := STEP^[n] (entryContents preI m c)
theorem VK_succ (n : ℕ) : VK m c (n + 1) = STEP (VK m c n) := Function.iterate_succ_apply' _ _ _

theorem VK0 : ∀ n, VK m c n (Proc.devRef .tc main_v28_0) = E26 (cumA (a0 m c) (a1 m c) (a2 m c))
  | 0 => entry0 m c
  | n + 1 => by rw [VK_succ, STEP_main_v28_0]; exact VK0 n
theorem VK1 : ∀ n, VK m c n (Proc.devRef .tc main_v28_1) = E24 (E0 (a0 m c)) (cumA (a0 m c) (a1 m c) (a2 m c))
  | 0 => entry1 m c
  | n + 1 => by rw [VK_succ, STEP_main_v28_1]; exact VK1 n
theorem VK2 : ∀ n, VK m c n (Proc.devRef .tc main_v28_2) = fun _ => BitVec.ofNat 32 n
  | 0 => ctr_entry m c
  | n + 1 => by
    rw [VK_succ, STEP_main_v28_2]
    unfold step_main_v28_2
    rw [VK2 n]
    funext i
    show BitVec.ofNat 32 n + 1#32 = BitVec.ofNat 32 (n + 1)
    rw [BitVec.ofNat_add]

abbrev sv (b : Fin 2) (h : Fin 4) (k : Fin 128) (v : Fin 256) (n : ℕ) : EReal :=
  st (n2 (a0 m c)) (n3 (a1 m c)) (n2 (a2 m c) 0) b.val h.val k.val v.val n

theorem VK34 : ∀ n, n ≤ 64 → (∀ b h k v, (VK m c n (Proc.devRef .tc main_v28_3) : FVec Ideal S2x4x128x256 .f32) (ix4 b h k v) = sv m c b h k v n)
    ∧ (∀ (n' : Fin 64) b h k v, n'.val < n → (VK m c n (Proc.devRef .tc main_v28_4) : FVec Ideal S64x2x4x128x256 .f32) (ix5 n' b h k v) = sv m c b h k v (n'.val + 1))
  | 0, _ => ⟨fun b h k v => by
      rw [show VK m c 0 (Proc.devRef .tc main_v28_3) = _ from entry3 m c]
      pointwise
      rfl, fun n' _ _ _ _ h => absurd h (Nat.not_lt_zero _)⟩
  | n + 1, hn => by
    obtain ⟨i3, i4⟩ := VK34 n (by omega)
    have hn' : n < 64 := by omega
    have hr := trip3 (VK m c n) n hn' (VK2 m c n) _ _ _ (VK0 m c n) (VK1 m c n) rfl
    have hrv : ∀ b h k v, nst n hn' (E26 (cumA (a0 m c) (a1 m c) (a2 m c))) (E24 (E0 (a0 m c)) (cumA (a0 m c) (a1 m c) (a2 m c)))
        (VK m c n (Proc.devRef .tc main_v28_3)) (ix4 b h k v) = sv m c b h k v (n + 1) := fun b h k v => by
      rw [nst_at, i3, tot_at, inc_at]; rfl
    constructor
    · intro b h k v
      rw [VK_succ, STEP_main_v28_3]
      unfold step_main_v28_3
      rw [hr]
      exact hrv b h k v
    · intro n' b h k v hlt
      rw [VK_succ, STEP_main_v28_4, trip4 (VK m c n) n hn' (VK2 m c n) _ _ rfl hr, upd_at n hn']
      by_cases e : n'.val = n
      · rw [if_pos e, hrv, e]
      · rw [if_neg e]; exact i4 n' b h k v (by omega)

theorem states_at (n' : Fin 64) (b : Fin 2) (h : Fin 4) (k : Fin 128) (v : Fin 256) :
    (VK m c 64 (Proc.devRef .tc main_v28_4) : FVec Ideal S64x2x4x128x256 .f32) (ix5 n' b h k v) = sv m c b h k v (n'.val + 1) :=
  (VK34 m c 64 (le_refl _)).2 n' b h k v n'.isLt

end Cert.Reference5Ideal.Read
-- ==== Proof.GlaOut.lean ====
/- The reference's result at an index, from the states the loop kept. -/
module

public import proofs.«01_k».proof.Proof.GlaRef

@[expose] public section

set_option maxRecDepth 16384

noncomputable section

namespace Cert.Reference5Ideal.Read

open Cert.Reference5Ideal Cert.Reference5Ideal.Gen Cert.Reference5Ideal.Value
open Idealize.ShloMosaic Idealize.ShloMosaic.TcCoe Idealize.ShloMosaic.Tactic Idealize.SL Idealize.SL.Sem Idealize.ShloMosaic.StableHlo Gla

theorem out_at (V : Valuation τ sig (Elt Ideal)) (p : FVec Ideal S8192x11264 .f32) (w : FVec Ideal S1x16x512 .f32) (b : FVec Ideal S1x512 .f32)
    (g : FVec Ideal S1x256 .f32) (S : FVec Ideal S64x2x4x128x256 .f32)
    (hp : V (Proc.devRef .tc main_arg0) = p) (hg : V (Proc.devRef .tc main_arg3) = g) (hS : V (Proc.devRef .tc main_v28_4) = S)
    (hst : ∀ (n : Fin 64) (β : Fin 2) (h : Fin 4) (k : Fin 128) (v : Fin 256),
      S (ix5 n β h k v) = st (n2 p) (n3 w) (n2 b 0) β.val h.val k.val v.val (n.val + 1)) (R : Fin 8192) (C : Fin 1024) :
    (out_main_v54 V : FVec Ideal S8192x1024 .bf16) (ix2 R C) = res (n2 p) (n3 w) (n2 b 0) (n2 g 0) R.val (C.val / 256) (C.val % 256) := by
  unfold out_main_v54
  rw [hp, hg, hS]
  pointwise
  have ho : ∀ v : Fin 256, (∑ x : Fin 128, S (ix5 ⟨R.val / 64 % 64, by omega⟩ ⟨R.val / 4096, by omega⟩ ⟨C.val / 256, by omega⟩ x v) *
      (p (ix2 R ⟨3584 + (C.val / 256 * 128 + x.val), by omega⟩) * cS)) = oo (n2 p) (n3 w) (n2 b 0) R.val (C.val / 256) v.val := fun v => by
    unfold oo
    refine Finset.sum_congr rfl fun k _ => ?_
    rw [hst, n2_at p, mul_comm]
    simp only [show 3584 + (C.val / 256 * 128 + k.val) = 3584 + 128 * (C.val / 256) + k.val by omega, show R.val / 64 % 64 = R.val % 4096 / 64 by omega]
  have hr : p (ix2 R ⟨3584 + (2048 + C.val), by omega⟩) = n2 p R.val (5632 + 256 * (C.val / 256) + C.val % 256) := by
    rw [n2_at p]
    simp only [show 3584 + (2048 + C.val) = 5632 + 256 * (C.val / 256) + C.val % 256 by omega]
  have hg' : g (ix2 0 ⟨C.val % 256, by omega⟩) = n2 g 0 (C.val % 256) := n2_at g 0 _
  have ho' := ho ⟨C.val % 256, by omega⟩
  unfold res Layer.sigm
  simp only at ho'
  simp only [ho, hr, hg', ho']

end Cert.Reference5Ideal.Read
-- ==== Proof.GlaFinal.lean ====
/- The gated attention kernel: its blocks as elements of the arguments, its states by induction over the grid, its result
   array, and the agreement with the reference's. -/
module

public import proofs.«01_k».proof.Proof.GlaPoint
public import proofs.«01_k».proof.Proof.GlaLoop
public import proofs.«01_k».proof.Proof.GlaOut
public import proofs.«01_k».proof.Proof.Gen.Kernel5Ideal.Value
public import Idealize.ShloMosaic.Lib.Pipeline.ValueKit
public import Idealize.ShloMosaic.Lib.Pipeline.ReadBack
public import Idealize.ShloMosaic.Lib.KernelVsHost

@[expose] public section

set_option maxRecDepth 16384

noncomputable section

namespace Cert.Kernel5Ideal.Pay

open Cert.Kernel5Ideal Cert.Kernel5Ideal.Gen Cert.Kernel5Ideal.Value Idealize.ShloMosaic Idealize.ShloMosaic.TcCoe Idealize.SL.Sem Idealize.ShloMosaic.StableHlo Gla Layer
open Idealize.ShloMosaic.Pipeline (Dat)

variable (m : (ℓ : Loc nD τ sig) → Buf (Elt Ideal) ℓ) (c : Dev nD)

abbrev A0 : FVec Ideal S8192x11264 .f32 := m ((c : Thread nD τ).loc main_arg0)
abbrev A1 : FVec Ideal S1x16x512 .f32 := m ((c : Thread nD τ).loc main_arg1)
abbrev A2 : FVec Ideal S1x512 .f32 := m ((c : Thread nD τ).loc main_arg2)
abbrev A3 : FVec Ideal S1x256 .f32 := m ((c : Thread nD τ).loc main_arg3)

theorem N_lt (t : Fin cfg0.N) : t.val < 32 := lt_of_lt_of_eq t.isLt N_0

theorem idx : ∀ t : Fin cfg0.N, win0_0.index t = ![t.val, 1] ∧ win0_1.index t = ![0, 0] ∧ win0_2.index t = ![0, 0]
    ∧ win0_3.index t = ![0, 0] ∧ win0_4.index t = ![t.val, 0] :=
  (by decide +kernel : ∀ t : Fin grid0.N, _)

/-- The rows of a point's blocks. -/
def row (t : Fin cfg0.N) (r : Fin 256) : Fin 8192 := ⟨t.val * 256 + r, by have := N_lt t; omega⟩

/-- What the host operations put into the windows' arrays. -/
def H1 (w : FVec Ideal S1x16x512 .f32) : FVec Ideal S128x512 .bf16 :=
  truncf .bf16 (pad S128x512 ![0, 0] ![112, 0] ![0, 0] (shapeCast S16x512 w shapeCasts_S1x16x512_S16x512) (sitofp .f32 (constantI S_ 32 0#32) : FVec Ideal S_ .f32)
    pads_S16x512_S128x512_01120_000 h_S_) bitsLt_bf16_f32
def H2 (b : FVec Ideal S1x512 .f32) : FVec Ideal S1x512 .f32 := shapeCast S1x512 (shapeCast S512 b shapeCasts_S1x512_S512) shapeCasts_S512_S1x512
def H3 (g : FVec Ideal S1x256 .f32) : FVec Ideal S1x256 .f32 := shapeCast S1x256 (shapeCast S256 g shapeCasts_S1x256_S256) shapeCasts_S256_S1x256

theorem v0 : V m c main_arg0 = A0 m c := by
  unfold V; rw [show List.flatten [hostOps0 (F := Ideal), hostOps0_1, hostOps0_2] = hostOps0 ++ (hostOps0_1 ++ hostOps0_2) from rfl]
  after_reads_simp
theorem v1 : V m c main_v2 = H1 (A1 m c) := by
  unfold V; rw [show List.flatten [hostOps0 (F := Ideal), hostOps0_1, hostOps0_2] = hostOps0 ++ (hostOps0_1 ++ hostOps0_2) from rfl]
  after_reads_simp; rfl
theorem v2 : V m c main_v4 = H2 (A2 m c) := by
  unfold V; rw [show List.flatten [hostOps0 (F := Ideal), hostOps0_1, hostOps0_2] = hostOps0 ++ (hostOps0_1 ++ hostOps0_2) from rfl]
  after_reads_simp; rfl
theorem v3 : V m c main_v6 = H3 (A3 m c) := by
  unfold V; rw [show List.flatten [hostOps0 (F := Ideal), hostOps0_1, hostOps0_2] = hostOps0 ++ (hostOps0_1 ++ hostOps0_2) from rfl]
  after_reads_simp; rfl

theorem H2_at (b : FVec Ideal S1x512 .f32) (k : Fin 512) : H2 b (ix2 0 k) = b (ix2 0 k) := by pointwise [H2]
theorem H3_at (b : FVec Ideal S1x256 .f32) (k : Fin 256) : H3 b (ix2 0 k) = b (ix2 0 k) := by pointwise [H3]
theorem H1_at (w : FVec Ideal S1x16x512 .f32) (d : Fin 128) (k : Fin 512) : H1 w (ix2 d k) = if d.val < 16 then n3 w d.val k.val else 0 := by
  show pad S128x512 ![0, 0] ![112, 0] ![0, 0] (shapeCast S16x512 w shapeCasts_S1x16x512_S16x512) (sitofp .f32 (constantI S_ 32 0#32) : FVec Ideal S_ .f32)
    pads_S16x512_S128x512_01120_000 h_S_ (ix2 d k) = _
  by_cases h : d.val < 16
  · rw [if_pos h, pad_apply_of_inside _ _ _ _ _ _ _ (ix2 d k) (ix2 (⟨d.val, h⟩ : Fin 16) k) (by
      intro a
      match a with
      | ⟨0, _⟩ => show d.val = 0 + d.val * (0 + 1); omega
      | ⟨1, _⟩ => show k.val = 0 + k.val * (0 + 1); omega)]
    rw [← n3_at w ⟨d.val, h⟩ k]
    pointwise
  · rw [if_neg h, pad_apply_of_not_inside _ _ _ _ _ _ _ (ix2 d k) (0 : Fin 2) (by
      rintro ⟨_, _, h3⟩
      have h4 : (d.val - 0) / (0 + 1) < 16 := h3
      omega)]
    pointwise
    exact (by simp : (((0#32 : BitVec 32).toInt : ℝ) : EReal) = 0)

theorem b0 (t : Fin cfg0.N) : isX (n2 (A0 m c)) t.val (X0_0 m c t) := by
  intro r C
  have hN := N_lt t
  rw [← n2_at (A0 m c) ⟨256 * t.val + r.val, by omega⟩ ⟨3584 + C.val, by omega⟩, ← v0 m c]
  unfold X0_0 Pipeline.Window.fill
  rw [dif_pos (moved0_0 t _)]
  blk_ext! [iblk, idx t]
theorem b1 (t : Fin cfg0.N) : isW (n3 (A1 m c)) (iblk m c 1 t) := by
  intro d K
  refine Eq.trans (b := V m c main_v2 (ix2 d K)) ?_ ((congrFun (v1 m c) _).trans (H1_at _ d K))
  blk_ext! [iblk, idx t]
theorem b2 (t : Fin cfg0.N) : isB (n2 (A2 m c) 0) (iblk m c 2 t) := by
  intro K
  refine Eq.trans (b := V m c main_v4 (ix2 0 K)) ?_ ((congrFun (v2 m c) _).trans ((H2_at _ K).trans (n2_at (A2 m c) 0 K)))
  blk_ext! [iblk, idx t]
theorem b3 (t : Fin cfg0.N) : isG (n2 (A3 m c) 0) (iblk m c 3 t) := by
  intro K
  refine Eq.trans (b := V m c main_v6 (ix2 0 K)) ?_ ((congrFun (v3 m c) _).trans ((H3_at _ K).trans (n2_at (A3 m c) 0 K)))
  blk_ext! [iblk, idx t]

/-- A state read as the next point's first. -/
theorem next_st {P W : ℕ → ℕ → EReal} {B : ℕ → EReal} {n : ℕ} {s : Vec Ideal S4x256x128 .f32} (hn : ¬ n % 16 = 0) (hs : isSt P W B (n - 1) 4 s) :
    isSt P W B n 0 s := fun h v k => by
  rw [hs h v k, show (n - 1) / 16 = n / 16 by omega, show 4 * ((n - 1) % 16) + 4 = 4 * (n % 16) + 0 by omega]

/-- The states after every point. -/
theorem states : ∀ (n : ℕ) (h : n < cfg0.N), isSt (n2 (A0 m c)) (n3 (A1 m c)) (n2 (A2 m c) 0) n 4 (outsAt0 m c n h).2
  | 0, h => scrA m c ⟨0, h⟩ rfl (b0 m c _) (b1 m c _) (b2 m c _) (b3 m c _)
  | n + 1, h => by
    by_cases h0 : (n + 1) % 16 = 0
    · exact scrA m c ⟨n + 1, h⟩ h0 (b0 m c _) (b1 m c _) (b2 m c _) (b3 m c _)
    · exact scrB m c ⟨n + 1, h⟩ h0 (b0 m c _) (b1 m c _) (b2 m c _) (b3 m c _) (next_st h0 (states n (by omega)))

/-- The result array. -/
def GO : FVec Ideal S8192x1024 .bf16 := fun j =>
  res (n2 (A0 m c)) (n3 (A1 m c)) (n2 (A2 m c) 0) (n2 (A3 m c) 0) (j 0).val ((j 1).val / 256) ((j 1).val % 256)

theorem out4 (t : Fin cfg0.N) (r : Fin 256) (C : Fin 1024) : (outsAt0 m c t.val t.isLt).1 (ix2 r C) = GO m c (ix2 (row t r) C) := by
  refine Eq.trans (b := res (n2 (A0 m c)) (n3 (A1 m c)) (n2 (A2 m c) 0) (n2 (A3 m c) 0) (256 * t.val + r.val) (C.val / 256) (C.val % 256)) ?_ (res_row (by show 256 * t.val + r.val = t.val * 256 + r.val; omega) rfl rfl)
  by_cases h0 : t.val % 16 = 0
  · exact outA m c t h0 (b0 m c t) (b1 m c t) (b2 m c t) (b3 m c t) r C
  · exact outB m c t h0 (b0 m c t) (b1 m c t) (b2 m c t) (b3 m c t) (next_st h0 (states m c (t.val - 1) (by omega))) r C

theorem final : (dats m 0 c).arrAt 4 (cfgs 0).N = GO m c := by
  refine (dats m 0 c).arrAt_eq_of_covers 4 _ (by decide +kernel) fun t hf y => ?_
  blk_simp
  rw [after0_4]
  idx_vars y
  refine (out4 m c t y0 y1).trans ?_
  refine (congrArg (GO m c) (?_ : ((cfg0.win 4).blk t).view.emb (ix2 y0 y1) = (ix2 (row t y0) y1 : S8192x1024.Idx))).symm
  unfold row; blk_ext [idx t]

end Cert.Kernel5Ideal.Pay

namespace Cert.Reference5Ideal.Read

open Cert.Reference5Ideal Cert.Reference5Ideal.Gen Cert.Reference5Ideal.Value Idealize.ShloMosaic Idealize.ShloMosaic.TcCoe Idealize.SL.Sem Gla

variable (m : (ℓ : Loc nD τ sig) → Buf (Elt Ideal) ℓ) (c : Dev nD)

theorem final : (out_main_v54 (VK m c 64) : FVec Ideal S8192x1024 .bf16) = fun j =>
    res (n2 (a0 m c)) (n3 (a1 m c)) (n2 (a2 m c) 0) (n2 (a3 m c) 0) (j 0).val ((j 1).val / 256) ((j 1).val % 256) := by
  funext j
  idx_vars j
  exact out_at (VK m c 64) (a0 m c) (a1 m c) (a2 m c) (a3 m c) _ (iter_main_arg0 m c 64) (iter_main_arg3 m c 64) rfl (fun n b h k v => states_at m c n b h k v) j0 j1

end Cert.Reference5Ideal.Read
-- ==== Proof.StreamSpec.lean ====
/- The payloads of the streamed feed-forward call at an index, and the reference's result there. -/
module

public import proofs.«01_k».proof.Proof.Spec
public import proofs.«01_k».proof.Proof.Gen.Kernel2Ideal.Skeleton
public import proofs.«01_k».proof.Proof.Gen.Reference2Ideal.Run

@[expose] public section

set_option maxRecDepth 16384

noncomputable section

namespace Stream.Pay

open Cert.Kernel2Ideal Cert.Kernel2Ideal.Gen Idealize.ShloMosaic Idealize.ShloMosaic.TcCoe Layer

/-- The normalised row block. -/
theorem pay1_at (x : FVec Ideal S1x512x2048 .f32) (g : FVec Ideal S1x2048 .f32) (r : Fin 512) (k : Fin 2048) :
    k0_pay1 (F := Ideal) x g (ix2 r k) = nrm (fun l => x (ix3 0 r l)) (fun l => g (ix2 0 l)) k := by
  pointwise [k0_pay1, nrm]

/-- The sum's start. -/
theorem pay2_at (r : Fin 512) (k : Fin 2048) : k0_pay2 (F := Ideal) (ix3 0 r k) = 0 := by
  pointwise [k0_pay2]

/-- The gated activation of a tile of the hidden axis. -/
theorem pay3_at (h : FVec Ideal S512x2048 .bf16) (g u : FVec Ideal S1x2048x512 .bf16) (r f : Fin 512) :
    k0_pay3 (F := Ideal) h g u (ix2 r f) = act (fun l => h (ix2 r l)) (fun l => g (ix3 0 l f)) (fun l => u (ix3 0 l f)) := by
  pointwise [k0_pay3, act, tanh_sig]

/-- One tile more of the sum. -/
theorem pay4_at (p : FVec Ideal S512x512 .bf16) (a : FVec Ideal S1x512x2048 .f32) (d : FVec Ideal S1x512x2048 .bf16) (r : Fin 512) (k : Fin 2048) :
    k0_pay4 (F := Ideal) p a d (ix3 0 r k) = a (ix3 0 r k) + ∑ f : Fin 512, p (ix2 r f) * d (ix3 0 f k) := by
  pointwise [k0_pay4]

/-- The finished row block. -/
theorem pay5_at (x a : FVec Ideal S1x512x2048 .f32) (g : FVec Ideal S1x2048 .f32) (r : Fin 512) (k : Fin 2048) :
    k0_pay5 (F := Ideal) x a g (ix3 0 r k) = nrm (fun l => x (ix3 0 r l) + cH * a (ix3 0 r l)) (fun l => g (ix2 0 l)) k := by
  pointwise [k0_pay5, nrm]

end Stream.Pay

namespace Cert.Reference2Ideal.Read

open Cert.Reference2Ideal Cert.Reference2Ideal.Gen Idealize.ShloMosaic Idealize.ShloMosaic.TcCoe Idealize.SL.Sem Layer

/-- The normalisation of the rows. -/
def RN (x : FVec Ideal S8192x2048 .f32) (g : FVec Ideal S2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

/-- The product with a weight of the hidden axis. -/
def MM (h : FVec Ideal S8192x2048 .f32) (w : FVec Ideal S2048x5632 .bf16) : FVec Ideal S8192x5632 .f32 :=
  Host.dotGeneral dot_S8192x2048_S2048x5632_S8192x5632_1_0_0_1_n_n none h (extf .f32 w bitsLt_bf16_f32)

/-- The sigmoid's product with its argument. -/
def SL (z : FVec Ideal S8192x5632 .f32) : FVec Ideal S8192x5632 .f32 :=
  mulf z (Host.divf (broadcastInDim S8192x5632 ![] bcast_S_S8192x5632 (constant S_ .f32 0x3F800000#32)) (addf (broadcastInDim S8192x5632 ![] bcast_S_S8192x5632 (constant S_ .f32 0x3F800000#32)) (Host.exp (Host.negf z))))

/-- The feed-forward block with its residual. -/
def FF (x : FVec Ideal S8192x2048 .f32) (g : FVec Ideal S1x2048 .f32) (wg wu : FVec Ideal S2048x5632 .bf16) (wd : FVec Ideal S5632x2048 .bf16) :
    FVec Ideal S8192x2048 .f32 :=
  addf x (mulf (broadcastInDim S8192x2048 ![] bcast_S_S8192x2048 (constant S_ .f32 0x3F000000#32)) (Host.dotGeneral dot_S8192x5632_S5632x2048_S8192x2048_1_0_0_1_n_n none (mulf (SL (MM (RN x (shapeCast _ g shapeCasts_S1x2048_S2048)) wg)) (MM (RN x (shapeCast _ g shapeCasts_S1x2048_S2048)) wu)) (extf .f32 wd bitsLt_bf16_f32)))

theorem RN_at (x : FVec Ideal S8192x2048 .f32) (g : FVec Ideal S2048 .f32) (R : Fin 8192) (k : Fin 2048) :
    RN x g (ix2 R k) = nrm (fun l => x (ix2 R l)) (fun l => g (ix1 l)) k := by
  pointwise [RN, nrm]

theorem MM_at (h : FVec Ideal S8192x2048 .f32) (w : FVec Ideal S2048x5632 .bf16) (R : Fin 8192) (f : Fin 5632) :
    MM h w (ix2 R f) = ∑ k, h (ix2 R k) * w (ix2 k f) := by
  pointwise [MM]

theorem SL_at (z : FVec Ideal S8192x5632 .f32) (R : Fin 8192) (f : Fin 5632) :
    SL z (ix2 R f) = z (ix2 R f) * sigm (z (ix2 R f)) := by
  pointwise [SL, sigm]

theorem cast_at (g : FVec Ideal S1x2048 .f32) (l : Fin 2048) : (shapeCast S2048 g shapeCasts_S1x2048_S2048 : FVec Ideal S2048 .f32) (ix1 l) = g (ix2 0 l) := by
  pointwise

theorem FF_at (x : FVec Ideal S8192x2048 .f32) (g : FVec Ideal S1x2048 .f32) (wg wu : FVec Ideal S2048x5632 .bf16) (wd : FVec Ideal S5632x2048 .bf16)
    (R : Fin 8192) (k : Fin 2048) :
    FF x g wg wu wd (ix2 R k)
      = ffn (fun l => x (ix2 R l)) (fun l => g (ix2 0 l)) (fun l f => wg (ix2 l f)) (fun l f => wu (ix2 l f)) (fun f l => wd (ix2 f l)) k := by
  pointwise [FF, ffn, act, SL_at, MM_at, RN_at, cast_at]

/-- The result. -/
def O0 (x : FVec Ideal S8192x2048 .f32) (g : FVec Ideal S1x2048 .f32) (wg wu : FVec Ideal S2048x5632 .bf16) (wd : FVec Ideal S5632x2048 .bf16)
    (gf : FVec Ideal S2048 .f32) : FVec Ideal S8192x2048 .f32 := RN (FF x g wg wu wd) gf

theorem O0_at (x : FVec Ideal S8192x2048 .f32) (g : FVec Ideal S1x2048 .f32) (wg wu : FVec Ideal S2048x5632 .bf16) (wd : FVec Ideal S5632x2048 .bf16)
    (gf : FVec Ideal S2048 .f32) (R : Fin 8192) (k : Fin 2048) :
    O0 x g wg wu wd gf (ix2 R k)
      = nrm (ffn (fun l => x (ix2 R l)) (fun l => g (ix2 0 l)) (fun l f => wg (ix2 l f)) (fun l f => wu (ix2 l f)) (fun f l => wd (ix2 f l))) (fun l => gf (ix1 l)) k := by
  unfold O0
  rw [RN_at, show (fun l => FF x g wg wu wd (ix2 R l)) = ffn (fun l => x (ix2 R l)) (fun l => g (ix2 0 l)) (fun l f => wg (ix2 l f)) (fun l f => wu (ix2 l f)) (fun f l => wd (ix2 f l)) from
    funext fun l => FF_at x g wg wu wd R l]

theorem res_eq (m : (ℓ : Loc nD τ sig) → Buf (Elt Ideal) ℓ) (c : Dev nD) :
    Cert.Reference2Ideal.Value.res_main_v37 (F := Ideal) m c
      = O0 (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) := rfl

end Cert.Reference2Ideal.Read
-- ==== Proof.Stream.lean ====
/- The names and the word arithmetic of the streamed feed-forward call: per trip of its counted loop, every carried word,
   every offset, every check and every condition in closed form. -/
module

public import proofs.«01_k».proof.Proof.Gen.Kernel2Ideal.Launch
public import proofs.«01_k».proof.Proof.Gen.Kernel2Ideal.Skeleton
public import proofs.«01_k».proof.Proof.Gen.Kernel2Ideal.Loops
public import proofs.«01_k».proof.Proof.Gen.Kernel2Ideal.Points
public import Idealize.ShloMosaic.Lib.Pipeline.KitQuiescent
public import Idealize.ShloMosaic.Lib.Ring
public import Idealize.ShloMosaic.Lib.Tactic

@[expose] public section

noncomputable section

namespace Stream

open Cert.Kernel2Ideal Cert.Kernel2Ideal.Gen
open Idealize.ShloMosaic
open Idealize.ShloMosaic.TcCoe Idealize.ShloMosaic.Tactic

/-! ## The carried words before trip `k` -/

abbrev num (n : ℕ) : BitVec 32 := BitVec.ofNat 32 n
/-- Row block `k / 11` is the one trip `k` works on: the next row block to fetch, -/
def wA (k : ℕ) : BitVec 32 := num (min (k / 11 + 1) 16)
/-- the row block in use, -/
def wB (k : ℕ) : BitVec 32 := num (k / 11)
/-- the uses of a row vector that never changes (counted once, after the last trip), -/
def wC (k : ℕ) : BitVec 32 := num (k / 176)
/-- the weight blocks fetched, -/
def wD (k : ℕ) : BitVec 32 := num (min (k + 1) 176)
/-- the weight blocks used, -/
def wE (k : ℕ) : BitVec 32 := num k
/-- the result blocks waited for, -/
def wO (k : ℕ) : BitVec 32 := num ((k - 1) / 11)
/-- and the two grid coordinates. -/
def wI (k : ℕ) : BitVec 32 := num (k / 11 % 16)
def wJ (k : ℕ) : BitVec 32 := num (k % 11)

abbrev Acc : Type := BitVec 32 × BitVec 32 × BitVec 32 × BitVec 32 × BitVec 32 × BitVec 32 × BitVec 32 × BitVec 32 × BitVec 32 × BitVec 32 × BitVec 32 × BitVec 32 × BitVec 32 × BitVec 32
abbrev words (k : ℕ) : Acc :=
  (wA k, wB k, wC k, wD k, wE k, wD k, wE k, wD k, wE k, wC k, wB k, wO k, wI k, wJ k)

abbrev T : ℕ := k0_t1_loop.trips
theorem T_eq : k0_t1_loop.trips = 176 := by decide +kernel

/-! ## Offsets -/

abbrev sl3 (n : ℕ) : Fin 3 → ℕ := ![n % 2, 0, 0]
abbrev sl1 (n : ℕ) : Fin 1 → ℕ := ![n % 2]
abbrev rowO (b : ℕ) : Fin 2 → ℕ := ![512 * (b % 16), 0]
abbrev colO (b : ℕ) : Fin 2 → ℕ := ![0, 512 * (b % 11)]
abbrev depO (b : ℕ) : Fin 2 → ℕ := ![512 * (b % 11), 0]

theorem off4_eq : ∀ k : Fin k0_t1_loop.trips, k0_off4 (wA k) = sl1 (k / 11 + 1) := by decide +kernel
theorem off5_eq : ∀ k : Fin k0_t1_loop.trips, k0_off5 (wA k) = sl3 (k / 11 + 1) := by decide +kernel
theorem off6_eq : ∀ k : Fin k0_t1_loop.trips, k.val % 11 = 10 → k0_off6 (wI k) (wJ k) = rowO (k / 11 + 1) := by decide +kernel
theorem off7_eq : ∀ k : Fin k0_t1_loop.trips, k0_off7 (wD k) = sl1 (k + 1) := by decide +kernel
theorem off8_eq : ∀ k : Fin k0_t1_loop.trips, k0_off8 (wD k) = sl3 (k + 1) := by decide +kernel
theorem off9_eq : ∀ k : Fin k0_t1_loop.trips, k0_off9 (wJ k) = colO (k + 1) := by decide +kernel
theorem off10_eq : ∀ k : Fin k0_t1_loop.trips, k0_off10 (wD k) = sl1 (k + 1) := by decide +kernel
theorem off11_eq : ∀ k : Fin k0_t1_loop.trips, k0_off11 (wD k) = sl3 (k + 1) := by decide +kernel
theorem off12_eq : ∀ k : Fin k0_t1_loop.trips, k0_off12 (wJ k) = colO (k + 1) := by decide +kernel
theorem off13_eq : ∀ k : Fin k0_t1_loop.trips, k0_off13 (wD k) = sl1 (k + 1) := by decide +kernel
theorem off14_eq : ∀ k : Fin k0_t1_loop.trips, k0_off14 (wD k) = sl3 (k + 1) := by decide +kernel
theorem off15_eq : ∀ k : Fin k0_t1_loop.trips, k0_off15 (wJ k) = depO (k + 1) := by decide +kernel
theorem off16_eq : ∀ k : Fin k0_t1_loop.trips, k0_off16 (wB k) = sl1 (k / 11) := by decide +kernel
theorem off17_eq : ∀ k : Fin k0_t1_loop.trips, k0_off17 (wB k) = sl3 (k / 11) := by decide +kernel
theorem off18_eq : ∀ k : Fin k0_t1_loop.trips, k0_off18 (wI k) = rowO (k / 11) := by decide +kernel
theorem off19_eq : ∀ k : Fin k0_t1_loop.trips, k0_off19 (wE k) = sl1 k := by decide +kernel
theorem off20_eq : ∀ k : Fin k0_t1_loop.trips, k0_off20 (wE k) = sl3 k := by decide +kernel
theorem off21_eq : ∀ k : Fin k0_t1_loop.trips, k0_off21 (wJ k) = colO k := by decide +kernel
theorem off22_eq : ∀ k : Fin k0_t1_loop.trips, k0_off22 (wE k) = sl1 k := by decide +kernel
theorem off23_eq : ∀ k : Fin k0_t1_loop.trips, k0_off23 (wE k) = sl3 k := by decide +kernel
theorem off24_eq : ∀ k : Fin k0_t1_loop.trips, k0_off24 (wJ k) = colO k := by decide +kernel
theorem off25_eq : ∀ k : Fin k0_t1_loop.trips, k0_off25 (wE k) = sl1 k := by decide +kernel
theorem off26_eq : ∀ k : Fin k0_t1_loop.trips, k0_off26 (wE k) = sl3 k := by decide +kernel
theorem off27_eq : ∀ k : Fin k0_t1_loop.trips, k0_off27 (wJ k) = depO k := by decide +kernel
theorem off28_eq : ∀ k : Fin k0_t1_loop.trips, k0_off28 (wB k) = sl3 (k / 11) := by decide +kernel
theorem off29_eq : ∀ k : Fin k0_t1_loop.trips, k0_off29 (wB k) = sl3 (k / 11) := by decide +kernel
theorem off30_eq : ∀ k : Fin k0_t1_loop.trips, k0_off30 (wE k) = sl3 k := by decide +kernel
theorem off31_eq : ∀ k : Fin k0_t1_loop.trips, k0_off31 (wE k) = sl3 k := by decide +kernel
theorem off32_eq : ∀ k : Fin k0_t1_loop.trips, k0_off32 (wB k) = sl3 (k / 11) := by decide +kernel
theorem off33_eq : ∀ k : Fin k0_t1_loop.trips, k0_off33 (wE k) = sl3 k := by decide +kernel
theorem off34_eq : ∀ k : Fin k0_t1_loop.trips, k0_off34 (wB k) = sl3 (k / 11) := by decide +kernel
theorem off35_eq : ∀ k : Fin k0_t1_loop.trips, k0_off35 (wB k) = sl3 (k / 11) := by decide +kernel
theorem off36_eq : ∀ k : Fin k0_t1_loop.trips, k0_off36 (wB k) = sl1 (k / 11) := by decide +kernel
theorem off37_eq : ∀ k : Fin k0_t1_loop.trips, k0_off37 (wI k) = rowO (k / 11) := by decide +kernel
theorem off38_eq : ∀ k : Fin k0_t1_loop.trips, k0_off38 (wB k) = sl3 (k / 11) := by decide +kernel
theorem off39_eq : ∀ k : Fin k0_t1_loop.trips, k.val % 11 = 0 → 0 < k.val → k0_off39 (wO k) = sl1 (k / 11 + 1) := by decide +kernel
theorem off40_eq : ∀ k : Fin k0_t1_loop.trips, k.val % 11 = 0 → 0 < k.val → k0_off40 (wI k) (wJ k) = rowO (k / 11 - 1) := by decide +kernel
theorem off41_eq : ∀ k : Fin k0_t1_loop.trips, k.val % 11 = 0 → 0 < k.val → k0_off41 (wO k) = sl3 (k / 11 + 1) := by decide +kernel
theorem off42_eq : k0_off42 (wO 176) = sl1 1 := by decide +kernel
theorem off43_eq : k0_off43 (wJ 176) (wI 176) = rowO 15 := by decide +kernel
theorem off44_eq : k0_off44 (wO 176) = sl3 1 := by decide +kernel

/-! ## Checks -/

theorem chk1 : ∀ k : Fin k0_t1_loop.trips, k0_chk1 k (wA k) (wB k) (wD k) (wE k) (wD k) (wE k) (wD k) (wE k) (wB k) (wO k) (wI k) (wJ k) := by decide +kernel
theorem chk2 : ∀ k : Fin k0_t1_loop.trips, k0_chk2 (wE k) := by decide +kernel
theorem chk3 : ∀ k : Fin k0_t1_loop.trips, k0_chk3 (wE k) := by decide +kernel
theorem chk4 : ∀ k : Fin k0_t1_loop.trips, k0_chk4 (wB k) := by decide +kernel
theorem chk5 : ∀ k : Fin k0_t1_loop.trips, k0_chk5 (wE k) := by decide +kernel
theorem chk6 : k0_chk6 (wO 176) := by decide +kernel
theorem chk7 : k0_chk7 (wJ 176) (wI 176) := by decide +kernel

/-! ## Conditions -/

theorem cond1_eq : ∀ k : Fin k0_t1_loop.trips, k0_cond1 k (wI k) (wJ k) = if k.val % 11 = 10 ∧ k.val < 175 then 1#1 else 0#1 := by decide +kernel
theorem cond2_eq : ∀ k : Fin k0_t1_loop.trips, k0_cond2 k (wJ k) = if k.val < 175 then 1#1 else 0#1 := by decide +kernel
theorem cond3_eq : ∀ k : Fin k0_t1_loop.trips, k0_cond3 k (wJ k) = if k.val < 175 then 1#1 else 0#1 := by decide +kernel
theorem cond4_eq : ∀ k : Fin k0_t1_loop.trips, k0_cond4 k (wJ k) = if k.val < 175 then 1#1 else 0#1 := by decide +kernel
theorem cond5_eq : ∀ k : Fin k0_t1_loop.trips, k0_cond5 k (wI k) (wJ k) = if k.val % 11 = 0 then 1#1 else 0#1 := by decide +kernel
theorem cond6_eq : ∀ k : Fin k0_t1_loop.trips, k0_cond6 k (wJ k) = 1#1 := by decide +kernel
theorem cond7_eq : ∀ k : Fin k0_t1_loop.trips, k0_cond7 k (wJ k) = 1#1 := by decide +kernel
theorem cond8_eq : ∀ k : Fin k0_t1_loop.trips, k0_cond8 k (wJ k) = 1#1 := by decide +kernel
theorem cond10_eq : ∀ k : Fin k0_t1_loop.trips, k0_cond10 (wJ k) = if k.val % 11 = 0 then 1#1 else 0#1 := by decide +kernel
theorem cond11_eq : ∀ k : Fin k0_t1_loop.trips, k0_cond11 (wJ k) = if k.val % 11 = 10 then 1#1 else 0#1 := by decide +kernel
theorem cond16_eq : ∀ k : Fin k0_t1_loop.trips, k0_cond16 k (wI k) (wJ k) = if k.val % 11 = 10 then 1#1 else 0#1 := by decide +kernel
theorem cond21_eq : ∀ k : Fin k0_t1_loop.trips, k0_cond21 k (wI k) (wJ k) = if k.val % 11 = 0 ∧ 0 < k.val then 1#1 else 0#1 := by decide +kernel

end Stream

end
-- ==== Proof.StreamNames.lean ====
/- The names of the streamed feed-forward call's slots, blocks and semaphores, and the equations that bring every slice
   the body computes to its name. -/
module

public import proofs.«01_k».proof.Proof.Stream

@[expose] public section

noncomputable section

namespace Stream

open Cert.Kernel2Ideal Cert.Kernel2Ideal.Gen
open Idealize.ShloMosaic
open Idealize.ShloMosaic.TcCoe Idealize.ShloMosaic.Tactic

/-! ## Operands, rings, blocks -/

abbrev xM : Memref sig .tc .hbm S8192x2048 .f32 := Memref.whole main_arg0
abbrev gM : Memref sig .tc .hbm S2048x5632 .bf16 := Memref.whole main_arg2
abbrev uM : Memref sig .tc .hbm S2048x5632 .bf16 := Memref.whole main_arg3
abbrev dM : Memref sig .tc .hbm S5632x2048 .bf16 := Memref.whole main_arg4
abbrev oM : Memref sig .tc .hbm S8192x2048 .f32 := Memref.whole main_v3
abbrev hM : Memref sig .tc .vmem S512x2048 .bf16 := Memref.whole cc0_scratch0
abbrev nM : Memref sig .tc .vmem S1x2048 .f32 := Memref.whole cc0_scoped2
abbrev fM : Memref sig .tc .vmem S1x2048 .f32 := Memref.whole cc0_scoped9
abbrev xR : Memref sig .tc .vmem S2x512x2048 .f32 := Memref.whole cc0_scoped0
abbrev gR : Memref sig .tc .vmem S2x2048x512 .bf16 := Memref.whole cc0_scoped3
abbrev uR : Memref sig .tc .vmem S2x2048x512 .bf16 := Memref.whole cc0_scoped5
abbrev dR : Memref sig .tc .vmem S2x512x2048 .bf16 := Memref.whole cc0_scoped7
abbrev oR : Memref sig .tc .vmem S2x512x2048 .f32 := Memref.whole cc0_scoped10

theorem sl1_inb (n : ℕ) : ∀ a, sl1 n a + S1.size a ≤ S2.size a := by
  intro a; fin_cases a; show n % 2 + 1 ≤ 2; omega
theorem sl3_inb (n : ℕ) : ∀ a, sl3 n a + S1x512x2048.size a ≤ S2x512x2048.size a := by
  intro a; fin_cases a
  · show n % 2 + 1 ≤ 2; omega
  · show 0 + 512 ≤ 512; omega
  · show 0 + 2048 ≤ 2048; omega
theorem sl3_inb' (n : ℕ) : ∀ a, sl3 n a + S1x2048x512.size a ≤ S2x2048x512.size a := by
  intro a; fin_cases a
  · show n % 2 + 1 ≤ 2; omega
  · show 0 + 2048 ≤ 2048; omega
  · show 0 + 512 ≤ 512; omega
theorem rowO_inb (b : ℕ) : ∀ a, rowO b a + S512x2048.size a ≤ S8192x2048.size a := by
  intro a; fin_cases a
  · show 512 * (b % 16) + 512 ≤ 8192; omega
  · show 0 + 2048 ≤ 2048; omega
theorem colO_inb (b : ℕ) : ∀ a, colO b a + S2048x512.size a ≤ S2048x5632.size a := by
  intro a; fin_cases a
  · show 0 + 2048 ≤ 2048; omega
  · show 512 * (b % 11) + 512 ≤ 5632; omega
theorem depO_inb (b : ℕ) : ∀ a, depO b a + S512x2048.size a ≤ S5632x2048.size a := by
  intro a; fin_cases a
  · show 512 * (b % 11) + 512 ≤ 5632; omega
  · show 0 + 2048 ≤ 2048; omega

instance (n : ℕ) : ClosedOff (sl1 n) := ⟨sl1 n, rfl⟩
instance (n : ℕ) : ClosedOff (sl3 n) := ⟨sl3 n, rfl⟩
instance (n : ℕ) : ClosedOff (rowO n) := ⟨rowO n, rfl⟩
instance (n : ℕ) : ClosedOff (colO n) := ⟨colO n, rfl⟩
instance (n : ℕ) : ClosedOff (depO n) := ⟨depO n, rfl⟩

def xs (n : ℕ) : Memref sig .tc .vmem S512x2048 .f32 :=
  (xR.slice (Rect.unit (s := S2x512x2048) (sl3 n) S1x512x2048.size (sl3_inb n)) (fun _ => rfl)).squeeze S512x2048 squeezes_S1x512x2048_S512x2048
def xq (n : ℕ) : DmaSems sig S_ := (cc0_scoped1.slice (Rect.unit (s := S2) (sl1 n) S1.size (sl1_inb n))).squeeze S_ squeezes_S1_S_

def gs (n : ℕ) : Memref sig .tc .vmem S2048x512 .bf16 :=
  (gR.slice (Rect.unit (s := S2x2048x512) (sl3 n) S1x2048x512.size (sl3_inb' n)) (fun _ => rfl)).squeeze S2048x512 squeezes_S1x2048x512_S2048x512
def gq (n : ℕ) : DmaSems sig S_ := (cc0_scoped4.slice (Rect.unit (s := S2) (sl1 n) S1.size (sl1_inb n))).squeeze S_ squeezes_S1_S_

def us (n : ℕ) : Memref sig .tc .vmem S2048x512 .bf16 :=
  (uR.slice (Rect.unit (s := S2x2048x512) (sl3 n) S1x2048x512.size (sl3_inb' n)) (fun _ => rfl)).squeeze S2048x512 squeezes_S1x2048x512_S2048x512
def uq (n : ℕ) : DmaSems sig S_ := (cc0_scoped6.slice (Rect.unit (s := S2) (sl1 n) S1.size (sl1_inb n))).squeeze S_ squeezes_S1_S_

def ds (n : ℕ) : Memref sig .tc .vmem S512x2048 .bf16 :=
  (dR.slice (Rect.unit (s := S2x512x2048) (sl3 n) S1x512x2048.size (sl3_inb n)) (fun _ => rfl)).squeeze S512x2048 squeezes_S1x512x2048_S512x2048
def dq (n : ℕ) : DmaSems sig S_ := (cc0_scoped8.slice (Rect.unit (s := S2) (sl1 n) S1.size (sl1_inb n))).squeeze S_ squeezes_S1_S_

def os (n : ℕ) : Memref sig .tc .vmem S512x2048 .f32 :=
  (oR.slice (Rect.unit (s := S2x512x2048) (sl3 n) S1x512x2048.size (sl3_inb n)) (fun _ => rfl)).squeeze S512x2048 squeezes_S1x512x2048_S512x2048
def oq (n : ℕ) : DmaSems sig S_ := (cc0_scoped11.slice (Rect.unit (s := S2) (sl1 n) S1.size (sl1_inb n))).squeeze S_ squeezes_S1_S_

def xb (n : ℕ) : Memref sig .tc .hbm S512x2048 .f32 :=
  xM.slice (Rect.unit (s := S8192x2048) (rowO n) S512x2048.size (rowO_inb n)) (fun _ => rfl)

def gb (n : ℕ) : Memref sig .tc .hbm S2048x512 .bf16 :=
  gM.slice (Rect.unit (s := S2048x5632) (colO n) S2048x512.size (colO_inb n)) (fun _ => rfl)

def ub (n : ℕ) : Memref sig .tc .hbm S2048x512 .bf16 :=
  uM.slice (Rect.unit (s := S2048x5632) (colO n) S2048x512.size (colO_inb n)) (fun _ => rfl)

def db (n : ℕ) : Memref sig .tc .hbm S512x2048 .bf16 :=
  dM.slice (Rect.unit (s := S5632x2048) (depO n) S512x2048.size (depO_inb n)) (fun _ => rfl)

def ob (n : ℕ) : Memref sig .tc .hbm S512x2048 .f32 :=
  oM.slice (Rect.unit (s := S8192x2048) (rowO n) S512x2048.size (rowO_inb n)) (fun _ => rfl)

theorem xs_congr {off : Fin 3 → ℕ} {n : ℕ} (h : off = sl3 n) (hh hs) :
    (xR.slice (Rect.unit (s := S2x512x2048) off S1x512x2048.size hh) hs).squeeze S512x2048 squeezes_S1x512x2048_S512x2048 = xs n :=
  congrArg (fun M : Memref sig .tc .vmem S1x512x2048 .f32 => M.squeeze S512x2048 squeezes_S1x512x2048_S512x2048) (Memref.slice_unit_congr _ h _ _ _ (fun _ => rfl))
theorem xq_congr {off : Fin 1 → ℕ} {n : ℕ} (h : off = sl1 n) (hh) :
    (cc0_scoped1.slice (Rect.unit (s := S2) off S1.size hh)).squeeze S_ squeezes_S1_S_ = xq n :=
  congrArg (fun A : DmaSems sig S1 => A.squeeze S_ squeezes_S1_S_) (SemArray.slice_unit_congr _ h _ _)

theorem gs_congr {off : Fin 3 → ℕ} {n : ℕ} (h : off = sl3 n) (hh hs) :
    (gR.slice (Rect.unit (s := S2x2048x512) off S1x2048x512.size hh) hs).squeeze S2048x512 squeezes_S1x2048x512_S2048x512 = gs n :=
  congrArg (fun M : Memref sig .tc .vmem S1x2048x512 .bf16 => M.squeeze S2048x512 squeezes_S1x2048x512_S2048x512) (Memref.slice_unit_congr _ h _ _ _ (fun _ => rfl))
theorem gq_congr {off : Fin 1 → ℕ} {n : ℕ} (h : off = sl1 n) (hh) :
    (cc0_scoped4.slice (Rect.unit (s := S2) off S1.size hh)).squeeze S_ squeezes_S1_S_ = gq n :=
  congrArg (fun A : DmaSems sig S1 => A.squeeze S_ squeezes_S1_S_) (SemArray.slice_unit_congr _ h _ _)

theorem us_congr {off : Fin 3 → ℕ} {n : ℕ} (h : off = sl3 n) (hh hs) :
    (uR.slice (Rect.unit (s := S2x2048x512) off S1x2048x512.size hh) hs).squeeze S2048x512 squeezes_S1x2048x512_S2048x512 = us n :=
  congrArg (fun M : Memref sig .tc .vmem S1x2048x512 .bf16 => M.squeeze S2048x512 squeezes_S1x2048x512_S2048x512) (Memref.slice_unit_congr _ h _ _ _ (fun _ => rfl))
theorem uq_congr {off : Fin 1 → ℕ} {n : ℕ} (h : off = sl1 n) (hh) :
    (cc0_scoped6.slice (Rect.unit (s := S2) off S1.size hh)).squeeze S_ squeezes_S1_S_ = uq n :=
  congrArg (fun A : DmaSems sig S1 => A.squeeze S_ squeezes_S1_S_) (SemArray.slice_unit_congr _ h _ _)

theorem ds_congr {off : Fin 3 → ℕ} {n : ℕ} (h : off = sl3 n) (hh hs) :
    (dR.slice (Rect.unit (s := S2x512x2048) off S1x512x2048.size hh) hs).squeeze S512x2048 squeezes_S1x512x2048_S512x2048 = ds n :=
  congrArg (fun M : Memref sig .tc .vmem S1x512x2048 .bf16 => M.squeeze S512x2048 squeezes_S1x512x2048_S512x2048) (Memref.slice_unit_congr _ h _ _ _ (fun _ => rfl))
theorem dq_congr {off : Fin 1 → ℕ} {n : ℕ} (h : off = sl1 n) (hh) :
    (cc0_scoped8.slice (Rect.unit (s := S2) off S1.size hh)).squeeze S_ squeezes_S1_S_ = dq n :=
  congrArg (fun A : DmaSems sig S1 => A.squeeze S_ squeezes_S1_S_) (SemArray.slice_unit_congr _ h _ _)

theorem os_congr {off : Fin 3 → ℕ} {n : ℕ} (h : off = sl3 n) (hh hs) :
    (oR.slice (Rect.unit (s := S2x512x2048) off S1x512x2048.size hh) hs).squeeze S512x2048 squeezes_S1x512x2048_S512x2048 = os n :=
  congrArg (fun M : Memref sig .tc .vmem S1x512x2048 .f32 => M.squeeze S512x2048 squeezes_S1x512x2048_S512x2048) (Memref.slice_unit_congr _ h _ _ _ (fun _ => rfl))
theorem oq_congr {off : Fin 1 → ℕ} {n : ℕ} (h : off = sl1 n) (hh) :
    (cc0_scoped11.slice (Rect.unit (s := S2) off S1.size hh)).squeeze S_ squeezes_S1_S_ = oq n :=
  congrArg (fun A : DmaSems sig S1 => A.squeeze S_ squeezes_S1_S_) (SemArray.slice_unit_congr _ h _ _)

theorem xb_congr {off : Fin 2 → ℕ} {n : ℕ} (h : off = rowO n) (hh hs) :
    xM.slice (Rect.unit (s := S8192x2048) off S512x2048.size hh) hs = xb n := Memref.slice_unit_congr _ h _ _ _ (fun _ => rfl)

theorem gb_congr {off : Fin 2 → ℕ} {n : ℕ} (h : off = colO n) (hh hs) :
    gM.slice (Rect.unit (s := S2048x5632) off S2048x512.size hh) hs = gb n := Memref.slice_unit_congr _ h _ _ _ (fun _ => rfl)

theorem ub_congr {off : Fin 2 → ℕ} {n : ℕ} (h : off = colO n) (hh hs) :
    uM.slice (Rect.unit (s := S2048x5632) off S2048x512.size hh) hs = ub n := Memref.slice_unit_congr _ h _ _ _ (fun _ => rfl)

theorem db_congr {off : Fin 2 → ℕ} {n : ℕ} (h : off = depO n) (hh hs) :
    dM.slice (Rect.unit (s := S5632x2048) off S512x2048.size hh) hs = db n := Memref.slice_unit_congr _ h _ _ _ (fun _ => rfl)

theorem ob_congr {off : Fin 2 → ℕ} {n : ℕ} (h : off = rowO n) (hh hs) :
    oM.slice (Rect.unit (s := S8192x2048) off S512x2048.size hh) hs = ob n := Memref.slice_unit_congr _ h _ _ _ (fun _ => rfl)

@[sl_canon] theorem xq4 (k : Fin k0_t1_loop.trips)  (hh) :
    (cc0_scoped1.slice (Rect.unit (s := S2) (k0_off4 (wA k)) S1.size hh)).squeeze S_ squeezes_S1_S_ = xq (k.val / 11 + 1) := xq_congr (off4_eq k) _

@[sl_canon] theorem xs5 (k : Fin k0_t1_loop.trips)  (hh hs) :
    (xR.slice (Rect.unit (s := S2x512x2048) (k0_off5 (wA k)) S1x512x2048.size hh) hs).squeeze S512x2048 squeezes_S1x512x2048_S512x2048 = xs (k.val / 11 + 1) := xs_congr (off5_eq k) _ _

@[sl_canon] theorem xb6 (k : Fin k0_t1_loop.trips) (hj : k.val % 11 = 10) (hh hs) :
    xM.slice (Rect.unit (s := S8192x2048) (k0_off6 (wI k) (wJ k)) S512x2048.size hh) hs = xb (k.val / 11 + 1) := xb_congr (off6_eq k hj) _ _

@[sl_canon] theorem gq7 (k : Fin k0_t1_loop.trips)  (hh) :
    (cc0_scoped4.slice (Rect.unit (s := S2) (k0_off7 (wD k)) S1.size hh)).squeeze S_ squeezes_S1_S_ = gq (k.val + 1) := gq_congr (off7_eq k) _

@[sl_canon] theorem gs8 (k : Fin k0_t1_loop.trips)  (hh hs) :
    (gR.slice (Rect.unit (s := S2x2048x512) (k0_off8 (wD k)) S1x2048x512.size hh) hs).squeeze S2048x512 squeezes_S1x2048x512_S2048x512 = gs (k.val + 1) := gs_congr (off8_eq k) _ _

@[sl_canon] theorem gb9 (k : Fin k0_t1_loop.trips)  (hh hs) :
    gM.slice (Rect.unit (s := S2048x5632) (k0_off9 (wJ k)) S2048x512.size hh) hs = gb (k.val + 1) := gb_congr (off9_eq k) _ _

@[sl_canon] theorem uq10 (k : Fin k0_t1_loop.trips)  (hh) :
    (cc0_scoped6.slice (Rect.unit (s := S2) (k0_off10 (wD k)) S1.size hh)).squeeze S_ squeezes_S1_S_ = uq (k.val + 1) := uq_congr (off10_eq k) _

@[sl_canon] theorem us11 (k : Fin k0_t1_loop.trips)  (hh hs) :
    (uR.slice (Rect.unit (s := S2x2048x512) (k0_off11 (wD k)) S1x2048x512.size hh) hs).squeeze S2048x512 squeezes_S1x2048x512_S2048x512 = us (k.val + 1) := us_congr (off11_eq k) _ _

@[sl_canon] theorem ub12 (k : Fin k0_t1_loop.trips)  (hh hs) :
    uM.slice (Rect.unit (s := S2048x5632) (k0_off12 (wJ k)) S2048x512.size hh) hs = ub (k.val + 1) := ub_congr (off12_eq k) _ _

@[sl_canon] theorem dq13 (k : Fin k0_t1_loop.trips)  (hh) :
    (cc0_scoped8.slice (Rect.unit (s := S2) (k0_off13 (wD k)) S1.size hh)).squeeze S_ squeezes_S1_S_ = dq (k.val + 1) := dq_congr (off13_eq k) _

@[sl_canon] theorem ds14 (k : Fin k0_t1_loop.trips)  (hh hs) :
    (dR.slice (Rect.unit (s := S2x512x2048) (k0_off14 (wD k)) S1x512x2048.size hh) hs).squeeze S512x2048 squeezes_S1x512x2048_S512x2048 = ds (k.val + 1) := ds_congr (off14_eq k) _ _

@[sl_canon] theorem db15 (k : Fin k0_t1_loop.trips)  (hh hs) :
    dM.slice (Rect.unit (s := S5632x2048) (k0_off15 (wJ k)) S512x2048.size hh) hs = db (k.val + 1) := db_congr (off15_eq k) _ _

@[sl_canon] theorem xq16 (k : Fin k0_t1_loop.trips)  (hh) :
    (cc0_scoped1.slice (Rect.unit (s := S2) (k0_off16 (wB k)) S1.size hh)).squeeze S_ squeezes_S1_S_ = xq (k.val / 11) := xq_congr (off16_eq k) _

@[sl_canon] theorem xs17 (k : Fin k0_t1_loop.trips)  (hh hs) :
    (xR.slice (Rect.unit (s := S2x512x2048) (k0_off17 (wB k)) S1x512x2048.size hh) hs).squeeze S512x2048 squeezes_S1x512x2048_S512x2048 = xs (k.val / 11) := xs_congr (off17_eq k) _ _

@[sl_canon] theorem xb18 (k : Fin k0_t1_loop.trips)  (hh hs) :
    xM.slice (Rect.unit (s := S8192x2048) (k0_off18 (wI k)) S512x2048.size hh) hs = xb (k.val / 11) := xb_congr (off18_eq k) _ _

@[sl_canon] theorem gq19 (k : Fin k0_t1_loop.trips)  (hh) :
    (cc0_scoped4.slice (Rect.unit (s := S2) (k0_off19 (wE k)) S1.size hh)).squeeze S_ squeezes_S1_S_ = gq (k.val) := gq_congr (off19_eq k) _

@[sl_canon] theorem gs20 (k : Fin k0_t1_loop.trips)  (hh hs) :
    (gR.slice (Rect.unit (s := S2x2048x512) (k0_off20 (wE k)) S1x2048x512.size hh) hs).squeeze S2048x512 squeezes_S1x2048x512_S2048x512 = gs (k.val) := gs_congr (off20_eq k) _ _

@[sl_canon] theorem gb21 (k : Fin k0_t1_loop.trips)  (hh hs) :
    gM.slice (Rect.unit (s := S2048x5632) (k0_off21 (wJ k)) S2048x512.size hh) hs = gb (k.val) := gb_congr (off21_eq k) _ _

@[sl_canon] theorem uq22 (k : Fin k0_t1_loop.trips)  (hh) :
    (cc0_scoped6.slice (Rect.unit (s := S2) (k0_off22 (wE k)) S1.size hh)).squeeze S_ squeezes_S1_S_ = uq (k.val) := uq_congr (off22_eq k) _

@[sl_canon] theorem us23 (k : Fin k0_t1_loop.trips)  (hh hs) :
    (uR.slice (Rect.unit (s := S2x2048x512) (k0_off23 (wE k)) S1x2048x512.size hh) hs).squeeze S2048x512 squeezes_S1x2048x512_S2048x512 = us (k.val) := us_congr (off23_eq k) _ _

@[sl_canon] theorem ub24 (k : Fin k0_t1_loop.trips)  (hh hs) :
    uM.slice (Rect.unit (s := S2048x5632) (k0_off24 (wJ k)) S2048x512.size hh) hs = ub (k.val) := ub_congr (off24_eq k) _ _

@[sl_canon] theorem dq25 (k : Fin k0_t1_loop.trips)  (hh) :
    (cc0_scoped8.slice (Rect.unit (s := S2) (k0_off25 (wE k)) S1.size hh)).squeeze S_ squeezes_S1_S_ = dq (k.val) := dq_congr (off25_eq k) _

@[sl_canon] theorem ds26 (k : Fin k0_t1_loop.trips)  (hh hs) :
    (dR.slice (Rect.unit (s := S2x512x2048) (k0_off26 (wE k)) S1x512x2048.size hh) hs).squeeze S512x2048 squeezes_S1x512x2048_S512x2048 = ds (k.val) := ds_congr (off26_eq k) _ _

@[sl_canon] theorem db27 (k : Fin k0_t1_loop.trips)  (hh hs) :
    dM.slice (Rect.unit (s := S5632x2048) (k0_off27 (wJ k)) S512x2048.size hh) hs = db (k.val) := db_congr (off27_eq k) _ _

instance (k : Fin k0_t1_loop.trips) : ClosedOff (k0_off28 (wB k)) := ⟨sl3 (k.val / 11), off28_eq k⟩

instance (k : Fin k0_t1_loop.trips) : ClosedOff (k0_off29 (wB k)) := ⟨sl3 (k.val / 11), off29_eq k⟩

instance (k : Fin k0_t1_loop.trips) : ClosedOff (k0_off30 (wE k)) := ⟨sl3 (k.val), off30_eq k⟩

instance (k : Fin k0_t1_loop.trips) : ClosedOff (k0_off31 (wE k)) := ⟨sl3 (k.val), off31_eq k⟩

instance (k : Fin k0_t1_loop.trips) : ClosedOff (k0_off32 (wB k)) := ⟨sl3 (k.val / 11), off32_eq k⟩

instance (k : Fin k0_t1_loop.trips) : ClosedOff (k0_off33 (wE k)) := ⟨sl3 (k.val), off33_eq k⟩

instance (k : Fin k0_t1_loop.trips) : ClosedOff (k0_off34 (wB k)) := ⟨sl3 (k.val / 11), off34_eq k⟩

instance (k : Fin k0_t1_loop.trips) : ClosedOff (k0_off35 (wB k)) := ⟨sl3 (k.val / 11), off35_eq k⟩

@[sl_canon] theorem oq36 (k : Fin k0_t1_loop.trips)  (hh) :
    (cc0_scoped11.slice (Rect.unit (s := S2) (k0_off36 (wB k)) S1.size hh)).squeeze S_ squeezes_S1_S_ = oq (k.val / 11) := oq_congr (off36_eq k) _

@[sl_canon] theorem ob37 (k : Fin k0_t1_loop.trips)  (hh hs) :
    oM.slice (Rect.unit (s := S8192x2048) (k0_off37 (wI k)) S512x2048.size hh) hs = ob (k.val / 11) := ob_congr (off37_eq k) _ _

@[sl_canon] theorem os38 (k : Fin k0_t1_loop.trips)  (hh hs) :
    (oR.slice (Rect.unit (s := S2x512x2048) (k0_off38 (wB k)) S1x512x2048.size hh) hs).squeeze S512x2048 squeezes_S1x512x2048_S512x2048 = os (k.val / 11) := os_congr (off38_eq k) _ _

@[sl_canon] theorem oq39 (k : Fin k0_t1_loop.trips) (hj : k.val % 11 = 0) (hk : 0 < k.val) (hh) :
    (cc0_scoped11.slice (Rect.unit (s := S2) (k0_off39 (wO k)) S1.size hh)).squeeze S_ squeezes_S1_S_ = oq (k.val / 11 + 1) := oq_congr (off39_eq k hj hk) _

@[sl_canon] theorem ob40 (k : Fin k0_t1_loop.trips) (hj : k.val % 11 = 0) (hk : 0 < k.val) (hh hs) :
    oM.slice (Rect.unit (s := S8192x2048) (k0_off40 (wI k) (wJ k)) S512x2048.size hh) hs = ob (k.val / 11 - 1) := ob_congr (off40_eq k hj hk) _ _

@[sl_canon] theorem os41 (k : Fin k0_t1_loop.trips) (hj : k.val % 11 = 0) (hk : 0 < k.val) (hh hs) :
    (oR.slice (Rect.unit (s := S2x512x2048) (k0_off41 (wO k)) S1x512x2048.size hh) hs).squeeze S512x2048 squeezes_S1x512x2048_S512x2048 = os (k.val / 11 + 1) := os_congr (off41_eq k hj hk) _ _

end Stream

end
-- ==== Proof.StreamTile.lean ====
/- The tiles the streamed feed-forward call works on, and the resources each ring is made of. -/
module

public import proofs.«01_k».proof.Proof.StreamNames

@[expose] public section

noncomputable section

namespace Stream

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

abbrev n0M : Memref sig .tc .hbm S1x2048 .f32 := Memref.whole main_v1
abbrev f0M : Memref sig .tc .hbm S1x2048 .f32 := Memref.whole main_v2

abbrev tripG (k : Fin k0_t1_loop.trips) (v w z : BitVec 32) : Prog (TpuEff nD τ sig (Elt F) Λ₀ .tc) Acc :=
  k0_t1_body (F := F) xM (Memref.isWhole_whole _) n0M (Memref.isWhole_whole _) gM (Memref.isWhole_whole _) uM (Memref.isWhole_whole _) dM (Memref.isWhole_whole _) f0M (Memref.isWhole_whole _) oM (Memref.isWhole_whole _) hM (Memref.isWhole_whole _) xR (Memref.isWhole_whole _) cc0_scoped1 nM (Memref.isWhole_whole _) gR (Memref.isWhole_whole _) cc0_scoped4 uR (Memref.isWhole_whole _) cc0_scoped6 dR (Memref.isWhole_whole _) cc0_scoped8 fM (Memref.isWhole_whole _) oR (Memref.isWhole_whole _) cc0_scoped11 cc0_scoped12 cc0_scoped13 v w z k (words k)

section Pieces
variable (c : Dev nD)

/-- A view's own elements, held at share `q`. -/
abbrev own {sp : Space} {S : Shape} {e : EltTy} (m : Memref sig .tc sp S e) (q : PosShare TreeShare) (f : Buf (Elt F) (m.view.loc (c : Thread nD τ))) : sProp 𝕄 :=
  m.view.loc (c : Thread nD τ) ↦[m.view.set]{q} f
abbrev cell (s : DmaSems sig S_) : sProp 𝕄 := semVal ((c : Thread nD τ), SemLoc.dma s.sem) 0
abbrev fly (s : DmaSems sig S_) (N : ℕ) (P : sProp 𝕄) : sProp 𝕄 :=
  Transfers.Flight countersEmb (c : Thread nD τ) (SemLoc.dma s.sem) () N P
end Pieces
section Homes
variable (c : Dev nD)
  (XX : Buf (Elt F) (xM.view.loc (c : Thread nD τ))) (XG : Buf (Elt F) (gM.view.loc (c : Thread nD τ)))
  (XU : Buf (Elt F) (uM.view.loc (c : Thread nD τ))) (XD : Buf (Elt F) (dM.view.loc (c : Thread nD τ)))
  (XO : Buf (Elt F) (oM.view.loc (c : Thread nD τ)))
abbrev xH (b : ℕ) (q : PosShare TreeShare) : sProp 𝕄 := own c (xb b) q XX
abbrev gH (b : ℕ) (q : PosShare TreeShare) : sProp 𝕄 := own c (gb b) q XG
abbrev uH (b : ℕ) (q : PosShare TreeShare) : sProp 𝕄 := own c (ub b) q XU
abbrev dH (b : ℕ) (q : PosShare TreeShare) : sProp 𝕄 := own c (db b) q XD
abbrev oH (b : ℕ) : sProp 𝕄 := own c (ob b) fullShare XO
end Homes
/-! ## Tiles: a ring slot read whole, and a block as the slot that received it shows it -/

abbrev Er : S512x2048.Idx ≃ S1x512x2048.Idx := Shape.reshapeEquiv squeezes_S1x512x2048_S512x2048.numel_eq
abbrev Ec : S2048x512.Idx ≃ S1x2048x512.Idx := Shape.reshapeEquiv squeezes_S1x2048x512_S2048x512.numel_eq

section Reads
variable (c : Dev nD)
def rdx (n : ℕ) (f : Buf (Elt F) (xR.view.loc (c : Thread nD τ))) : Vec F S1x512x2048 .f32 :=
  View.readAt (Elt F) xR.view (Rect.unit (s := S2x512x2048) (sl3 n) S1x512x2048.size (sl3_inb n)).toLoadRect f
def rdo (n : ℕ) (f : Buf (Elt F) (oR.view.loc (c : Thread nD τ))) : Vec F S1x512x2048 .f32 :=
  View.readAt (Elt F) oR.view (Rect.unit (s := S2x512x2048) (sl3 n) S1x512x2048.size (sl3_inb n)).toLoadRect f
def rdg (n : ℕ) (f : Buf (Elt F) (gR.view.loc (c : Thread nD τ))) : Vec F S1x2048x512 .bf16 :=
  View.readAt (Elt F) gR.view (Rect.unit (s := S2x2048x512) (sl3 n) S1x2048x512.size (sl3_inb' n)).toLoadRect f
def rdu (n : ℕ) (f : Buf (Elt F) (uR.view.loc (c : Thread nD τ))) : Vec F S1x2048x512 .bf16 :=
  View.readAt (Elt F) uR.view (Rect.unit (s := S2x2048x512) (sl3 n) S1x2048x512.size (sl3_inb' n)).toLoadRect f
def rdd (n : ℕ) (f : Buf (Elt F) (dR.view.loc (c : Thread nD τ))) : Vec F S1x512x2048 .bf16 :=
  View.readAt (Elt F) dR.view (Rect.unit (s := S2x512x2048) (sl3 n) S1x512x2048.size (sl3_inb n)).toLoadRect f
def rdh (f : Buf (Elt F) (hM.view.loc (c : Thread nD τ))) : Vec F S512x2048 .bf16 :=
  View.readAt (Elt F) hM.view (Rect.unit (s := S512x2048) ![0, 0] S512x2048.size inb_S512x2048_S512x2048_0_0).toLoadRect f
def rdn (f : Buf (Elt F) (nM.view.loc (c : Thread nD τ))) : Vec F S1x2048 .f32 :=
  View.readAt (Elt F) nM.view (Rect.unit (s := S1x2048) ![0, 0] S1x2048.size inb_S1x2048_S1x2048_0_0).toLoadRect f
def rdf (f : Buf (Elt F) (fM.view.loc (c : Thread nD τ))) : Vec F S1x2048 .f32 :=
  View.readAt (Elt F) fM.view (Rect.unit (s := S1x2048) ![0, 0] S1x2048.size inb_S1x2048_S1x2048_0_0).toLoadRect f

theorem rdx_off {off : Fin 3 → ℕ} {n : ℕ} (e : off = sl3 n) (hh) (f : Buf (Elt F) (xR.view.loc (c : Thread nD τ))) :
    View.readAt (Elt F) xR.view (Rect.unit (s := S2x512x2048) off S1x512x2048.size hh).toLoadRect f = rdx c n f := by subst e; rfl
theorem rdx_land (n : ℕ) (f : Buf (Elt F) (xR.view.loc (c : Thread nD τ))) (w : Vec F S512x2048 .f32) :
    rdx c n ((xs n).view.writes (Elt F) f [⟨Rect.whole S512x2048, w⟩]) = fun i => w (Er.symm i) := by
  have h : (xs n).view.read (Elt F) ((xs n).view.writes (Elt F) f [⟨Rect.whole S512x2048, w⟩]) = w := View.read_writes_whole _ _ _
  have h' : ∀ g : Buf (Elt F) (xR.view.loc (c : Thread nD τ)), ∀ i, rdx c n g i = (xs n).view.read (Elt F) g (Er.symm i) := by
    intro g i
    show rdx c n g i = rdx c n g (Er (Er.symm i))
    rw [Equiv.apply_symm_apply]
  exact funext fun i => (h' _ i).trans (congrFun h _)
theorem rdo_off {off : Fin 3 → ℕ} {n : ℕ} (e : off = sl3 n) (hh) (f : Buf (Elt F) (oR.view.loc (c : Thread nD τ))) :
    View.readAt (Elt F) oR.view (Rect.unit (s := S2x512x2048) off S1x512x2048.size hh).toLoadRect f = rdo c n f := by subst e; rfl
theorem rdo_land (n : ℕ) (f : Buf (Elt F) (oR.view.loc (c : Thread nD τ))) (w : Vec F S512x2048 .f32) :
    rdo c n ((os n).view.writes (Elt F) f [⟨Rect.whole S512x2048, w⟩]) = fun i => w (Er.symm i) := by
  have h : (os n).view.read (Elt F) ((os n).view.writes (Elt F) f [⟨Rect.whole S512x2048, w⟩]) = w := View.read_writes_whole _ _ _
  have h' : ∀ g : Buf (Elt F) (oR.view.loc (c : Thread nD τ)), ∀ i, rdo c n g i = (os n).view.read (Elt F) g (Er.symm i) := by
    intro g i
    show rdo c n g i = rdo c n g (Er (Er.symm i))
    rw [Equiv.apply_symm_apply]
  exact funext fun i => (h' _ i).trans (congrFun h _)
theorem rdg_off {off : Fin 3 → ℕ} {n : ℕ} (e : off = sl3 n) (hh) (f : Buf (Elt F) (gR.view.loc (c : Thread nD τ))) :
    View.readAt (Elt F) gR.view (Rect.unit (s := S2x2048x512) off S1x2048x512.size hh).toLoadRect f = rdg c n f := by subst e; rfl
theorem rdg_land (n : ℕ) (f : Buf (Elt F) (gR.view.loc (c : Thread nD τ))) (w : Vec F S2048x512 .bf16) :
    rdg c n ((gs n).view.writes (Elt F) f [⟨Rect.whole S2048x512, w⟩]) = fun i => w (Ec.symm i) := by
  have h : (gs n).view.read (Elt F) ((gs n).view.writes (Elt F) f [⟨Rect.whole S2048x512, w⟩]) = w := View.read_writes_whole _ _ _
  have h' : ∀ g : Buf (Elt F) (gR.view.loc (c : Thread nD τ)), ∀ i, rdg c n g i = (gs n).view.read (Elt F) g (Ec.symm i) := by
    intro g i
    show rdg c n g i = rdg c n g (Ec (Ec.symm i))
    rw [Equiv.apply_symm_apply]
  exact funext fun i => (h' _ i).trans (congrFun h _)
theorem rdu_off {off : Fin 3 → ℕ} {n : ℕ} (e : off = sl3 n) (hh) (f : Buf (Elt F) (uR.view.loc (c : Thread nD τ))) :
    View.readAt (Elt F) uR.view (Rect.unit (s := S2x2048x512) off S1x2048x512.size hh).toLoadRect f = rdu c n f := by subst e; rfl
theorem rdu_land (n : ℕ) (f : Buf (Elt F) (uR.view.loc (c : Thread nD τ))) (w : Vec F S2048x512 .bf16) :
    rdu c n ((us n).view.writes (Elt F) f [⟨Rect.whole S2048x512, w⟩]) = fun i => w (Ec.symm i) := by
  have h : (us n).view.read (Elt F) ((us n).view.writes (Elt F) f [⟨Rect.whole S2048x512, w⟩]) = w := View.read_writes_whole _ _ _
  have h' : ∀ g : Buf (Elt F) (uR.view.loc (c : Thread nD τ)), ∀ i, rdu c n g i = (us n).view.read (Elt F) g (Ec.symm i) := by
    intro g i
    show rdu c n g i = rdu c n g (Ec (Ec.symm i))
    rw [Equiv.apply_symm_apply]
  exact funext fun i => (h' _ i).trans (congrFun h _)
theorem rdd_off {off : Fin 3 → ℕ} {n : ℕ} (e : off = sl3 n) (hh) (f : Buf (Elt F) (dR.view.loc (c : Thread nD τ))) :
    View.readAt (Elt F) dR.view (Rect.unit (s := S2x512x2048) off S1x512x2048.size hh).toLoadRect f = rdd c n f := by subst e; rfl
theorem rdd_land (n : ℕ) (f : Buf (Elt F) (dR.view.loc (c : Thread nD τ))) (w : Vec F S512x2048 .bf16) :
    rdd c n ((ds n).view.writes (Elt F) f [⟨Rect.whole S512x2048, w⟩]) = fun i => w (Er.symm i) := by
  have h : (ds n).view.read (Elt F) ((ds n).view.writes (Elt F) f [⟨Rect.whole S512x2048, w⟩]) = w := View.read_writes_whole _ _ _
  have h' : ∀ g : Buf (Elt F) (dR.view.loc (c : Thread nD τ)), ∀ i, rdd c n g i = (ds n).view.read (Elt F) g (Er.symm i) := by
    intro g i
    show rdd c n g i = rdd c n g (Er (Er.symm i))
    rw [Equiv.apply_symm_apply]
  exact funext fun i => (h' _ i).trans (congrFun h _)

theorem rdo_store {off : Fin 3 → ℕ} {n : ℕ} (e : off = sl3 n) (hh) (f : Buf (Elt F) (oR.view.loc (c : Thread nD τ))) (w : Vec F S1x512x2048 .f32) :
    rdo c n (View.write (Elt F) (oR.access (Rect.unit (s := S2x512x2048) off S1x512x2048.size hh)) f w Finset.univ) = w := by
  subst e
  exact View.read_write_univ (v := oR.access (Rect.unit (s := S2x512x2048) (sl3 n) S1x512x2048.size (sl3_inb n))) (Val := Elt F) f w
theorem rdo_view (n : ℕ) (f : Buf (Elt F) (oR.view.loc (c : Thread nD τ))) : (os n).view.read (Elt F) f = fun j => rdo c n f (Er j) := rfl
theorem rdh_store (f : Buf (Elt F) (hM.view.loc (c : Thread nD τ))) (w : Vec F S512x2048 .bf16) :
    rdh c (hM.view.writes (Elt F) f [⟨Rect.unit (s := S512x2048) ![0, 0] S512x2048.size inb_S512x2048_S512x2048_0_0, w⟩]) = w :=
  View.read_write_univ (v := hM.access (Rect.unit (s := S512x2048) ![0, 0] S512x2048.size inb_S512x2048_S512x2048_0_0)) (Val := Elt F) f w
theorem rdh_cov (c : Dev nD) (w : Vec F S512x2048 .bf16) :
    hM.view.readCov (Val := Elt F) [⟨Rect.unit (s := S512x2048) ![0, 0] S512x2048.size inb_S512x2048_S512x2048_0_0, w⟩]
      (Rect.unit (s := S512x2048) ![0, 0] S512x2048.size inb_S512x2048_S512x2048_0_0).toLoadRect = w :=
  rdh_store c (hM.view.junk (Val := Elt F)) w
end Reads

/-! ## What the tiles are worth: the row block, its normalised copy, the running sum, the finished row block -/

section Values
variable (c : Dev nD)
  (XX : Buf (Elt F) (xM.view.loc (c : Thread nD τ))) (XG : Buf (Elt F) (gM.view.loc (c : Thread nD τ)))
  (XU : Buf (Elt F) (uM.view.loc (c : Thread nD τ))) (XD : Buf (Elt F) (dM.view.loc (c : Thread nD τ)))
  (XO : Buf (Elt F) (oM.view.loc (c : Thread nD τ)))
  (fn : Buf (Elt F) (nM.view.loc (c : Thread nD τ))) (ff : Buf (Elt F) (fM.view.loc (c : Thread nD τ)))

def xT (b : ℕ) : Vec F S1x512x2048 .f32 := fun i => (xb b).view.read (Elt F) XX (Er.symm i)
def gT (b : ℕ) : Vec F S1x2048x512 .bf16 := fun i => (gb b).view.read (Elt F) XG (Ec.symm i)
def uT (b : ℕ) : Vec F S1x2048x512 .bf16 := fun i => (ub b).view.read (Elt F) XU (Ec.symm i)
def dT (b : ℕ) : Vec F S1x512x2048 .bf16 := fun i => (db b).view.read (Elt F) XD (Er.symm i)
def hT (b : ℕ) : Vec F S512x2048 .bf16 := k0_pay1 (xT c XX b) (rdn c fn)
/-- The running sum of row block `b` after `j` of its eleven weight blocks. -/
def aT (b : ℕ) : ℕ → Vec F S1x512x2048 .f32
  | 0 => k0_pay2
  | j + 1 => k0_pay4 (k0_pay3 (hT c XX fn b) (gT c XG (11 * b + j)) (uT c XU (11 * b + j))) (aT b j) (dT c XD (11 * b + j))
def yT (b : ℕ) : Vec F S1x512x2048 .f32 := k0_pay5 (xT c XX b) (aT c XX XG XU XD fn b 11) (rdf c ff)
/-- The result array with its first `b` row blocks written. -/
def res : ℕ → Buf (Elt F) (oM.view.loc (c : Thread nD τ))
  | 0 => XO
  | b + 1 => (ob b).view.writes (Elt F) (res b) [⟨Rect.whole S512x2048, fun j => yT c XX XG XU XD fn ff b (Er j)⟩]

/-! ## The resources, ring by ring -/

abbrev Gfly (n : ℕ) (q : PosShare TreeShare) : sProp 𝕄 := iprop(∃ f, fly c (gq n) 65536 iprop(own c (gs n) fullShare f ∗ gH c XG n q) ∗ ⌜rdg c n f = gT c XG n⌝)
abbrev Ufly (n : ℕ) (q : PosShare TreeShare) : sProp 𝕄 := iprop(∃ f, fly c (uq n) 65536 iprop(own c (us n) fullShare f ∗ uH c XU n q) ∗ ⌜rdu c n f = uT c XU n⌝)
abbrev Dfly (n : ℕ) (q : PosShare TreeShare) : sProp 𝕄 := iprop(∃ f, fly c (dq n) 65536 iprop(own c (ds n) fullShare f ∗ dH c XD n q) ∗ ⌜rdd c n f = dT c XD n⌝)
abbrev Xfly (n : ℕ) (q : PosShare TreeShare) : sProp 𝕄 := iprop(∃ f, fly c (xq n) 131072 iprop(own c (xs n) fullShare f ∗ xH c XX n q) ∗ ⌜rdx c n f = xT c XX n⌝)
abbrev Gfree (n : ℕ) : sProp 𝕄 := iprop((∃ f, own c (gs n) fullShare f) ∗ cell c (gq n))
abbrev Ufree (n : ℕ) : sProp 𝕄 := iprop((∃ f, own c (us n) fullShare f) ∗ cell c (uq n))
abbrev Dfree (n : ℕ) : sProp 𝕄 := iprop((∃ f, own c (ds n) fullShare f) ∗ cell c (dq n))
abbrev Xfree (n : ℕ) : sProp 𝕄 := iprop((∃ f, own c (xs n) fullShare f) ∗ cell c (xq n))
abbrev Ofree (n : ℕ) : sProp 𝕄 := iprop((∃ f, own c (os n) fullShare f) ∗ cell c (oq n))
abbrev Xheld (n : ℕ) : sProp 𝕄 := iprop((∃ f, own c (xs n) fullShare f ∗ ⌜rdx c n f = xT c XX n⌝) ∗ cell c (xq n))
abbrev Oacc (n : ℕ) (A : Vec F S1x512x2048 .f32) : sProp 𝕄 := iprop((∃ f, own c (os n) fullShare f ∗ ⌜rdo c n f = A⌝) ∗ cell c (oq n))
abbrev Ofly (n b : ℕ) (r : Buf (Elt F) (oM.view.loc (c : Thread nD τ))) : sProp 𝕄 :=
  iprop(∃ f, fly c (oq n) 131072 iprop(oH c r b ∗ own c (os n) fullShare f))
abbrev Hheld (n : ℕ) : sProp 𝕄 := iprop(∃ f, own c hM fullShare f ∗ ⌜rdh c f = hT c XX fn n⌝)
abbrev Hany : sProp 𝕄 := iprop(∃ f, own c hM fullShare f)
abbrev Owes : sProp 𝕄 := iprop(∃ W, owes (c : Thread nD τ) 0 W)
end Values

theorem pay_congr {h h' : Vec F S512x2048 .bf16} {g g' u u' : Vec F S1x2048x512 .bf16} {a a' : Vec F S1x512x2048 .f32} {d d' : Vec F S1x512x2048 .bf16}
    (eh : h = h') (eg : g = g') (eu : u = u') (ea : a = a') (ed : d = d') :
    k0_pay4 (k0_pay3 h g u) a d = k0_pay4 (k0_pay3 h' g' u') a' d' := by subst eh eg eu ea ed; rfl
theorem pay5_congr {x x' a a' : Vec F S1x512x2048 .f32} {f f' : Vec F S1x2048 .f32} (ex : x = x') (ea : a = a') (ef : f = f') :
    k0_pay5 x a f = k0_pay5 x' a' f' := by subst ex ea ef; rfl
theorem pay1_congr {x x' : Vec F S1x512x2048 .f32} (n : Vec F S1x2048 .f32) (ex : x = x') : k0_pay1 x n = k0_pay1 x' n := by subst ex; rfl

end Stream

end
-- ==== Proof.StreamState.lean ====
/- The state before each trip of the streamed feed-forward call's loop, ring by ring, and how a trip moves it. -/
module

public import proofs.«01_k».proof.Proof.StreamTile

@[expose] public section

noncomputable section

namespace Stream

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## Slots and semaphores repeat every two, the two shares of an operand alternate -/

theorem sl3_par {n m : ℕ} (h : n % 2 = m % 2) : sl3 n = sl3 m := by unfold sl3; rw [h]
theorem sl1_par {n m : ℕ} (h : n % 2 = m % 2) : sl1 n = sl1 m := by unfold sl1; rw [h]
/-- The share of an operand the fetches into slot `n` borrow from. -/
def sh (n : ℕ) : PosShare TreeShare := if n % 2 = 0 then fullShare.left else fullShare.right
theorem sh_par {n m : ℕ} (h : n % 2 = m % 2) : sh n = sh m := by unfold sh; rw [h]
theorem writes_whole_off {sp : Space} {s : Shape} {e : EltTy} (v : View sig .tc sp s e) (f : v.ty.Contents (Elt F)) (w : s.Idx → Elt F e)
    {i : v.ty.Idx} (h : i ∉ v.set) : v.writes (Elt F) f [⟨Rect.whole s, w⟩] i = f i := by
  have hs : i ∉ (v.slice (Rect.whole s)).setOn Finset.univ := by
    rw [View.setOn_univ]
    intro hm
    obtain ⟨x, -, hx⟩ := Finset.mem_map.mp hm
    exact h (Finset.mem_map.mpr ⟨(Rect.whole s).emb x, Finset.mem_univ _, hx⟩)
  exact View.write_of_not_mem (v := v.slice (Rect.whole s)) (Val := Elt F) _ _ Finset.univ hs
theorem eq_entails {P Q : sProp 𝕄} (e : P = Q) : P ⊢ Q := e ▸ .rfl

theorem xs_par {n m : ℕ} (h : n % 2 = m % 2) : xs n = xs m := by unfold xs; exact xs_congr (sl3_par h) _ _
theorem xq_par {n m : ℕ} (h : n % 2 = m % 2) : xq n = xq m := by unfold xq; exact xq_congr (sl1_par h) _

theorem gs_par {n m : ℕ} (h : n % 2 = m % 2) : gs n = gs m := by unfold gs; exact gs_congr (sl3_par h) _ _
theorem gq_par {n m : ℕ} (h : n % 2 = m % 2) : gq n = gq m := by unfold gq; exact gq_congr (sl1_par h) _

theorem us_par {n m : ℕ} (h : n % 2 = m % 2) : us n = us m := by unfold us; exact us_congr (sl3_par h) _ _
theorem uq_par {n m : ℕ} (h : n % 2 = m % 2) : uq n = uq m := by unfold uq; exact uq_congr (sl1_par h) _

theorem ds_par {n m : ℕ} (h : n % 2 = m % 2) : ds n = ds m := by unfold ds; exact ds_congr (sl3_par h) _ _
theorem dq_par {n m : ℕ} (h : n % 2 = m % 2) : dq n = dq m := by unfold dq; exact dq_congr (sl1_par h) _

theorem os_par {n m : ℕ} (h : n % 2 = m % 2) : os n = os m := by unfold os; exact os_congr (sl3_par h) _ _
theorem oq_par {n m : ℕ} (h : n % 2 = m % 2) : oq n = oq m := by unfold oq; exact oq_congr (sl1_par h) _

section State
variable (c : Dev nD)
  (XX : Buf (Elt F) (xM.view.loc (c : Thread nD τ))) (XG : Buf (Elt F) (gM.view.loc (c : Thread nD τ)))
  (XU : Buf (Elt F) (uM.view.loc (c : Thread nD τ))) (XD : Buf (Elt F) (dM.view.loc (c : Thread nD τ)))
  (XO : Buf (Elt F) (oM.view.loc (c : Thread nD τ)))
  (fn : Buf (Elt F) (nM.view.loc (c : Thread nD τ))) (ff : Buf (Elt F) (fM.view.loc (c : Thread nD τ)))

theorem Xfree_par {n m : ℕ} (h : n % 2 = m % 2) : (Xfree c n : sProp 𝕄) ⊢ Xfree c m := by
  refine eq_entails ?_
  show iprop((∃ f, own c (xs n) fullShare f) ∗ cell c (xq n)) = iprop((∃ f, own c (xs m) fullShare f) ∗ cell c (xq m))
  rw [xs_par h, xq_par h]

def xW (q : PosShare TreeShare) : sProp 𝕄 := xM.view.loc (c : Thread nD τ) ↦[Finset.univ]{q} XX
def xRest (b : ℕ) (q : PosShare TreeShare) : sProp 𝕄 := xM.view.loc (c : Thread nD τ) ↦[Finset.univ \ (xb b).view.set]{q} XX
theorem x_split (b : ℕ) (q : PosShare TreeShare) : xW c XX q ⊢ iprop(xH c XX b q ∗ xRest c XX b q) :=
  (pointsTo_split_subset (Finset.subset_univ _)).1
theorem x_join (b : ℕ) (q : PosShare TreeShare) : iprop(xH c XX b q ∗ xRest c XX b q) ⊢ xW c XX q :=
  (pointsTo_split_subset (Finset.subset_univ _)).2
theorem xW_par {n m : ℕ} (h : n % 2 = m % 2) : xW c XX (sh n) ⊢ xW c XX (sh m) := by rw [sh_par h]

theorem Gfree_par {n m : ℕ} (h : n % 2 = m % 2) : (Gfree c n : sProp 𝕄) ⊢ Gfree c m := by
  refine eq_entails ?_
  show iprop((∃ f, own c (gs n) fullShare f) ∗ cell c (gq n)) = iprop((∃ f, own c (gs m) fullShare f) ∗ cell c (gq m))
  rw [gs_par h, gq_par h]

def gW (q : PosShare TreeShare) : sProp 𝕄 := gM.view.loc (c : Thread nD τ) ↦[Finset.univ]{q} XG
def gRest (b : ℕ) (q : PosShare TreeShare) : sProp 𝕄 := gM.view.loc (c : Thread nD τ) ↦[Finset.univ \ (gb b).view.set]{q} XG
theorem g_split (b : ℕ) (q : PosShare TreeShare) : gW c XG q ⊢ iprop(gH c XG b q ∗ gRest c XG b q) :=
  (pointsTo_split_subset (Finset.subset_univ _)).1
theorem g_join (b : ℕ) (q : PosShare TreeShare) : iprop(gH c XG b q ∗ gRest c XG b q) ⊢ gW c XG q :=
  (pointsTo_split_subset (Finset.subset_univ _)).2
theorem gW_par {n m : ℕ} (h : n % 2 = m % 2) : gW c XG (sh n) ⊢ gW c XG (sh m) := by rw [sh_par h]

theorem Ufree_par {n m : ℕ} (h : n % 2 = m % 2) : (Ufree c n : sProp 𝕄) ⊢ Ufree c m := by
  refine eq_entails ?_
  show iprop((∃ f, own c (us n) fullShare f) ∗ cell c (uq n)) = iprop((∃ f, own c (us m) fullShare f) ∗ cell c (uq m))
  rw [us_par h, uq_par h]

def uW (q : PosShare TreeShare) : sProp 𝕄 := uM.view.loc (c : Thread nD τ) ↦[Finset.univ]{q} XU
def uRest (b : ℕ) (q : PosShare TreeShare) : sProp 𝕄 := uM.view.loc (c : Thread nD τ) ↦[Finset.univ \ (ub b).view.set]{q} XU
theorem u_split (b : ℕ) (q : PosShare TreeShare) : uW c XU q ⊢ iprop(uH c XU b q ∗ uRest c XU b q) :=
  (pointsTo_split_subset (Finset.subset_univ _)).1
theorem u_join (b : ℕ) (q : PosShare TreeShare) : iprop(uH c XU b q ∗ uRest c XU b q) ⊢ uW c XU q :=
  (pointsTo_split_subset (Finset.subset_univ _)).2
theorem uW_par {n m : ℕ} (h : n % 2 = m % 2) : uW c XU (sh n) ⊢ uW c XU (sh m) := by rw [sh_par h]

theorem Dfree_par {n m : ℕ} (h : n % 2 = m % 2) : (Dfree c n : sProp 𝕄) ⊢ Dfree c m := by
  refine eq_entails ?_
  show iprop((∃ f, own c (ds n) fullShare f) ∗ cell c (dq n)) = iprop((∃ f, own c (ds m) fullShare f) ∗ cell c (dq m))
  rw [ds_par h, dq_par h]

def dW (q : PosShare TreeShare) : sProp 𝕄 := dM.view.loc (c : Thread nD τ) ↦[Finset.univ]{q} XD
def dRest (b : ℕ) (q : PosShare TreeShare) : sProp 𝕄 := dM.view.loc (c : Thread nD τ) ↦[Finset.univ \ (db b).view.set]{q} XD
theorem d_split (b : ℕ) (q : PosShare TreeShare) : dW c XD q ⊢ iprop(dH c XD b q ∗ dRest c XD b q) :=
  (pointsTo_split_subset (Finset.subset_univ _)).1
theorem d_join (b : ℕ) (q : PosShare TreeShare) : iprop(dH c XD b q ∗ dRest c XD b q) ⊢ dW c XD q :=
  (pointsTo_split_subset (Finset.subset_univ _)).2
theorem dW_par {n m : ℕ} (h : n % 2 = m % 2) : dW c XD (sh n) ⊢ dW c XD (sh m) := by rw [sh_par h]

theorem Ofree_par {n m : ℕ} (h : n % 2 = m % 2) : (Ofree c n : sProp 𝕄) ⊢ Ofree c m := by
  refine eq_entails ?_
  show iprop((∃ f, own c (os n) fullShare f) ∗ cell c (oq n)) = iprop((∃ f, own c (os m) fullShare f) ∗ cell c (oq m))
  rw [os_par h, oq_par h]

def oW (r : Buf (Elt F) (oM.view.loc (c : Thread nD τ))) : sProp 𝕄 := oM.view.loc (c : Thread nD τ) ↦[Finset.univ]{fullShare} r
def oRest (b : ℕ) (r : Buf (Elt F) (oM.view.loc (c : Thread nD τ))) : sProp 𝕄 := oM.view.loc (c : Thread nD τ) ↦[Finset.univ \ (ob b).view.set]{fullShare} r
theorem o_split (b : ℕ) (r : Buf (Elt F) (oM.view.loc (c : Thread nD τ))) : oW c r ⊢ iprop(oH c r b ∗ oRest c b r) := (pointsTo_split_subset (Finset.subset_univ _)).1
theorem o_join (b : ℕ) (r : Buf (Elt F) (oM.view.loc (c : Thread nD τ))) : iprop(oH c r b ∗ oRest c b r) ⊢ oW c r := (pointsTo_split_subset (Finset.subset_univ _)).2
/-- Off row block `b`, writing it changes nothing. -/
theorem oRest_succ (b : ℕ) : oRest c b (res c XX XG XU XD XO fn ff b) ⊢ oRest c b (res c XX XG XU XD XO fn ff (b + 1)) := by
  refine eq_entails (pointsTo_congr fun i hi => ?_)
  exact (writes_whole_off (ob b).view (res c XX XG XU XD XO fn ff b) (fun j => yT c XX XG XU XD fn ff b (Er j)) (Finset.mem_sdiff.1 hi).2).symm
theorem Ofly_par {n m : ℕ} (b : ℕ) (r : Buf (Elt F) (oM.view.loc (c : Thread nD τ))) (h : n % 2 = m % 2) : Ofly c n b r ⊢ Ofly c m b r := by
  refine eq_entails ?_
  show iprop(∃ f, fly c (oq n) 131072 iprop(oH c r b ∗ own c (os n) fullShare f)) = iprop(∃ f, fly c (oq m) 131072 iprop(oH c r b ∗ own c (os m) fullShare f))
  rw [os_par h, oq_par h]
theorem aT_succ {k i j : ℕ} (h : k = 11 * i + j) :
    k0_pay4 (k0_pay3 (hT c XX fn i) (gT c XG k) (uT c XU k)) (aT c XX XG XU XD fn i j) (dT c XD k) = aT c XX XG XU XD fn i (j + 1) := by
  subst h; rfl
theorem res_succ {k i : ℕ} (h : k = 11 * i + 10) :
    (ob i).view.writes (Elt F) (res c XX XG XU XD XO fn ff i) [⟨Rect.whole S512x2048, fun j => k0_pay5 (xT c XX i)
        (k0_pay4 (k0_pay3 (hT c XX fn i) (gT c XG k) (uT c XU k)) (aT c XX XG XU XD fn i 10) (dT c XD k)) (rdf c ff) (Er j)⟩]
      = res c XX XG XU XD XO fn ff (i + 1) := by
  subst h; rfl

/-! ### Weight ring `g` -/
def gS (k : ℕ) : sProp 𝕄 :=
  if k < 176 then iprop(Gfly c XG k (sh k) ∗ Gfree c (k + 1) ∗ gRest c XG k (sh k) ∗ gW c XG (sh (k + 1)))
  else iprop(Gfree c k ∗ Gfree c (k + 1) ∗ gW c XG (sh k) ∗ gW c XG (sh (k + 1)))
def gFr (k : ℕ) : sProp 𝕄 := iprop(gRest c XG k (sh k) ∗ gRest c XG (k + 1) (sh (k + 1)))
def gFl (k : ℕ) : sProp 𝕄 := iprop(Gfree c (k + 1) ∗ gRest c XG k (sh k) ∗ gW c XG (sh (k + 1)))
theorem gS_pre {k : ℕ} (h : k < 175) : gS c XG k ⊢ iprop(Gfly c XG k (sh k) ∗ Gfree c (k + 1) ∗ gH c XG (k + 1) (sh (k + 1)) ∗ gFr c XG k) := by
  unfold gS gFr; rw [if_pos (by omega)]
  iintro ⟨H1, H2, H3, H4⟩
  ihave H5 := (g_split c XG (k + 1) (sh (k + 1))) $$ H4
  icases H5 with ⟨H5, H6⟩
  isplitl [H1]; · iexact H1
  isplitl [H2]; · iexact H2
  isplitl [H5]; · iexact H5
  isplitl [H3]; · iexact H3
  iexact H6
theorem gS_post {k : ℕ} (h : k < 175) : iprop(Gfree c k ∗ gH c XG k (sh k) ∗ Gfly c XG (k + 1) (sh (k + 1)) ∗ gFr c XG k) ⊢ gS c XG (k + 1) := by
  unfold gS gFr; rw [if_pos (show k + 1 < 176 by omega)]
  iintro ⟨H1, H2, H3, H4, H5⟩
  ihave H6 := (g_join c XG k (sh k)) $$ [H2 H4]
  · isplitl [H2]; · iexact H2
    iexact H4
  isplitl [H3]; · iexact H3
  isplitl [H1]; · iapply (Gfree_par c (show k % 2 = (k + 1 + 1) % 2 by omega)); iexact H1
  isplitl [H5]; · iexact H5
  iapply (gW_par c XG (show k % 2 = (k + 1 + 1) % 2 by omega)); iexact H6
theorem gS_pre_last {k : ℕ} (h : k = 175) : gS c XG k ⊢ iprop(Gfly c XG k (sh k) ∗ gFl c XG k) := by
  unfold gS gFl; rw [if_pos (by omega)]
theorem gS_post_last {k : ℕ} (h : k = 175) : iprop(Gfree c k ∗ gH c XG k (sh k) ∗ gFl c XG k) ⊢ gS c XG (k + 1) := by
  unfold gS gFl; rw [if_neg (show ¬ k + 1 < 176 by omega)]
  iintro ⟨H1, H2, H3, H4, H5⟩
  ihave H6 := (g_join c XG k (sh k)) $$ [H2 H4]
  · isplitl [H2]; · iexact H2
    iexact H4
  isplitl [H3]; · iexact H3
  isplitl [H1]; · iapply (Gfree_par c (show k % 2 = (k + 1 + 1) % 2 by omega)); iexact H1
  isplitl [H5]; · iexact H5
  iapply (gW_par c XG (show k % 2 = (k + 1 + 1) % 2 by omega)); iexact H6

/-! ### Weight ring `u` -/
def uS (k : ℕ) : sProp 𝕄 :=
  if k < 176 then iprop(Ufly c XU k (sh k) ∗ Ufree c (k + 1) ∗ uRest c XU k (sh k) ∗ uW c XU (sh (k + 1)))
  else iprop(Ufree c k ∗ Ufree c (k + 1) ∗ uW c XU (sh k) ∗ uW c XU (sh (k + 1)))
def uFr (k : ℕ) : sProp 𝕄 := iprop(uRest c XU k (sh k) ∗ uRest c XU (k + 1) (sh (k + 1)))
def uFl (k : ℕ) : sProp 𝕄 := iprop(Ufree c (k + 1) ∗ uRest c XU k (sh k) ∗ uW c XU (sh (k + 1)))
theorem uS_pre {k : ℕ} (h : k < 175) : uS c XU k ⊢ iprop(Ufly c XU k (sh k) ∗ Ufree c (k + 1) ∗ uH c XU (k + 1) (sh (k + 1)) ∗ uFr c XU k) := by
  unfold uS uFr; rw [if_pos (by omega)]
  iintro ⟨H1, H2, H3, H4⟩
  ihave H5 := (u_split c XU (k + 1) (sh (k + 1))) $$ H4
  icases H5 with ⟨H5, H6⟩
  isplitl [H1]; · iexact H1
  isplitl [H2]; · iexact H2
  isplitl [H5]; · iexact H5
  isplitl [H3]; · iexact H3
  iexact H6
theorem uS_post {k : ℕ} (h : k < 175) : iprop(Ufree c k ∗ uH c XU k (sh k) ∗ Ufly c XU (k + 1) (sh (k + 1)) ∗ uFr c XU k) ⊢ uS c XU (k + 1) := by
  unfold uS uFr; rw [if_pos (show k + 1 < 176 by omega)]
  iintro ⟨H1, H2, H3, H4, H5⟩
  ihave H6 := (u_join c XU k (sh k)) $$ [H2 H4]
  · isplitl [H2]; · iexact H2
    iexact H4
  isplitl [H3]; · iexact H3
  isplitl [H1]; · iapply (Ufree_par c (show k % 2 = (k + 1 + 1) % 2 by omega)); iexact H1
  isplitl [H5]; · iexact H5
  iapply (uW_par c XU (show k % 2 = (k + 1 + 1) % 2 by omega)); iexact H6
theorem uS_pre_last {k : ℕ} (h : k = 175) : uS c XU k ⊢ iprop(Ufly c XU k (sh k) ∗ uFl c XU k) := by
  unfold uS uFl; rw [if_pos (by omega)]
theorem uS_post_last {k : ℕ} (h : k = 175) : iprop(Ufree c k ∗ uH c XU k (sh k) ∗ uFl c XU k) ⊢ uS c XU (k + 1) := by
  unfold uS uFl; rw [if_neg (show ¬ k + 1 < 176 by omega)]
  iintro ⟨H1, H2, H3, H4, H5⟩
  ihave H6 := (u_join c XU k (sh k)) $$ [H2 H4]
  · isplitl [H2]; · iexact H2
    iexact H4
  isplitl [H3]; · iexact H3
  isplitl [H1]; · iapply (Ufree_par c (show k % 2 = (k + 1 + 1) % 2 by omega)); iexact H1
  isplitl [H5]; · iexact H5
  iapply (uW_par c XU (show k % 2 = (k + 1 + 1) % 2 by omega)); iexact H6

/-! ### Weight ring `d` -/
def dS (k : ℕ) : sProp 𝕄 :=
  if k < 176 then iprop(Dfly c XD k (sh k) ∗ Dfree c (k + 1) ∗ dRest c XD k (sh k) ∗ dW c XD (sh (k + 1)))
  else iprop(Dfree c k ∗ Dfree c (k + 1) ∗ dW c XD (sh k) ∗ dW c XD (sh (k + 1)))
def dFr (k : ℕ) : sProp 𝕄 := iprop(dRest c XD k (sh k) ∗ dRest c XD (k + 1) (sh (k + 1)))
def dFl (k : ℕ) : sProp 𝕄 := iprop(Dfree c (k + 1) ∗ dRest c XD k (sh k) ∗ dW c XD (sh (k + 1)))
theorem dS_pre {k : ℕ} (h : k < 175) : dS c XD k ⊢ iprop(Dfly c XD k (sh k) ∗ Dfree c (k + 1) ∗ dH c XD (k + 1) (sh (k + 1)) ∗ dFr c XD k) := by
  unfold dS dFr; rw [if_pos (by omega)]
  iintro ⟨H1, H2, H3, H4⟩
  ihave H5 := (d_split c XD (k + 1) (sh (k + 1))) $$ H4
  icases H5 with ⟨H5, H6⟩
  isplitl [H1]; · iexact H1
  isplitl [H2]; · iexact H2
  isplitl [H5]; · iexact H5
  isplitl [H3]; · iexact H3
  iexact H6
theorem dS_post {k : ℕ} (h : k < 175) : iprop(Dfree c k ∗ dH c XD k (sh k) ∗ Dfly c XD (k + 1) (sh (k + 1)) ∗ dFr c XD k) ⊢ dS c XD (k + 1) := by
  unfold dS dFr; rw [if_pos (show k + 1 < 176 by omega)]
  iintro ⟨H1, H2, H3, H4, H5⟩
  ihave H6 := (d_join c XD k (sh k)) $$ [H2 H4]
  · isplitl [H2]; · iexact H2
    iexact H4
  isplitl [H3]; · iexact H3
  isplitl [H1]; · iapply (Dfree_par c (show k % 2 = (k + 1 + 1) % 2 by omega)); iexact H1
  isplitl [H5]; · iexact H5
  iapply (dW_par c XD (show k % 2 = (k + 1 + 1) % 2 by omega)); iexact H6
theorem dS_pre_last {k : ℕ} (h : k = 175) : dS c XD k ⊢ iprop(Dfly c XD k (sh k) ∗ dFl c XD k) := by
  unfold dS dFl; rw [if_pos (by omega)]
theorem dS_post_last {k : ℕ} (h : k = 175) : iprop(Dfree c k ∗ dH c XD k (sh k) ∗ dFl c XD k) ⊢ dS c XD (k + 1) := by
  unfold dS dFl; rw [if_neg (show ¬ k + 1 < 176 by omega)]
  iintro ⟨H1, H2, H3, H4, H5⟩
  ihave H6 := (d_join c XD k (sh k)) $$ [H2 H4]
  · isplitl [H2]; · iexact H2
    iexact H4
  isplitl [H3]; · iexact H3
  isplitl [H1]; · iapply (Dfree_par c (show k % 2 = (k + 1 + 1) % 2 by omega)); iexact H1
  isplitl [H5]; · iexact H5
  iapply (dW_par c XD (show k % 2 = (k + 1 + 1) % 2 by omega)); iexact H6

/-! ### The row-block ring -/
/-- With `i` row blocks begun and done but for the one in use: row block `i` in flight, -/
def xS0 (i : ℕ) : sProp 𝕄 := iprop(Xfly c XX i (sh i) ∗ Xfree c (i + 1) ∗ xRest c XX i (sh i) ∗ xW c XX (sh (i + 1)))
/-- held, -/
def xS1 (i : ℕ) : sProp 𝕄 := iprop(Xheld c XX i ∗ Xfree c (i + 1) ∗ xW c XX (sh i) ∗ xW c XX (sh (i + 1)))
/-- none left. -/
def xS2 (i : ℕ) : sProp 𝕄 := iprop(Xfree c i ∗ Xfree c (i + 1) ∗ xW c XX (sh i) ∗ xW c XX (sh (i + 1)))
def xS (k : ℕ) : sProp 𝕄 := if k < 176 then (if k % 11 = 0 then xS0 c XX (k / 11) else xS1 c XX (k / 11)) else xS2 c XX (k / 11)
def xF0 (i : ℕ) : sProp 𝕄 := iprop(Xfree c (i + 1) ∗ xRest c XX i (sh i) ∗ xW c XX (sh (i + 1)))
def xF1 (i : ℕ) : sProp 𝕄 := iprop(xW c XX (sh i) ∗ xRest c XX (i + 1) (sh (i + 1)))
def xF2 (i : ℕ) : sProp 𝕄 := iprop(Xfree c (i + 1) ∗ xW c XX (sh i) ∗ xW c XX (sh (i + 1)))
theorem xS0_pre (i : ℕ) : xS0 c XX i ⊢ iprop(Xfly c XX i (sh i) ∗ xF0 c XX i) := .rfl
theorem xS0_post (i : ℕ) : iprop(Xheld c XX i ∗ xH c XX i (sh i) ∗ xF0 c XX i) ⊢ xS1 c XX i := by
  unfold xF0 xS1
  iintro ⟨H1, H2, H3, H4, H5⟩
  isplitl [H1]; · iexact H1
  isplitl [H3]; · iexact H3
  isplitl [H2 H4]
  · iapply (x_join c XX i (sh i)); isplitl [H2]; · iexact H2
    iexact H4
  iexact H5
theorem xS1_pre (i : ℕ) : xS1 c XX i ⊢ iprop(Xheld c XX i ∗ Xfree c (i + 1) ∗ xH c XX (i + 1) (sh (i + 1)) ∗ xF1 c XX i) := by
  unfold xF1 xS1
  iintro ⟨H1, H2, H3, H4⟩
  ihave H5 := (x_split c XX (i + 1) (sh (i + 1))) $$ H4
  icases H5 with ⟨H5, H6⟩
  isplitl [H1]; · iexact H1
  isplitl [H2]; · iexact H2
  isplitl [H5]; · iexact H5
  isplitl [H3]; · iexact H3
  iexact H6
theorem xS1_post (i : ℕ) : iprop(Xfly c XX (i + 1) (sh (i + 1)) ∗ Xfree c i ∗ xF1 c XX i) ⊢ xS0 c XX (i + 1) := by
  unfold xF1 xS0
  iintro ⟨H1, H2, H3, H4⟩
  isplitl [H1]; · iexact H1
  isplitl [H2]; · iapply (Xfree_par c (show i % 2 = (i + 1 + 1) % 2 by omega)); iexact H2
  isplitl [H4]; · iexact H4
  iapply (xW_par c XX (show i % 2 = (i + 1 + 1) % 2 by omega)); iexact H3
theorem xS1_last (i : ℕ) : xS1 c XX i ⊢ iprop(Xheld c XX i ∗ xF2 c XX i) := .rfl
theorem xS2_post (i : ℕ) : iprop(Xfree c i ∗ xF2 c XX i) ⊢ xS2 c XX (i + 1) := by
  unfold xF2 xS2
  iintro ⟨H1, H2, H3, H4⟩
  isplitl [H2]; · iexact H2
  isplitl [H1]; · iapply (Xfree_par c (show i % 2 = (i + 1 + 1) % 2 by omega)); iexact H1
  isplitl [H4]; · iexact H4
  iapply (xW_par c XX (show i % 2 = (i + 1 + 1) % 2 by omega)); iexact H3

/-! ### The result ring -/
abbrev Res (i : ℕ) : Buf (Elt F) (oM.view.loc (c : Thread nD τ)) := res c XX XG XU XD XO fn ff i
/-- Nothing written yet, -/
def oS0 : sProp 𝕄 := iprop(Ofree c 0 ∗ Ofree c 1 ∗ oW c XO)
/-- row block `i - 1` on its way out, -/
def oS1 (i : ℕ) : sProp 𝕄 := iprop(Ofree c i ∗ Ofly c (i + 1) (i - 1) (Res c XX XG XU XD XO fn ff i) ∗ oRest c (i - 1) (Res c XX XG XU XD XO fn ff i))
/-- row block `i`'s running sum in its slot. -/
def oS2 (i j : ℕ) : sProp 𝕄 := iprop(Oacc c i (aT c XX XG XU XD fn i j) ∗ Ofree c (i + 1) ∗ oW c (Res c XX XG XU XD XO fn ff i))
def oS (k : ℕ) : sProp 𝕄 := if k = 0 then oS0 c XO else if k % 11 = 0 then oS1 c XX XG XU XD XO fn ff (k / 11) else oS2 c XX XG XU XD XO fn ff (k / 11) (k % 11)
def hS (k : ℕ) : sProp 𝕄 := if k % 11 = 0 then Hany c else Hheld c XX fn (k / 11)
theorem oS0_post : iprop(Oacc c 0 (aT c XX XG XU XD fn 0 1) ∗ Ofree c 1 ∗ oW c XO) ⊢ oS2 c XX XG XU XD XO fn ff 0 1 := .rfl
theorem oS1_post (i : ℕ) : iprop(Oacc c i (aT c XX XG XU XD fn i 1) ∗ Ofree c (i + 1) ∗ oH c (Res c XX XG XU XD XO fn ff i) (i - 1) ∗ oRest c (i - 1) (Res c XX XG XU XD XO fn ff i))
    ⊢ oS2 c XX XG XU XD XO fn ff i 1 := by
  unfold oS2
  iintro ⟨H1, H2, H3⟩
  isplitl [H1]; · iexact H1
  isplitl [H2]; · iexact H2
  iapply (o_join c (i - 1) _); iexact H3
theorem oS2_end (i : ℕ) : oS2 c XX XG XU XD XO fn ff i 10 ⊢ iprop(Oacc c i (aT c XX XG XU XD fn i 10) ∗ oH c (Res c XX XG XU XD XO fn ff i) i ∗ oRest c i (Res c XX XG XU XD XO fn ff i) ∗ Ofree c (i + 1)) := by
  unfold oS2
  iintro ⟨H1, H2, H3⟩
  ihave H4 := (o_split c i _) $$ H3
  icases H4 with ⟨H4, H5⟩
  isplitl [H1]; · iexact H1
  isplitl [H4]; · iexact H4
  isplitl [H5]; · iexact H5
  iexact H2
theorem oS2_post (i : ℕ) : iprop(Ofly c i i (Res c XX XG XU XD XO fn ff (i + 1)) ∗ oRest c i (Res c XX XG XU XD XO fn ff i) ∗ Ofree c (i + 1)) ⊢ oS1 c XX XG XU XD XO fn ff (i + 1) := by
  unfold oS1
  iintro ⟨H1, H2, H3⟩
  isplitl [H3]; · iexact H3
  isplitl [H1]; · iapply (Ofly_par c i (Res c XX XG XU XD XO fn ff (i + 1)) (show i % 2 = (i + 1 + 1) % 2 by omega)); iexact H1
  iapply (oRest_succ c XX XG XU XD XO fn ff i); iexact H2

theorem xS_eq0 {k i : ℕ} (h : k < 176) (hj : k % 11 = 0) (hi : k / 11 = i) : xS c XX k = xS0 c XX i := by
  subst hi; unfold xS; rw [if_pos h, if_pos hj]
theorem xS_eq1 {k i : ℕ} (h : k < 176) (hj : k % 11 ≠ 0) (hi : k / 11 = i) : xS c XX k = xS1 c XX i := by
  subst hi; unfold xS; rw [if_pos h, if_neg hj]
theorem xS_eq2 {k i : ℕ} (h : ¬ k < 176) (hi : k / 11 = i) : xS c XX k = xS2 c XX i := by
  subst hi; unfold xS; rw [if_neg h]
theorem oS_eq0 {k : ℕ} (h : k = 0) : oS c XX XG XU XD XO fn ff k = oS0 c XO := by unfold oS; rw [if_pos h]
theorem oS_eq1 {k i : ℕ} (h : k ≠ 0) (hj : k % 11 = 0) (hi : k / 11 = i) : oS c XX XG XU XD XO fn ff k = oS1 c XX XG XU XD XO fn ff i := by
  subst hi; unfold oS; rw [if_neg h, if_pos hj]
theorem oS_eq2 {k i j : ℕ} (hj : k % 11 = j) (hj0 : j ≠ 0) (hi : k / 11 = i) : oS c XX XG XU XD XO fn ff k = oS2 c XX XG XU XD XO fn ff i j := by
  subst hi; subst hj; unfold oS; rw [if_neg (by omega), if_neg hj0]
theorem hS_eq0 {k : ℕ} (hj : k % 11 = 0) : hS c XX fn k = Hany c := by unfold hS; rw [if_pos hj]
theorem hS_eq1 {k i : ℕ} (hj : k % 11 ≠ 0) (hi : k / 11 = i) : hS c XX fn k = Hheld c XX fn i := by
  subst hi; unfold hS; rw [if_neg hj]

/-- Everything the loop owns before trip `k`. -/
def St (k : ℕ) : sProp 𝕄 :=
  iprop(Owes c ∗ gS c XG k ∗ uS c XU k ∗ dS c XD k ∗ xS c XX k ∗ oS c XX XG XU XD XO fn ff k ∗ hS c XX fn k
    ∗ own c nM fullShare fn ∗ own c fM fullShare ff)
end State

end Stream

end
-- ==== Proof.StreamTrip.lean ====
/- One trip of the streamed feed-forward call's loop, at a symbolic trip number: the trips that begin or continue a row block. -/
module

public import proofs.«01_k».proof.Proof.StreamTile

@[expose] public section

noncomputable section

namespace Stream

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Trip
variable (c : Dev nD)
  (XX : Buf (Elt F) (xM.view.loc (c : Thread nD τ))) (XG : Buf (Elt F) (gM.view.loc (c : Thread nD τ)))
  (XU : Buf (Elt F) (uM.view.loc (c : Thread nD τ))) (XD : Buf (Elt F) (dM.view.loc (c : Thread nD τ)))
  (XO : Buf (Elt F) (oM.view.loc (c : Thread nD τ)))
  (fn : Buf (Elt F) (nM.view.loc (c : Thread nD τ))) (ff : Buf (Elt F) (fM.view.loc (c : Thread nD τ)))
  (v w z : BitVec 32)

/-- A trip that neither begins nor ends a row block. -/
theorem trip_mid (k : Fin k0_t1_loop.trips) (h0 : k.val % 11 ≠ 0) (h10 : k.val % 11 ≠ 10) (hl : k.val < 175) (q q' r : PosShare TreeShare) (A : Vec F S1x512x2048 .f32)
    (ro : Buf (Elt F) (oM.view.loc (c : Thread nD τ))) :
    iprop(Owes c
      ∗ Gfly c XG k.val q
      ∗ Ufly c XU k.val q
      ∗ Dfly c XD k.val q
      ∗ Gfree c (k.val + 1)
      ∗ Ufree c (k.val + 1)
      ∗ Dfree c (k.val + 1)
      ∗ gH c XG (k.val + 1) q'
      ∗ uH c XU (k.val + 1) q'
      ∗ dH c XD (k.val + 1) q'
      ∗ Hheld c XX fn (k.val / 11)
      ∗ Oacc c (k.val / 11) A)
    ⊢ wp frame (wpE (defs₀ (F := F)) 𝒱₀ (c : Thread nD τ) none) Set.univ (tripG k v w z) (fun a => iprop(⌜a = words (k.val + 1)⌝
      ∗ Owes c
      ∗ Gfree c k.val
      ∗ Ufree c k.val
      ∗ Dfree c k.val
      ∗ gH c XG k.val q
      ∗ uH c XU k.val q
      ∗ dH c XD k.val q
      ∗ Gfly c XG (k.val + 1) q'
      ∗ Ufly c XU (k.val + 1) q'
      ∗ Dfly c XD (k.val + 1) q'
      ∗ Hheld c XX fn (k.val / 11)
      ∗ Oacc c (k.val / 11) (k0_pay4 (k0_pay3 (hT c XX fn (k.val / 11)) (gT c XG k.val) (uT c XU k.val)) A (dT c XD k.val)))) := by
  have e1 := chk1 k
  have e2 := chk2 k
  have e3 := chk3 k
  have e4 := chk4 k
  have e5 := chk5 k
  have c6 := cond6_eq k
  have c7 := cond7_eq k
  have c8 := cond8_eq k
  have c1 : ¬ k0_cond1 k (wI k) (wJ k) = 1#1 := by rw [cond1_eq, if_neg (by omega)]; decide
  have c2 : k0_cond2 k (wJ k) = 1#1 := by rw [cond2_eq, if_pos (by omega)]
  have c3 : k0_cond3 k (wJ k) = 1#1 := by rw [cond3_eq, if_pos (by omega)]
  have c4 : k0_cond4 k (wJ k) = 1#1 := by rw [cond4_eq, if_pos (by omega)]
  have c5 : ¬ k0_cond5 k (wI k) (wJ k) = 1#1 := by rw [cond5_eq, if_neg (by omega)]; decide
  have c10 : ¬ k0_cond10 (wJ k) = 1#1 := by rw [cond10_eq, if_neg (by omega)]; decide
  have c11 : ¬ k0_cond11 (wJ k) = 1#1 := by rw [cond11_eq, if_neg (by omega)]; decide
  have c16 : ¬ k0_cond16 k (wI k) (wJ k) = 1#1 := by rw [cond16_eq, if_neg (by omega)]; decide
  have c21 : ¬ k0_cond21 k (wI k) (wJ k) = 1#1 := by rw [cond21_eq, if_neg (by omega)]; decide
  iintro ⟨⟨%W, HW⟩, ⟨%fg, Fg, %hg⟩, ⟨%fu, Fu, %hu⟩, ⟨%fd, Fd, %hd⟩, ⟨⟨%g1, Hg⟩, Cg⟩, ⟨⟨%u1, Hu⟩, Cu⟩, ⟨⟨%d1, Hd⟩, Cd⟩, Bg, Bu, Bd, ⟨%fh, Hh, %hh⟩, ⟨⟨%fo, Ho, %ho⟩, Co⟩⟩
  dsimp only [tripG]
  sl_unfold [k0_t1_body]
  sl_exec
  sl_step
  isplitr
  · ipureintro; clear * -; refine Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, ?_⟩⟩⟩⟩⟩⟩⟩⟩⟩⟩⟩⟩⟩ <;> (revert k; decide +kernel)
  isplitl [HW]
  · iexists _; iexact HW
  isplitl [Fg_dst Fg]
  · isplitl [Fg_dst]; · iexists _; iexact Fg_dst
    iexact Fg
  isplitl [Fu_dst Fu]
  · isplitl [Fu_dst]; · iexists _; iexact Fu_dst
    iexact Fu
  isplitl [Fd_dst Fd]
  · isplitl [Fd_dst]; · iexists _; iexact Fd_dst
    iexact Fd
  isplitl [Fg_src]
  · iexact Fg_src
  isplitl [Fu_src]
  · iexact Fu_src
  isplitl [Fd_src]
  · iexact Fd_src
  isplitl [Cg]
  · iexists _; isplitl [Cg]; · iexact Cg
    ipureintro; exact rdg_land c (k.val + 1) _ _
  isplitl [Cu]
  · iexists _; isplitl [Cu]; · iexact Cu
    ipureintro; exact rdu_land c (k.val + 1) _ _
  isplitl [Cd]
  · iexists _; isplitl [Cd]; · iexact Cd
    ipureintro; exact rdd_land c (k.val + 1) _ _
  isplitl [Hh]
  · iexists _; isplitl [Hh]; · iexact Hh
    ipureintro; exact hh
  isplitl [Ho]
  · iexists _; isplitl [Ho]; · iexact Ho
    ipureintro; exact (rdo_store c (off32_eq k) _ _ _).trans (pay_congr rfl ((rdg_off c (off30_eq k) _ _).trans hg) ((rdu_off c (off31_eq k) _ _).trans hu) ((rdo_off c (off32_eq k) _ _).trans ho) ((rdd_off c (off33_eq k) _ _).trans hd))
  iexact Co

/-- The first trip. -/
theorem trip_first (k : Fin k0_t1_loop.trips) (hj : k.val % 11 = 0) (h0 : k.val = 0) (hl : k.val < 175) (q q' r : PosShare TreeShare) (A : Vec F S1x512x2048 .f32)
    (ro : Buf (Elt F) (oM.view.loc (c : Thread nD τ))) :
    iprop(Owes c
      ∗ Gfly c XG k.val q
      ∗ Ufly c XU k.val q
      ∗ Dfly c XD k.val q
      ∗ Gfree c (k.val + 1)
      ∗ Ufree c (k.val + 1)
      ∗ Dfree c (k.val + 1)
      ∗ gH c XG (k.val + 1) q'
      ∗ uH c XU (k.val + 1) q'
      ∗ dH c XD (k.val + 1) q'
      ∗ own c nM fullShare fn
      ∗ Hany c
      ∗ Xfly c XX (k.val / 11) r
      ∗ Ofree c (k.val / 11))
    ⊢ wp frame (wpE (defs₀ (F := F)) 𝒱₀ (c : Thread nD τ) none) Set.univ (tripG k v w z) (fun a => iprop(⌜a = words (k.val + 1)⌝
      ∗ Owes c
      ∗ Gfree c k.val
      ∗ Ufree c k.val
      ∗ Dfree c k.val
      ∗ gH c XG k.val q
      ∗ uH c XU k.val q
      ∗ dH c XD k.val q
      ∗ Gfly c XG (k.val + 1) q'
      ∗ Ufly c XU (k.val + 1) q'
      ∗ Dfly c XD (k.val + 1) q'
      ∗ own c nM fullShare fn
      ∗ Hheld c XX fn (k.val / 11)
      ∗ Xheld c XX (k.val / 11)
      ∗ xH c XX (k.val / 11) r
      ∗ Oacc c (k.val / 11) (k0_pay4 (k0_pay3 (hT c XX fn (k.val / 11)) (gT c XG k.val) (uT c XU k.val)) k0_pay2 (dT c XD k.val)))) := by
  have e1 := chk1 k
  have e2 := chk2 k
  have e3 := chk3 k
  have e4 := chk4 k
  have e5 := chk5 k
  have c6 := cond6_eq k
  have c7 := cond7_eq k
  have c8 := cond8_eq k
  have c1 : ¬ k0_cond1 k (wI k) (wJ k) = 1#1 := by rw [cond1_eq, if_neg (by omega)]; decide
  have c2 : k0_cond2 k (wJ k) = 1#1 := by rw [cond2_eq, if_pos (by omega)]
  have c3 : k0_cond3 k (wJ k) = 1#1 := by rw [cond3_eq, if_pos (by omega)]
  have c4 : k0_cond4 k (wJ k) = 1#1 := by rw [cond4_eq, if_pos (by omega)]
  have c5 : k0_cond5 k (wI k) (wJ k) = 1#1 := by rw [cond5_eq, if_pos (by omega)]
  have c10 : k0_cond10 (wJ k) = 1#1 := by rw [cond10_eq, if_pos (by omega)]
  have c11 : ¬ k0_cond11 (wJ k) = 1#1 := by rw [cond11_eq, if_neg (by omega)]; decide
  have c16 : ¬ k0_cond16 k (wI k) (wJ k) = 1#1 := by rw [cond16_eq, if_neg (by omega)]; decide
  have c21 : ¬ k0_cond21 k (wI k) (wJ k) = 1#1 := by rw [cond21_eq, if_neg (by omega)]; decide
  iintro ⟨⟨%W, HW⟩, ⟨%fg, Fg, %hg⟩, ⟨%fu, Fu, %hu⟩, ⟨%fd, Fd, %hd⟩, ⟨⟨%g1, Hg⟩, Cg⟩, ⟨⟨%u1, Hu⟩, Cu⟩, ⟨⟨%d1, Hd⟩, Cd⟩, Bg, Bu, Bd, Hn, ⟨%fh, Hh⟩, ⟨%fx, Fx, %hx⟩, ⟨⟨%fo, Ho⟩, Co⟩⟩
  dsimp only [tripG]
  sl_unfold [k0_t1_body]
  sl_exec
  sl_step
  isplitr
  · ipureintro; clear * -; refine Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, ?_⟩⟩⟩⟩⟩⟩⟩⟩⟩⟩⟩⟩⟩ <;> (revert k; decide +kernel)
  isplitl [HW]
  · iexists _; iexact HW
  isplitl [Fg_dst Fg]
  · isplitl [Fg_dst]; · iexists _; iexact Fg_dst
    iexact Fg
  isplitl [Fu_dst Fu]
  · isplitl [Fu_dst]; · iexists _; iexact Fu_dst
    iexact Fu
  isplitl [Fd_dst Fd]
  · isplitl [Fd_dst]; · iexists _; iexact Fd_dst
    iexact Fd
  isplitl [Fg_src]
  · iexact Fg_src
  isplitl [Fu_src]
  · iexact Fu_src
  isplitl [Fd_src]
  · iexact Fd_src
  isplitl [Cg]
  · iexists _; isplitl [Cg]; · iexact Cg
    ipureintro; exact rdg_land c (k.val + 1) _ _
  isplitl [Cu]
  · iexists _; isplitl [Cu]; · iexact Cu
    ipureintro; exact rdu_land c (k.val + 1) _ _
  isplitl [Cd]
  · iexists _; isplitl [Cd]; · iexact Cd
    ipureintro; exact rdd_land c (k.val + 1) _ _
  isplitl [Hn]
  · iexact Hn
  isplitl [Hh]
  · iexists _; isplitl [Hh]; · iexact Hh
    ipureintro; exact (rdh_store c _ _).trans (pay1_congr _ ((rdx_off c (off28_eq k) _ _).trans hx))
  isplitl [Fx_dst Fx]
  · isplitl [Fx_dst]
    · iexists _; isplitl [Fx_dst]; · iexact Fx_dst
      ipureintro; exact hx
    iexact Fx
  isplitl [Fx_src]
  · iexact Fx_src
  isplitl [Ho]
  · iexists _; isplitl [Ho]; · iexact Ho
    ipureintro; exact (rdo_store c (off32_eq k) _ _ _).trans (pay_congr ((rdh_cov c _).trans (pay1_congr _ ((rdx_off c (off28_eq k) _ _).trans hx))) ((rdg_off c (off30_eq k) _ _).trans hg) ((rdu_off c (off31_eq k) _ _).trans hu) ((rdo_off c (off32_eq k) _ _).trans (rdo_store c (off29_eq k) _ _ _)) ((rdd_off c (off33_eq k) _ _).trans hd))
  iexact Co

/-- A trip that begins a later row block. -/
theorem trip_begin (k : Fin k0_t1_loop.trips) (hj : k.val % 11 = 0) (hk : 0 < k.val) (hl : k.val < 175) (q q' r : PosShare TreeShare) (A : Vec F S1x512x2048 .f32)
    (ro : Buf (Elt F) (oM.view.loc (c : Thread nD τ))) :
    iprop(Owes c
      ∗ Gfly c XG k.val q
      ∗ Ufly c XU k.val q
      ∗ Dfly c XD k.val q
      ∗ Gfree c (k.val + 1)
      ∗ Ufree c (k.val + 1)
      ∗ Dfree c (k.val + 1)
      ∗ gH c XG (k.val + 1) q'
      ∗ uH c XU (k.val + 1) q'
      ∗ dH c XD (k.val + 1) q'
      ∗ own c nM fullShare fn
      ∗ Hany c
      ∗ Xfly c XX (k.val / 11) r
      ∗ Ofree c (k.val / 11)
      ∗ Ofly c ((k.val / 11) + 1) ((k.val / 11) - 1) ro)
    ⊢ wp frame (wpE (defs₀ (F := F)) 𝒱₀ (c : Thread nD τ) none) Set.univ (tripG k v w z) (fun a => iprop(⌜a = words (k.val + 1)⌝
      ∗ Owes c
      ∗ Gfree c k.val
      ∗ Ufree c k.val
      ∗ Dfree c k.val
      ∗ gH c XG k.val q
      ∗ uH c XU k.val q
      ∗ dH c XD k.val q
      ∗ Gfly c XG (k.val + 1) q'
      ∗ Ufly c XU (k.val + 1) q'
      ∗ Dfly c XD (k.val + 1) q'
      ∗ own c nM fullShare fn
      ∗ Hheld c XX fn (k.val / 11)
      ∗ Xheld c XX (k.val / 11)
      ∗ xH c XX (k.val / 11) r
      ∗ Ofree c ((k.val / 11) + 1)
      ∗ oH c ro ((k.val / 11) - 1)
      ∗ Oacc c (k.val / 11) (k0_pay4 (k0_pay3 (hT c XX fn (k.val / 11)) (gT c XG k.val) (uT c XU k.val)) k0_pay2 (dT c XD k.val)))) := by
  have e1 := chk1 k
  have e2 := chk2 k
  have e3 := chk3 k
  have e4 := chk4 k
  have e5 := chk5 k
  have c6 := cond6_eq k
  have c7 := cond7_eq k
  have c8 := cond8_eq k
  have c1 : ¬ k0_cond1 k (wI k) (wJ k) = 1#1 := by rw [cond1_eq, if_neg (by omega)]; decide
  have c2 : k0_cond2 k (wJ k) = 1#1 := by rw [cond2_eq, if_pos (by omega)]
  have c3 : k0_cond3 k (wJ k) = 1#1 := by rw [cond3_eq, if_pos (by omega)]
  have c4 : k0_cond4 k (wJ k) = 1#1 := by rw [cond4_eq, if_pos (by omega)]
  have c5 : k0_cond5 k (wI k) (wJ k) = 1#1 := by rw [cond5_eq, if_pos (by omega)]
  have c10 : k0_cond10 (wJ k) = 1#1 := by rw [cond10_eq, if_pos (by omega)]
  have c11 : ¬ k0_cond11 (wJ k) = 1#1 := by rw [cond11_eq, if_neg (by omega)]; decide
  have c16 : ¬ k0_cond16 k (wI k) (wJ k) = 1#1 := by rw [cond16_eq, if_neg (by omega)]; decide
  have c21 : k0_cond21 k (wI k) (wJ k) = 1#1 := by rw [cond21_eq, if_pos (by omega)]
  iintro ⟨⟨%W, HW⟩, ⟨%fg, Fg, %hg⟩, ⟨%fu, Fu, %hu⟩, ⟨%fd, Fd, %hd⟩, ⟨⟨%g1, Hg⟩, Cg⟩, ⟨⟨%u1, Hu⟩, Cu⟩, ⟨⟨%d1, Hd⟩, Cd⟩, Bg, Bu, Bd, Hn, ⟨%fh, Hh⟩, ⟨%fx, Fx, %hx⟩, ⟨⟨%fo, Ho⟩, Co⟩, ⟨%f2, Fo⟩⟩
  dsimp only [tripG]
  sl_unfold [k0_t1_body]
  sl_exec
  sl_step
  isplitr
  · ipureintro; clear * -; refine Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, ?_⟩⟩⟩⟩⟩⟩⟩⟩⟩⟩⟩⟩⟩ <;> (revert k; decide +kernel)
  isplitl [HW]
  · iexists _; iexact HW
  isplitl [Fg_dst Fg]
  · isplitl [Fg_dst]; · iexists _; iexact Fg_dst
    iexact Fg
  isplitl [Fu_dst Fu]
  · isplitl [Fu_dst]; · iexists _; iexact Fu_dst
    iexact Fu
  isplitl [Fd_dst Fd]
  · isplitl [Fd_dst]; · iexists _; iexact Fd_dst
    iexact Fd
  isplitl [Fg_src]
  · iexact Fg_src
  isplitl [Fu_src]
  · iexact Fu_src
  isplitl [Fd_src]
  · iexact Fd_src
  isplitl [Cg]
  · iexists _; isplitl [Cg]; · iexact Cg
    ipureintro; exact rdg_land c (k.val + 1) _ _
  isplitl [Cu]
  · iexists _; isplitl [Cu]; · iexact Cu
    ipureintro; exact rdu_land c (k.val + 1) _ _
  isplitl [Cd]
  · iexists _; isplitl [Cd]; · iexact Cd
    ipureintro; exact rdd_land c (k.val + 1) _ _
  isplitl [Hn]
  · iexact Hn
  isplitl [Hh]
  · iexists _; isplitl [Hh]; · iexact Hh
    ipureintro; exact (rdh_store c _ _).trans (pay1_congr _ ((rdx_off c (off28_eq k) _ _).trans hx))
  isplitl [Fx_dst Fx]
  · isplitl [Fx_dst]
    · iexists _; isplitl [Fx_dst]; · iexact Fx_dst
      ipureintro; exact hx
    iexact Fx
  isplitl [Fx_src]
  · iexact Fx_src
  isplitl [Fo_src Fo]
  · isplitl [Fo_src]; · iexists _; iexact Fo_src
    iexact Fo
  isplitl [Fo_dst]
  · iexact Fo_dst
  isplitl [Ho]
  · iexists _; isplitl [Ho]; · iexact Ho
    ipureintro; exact (rdo_store c (off32_eq k) _ _ _).trans (pay_congr ((rdh_cov c _).trans (pay1_congr _ ((rdx_off c (off28_eq k) _ _).trans hx))) ((rdg_off c (off30_eq k) _ _).trans hg) ((rdu_off c (off31_eq k) _ _).trans hu) ((rdo_off c (off32_eq k) _ _).trans (rdo_store c (off29_eq k) _ _ _)) ((rdd_off c (off33_eq k) _ _).trans hd))
  iexact Co

end Trip

end Stream

end
-- ==== Proof.StreamTripEnd.lean ====
/- One trip of the streamed feed-forward call's loop, at a symbolic trip number: the trips that end a row block. -/
module

public import proofs.«01_k».proof.Proof.StreamTrip

@[expose] public section

noncomputable section

namespace Stream

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Trip
variable (c : Dev nD)
  (XX : Buf (Elt F) (xM.view.loc (c : Thread nD τ))) (XG : Buf (Elt F) (gM.view.loc (c : Thread nD τ)))
  (XU : Buf (Elt F) (uM.view.loc (c : Thread nD τ))) (XD : Buf (Elt F) (dM.view.loc (c : Thread nD τ)))
  (XO : Buf (Elt F) (oM.view.loc (c : Thread nD τ)))
  (fn : Buf (Elt F) (nM.view.loc (c : Thread nD τ))) (ff : Buf (Elt F) (fM.view.loc (c : Thread nD τ)))
  (v w z : BitVec 32)

/-- A trip that ends a row block, another one following. -/
theorem trip_end (k : Fin k0_t1_loop.trips) (hj : k.val % 11 = 10) (hl : k.val < 175) (q q' r : PosShare TreeShare) (A : Vec F S1x512x2048 .f32)
    (ro : Buf (Elt F) (oM.view.loc (c : Thread nD τ))) :
    iprop(Owes c
      ∗ Gfly c XG k.val q
      ∗ Ufly c XU k.val q
      ∗ Dfly c XD k.val q
      ∗ Gfree c (k.val + 1)
      ∗ Ufree c (k.val + 1)
      ∗ Dfree c (k.val + 1)
      ∗ gH c XG (k.val + 1) q'
      ∗ uH c XU (k.val + 1) q'
      ∗ dH c XD (k.val + 1) q'
      ∗ Hheld c XX fn (k.val / 11)
      ∗ Oacc c (k.val / 11) A
      ∗ own c fM fullShare ff
      ∗ Xheld c XX (k.val / 11)
      ∗ oH c ro (k.val / 11)
      ∗ Xfree c ((k.val / 11) + 1)
      ∗ xH c XX ((k.val / 11) + 1) r)
    ⊢ wp frame (wpE (defs₀ (F := F)) 𝒱₀ (c : Thread nD τ) none) Set.univ (tripG k v w z) (fun a => iprop(⌜a = words (k.val + 1)⌝
      ∗ Owes c
      ∗ Gfree c k.val
      ∗ Ufree c k.val
      ∗ Dfree c k.val
      ∗ gH c XG k.val q
      ∗ uH c XU k.val q
      ∗ dH c XD k.val q
      ∗ Gfly c XG (k.val + 1) q'
      ∗ Ufly c XU (k.val + 1) q'
      ∗ Dfly c XD (k.val + 1) q'
      ∗ own c fM fullShare ff
      ∗ Hany c
      ∗ Xfly c XX ((k.val / 11) + 1) r
      ∗ Xfree c (k.val / 11)
      ∗ Ofly c (k.val / 11) (k.val / 11) ((ob (k.val / 11)).view.writes (Elt F) ro [⟨Rect.whole S512x2048, fun j => k0_pay5 (xT c XX (k.val / 11)) (k0_pay4 (k0_pay3 (hT c XX fn (k.val / 11)) (gT c XG k.val) (uT c XU k.val)) A (dT c XD k.val)) (rdf c ff) (Er j)⟩]))) := by
  have e1 := chk1 k
  have e2 := chk2 k
  have e3 := chk3 k
  have e4 := chk4 k
  have e5 := chk5 k
  have c6 := cond6_eq k
  have c7 := cond7_eq k
  have c8 := cond8_eq k
  have c1 : k0_cond1 k (wI k) (wJ k) = 1#1 := by rw [cond1_eq, if_pos (by omega)]
  have c2 : k0_cond2 k (wJ k) = 1#1 := by rw [cond2_eq, if_pos (by omega)]
  have c3 : k0_cond3 k (wJ k) = 1#1 := by rw [cond3_eq, if_pos (by omega)]
  have c4 : k0_cond4 k (wJ k) = 1#1 := by rw [cond4_eq, if_pos (by omega)]
  have c5 : ¬ k0_cond5 k (wI k) (wJ k) = 1#1 := by rw [cond5_eq, if_neg (by omega)]; decide
  have c10 : ¬ k0_cond10 (wJ k) = 1#1 := by rw [cond10_eq, if_neg (by omega)]; decide
  have c11 : k0_cond11 (wJ k) = 1#1 := by rw [cond11_eq, if_pos (by omega)]
  have c16 : k0_cond16 k (wI k) (wJ k) = 1#1 := by rw [cond16_eq, if_pos (by omega)]
  have c21 : ¬ k0_cond21 k (wI k) (wJ k) = 1#1 := by rw [cond21_eq, if_neg (by omega)]; decide
  iintro ⟨⟨%W, HW⟩, ⟨%fg, Fg, %hg⟩, ⟨%fu, Fu, %hu⟩, ⟨%fd, Fd, %hd⟩, ⟨⟨%g1, Hg⟩, Cg⟩, ⟨⟨%u1, Hu⟩, Cu⟩, ⟨⟨%d1, Hd⟩, Cd⟩, Bg, Bu, Bd, ⟨%fh, Hh, %hh⟩, ⟨⟨%fo, Ho, %ho⟩, Co⟩, Hf, ⟨⟨%fx, Hx, %hx⟩, Cx⟩, Bo, ⟨⟨%x1, Hx1⟩, Cx1⟩, Bx⟩
  dsimp only [tripG]
  sl_unfold [k0_t1_body]
  sl_exec
  sl_step
  isplitr
  · ipureintro; clear * -; refine Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, ?_⟩⟩⟩⟩⟩⟩⟩⟩⟩⟩⟩⟩⟩ <;> (revert k; decide +kernel)
  isplitl [HW]
  · iexists _; iexact HW
  isplitl [Fg_dst Fg]
  · isplitl [Fg_dst]; · iexists _; iexact Fg_dst
    iexact Fg
  isplitl [Fu_dst Fu]
  · isplitl [Fu_dst]; · iexists _; iexact Fu_dst
    iexact Fu
  isplitl [Fd_dst Fd]
  · isplitl [Fd_dst]; · iexists _; iexact Fd_dst
    iexact Fd
  isplitl [Fg_src]
  · iexact Fg_src
  isplitl [Fu_src]
  · iexact Fu_src
  isplitl [Fd_src]
  · iexact Fd_src
  isplitl [Cg]
  · iexists _; isplitl [Cg]; · iexact Cg
    ipureintro; exact rdg_land c (k.val + 1) _ _
  isplitl [Cu]
  · iexists _; isplitl [Cu]; · iexact Cu
    ipureintro; exact rdu_land c (k.val + 1) _ _
  isplitl [Cd]
  · iexists _; isplitl [Cd]; · iexact Cd
    ipureintro; exact rdd_land c (k.val + 1) _ _
  isplitl [Hf]
  · iexact Hf
  isplitl [Hh]
  · iexists _; iexact Hh
  isplitl [Cx1]
  · iexists _; isplitl [Cx1]; · iexact Cx1
    ipureintro; exact rdx_land c ((k.val / 11) + 1) _ _
  isplitl [Hx Cx]
  · isplitl [Hx]; · iexists _; iexact Hx
    iexact Cx
  iexists _
  have hy : (os (k.val / 11)).view.read (Elt F) _ = fun j => k0_pay5 (xT c XX (k.val / 11)) (k0_pay4 (k0_pay3 (hT c XX fn (k.val / 11)) (gT c XG k.val) (uT c XU k.val)) A (dT c XD k.val)) (rdf c ff) (Er j) :=
    (rdo_view c (k.val / 11) (trip_end.sl.Ho_w2 c XX fn ff k e1 e2 e3 e4 e5 c11 fg fu fd fo fx)).trans (funext fun j => congrFun ((rdo_store c (off35_eq k) _ _ _).trans (pay5_congr ((rdx_off c (off34_eq k) _ _).trans hx)
      ((rdo_off c (off35_eq k) _ _).trans ((rdo_store c (off32_eq k) _ _ _).trans (pay_congr rfl ((rdg_off c (off30_eq k) _ _).trans hg) ((rdu_off c (off31_eq k) _ _).trans hu) ((rdo_off c (off32_eq k) _ _).trans ho) ((rdd_off c (off33_eq k) _ _).trans hd)))) rfl)) (Er j))
  have hd12 : trip_end.sl.dma12 c XX fn ff k e1 e2 e3 e4 e5 c11 fg fu fd fo fx = _ := hy
  rw [hd12]
  iexact Co

/-- The last trip. -/
theorem trip_last (k : Fin k0_t1_loop.trips) (hj : k.val % 11 = 10) (hl : k.val = 175) (q q' r : PosShare TreeShare) (A : Vec F S1x512x2048 .f32)
    (ro : Buf (Elt F) (oM.view.loc (c : Thread nD τ))) :
    iprop(Owes c
      ∗ Gfly c XG k.val q
      ∗ Ufly c XU k.val q
      ∗ Dfly c XD k.val q
      ∗ Hheld c XX fn (k.val / 11)
      ∗ Oacc c (k.val / 11) A
      ∗ own c fM fullShare ff
      ∗ Xheld c XX (k.val / 11)
      ∗ oH c ro (k.val / 11))
    ⊢ wp frame (wpE (defs₀ (F := F)) 𝒱₀ (c : Thread nD τ) none) Set.univ (tripG k v w z) (fun a => iprop(⌜a = words (k.val + 1)⌝
      ∗ Owes c
      ∗ Gfree c k.val
      ∗ Ufree c k.val
      ∗ Dfree c k.val
      ∗ gH c XG k.val q
      ∗ uH c XU k.val q
      ∗ dH c XD k.val q
      ∗ own c fM fullShare ff
      ∗ Hany c
      ∗ Xfree c (k.val / 11)
      ∗ Ofly c (k.val / 11) (k.val / 11) ((ob (k.val / 11)).view.writes (Elt F) ro [⟨Rect.whole S512x2048, fun j => k0_pay5 (xT c XX (k.val / 11)) (k0_pay4 (k0_pay3 (hT c XX fn (k.val / 11)) (gT c XG k.val) (uT c XU k.val)) A (dT c XD k.val)) (rdf c ff) (Er j)⟩]))) := by
  have e1 := chk1 k
  have e2 := chk2 k
  have e3 := chk3 k
  have e4 := chk4 k
  have e5 := chk5 k
  have c6 := cond6_eq k
  have c7 := cond7_eq k
  have c8 := cond8_eq k
  have c1 : ¬ k0_cond1 k (wI k) (wJ k) = 1#1 := by rw [cond1_eq, if_neg (by omega)]; decide
  have c2 : ¬ k0_cond2 k (wJ k) = 1#1 := by rw [cond2_eq, if_neg (by omega)]; decide
  have c3 : ¬ k0_cond3 k (wJ k) = 1#1 := by rw [cond3_eq, if_neg (by omega)]; decide
  have c4 : ¬ k0_cond4 k (wJ k) = 1#1 := by rw [cond4_eq, if_neg (by omega)]; decide
  have c5 : ¬ k0_cond5 k (wI k) (wJ k) = 1#1 := by rw [cond5_eq, if_neg (by omega)]; decide
  have c10 : ¬ k0_cond10 (wJ k) = 1#1 := by rw [cond10_eq, if_neg (by omega)]; decide
  have c11 : k0_cond11 (wJ k) = 1#1 := by rw [cond11_eq, if_pos (by omega)]
  have c16 : k0_cond16 k (wI k) (wJ k) = 1#1 := by rw [cond16_eq, if_pos (by omega)]
  have c21 : ¬ k0_cond21 k (wI k) (wJ k) = 1#1 := by rw [cond21_eq, if_neg (by omega)]; decide
  iintro ⟨⟨%W, HW⟩, ⟨%fg, Fg, %hg⟩, ⟨%fu, Fu, %hu⟩, ⟨%fd, Fd, %hd⟩, ⟨%fh, Hh, %hh⟩, ⟨⟨%fo, Ho, %ho⟩, Co⟩, Hf, ⟨⟨%fx, Hx, %hx⟩, Cx⟩, Bo⟩
  dsimp only [tripG]
  sl_unfold [k0_t1_body]
  sl_exec
  sl_step
  isplitr
  · ipureintro; clear * -; refine Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, ?_⟩⟩⟩⟩⟩⟩⟩⟩⟩⟩⟩⟩⟩ <;> (revert k; decide +kernel)
  isplitl [HW]
  · iexists _; iexact HW
  isplitl [Fg_dst Fg]
  · isplitl [Fg_dst]; · iexists _; iexact Fg_dst
    iexact Fg
  isplitl [Fu_dst Fu]
  · isplitl [Fu_dst]; · iexists _; iexact Fu_dst
    iexact Fu
  isplitl [Fd_dst Fd]
  · isplitl [Fd_dst]; · iexists _; iexact Fd_dst
    iexact Fd
  isplitl [Fg_src]
  · iexact Fg_src
  isplitl [Fu_src]
  · iexact Fu_src
  isplitl [Fd_src]
  · iexact Fd_src
  isplitl [Hf]
  · iexact Hf
  isplitl [Hh]
  · iexists _; iexact Hh
  isplitl [Hx Cx]
  · isplitl [Hx]; · iexists _; iexact Hx
    iexact Cx
  iexists _
  have hy : (os (k.val / 11)).view.read (Elt F) _ = fun j => k0_pay5 (xT c XX (k.val / 11)) (k0_pay4 (k0_pay3 (hT c XX fn (k.val / 11)) (gT c XG k.val) (uT c XU k.val)) A (dT c XD k.val)) (rdf c ff) (Er j) :=
    (rdo_view c (k.val / 11) (trip_last.sl.Ho_w2 c XX fn ff k e1 e2 e3 e4 e5 c11 fg fu fd fo fx)).trans (funext fun j => congrFun ((rdo_store c (off35_eq k) _ _ _).trans (pay5_congr ((rdx_off c (off34_eq k) _ _).trans hx)
      ((rdo_off c (off35_eq k) _ _).trans ((rdo_store c (off32_eq k) _ _ _).trans (pay_congr rfl ((rdg_off c (off30_eq k) _ _).trans hg) ((rdu_off c (off31_eq k) _ _).trans hu) ((rdo_off c (off32_eq k) _ _).trans ho) ((rdd_off c (off33_eq k) _ _).trans hd)))) rfl)) (Er j))
  have hd12 : trip_last.sl.dma12 c XX fn ff k e1 e2 e3 e4 e5 c11 fg fu fd fo fx = _ := hy
  rw [hd12]
  iexact Co

end Trip

end Stream

end
-- ==== Proof.StreamStep.lean ====
/- The loop's invariant: one trip of any kind takes the state of its number to the next. -/
module

public import proofs.«01_k».proof.Proof.StreamState
import proofs.«01_k».proof.Proof.StreamTripEnd

@[expose] public section

noncomputable section

namespace Stream

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Step
variable (c : Dev nD)
  (XX : Buf (Elt F) (xM.view.loc (c : Thread nD τ))) (XG : Buf (Elt F) (gM.view.loc (c : Thread nD τ)))
  (XU : Buf (Elt F) (uM.view.loc (c : Thread nD τ))) (XD : Buf (Elt F) (dM.view.loc (c : Thread nD τ)))
  (XO : Buf (Elt F) (oM.view.loc (c : Thread nD τ)))
  (fn : Buf (Elt F) (nM.view.loc (c : Thread nD τ))) (ff : Buf (Elt F) (fM.view.loc (c : Thread nD τ)))

variable (v w z : BitVec 32)

/-- A trip inside a row block. -/
theorem step_mid (k : Fin k0_t1_loop.trips) (h0 : k.val % 11 ≠ 0) (h10 : k.val % 11 ≠ 10) (hl : k.val < 175) :
    St c XX XG XU XD XO fn ff k.val ⊢ wp frame (wpE (defs₀ (F := F)) 𝒱₀ (c : Thread nD τ) none) Set.univ (tripG k v w z)
      (fun a => iprop(⌜a = words (k.val + 1)⌝ ∗ St c XX XG XU XD XO fn ff (k.val + 1))) := by
  have hk : k.val = 11 * (k.val / 11) + k.val % 11 := by omega
  have ex : xS c XX k.val = xS c XX (k.val + 1) := (xS_eq1 c XX (by omega) h0 rfl).trans (xS_eq1 c XX (by omega) (by omega) (by omega)).symm
  have eh : hS c XX fn k.val = Hheld c XX fn (k.val / 11) := hS_eq1 c XX fn h0 rfl
  have eh' : hS c XX fn (k.val + 1) = Hheld c XX fn (k.val / 11) := hS_eq1 c XX fn (by omega) (by omega)
  have ey : oS c XX XG XU XD XO fn ff k.val = oS2 c XX XG XU XD XO fn ff (k.val / 11) (k.val % 11) := oS_eq2 c XX XG XU XD XO fn ff rfl h0 rfl
  have ey' : oS c XX XG XU XD XO fn ff (k.val + 1) = oS2 c XX XG XU XD XO fn ff (k.val / 11) (k.val % 11 + 1) := oS_eq2 c XX XG XU XD XO fn ff (by omega) (by omega) (by omega)
  unfold St
  iintro ⟨HO, HG, HU, HD, HX, HY, HH, HN, HF⟩
  ihave HG := (gS_pre c XG hl) $$ HG
  icases HG with ⟨G1, G2, G3, G4⟩
  ihave HU := (uS_pre c XU hl) $$ HU
  icases HU with ⟨U1, U2, U3, U4⟩
  ihave HD := (dS_pre c XD hl) $$ HD
  icases HD with ⟨D1, D2, D3, D4⟩
  ihave HH := (eq_entails eh) $$ HH
  ihave HY := (eq_entails ey) $$ HY
  unfold oS2
  icases HY with ⟨Y1, Y2, Y3⟩
  iapply (wp_wand_r frame (wpE (defs₀ (F := F)) 𝒱₀ (c : Thread nD τ) none) Set.univ)
  isplitl [HO G1 U1 D1 G2 U2 D2 G3 U3 D3 HH Y1]
  · iapply (trip_mid c XX XG XU XD fn v w z k h0 h10 hl (sh k.val) (sh (k.val + 1)) (sh 0) (aT c XX XG XU XD fn (k.val / 11) (k.val % 11)) XO)
    isplitl [HO]; · iexact HO
    isplitl [G1]; · iexact G1
    isplitl [U1]; · iexact U1
    isplitl [D1]; · iexact D1
    isplitl [G2]; · iexact G2
    isplitl [U2]; · iexact U2
    isplitl [D2]; · iexact D2
    isplitl [G3]; · iexact G3
    isplitl [U3]; · iexact U3
    isplitl [D3]; · iexact D3
    isplitl [HH]; · iexact HH
    iexact Y1
  · iintro %a ⟨%ha, HO, G2, U2, D2, G3, U3, D3, G1, U1, D1, HH, Y1⟩
    isplitr; · ipureintro; exact ha
    isplitl [HO]; · iexact HO
    isplitl [G2 G3 G1 G4]
    · iapply (gS_post c XG hl)
      isplitl [G2]; · iexact G2
      isplitl [G3]; · iexact G3
      isplitl [G1]; · iexact G1
      iexact G4
    isplitl [U2 U3 U1 U4]
    · iapply (uS_post c XU hl)
      isplitl [U2]; · iexact U2
      isplitl [U3]; · iexact U3
      isplitl [U1]; · iexact U1
      iexact U4
    isplitl [D2 D3 D1 D4]
    · iapply (dS_post c XD hl)
      isplitl [D2]; · iexact D2
      isplitl [D3]; · iexact D3
      isplitl [D1]; · iexact D1
      iexact D4
    isplitl [HX]; · iapply (eq_entails ex); iexact HX
    isplitl [Y1 Y2 Y3]
    · iapply (eq_entails ey'.symm)
      unfold oS2
      isplitl [Y1]
      · iapply (eq_entails (congrArg (Oacc c (k.val / 11)) (aT_succ c XX XG XU XD fn hk))); iexact Y1
      isplitl [Y2]; · iexact Y2
      iexact Y3
    isplitl [HH]; · iapply (eq_entails eh'.symm); iexact HH
    isplitl [HN]; · iexact HN
    iexact HF

/-- The first trip. -/
theorem step_first (k : Fin k0_t1_loop.trips) (hj : k.val % 11 = 0) (h0 : k.val = 0) (hl : k.val < 175) :
    St c XX XG XU XD XO fn ff k.val ⊢ wp frame (wpE (defs₀ (F := F)) 𝒱₀ (c : Thread nD τ) none) Set.univ (tripG k v w z)
      (fun a => iprop(⌜a = words (k.val + 1)⌝ ∗ St c XX XG XU XD XO fn ff (k.val + 1))) := by
  have hk : k.val = 11 * (k.val / 11) + 0 := by omega
  have ex : xS c XX k.val = xS0 c XX (k.val / 11) := xS_eq0 c XX (by omega) hj rfl
  have ex' : xS c XX (k.val + 1) = xS1 c XX (k.val / 11) := xS_eq1 c XX (by omega) (by omega) (by omega)
  have eh : hS c XX fn k.val = Hany c := hS_eq0 c XX fn hj
  have eh' : hS c XX fn (k.val + 1) = Hheld c XX fn (k.val / 11) := hS_eq1 c XX fn (by omega) (by omega)
  have ei : (k.val / 11) = 0 := by omega
  have ey : oS c XX XG XU XD XO fn ff k.val = oS0 c XO := oS_eq0 c XX XG XU XD XO fn ff h0
  have ey' : oS c XX XG XU XD XO fn ff (k.val + 1) = oS2 c XX XG XU XD XO fn ff (k.val / 11) 1 := oS_eq2 c XX XG XU XD XO fn ff (by omega) (by omega) (by omega)
  unfold St
  iintro ⟨HO, HG, HU, HD, HX, HY, HH, HN, HF⟩
  ihave HG := (gS_pre c XG hl) $$ HG
  icases HG with ⟨G1, G2, G3, G4⟩
  ihave HU := (uS_pre c XU hl) $$ HU
  icases HU with ⟨U1, U2, U3, U4⟩
  ihave HD := (dS_pre c XD hl) $$ HD
  icases HD with ⟨D1, D2, D3, D4⟩
  ihave HH := (eq_entails eh) $$ HH
  ihave HY := (eq_entails ey) $$ HY
  ihave HX := (eq_entails ex) $$ HX
  ihave HX := (xS0_pre c XX (k.val / 11)) $$ HX
  icases HX with ⟨X1, X2⟩
  unfold oS0
  icases HY with ⟨Y1, Y2, Y3⟩
  ihave Y1 := (eq_entails (congrArg (Ofree c) ei.symm)) $$ Y1
  iapply (wp_wand_r frame (wpE (defs₀ (F := F)) 𝒱₀ (c : Thread nD τ) none) Set.univ)
  isplitl [HO G1 U1 D1 G2 U2 D2 G3 U3 D3 HN HH X1 Y1]
  · iapply (trip_first c XX XG XU XD fn v w z k hj h0 hl (sh k.val) (sh (k.val + 1)) (sh (k.val / 11)) (aT c XX XG XU XD fn (k.val / 11) 0) XO)
    isplitl [HO]; · iexact HO
    isplitl [G1]; · iexact G1
    isplitl [U1]; · iexact U1
    isplitl [D1]; · iexact D1
    isplitl [G2]; · iexact G2
    isplitl [U2]; · iexact U2
    isplitl [D2]; · iexact D2
    isplitl [G3]; · iexact G3
    isplitl [U3]; · iexact U3
    isplitl [D3]; · iexact D3
    isplitl [HN]; · iexact HN
    isplitl [HH]; · iexact HH
    isplitl [X1]; · iexact X1
    iexact Y1
  · iintro %a ⟨%ha, HO, G2, U2, D2, G3, U3, D3, G1, U1, D1, HN, HH, X1, X3, Y1⟩
    isplitr; · ipureintro; exact ha
    isplitl [HO]; · iexact HO
    isplitl [G2 G3 G1 G4]
    · iapply (gS_post c XG hl)
      isplitl [G2]; · iexact G2
      isplitl [G3]; · iexact G3
      isplitl [G1]; · iexact G1
      iexact G4
    isplitl [U2 U3 U1 U4]
    · iapply (uS_post c XU hl)
      isplitl [U2]; · iexact U2
      isplitl [U3]; · iexact U3
      isplitl [U1]; · iexact U1
      iexact U4
    isplitl [D2 D3 D1 D4]
    · iapply (dS_post c XD hl)
      isplitl [D2]; · iexact D2
      isplitl [D3]; · iexact D3
      isplitl [D1]; · iexact D1
      iexact D4
    isplitl [X1 X2 X3]
    · iapply (eq_entails ex'.symm)
      iapply (xS0_post c XX (k.val / 11))
      isplitl [X1]; · iexact X1
      isplitl [X3]; · iexact X3
      iexact X2
    isplitl [Y1 Y2 Y3]
    · iapply (eq_entails ey'.symm)
      rw [ei]
      iapply (oS0_post c XX XG XU XD XO fn ff)
      isplitl [Y1]
      · iapply (eq_entails (congrArg (Oacc c 0) (aT_succ c XX XG XU XD fn (show k.val = 11 * 0 + 0 by omega)))); iexact Y1
      isplitl [Y2]; · iexact Y2
      iexact Y3
    isplitl [HH]; · iapply (eq_entails eh'.symm); iexact HH
    isplitl [HN]; · iexact HN
    iexact HF

/-- The first trip of a later row block. -/
theorem step_begin (k : Fin k0_t1_loop.trips) (hj : k.val % 11 = 0) (h0 : 0 < k.val) (hl : k.val < 175) :
    St c XX XG XU XD XO fn ff k.val ⊢ wp frame (wpE (defs₀ (F := F)) 𝒱₀ (c : Thread nD τ) none) Set.univ (tripG k v w z)
      (fun a => iprop(⌜a = words (k.val + 1)⌝ ∗ St c XX XG XU XD XO fn ff (k.val + 1))) := by
  have hk : k.val = 11 * (k.val / 11) + 0 := by omega
  have ex : xS c XX k.val = xS0 c XX (k.val / 11) := xS_eq0 c XX (by omega) hj rfl
  have ex' : xS c XX (k.val + 1) = xS1 c XX (k.val / 11) := xS_eq1 c XX (by omega) (by omega) (by omega)
  have eh : hS c XX fn k.val = Hany c := hS_eq0 c XX fn hj
  have eh' : hS c XX fn (k.val + 1) = Hheld c XX fn (k.val / 11) := hS_eq1 c XX fn (by omega) (by omega)
  have ey : oS c XX XG XU XD XO fn ff k.val = oS1 c XX XG XU XD XO fn ff (k.val / 11) := oS_eq1 c XX XG XU XD XO fn ff (by omega) hj rfl
  have ey' : oS c XX XG XU XD XO fn ff (k.val + 1) = oS2 c XX XG XU XD XO fn ff (k.val / 11) 1 := oS_eq2 c XX XG XU XD XO fn ff (by omega) (by omega) (by omega)
  unfold St
  iintro ⟨HO, HG, HU, HD, HX, HY, HH, HN, HF⟩
  ihave HG := (gS_pre c XG hl) $$ HG
  icases HG with ⟨G1, G2, G3, G4⟩
  ihave HU := (uS_pre c XU hl) $$ HU
  icases HU with ⟨U1, U2, U3, U4⟩
  ihave HD := (dS_pre c XD hl) $$ HD
  icases HD with ⟨D1, D2, D3, D4⟩
  ihave HH := (eq_entails eh) $$ HH
  ihave HY := (eq_entails ey) $$ HY
  ihave HX := (eq_entails ex) $$ HX
  ihave HX := (xS0_pre c XX (k.val / 11)) $$ HX
  icases HX with ⟨X1, X2⟩
  unfold oS1
  icases HY with ⟨Y1, Y2, Y3⟩
  iapply (wp_wand_r frame (wpE (defs₀ (F := F)) 𝒱₀ (c : Thread nD τ) none) Set.univ)
  isplitl [HO G1 U1 D1 G2 U2 D2 G3 U3 D3 HN HH X1 Y1 Y2]
  · iapply (trip_begin c XX XG XU XD fn v w z k hj h0 hl (sh k.val) (sh (k.val + 1)) (sh (k.val / 11)) (aT c XX XG XU XD fn (k.val / 11) 0) (Res c XX XG XU XD XO fn ff (k.val / 11)))
    isplitl [HO]; · iexact HO
    isplitl [G1]; · iexact G1
    isplitl [U1]; · iexact U1
    isplitl [D1]; · iexact D1
    isplitl [G2]; · iexact G2
    isplitl [U2]; · iexact U2
    isplitl [D2]; · iexact D2
    isplitl [G3]; · iexact G3
    isplitl [U3]; · iexact U3
    isplitl [D3]; · iexact D3
    isplitl [HN]; · iexact HN
    isplitl [HH]; · iexact HH
    isplitl [X1]; · iexact X1
    isplitl [Y1]; · iexact Y1
    iexact Y2
  · iintro %a ⟨%ha, HO, G2, U2, D2, G3, U3, D3, G1, U1, D1, HN, HH, X1, X3, Y2, Y4, Y1⟩
    isplitr; · ipureintro; exact ha
    isplitl [HO]; · iexact HO
    isplitl [G2 G3 G1 G4]
    · iapply (gS_post c XG hl)
      isplitl [G2]; · iexact G2
      isplitl [G3]; · iexact G3
      isplitl [G1]; · iexact G1
      iexact G4
    isplitl [U2 U3 U1 U4]
    · iapply (uS_post c XU hl)
      isplitl [U2]; · iexact U2
      isplitl [U3]; · iexact U3
      isplitl [U1]; · iexact U1
      iexact U4
    isplitl [D2 D3 D1 D4]
    · iapply (dS_post c XD hl)
      isplitl [D2]; · iexact D2
      isplitl [D3]; · iexact D3
      isplitl [D1]; · iexact D1
      iexact D4
    isplitl [X1 X2 X3]
    · iapply (eq_entails ex'.symm)
      iapply (xS0_post c XX (k.val / 11))
      isplitl [X1]; · iexact X1
      isplitl [X3]; · iexact X3
      iexact X2
    isplitl [Y1 Y2 Y3 Y4]
    · iapply (eq_entails ey'.symm)
      iapply (oS1_post c XX XG XU XD XO fn ff (k.val / 11))
      isplitl [Y1]
      · iapply (eq_entails (congrArg (Oacc c (k.val / 11)) (aT_succ c XX XG XU XD fn hk))); iexact Y1
      isplitl [Y2]; · iexact Y2
      isplitl [Y4]; · iexact Y4
      iexact Y3
    isplitl [HH]; · iapply (eq_entails eh'.symm); iexact HH
    isplitl [HN]; · iexact HN
    iexact HF

/-- The last trip of an earlier row block. -/
theorem step_end (k : Fin k0_t1_loop.trips) (hj : k.val % 11 = 10) (hl : k.val < 175) :
    St c XX XG XU XD XO fn ff k.val ⊢ wp frame (wpE (defs₀ (F := F)) 𝒱₀ (c : Thread nD τ) none) Set.univ (tripG k v w z)
      (fun a => iprop(⌜a = words (k.val + 1)⌝ ∗ St c XX XG XU XD XO fn ff (k.val + 1))) := by
  have hk : k.val = 11 * (k.val / 11) + 10 := by omega
  have ex : xS c XX k.val = xS1 c XX (k.val / 11) := xS_eq1 c XX (by omega) (by omega) rfl
  have ex' : xS c XX (k.val + 1) = xS0 c XX ((k.val / 11) + 1) := xS_eq0 c XX (by omega) (by omega) (by omega)
  have eh : hS c XX fn k.val = Hheld c XX fn (k.val / 11) := hS_eq1 c XX fn (by omega) rfl
  have eh' : hS c XX fn (k.val + 1) = Hany c := hS_eq0 c XX fn (by omega)
  have ey : oS c XX XG XU XD XO fn ff k.val = oS2 c XX XG XU XD XO fn ff (k.val / 11) 10 := oS_eq2 c XX XG XU XD XO fn ff hj (by omega) rfl
  have ey' : oS c XX XG XU XD XO fn ff (k.val + 1) = oS1 c XX XG XU XD XO fn ff ((k.val / 11) + 1) := oS_eq1 c XX XG XU XD XO fn ff (by omega) (by omega) (by omega)
  unfold St
  iintro ⟨HO, HG, HU, HD, HX, HY, HH, HN, HF⟩
  ihave HG := (gS_pre c XG hl) $$ HG
  icases HG with ⟨G1, G2, G3, G4⟩
  ihave HU := (uS_pre c XU hl) $$ HU
  icases HU with ⟨U1, U2, U3, U4⟩
  ihave HD := (dS_pre c XD hl) $$ HD
  icases HD with ⟨D1, D2, D3, D4⟩
  ihave HH := (eq_entails eh) $$ HH
  ihave HY := (eq_entails ey) $$ HY
  ihave HX := (eq_entails ex) $$ HX
  ihave HX := (xS1_pre c XX (k.val / 11)) $$ HX
  icases HX with ⟨X1, X2, X3, X4⟩
  ihave HY := (oS2_end c XX XG XU XD XO fn ff (k.val / 11)) $$ HY
  icases HY with ⟨Y1, Y2, Y3, Y4⟩
  iapply (wp_wand_r frame (wpE (defs₀ (F := F)) 𝒱₀ (c : Thread nD τ) none) Set.univ)
  isplitl [HO G1 U1 D1 G2 U2 D2 G3 U3 D3 HH Y1 HF X1 Y2 X2 X3]
  · iapply (trip_end c XX XG XU XD fn ff v w z k hj hl (sh k.val) (sh (k.val + 1)) (sh ((k.val / 11) + 1)) (aT c XX XG XU XD fn (k.val / 11) 10) (Res c XX XG XU XD XO fn ff (k.val / 11)))
    isplitl [HO]; · iexact HO
    isplitl [G1]; · iexact G1
    isplitl [U1]; · iexact U1
    isplitl [D1]; · iexact D1
    isplitl [G2]; · iexact G2
    isplitl [U2]; · iexact U2
    isplitl [D2]; · iexact D2
    isplitl [G3]; · iexact G3
    isplitl [U3]; · iexact U3
    isplitl [D3]; · iexact D3
    isplitl [HH]; · iexact HH
    isplitl [Y1]; · iexact Y1
    isplitl [HF]; · iexact HF
    isplitl [X1]; · iexact X1
    isplitl [Y2]; · iexact Y2
    isplitl [X2]; · iexact X2
    iexact X3
  · iintro %a ⟨%ha, HO, G2, U2, D2, G3, U3, D3, G1, U1, D1, HF, HH, X1, X2, Y1⟩
    isplitr; · ipureintro; exact ha
    isplitl [HO]; · iexact HO
    isplitl [G2 G3 G1 G4]
    · iapply (gS_post c XG hl)
      isplitl [G2]; · iexact G2
      isplitl [G3]; · iexact G3
      isplitl [G1]; · iexact G1
      iexact G4
    isplitl [U2 U3 U1 U4]
    · iapply (uS_post c XU hl)
      isplitl [U2]; · iexact U2
      isplitl [U3]; · iexact U3
      isplitl [U1]; · iexact U1
      iexact U4
    isplitl [D2 D3 D1 D4]
    · iapply (dS_post c XD hl)
      isplitl [D2]; · iexact D2
      isplitl [D3]; · iexact D3
      isplitl [D1]; · iexact D1
      iexact D4
    isplitl [X1 X2 X4]
    · iapply (eq_entails ex'.symm)
      iapply (xS1_post c XX (k.val / 11))
      isplitl [X1]; · iexact X1
      isplitl [X2]; · iexact X2
      iexact X4
    isplitl [Y1 Y3 Y4]
    · iapply (eq_entails ey'.symm)
      iapply (oS2_post c XX XG XU XD XO fn ff (k.val / 11))
      isplitl [Y1]
      · iapply (eq_entails (congrArg (Ofly c (k.val / 11) (k.val / 11)) (res_succ c XX XG XU XD XO fn ff hk))); iexact Y1
      isplitl [Y3]; · iexact Y3
      iexact Y4
    isplitl [HH]; · iapply (eq_entails eh'.symm); iexact HH
    isplitl [HN]; · iexact HN
    iexact HF

/-- The last trip. -/
theorem step_last (k : Fin k0_t1_loop.trips) (hj : k.val % 11 = 10) (hl : k.val = 175) :
    St c XX XG XU XD XO fn ff k.val ⊢ wp frame (wpE (defs₀ (F := F)) 𝒱₀ (c : Thread nD τ) none) Set.univ (tripG k v w z)
      (fun a => iprop(⌜a = words (k.val + 1)⌝ ∗ St c XX XG XU XD XO fn ff (k.val + 1))) := by
  have hk : k.val = 11 * (k.val / 11) + 10 := by omega
  have ex : xS c XX k.val = xS1 c XX (k.val / 11) := xS_eq1 c XX (by omega) (by omega) rfl
  have ex' : xS c XX (k.val + 1) = xS2 c XX ((k.val / 11) + 1) := xS_eq2 c XX (by omega) (by omega)
  have eh : hS c XX fn k.val = Hheld c XX fn (k.val / 11) := hS_eq1 c XX fn (by omega) rfl
  have eh' : hS c XX fn (k.val + 1) = Hany c := hS_eq0 c XX fn (by omega)
  have ey : oS c XX XG XU XD XO fn ff k.val = oS2 c XX XG XU XD XO fn ff (k.val / 11) 10 := oS_eq2 c XX XG XU XD XO fn ff hj (by omega) rfl
  have ey' : oS c XX XG XU XD XO fn ff (k.val + 1) = oS1 c XX XG XU XD XO fn ff ((k.val / 11) + 1) := oS_eq1 c XX XG XU XD XO fn ff (by omega) (by omega) (by omega)
  unfold St
  iintro ⟨HO, HG, HU, HD, HX, HY, HH, HN, HF⟩
  ihave HG := (gS_pre_last c XG hl) $$ HG
  icases HG with ⟨G1, G4⟩
  ihave HU := (uS_pre_last c XU hl) $$ HU
  icases HU with ⟨U1, U4⟩
  ihave HD := (dS_pre_last c XD hl) $$ HD
  icases HD with ⟨D1, D4⟩
  ihave HH := (eq_entails eh) $$ HH
  ihave HY := (eq_entails ey) $$ HY
  ihave HX := (eq_entails ex) $$ HX
  ihave HX := (xS1_last c XX (k.val / 11)) $$ HX
  icases HX with ⟨X1, X4⟩
  ihave HY := (oS2_end c XX XG XU XD XO fn ff (k.val / 11)) $$ HY
  icases HY with ⟨Y1, Y2, Y3, Y4⟩
  iapply (wp_wand_r frame (wpE (defs₀ (F := F)) 𝒱₀ (c : Thread nD τ) none) Set.univ)
  isplitl [HO G1 U1 D1 HH Y1 HF X1 Y2]
  · iapply (trip_last c XX XG XU XD fn ff v w z k hj hl (sh k.val) (sh (k.val + 1)) (sh ((k.val / 11) + 1)) (aT c XX XG XU XD fn (k.val / 11) 10) (Res c XX XG XU XD XO fn ff (k.val / 11)))
    isplitl [HO]; · iexact HO
    isplitl [G1]; · iexact G1
    isplitl [U1]; · iexact U1
    isplitl [D1]; · iexact D1
    isplitl [HH]; · iexact HH
    isplitl [Y1]; · iexact Y1
    isplitl [HF]; · iexact HF
    isplitl [X1]; · iexact X1
    iexact Y2
  · iintro %a ⟨%ha, HO, G2, U2, D2, G3, U3, D3, HF, HH, X2, Y1⟩
    isplitr; · ipureintro; exact ha
    isplitl [HO]; · iexact HO
    isplitl [G2 G3 G4]
    · iapply (gS_post_last c XG hl)
      isplitl [G2]; · iexact G2
      isplitl [G3]; · iexact G3
      iexact G4
    isplitl [U2 U3 U4]
    · iapply (uS_post_last c XU hl)
      isplitl [U2]; · iexact U2
      isplitl [U3]; · iexact U3
      iexact U4
    isplitl [D2 D3 D4]
    · iapply (dS_post_last c XD hl)
      isplitl [D2]; · iexact D2
      isplitl [D3]; · iexact D3
      iexact D4
    isplitl [X2 X4]
    · iapply (eq_entails ex'.symm)
      iapply (xS2_post c XX (k.val / 11))
      isplitl [X2]; · iexact X2
      iexact X4
    isplitl [Y1 Y3 Y4]
    · iapply (eq_entails ey'.symm)
      iapply (oS2_post c XX XG XU XD XO fn ff (k.val / 11))
      isplitl [Y1]
      · iapply (eq_entails (congrArg (Ofly c (k.val / 11) (k.val / 11)) (res_succ c XX XG XU XD XO fn ff hk))); iexact Y1
      isplitl [Y3]; · iexact Y3
      iexact Y4
    isplitl [HH]; · iapply (eq_entails eh'.symm); iexact HH
    isplitl [HN]; · iexact HN
    iexact HF

/-- One trip of any kind. -/
theorem step_any (k : Fin k0_t1_loop.trips) :
    St c XX XG XU XD XO fn ff k.val ⊢ wp frame (wpE (defs₀ (F := F)) 𝒱₀ (c : Thread nD τ) none) Set.univ (tripG k v w z)
      (fun a => iprop(⌜a = words (k.val + 1)⌝ ∗ St c XX XG XU XD XO fn ff (k.val + 1))) := by
  have hk : k.val < 176 := T_eq ▸ k.isLt
  by_cases hj : k.val % 11 = 0
  · by_cases h0 : k.val = 0
    · exact step_first c XX XG XU XD XO fn ff v w z k hj h0 (by omega)
    · exact step_begin c XX XG XU XD XO fn ff v w z k hj (by omega) (by omega)
  · by_cases h10 : k.val % 11 = 10
    · by_cases hl : k.val = 175
      · exact step_last c XX XG XU XD XO fn ff v w z k h10 hl
      · exact step_end c XX XG XU XD XO fn ff v w z k h10 (by omega)
    · exact step_mid c XX XG XU XD XO fn ff v w z k hj h10 (by omega)

end Step

end Stream

end
-- ==== Proof.StreamBody.lean ====
/- The streamed feed-forward call's body: the rows copied in, the first blocks issued, the loop, the last block out. -/
module

public import proofs.«01_k».proof.Proof.StreamStep

@[expose] public section

noncomputable section

namespace Stream

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The prologue's and the epilogue's slots, blocks and semaphores, by name -/
theorem off1_eq : k0_off1 = sl1 0 := by decide +kernel
theorem off2_eq : k0_off2 = sl3 0 := by decide +kernel
theorem off3_eq : k0_off3 = sl3 0 := by decide +kernel
theorem row0_eq : (![0, 0] : Fin 2 → ℕ) = rowO 0 := by decide +kernel
theorem col0_eq : (![0, 0] : Fin 2 → ℕ) = colO 0 := by decide +kernel
theorem dep0_eq : (![0, 0] : Fin 2 → ℕ) = depO 0 := by decide +kernel

theorem xq_p (hh) : (cc0_scoped1.slice (Rect.unit (s := S2) k0_off1 S1.size hh)).squeeze S_ squeezes_S1_S_ = xq 0 := xq_congr off1_eq _
theorem xs_p (hh hs) : (xR.slice (Rect.unit (s := S2x512x2048) k0_off2 S1x512x2048.size hh) hs).squeeze S512x2048 squeezes_S1x512x2048_S512x2048 = xs 0 := xs_congr off2_eq _ _
theorem xb_p (hh hs) : xM.slice (Rect.unit (s := S8192x2048) ![0, 0] S512x2048.size hh) hs = xb 0 := xb_congr row0_eq _ _

theorem gq_p (hh) : (cc0_scoped4.slice (Rect.unit (s := S2) k0_off1 S1.size hh)).squeeze S_ squeezes_S1_S_ = gq 0 := gq_congr off1_eq _
theorem gs_p (hh hs) : (gR.slice (Rect.unit (s := S2x2048x512) k0_off3 S1x2048x512.size hh) hs).squeeze S2048x512 squeezes_S1x2048x512_S2048x512 = gs 0 := gs_congr off3_eq _ _
theorem gb_p (hh hs) : gM.slice (Rect.unit (s := S2048x5632) ![0, 0] S2048x512.size hh) hs = gb 0 := gb_congr col0_eq _ _

theorem uq_p (hh) : (cc0_scoped6.slice (Rect.unit (s := S2) k0_off1 S1.size hh)).squeeze S_ squeezes_S1_S_ = uq 0 := uq_congr off1_eq _
theorem us_p (hh hs) : (uR.slice (Rect.unit (s := S2x2048x512) k0_off3 S1x2048x512.size hh) hs).squeeze S2048x512 squeezes_S1x2048x512_S2048x512 = us 0 := us_congr off3_eq _ _
theorem ub_p (hh hs) : uM.slice (Rect.unit (s := S2048x5632) ![0, 0] S2048x512.size hh) hs = ub 0 := ub_congr col0_eq _ _

theorem dq_p (hh) : (cc0_scoped8.slice (Rect.unit (s := S2) k0_off1 S1.size hh)).squeeze S_ squeezes_S1_S_ = dq 0 := dq_congr off1_eq _
theorem ds_p (hh hs) : (dR.slice (Rect.unit (s := S2x512x2048) k0_off2 S1x512x2048.size hh) hs).squeeze S512x2048 squeezes_S1x512x2048_S512x2048 = ds 0 := ds_congr off2_eq _ _
theorem db_p (hh hs) : dM.slice (Rect.unit (s := S5632x2048) ![0, 0] S512x2048.size hh) hs = db 0 := db_congr dep0_eq _ _

theorem oq_e (hh) : (cc0_scoped11.slice (Rect.unit (s := S2) (k0_off42 (wO 176)) S1.size hh)).squeeze S_ squeezes_S1_S_ = oq 1 := oq_congr off42_eq _
theorem ob_e (hh hs) : oM.slice (Rect.unit (s := S8192x2048) (k0_off43 (wJ 176) (wI 176)) S512x2048.size hh) hs = ob 15 := ob_congr off43_eq _ _
theorem os_e (hh hs) : (oR.slice (Rect.unit (s := S2x512x2048) (k0_off44 (wO 176)) S1x512x2048.size hh) hs).squeeze S512x2048 squeezes_S1x512x2048_S512x2048 = os 1 := os_congr off44_eq _ _

abbrev bodyG : Prog (TpuEff nD τ sig (Elt F) Λ₀ .tc) PUnit := cc0_ffn_final_streamed (F := F) xM (Memref.isWhole_whole _) n0M (Memref.isWhole_whole _) gM (Memref.isWhole_whole _) uM (Memref.isWhole_whole _) dM (Memref.isWhole_whole _) f0M (Memref.isWhole_whole _) oM (Memref.isWhole_whole _) hM (Memref.isWhole_whole _) xR (Memref.isWhole_whole _) cc0_scoped1 nM (Memref.isWhole_whole _) gR (Memref.isWhole_whole _) cc0_scoped4 uR (Memref.isWhole_whole _) cc0_scoped6 dR (Memref.isWhole_whole _) cc0_scoped8 fM (Memref.isWhole_whole _) oR (Memref.isWhole_whole _) cc0_scoped11 cc0_scoped12 cc0_scoped13

/-- The words the loop starts from. -/
abbrev init0 : Acc := (1#32, 0#32, 0#32, 1#32, 0#32, 1#32, 0#32, 1#32, 0#32, 0#32, 0#32, 0#32, 0#32, 0#32)
theorem words_zero : init0 = words 0 := by
  refine Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, Prod.ext_iff.2 ⟨?_, ?_⟩⟩⟩⟩⟩⟩⟩⟩⟩⟩⟩⟩⟩ <;> decide +kernel

section Body
variable (c : Dev nD)
  (XX : Buf (Elt F) (xM.view.loc (c : Thread nD τ))) (XG : Buf (Elt F) (gM.view.loc (c : Thread nD τ)))
  (XU : Buf (Elt F) (uM.view.loc (c : Thread nD τ))) (XD : Buf (Elt F) (dM.view.loc (c : Thread nD τ)))
  (XO : Buf (Elt F) (oM.view.loc (c : Thread nD τ)))
  (XN : Buf (Elt F) (n0M.view.loc (c : Thread nD τ))) (XF : Buf (Elt F) (f0M.view.loc (c : Thread nD τ)))

/-- The two rows' staging buffers after their copies. -/
def fnOf : Buf (Elt F) (nM.view.loc (c : Thread nD τ)) := nM.view.writes (Elt F) nM.view.junk [⟨Rect.whole S1x2048, n0M.view.read (Elt F) XN⟩]
def ffOf : Buf (Elt F) (fM.view.loc (c : Thread nD τ)) := fM.view.writes (Elt F) fM.view.junk [⟨Rect.whole S1x2048, f0M.view.read (Elt F) XF⟩]

/-- The operands whole, the result at `r`, every ring free. -/
abbrev ENV (r : Buf (Elt F) (oM.view.loc (c : Thread nD τ))) : sProp 𝕄 :=
  iprop(Owes c ∗ own c n0M fullShare XN ∗ own c f0M fullShare XF
    ∗ (∃ f, own c nM fullShare f) ∗ (∃ f, own c fM fullShare f) ∗ cell c cc0_scoped12 ∗ cell c cc0_scoped13
    ∗ xW c XX (sh 0) ∗ xW c XX (sh 1) ∗ gW c XG (sh 0) ∗ gW c XG (sh 1) ∗ uW c XU (sh 0) ∗ uW c XU (sh 1) ∗ dW c XD (sh 0) ∗ dW c XD (sh 1)
    ∗ oW c r ∗ Hany c
    ∗ Xfree c 0 ∗ Xfree c 1 ∗ Gfree c 0 ∗ Gfree c 1 ∗ Ufree c 0 ∗ Ufree c 1 ∗ Dfree c 0 ∗ Dfree c 1 ∗ Ofree c 0 ∗ Ofree c 1)

/-- The loop's start from what the prologue leaves. -/
theorem St_zero (fn : Buf (Elt F) (nM.view.loc (c : Thread nD τ))) (ff : Buf (Elt F) (fM.view.loc (c : Thread nD τ))) :
    iprop(Owes c ∗ (Gfly c XG 0 (sh 0) ∗ Gfree c 1 ∗ gRest c XG 0 (sh 0) ∗ gW c XG (sh 1))
      ∗ (Ufly c XU 0 (sh 0) ∗ Ufree c 1 ∗ uRest c XU 0 (sh 0) ∗ uW c XU (sh 1))
      ∗ (Dfly c XD 0 (sh 0) ∗ Dfree c 1 ∗ dRest c XD 0 (sh 0) ∗ dW c XD (sh 1))
      ∗ (Xfly c XX 0 (sh 0) ∗ Xfree c 1 ∗ xRest c XX 0 (sh 0) ∗ xW c XX (sh 1))
      ∗ (Ofree c 0 ∗ Ofree c 1 ∗ oW c XO) ∗ Hany c ∗ own c nM fullShare fn ∗ own c fM fullShare ff) ⊢ St c XX XG XU XD XO fn ff 0 := by
  unfold St
  rw [xS_eq0 c XX (show 0 < 176 by omega) rfl rfl, oS_eq0 c XX XG XU XD XO fn ff rfl, hS_eq0 c XX fn rfl]
  unfold gS uS dS xS0 oS0
  rw [if_pos (show 0 < 176 by omega), if_pos (show 0 < 176 by omega), if_pos (show 0 < 176 by omega)]

/-- and what it leaves for the epilogue. -/
theorem St_end (fn : Buf (Elt F) (nM.view.loc (c : Thread nD τ))) (ff : Buf (Elt F) (fM.view.loc (c : Thread nD τ))) :
    St c XX XG XU XD XO fn ff 176 ⊢ iprop(Owes c ∗ (Gfree c 0 ∗ Gfree c 1 ∗ gW c XG (sh 0) ∗ gW c XG (sh 1))
      ∗ (Ufree c 0 ∗ Ufree c 1 ∗ uW c XU (sh 0) ∗ uW c XU (sh 1))
      ∗ (Dfree c 0 ∗ Dfree c 1 ∗ dW c XD (sh 0) ∗ dW c XD (sh 1))
      ∗ (Xfree c 0 ∗ Xfree c 1 ∗ xW c XX (sh 0) ∗ xW c XX (sh 1))
      ∗ (Ofree c 0 ∗ Ofly c 1 15 (Res c XX XG XU XD XO fn ff 16) ∗ oRest c 15 (Res c XX XG XU XD XO fn ff 16)) ∗ Hany c ∗ own c nM fullShare fn ∗ own c fM fullShare ff) := by
  unfold St
  rw [xS_eq2 c XX (show ¬ 176 < 176 by omega) (show 176 / 11 = 16 from rfl), oS_eq1 c XX XG XU XD XO fn ff (show 176 ≠ 0 by omega) rfl (show 176 / 11 = 16 from rfl), hS_eq0 c XX fn (show 176 % 11 = 0 from rfl)]
  unfold gS uS dS xS2 oS1
  rw [if_neg (show ¬ 176 < 176 by omega), if_neg (show ¬ 176 < 176 by omega), if_neg (show ¬ 176 < 176 by omega)]
  iintro ⟨HO, ⟨G1, G2, G3, G4⟩, ⟨U1, U2, U3, U4⟩, ⟨D1, D2, D3, D4⟩, ⟨X1, X2, X3, X4⟩, ⟨O1, O2, O3⟩, HH, HN, HF⟩
  isplitl [HO]; · iexact HO

  isplitl [G1 G2 G3 G4]
  · isplitl [G1]; · iapply (Gfree_par c (show 176 % 2 = 0 % 2 from rfl)); iexact G1
    isplitl [G2]; · iapply (Gfree_par c (show (176 + 1) % 2 = 1 % 2 from rfl)); iexact G2
    isplitl [G3]; · iapply (gW_par c XG (show 176 % 2 = 0 % 2 from rfl)); iexact G3
    iapply (gW_par c XG (show (176 + 1) % 2 = 1 % 2 from rfl)); iexact G4

  isplitl [U1 U2 U3 U4]
  · isplitl [U1]; · iapply (Ufree_par c (show 176 % 2 = 0 % 2 from rfl)); iexact U1
    isplitl [U2]; · iapply (Ufree_par c (show (176 + 1) % 2 = 1 % 2 from rfl)); iexact U2
    isplitl [U3]; · iapply (uW_par c XU (show 176 % 2 = 0 % 2 from rfl)); iexact U3
    iapply (uW_par c XU (show (176 + 1) % 2 = 1 % 2 from rfl)); iexact U4

  isplitl [D1 D2 D3 D4]
  · isplitl [D1]; · iapply (Dfree_par c (show 176 % 2 = 0 % 2 from rfl)); iexact D1
    isplitl [D2]; · iapply (Dfree_par c (show (176 + 1) % 2 = 1 % 2 from rfl)); iexact D2
    isplitl [D3]; · iapply (dW_par c XD (show 176 % 2 = 0 % 2 from rfl)); iexact D3
    iapply (dW_par c XD (show (176 + 1) % 2 = 1 % 2 from rfl)); iexact D4

  isplitl [X1 X2 X3 X4]
  · isplitl [X1]; · iapply (Xfree_par c (show 16 % 2 = 0 % 2 from rfl)); iexact X1
    isplitl [X2]; · iapply (Xfree_par c (show (16 + 1) % 2 = 1 % 2 from rfl)); iexact X2
    isplitl [X3]; · iapply (xW_par c XX (show 16 % 2 = 0 % 2 from rfl)); iexact X3
    iapply (xW_par c XX (show (16 + 1) % 2 = 1 % 2 from rfl)); iexact X4
  isplitl [O1 O2 O3]
  · isplitl [O1]; · iapply (Ofree_par c (show 16 % 2 = 0 % 2 from rfl)); iexact O1
    isplitl [O2]; · iapply (Ofly_par c 15 (Res c XX XG XU XD XO fn ff 16) (show (16 + 1) % 2 = 1 % 2 from rfl)); iexact O2
    iexact O3
  isplitl [HH]; · iexact HH
  isplitl [HN]; · iexact HN
  iexact HF

set_option warn.classDefReducibility false in
/-- The loop's invariant: the words of the trip, the state of the trip. -/
def loopL (fn : Buf (Elt F) (nM.view.loc (c : Thread nD τ))) (ff : Buf (Elt F) (fM.view.loc (c : Thread nD τ))) (v w z : BitVec 32) (init : Acc) :
    LoopInv (M := 𝕄) Idealize.ShloMosaic.frame (wpE (defs₀ (F := F)) 𝒱₀ (c : Thread nD τ) none) Set.univ k0_t1_loop.lb k0_t1_loop.ub k0_t1_loop.st k0_t1_ok init
      (k0_t1_body (F := F) xM (Memref.isWhole_whole _) n0M (Memref.isWhole_whole _) gM (Memref.isWhole_whole _) uM (Memref.isWhole_whole _) dM (Memref.isWhole_whole _) f0M (Memref.isWhole_whole _) oM (Memref.isWhole_whole _) hM (Memref.isWhole_whole _) xR (Memref.isWhole_whole _) cc0_scoped1 nM (Memref.isWhole_whole _) gR (Memref.isWhole_whole _) cc0_scoped4 uR (Memref.isWhole_whole _) cc0_scoped6 dR (Memref.isWhole_whole _) cc0_scoped8 fM (Memref.isWhole_whole _) oR (Memref.isWhole_whole _) cc0_scoped11 cc0_scoped12 cc0_scoped13 v w z) where
  inv k acc := iprop(⌜acc = words k⌝ ∗ St c XX XG XU XD XO fn ff k)
  step k acc := by
    iintro ⟨%ha, H⟩
    subst ha
    iapply (step_any c XX XG XU XD XO fn ff v w z k); iexact H

set_option maxHeartbeats 2000000 in
attribute [local sl_canon] xq_p xs_p xb_p gq_p gs_p gb_p uq_p us_p ub_p dq_p ds_p db_p oq_e ob_e os_e in
/-- The body: from every ring free and the result's array at anything, the result's array at its sixteen row blocks. -/
theorem bodyRun (Q : PUnit → sProp 𝕄) :
    iprop(ENV c XX XG XU XD XN XF XO ∗ (ENV c XX XG XU XD XN XF (Res c XX XG XU XD XO (fnOf c XN) (ffOf c XF) 16) -∗ Q ⟨⟩))
      ⊢ wp frame (wpE (defs₀ (F := F)) 𝒱₀ (c : Thread nD τ) none) Set.univ (bodyG (F := F)) Q := by
  iintro ⟨⟨⟨%W, HW⟩, Hn0, Hf0, ⟨%n1, Hn⟩, ⟨%f1, Hf⟩, Cn, Cf, Hx, Wx, Hg, Wg, Hu, Wu, Hd, Wd, Wo, Hh,
    ⟨⟨%x1, Sx⟩, Cx⟩, Fx, ⟨⟨%g1, Sg⟩, Cg⟩, Fg, ⟨⟨%u1, Su⟩, Cu⟩, Fu, ⟨⟨%d1, Sd⟩, Cd⟩, Fd, Fo0, Fo1⟩, Hk⟩
  ihave Hx := (x_split c XX 0 (sh 0)) $$ Hx
  icases Hx with ⟨Hx, Rx⟩
  ihave Hg := (g_split c XG 0 (sh 0)) $$ Hg
  icases Hg with ⟨Hg, Rg⟩
  ihave Hu := (u_split c XU 0 (sh 0)) $$ Hu
  icases Hu with ⟨Hu, Ru⟩
  ihave Hd := (d_split c XD 0 (sh 0)) $$ Hd
  icases Hd with ⟨Hd, Rd⟩
  sl_exec
  ihave HS := (St_zero c XX XG XU XD XO (fnOf c XN) (ffOf c XF)) $$ [HW Cg Fg Rg Wg Cu Fu Ru Wu Cd Fd Rd Wd Cx Fx Rx Wx Fo0 Fo1 Wo Hh Hn Hf]
  · isplitl [HW]; · iexists _; iexact HW
    isplitl [Cg Fg Rg Wg]
    · isplitl [Cg]
      · iexists _; isplitl [Cg]; · iexact Cg
        ipureintro; exact rdg_land c 0 _ _
      isplitl [Fg]; · iexact Fg
      isplitl [Rg]; · iexact Rg
      iexact Wg
    isplitl [Cu Fu Ru Wu]
    · isplitl [Cu]
      · iexists _; isplitl [Cu]; · iexact Cu
        ipureintro; exact rdu_land c 0 _ _
      isplitl [Fu]; · iexact Fu
      isplitl [Ru]; · iexact Ru
      iexact Wu
    isplitl [Cd Fd Rd Wd]
    · isplitl [Cd]
      · iexists _; isplitl [Cd]; · iexact Cd
        ipureintro; exact rdd_land c 0 _ _
      isplitl [Fd]; · iexact Fd
      isplitl [Rd]; · iexact Rd
      iexact Wd
    isplitl [Cx Fx Rx Wx]
    · isplitl [Cx]
      · iexists _; isplitl [Cx]; · iexact Cx
        ipureintro; exact rdx_land c 0 _ _
      isplitl [Fx]; · iexact Fx
      isplitl [Rx]; · iexact Rx
      iexact Wx
    isplitl [Fo0 Fo1 Wo]
    · isplitl [Fo0]; · iexact Fo0
      isplitl [Fo1]; · iexact Fo1
      iexact Wo
    isplitl [Hh]; · iexact Hh
    isplitl [Hn]; · iexact Hn
    iexact Hf
  ihave HI := (show St c XX XG XU XD XO (fnOf c XN) (ffOf c XF) 0 ⊢ (loopL c XX XG XU XD XO (fnOf c XN) (ffOf c XF) 1#32 1#32 1#32 init0).inv 0 init0 from by
    show St c XX XG XU XD XO (fnOf c XN) (ffOf c XF) 0 ⊢ iprop(⌜init0 = words 0⌝ ∗ St c XX XG XU XD XO (fnOf c XN) (ffOf c XF) 0)
    iintro H; isplitr; · ipureintro; exact words_zero
    iexact H) $$ HS
  iapply (exec_loop Idealize.ShloMosaic.frame (wpE (defs₀ (F := F)) 𝒱₀ (c : Thread nD τ) none) Set.univ _ _ _ _ _ _ (loopL c XX XG XU XD XO (fnOf c XN) (ffOf c XF) 1#32 1#32 1#32 init0)) $$ HI
  iintro %acc HI
  ihave HI := (show (loopL c XX XG XU XD XO (fnOf c XN) (ffOf c XF) 1#32 1#32 1#32 init0).inv (Scf.trips k0_t1_loop.lb k0_t1_loop.ub k0_t1_loop.st) acc
      ⊢ iprop(⌜acc = words 176⌝ ∗ St c XX XG XU XD XO (fnOf c XN) (ffOf c XF) 176) from T_eq ▸ .rfl) $$ HI
  icases HI with ⟨%ha, HS⟩
  subst ha
  ihave HS := (St_end c XX XG XU XD XO (fnOf c XN) (ffOf c XF)) $$ HS
  icases HS with ⟨⟨%W2, HW⟩, ⟨G1, G2, G3, G4⟩, ⟨U1, U2, U3, U4⟩, ⟨D1, D2, D3, D4⟩, ⟨X1, X2, X3, X4⟩, ⟨O1, ⟨%fo, O2⟩, O3⟩, Hh, Hn, Hf⟩
  have h6 := chk6
  have h7 := chk7
  sl_exec
  sl_step
  iapply Hk
  isplitl [HW]; · iexists _; iexact HW
  isplitl [Hn0]; · iexact Hn0
  isplitl [Hf0]; · iexact Hf0
  isplitl [Hn]; · iexists _; iexact Hn
  isplitl [Hf]; · iexists _; iexact Hf
  isplitl [Cn]; · iexact Cn
  isplitl [Cf]; · iexact Cf
  isplitl [X3]; · iexact X3
  isplitl [X4]; · iexact X4
  isplitl [G3]; · iexact G3
  isplitl [G4]; · iexact G4
  isplitl [U3]; · iexact U3
  isplitl [U4]; · iexact U4
  isplitl [D3]; · iexact D3
  isplitl [D4]; · iexact D4
  isplitl [O2_dst O3]
  · iapply (o_join c 15 _); isplitl [O2_dst]; · iexact O2_dst
    iexact O3
  isplitl [Hh]; · iexact Hh
  isplitl [X1]; · iexact X1
  isplitl [X2]; · iexact X2
  isplitl [G1]; · iexact G1
  isplitl [G2]; · iexact G2
  isplitl [U1]; · iexact U1
  isplitl [U2]; · iexact U2
  isplitl [D1]; · iexact D1
  isplitl [D2]; · iexact D2
  isplitl [O1]; · iexact O1
  isplitl [O2_src]; · iexists _; iexact O2_src
  iexact O2

end Body

end Stream

end
-- ==== Proof.StreamLaunch.lean ====
/- The streamed feed-forward call's launch: its buffers handed to the body, and every array afterwards. -/
module

public import proofs.«01_k».proof.Proof.StreamState
public import proofs.«01_k».proof.Proof.StreamBody
public import Idealize.ShloMosaic.Lib.Pipeline.KitQuiescent
public import Idealize.ShloMosaic.Lib.Pipeline.Frame
public import Idealize.ShloMosaic.Lib.Ring

@[expose] public section

noncomputable section

namespace Stream

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## A ring's buffer is its two slots -/
abbrev SA (s : Fin 2) : Finset S2x512x2048.Idx := (Rect.unit (s := S2x512x2048) (sl3 s.val) S1x512x2048.size (sl3_inb s.val)).set
abbrev SB (s : Fin 2) : Finset S2x2048x512.Idx := (Rect.unit (s := S2x2048x512) (sl3 s.val) S1x2048x512.size (sl3_inb' s.val)).set

theorem mem_SA (s : Fin 2) (y : S2x512x2048.Idx) : y ∈ SA s ↔ (y 0).val = s.val := by
  rw [Rect.mem_set_unit]
  have h1 : (y 1).val < 512 := (y 1).isLt
  have h2 : (y 2).val < 2048 := (y 2).isLt
  have hs : s.val % 2 = s.val := Nat.mod_eq_of_lt s.isLt
  constructor
  · intro H; have a0 : s.val % 2 ≤ (y 0).val ∧ (y 0).val < s.val % 2 + 1 := H 0; omega
  · intro H i; fin_cases i
    · show s.val % 2 ≤ (y 0).val ∧ (y 0).val < s.val % 2 + 1; omega
    · show 0 ≤ (y 1).val ∧ (y 1).val < 0 + 512; omega
    · show 0 ≤ (y 2).val ∧ (y 2).val < 0 + 2048; omega
theorem SA_disjoint : ∀ s s' : Fin 2, s ≠ s' → Disjoint (SA s) (SA s') := by
  intro s s' hne; rw [Finset.disjoint_left]; intro y hy hy'; rw [mem_SA] at hy hy'; exact hne (Fin.ext (hy.symm.trans hy'))
theorem SA_cover : (Finset.univ : Finset (Fin 2)).biUnion SA = Finset.univ := by
  ext y; simp only [Finset.mem_biUnion, Finset.mem_univ, true_and, iff_true]; exact ⟨(y 0).cast (by decide), by rw [mem_SA]; rfl⟩

theorem mem_SB (s : Fin 2) (y : S2x2048x512.Idx) : y ∈ SB s ↔ (y 0).val = s.val := by
  rw [Rect.mem_set_unit]
  have h1 : (y 1).val < 2048 := (y 1).isLt
  have h2 : (y 2).val < 512 := (y 2).isLt
  have hs : s.val % 2 = s.val := Nat.mod_eq_of_lt s.isLt
  constructor
  · intro H; have a0 : s.val % 2 ≤ (y 0).val ∧ (y 0).val < s.val % 2 + 1 := H 0; omega
  · intro H i; fin_cases i
    · show s.val % 2 ≤ (y 0).val ∧ (y 0).val < s.val % 2 + 1; omega
    · show 0 ≤ (y 1).val ∧ (y 1).val < 0 + 2048; omega
    · show 0 ≤ (y 2).val ∧ (y 2).val < 0 + 512; omega
theorem SB_disjoint : ∀ s s' : Fin 2, s ≠ s' → Disjoint (SB s) (SB s') := by
  intro s s' hne; rw [Finset.disjoint_left]; intro y hy hy'; rw [mem_SB] at hy hy'; exact hne (Fin.ext (hy.symm.trans hy'))
theorem SB_cover : (Finset.univ : Finset (Fin 2)).biUnion SB = Finset.univ := by
  ext y; simp only [Finset.mem_biUnion, Finset.mem_univ, true_and, iff_true]; exact ⟨(y 0).cast (by decide), by rw [mem_SB]; rfl⟩

theorem two_eq (Φ : Fin 2 → sProp 𝕄) : bigSep Finset.univ Φ = iprop(Φ 0 ∗ Φ 1) :=
  bigSep_univ_eq_bigSepL [(0 : Fin 2), (1 : Fin 2)] (by decide) (by decide) Φ

theorem xs_set (s : Fin 2) : (xs s.val).view.set = SA s := (View.set_reshape _ _).trans (View.set_slice_whole _ _)
theorem xs_own (c : Dev nD) (s : Fin 2) (f : Buf (Elt F) ((c : Thread nD τ).loc cc0_scoped0)) :
    (own c (xs s.val) fullShare f : sProp 𝕄) = (((c : Thread nD τ).loc cc0_scoped0) ↦[SA s]{fullShare} f) :=
  congrArg (fun S => (_ ↦[S]{fullShare} f : sProp 𝕄)) (xs_set s)
theorem x_ring_split (c : Dev nD) :
    iprop(∃ f : Buf (Elt F) ((c : Thread nD τ).loc cc0_scoped0), ((c : Thread nD τ).loc cc0_scoped0) ↦{fullShare} f)
      ⊢ (iprop((∃ f, own c (xs 0) fullShare f) ∗ ∃ f, own c (xs 1) fullShare f) : sProp 𝕄) := by
  iintro ⟨%f, H⟩
  ihave H2 := (eq_entails ((Ring.pointsTo_blocks (Ix := Unit) (Name := ℕ) (U := UU nD τ) (Lvl := ℕ) (q := fullShare) (ℓ := (c : Thread nD τ).loc cc0_scoped0) SA SA_disjoint SA_cover f).trans (two_eq _))) $$ H
  icases H2 with ⟨H0, H1⟩
  isplitl [H0]
  · iexists f; iapply (eq_entails (xs_own c 0 f).symm); iexact H0
  · iexists f; iapply (eq_entails (xs_own c 1 f).symm); iexact H1
theorem x_ring_join (c : Dev nD) :
    iprop((∃ f, own c (xs 0) fullShare f) ∗ ∃ f, own c (xs 1) fullShare f)
      ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩⟩
  iapply (Ring.pointsTo_blocks_join_exists (ℓ := (c : Thread nD τ).loc cc0_scoped0) SA SA_disjoint SA_cover f0)
  irw [two_eq]
  isplitl [H0]
  · iexists f0; iapply (eq_entails (xs_own c 0 f0)); iexact H0
  · iexists f1; iapply (eq_entails (xs_own c 1 f1)); iexact H1

theorem gs_set (s : Fin 2) : (gs s.val).view.set = SB s := (View.set_reshape _ _).trans (View.set_slice_whole _ _)
theorem gs_own (c : Dev nD) (s : Fin 2) (f : Buf (Elt F) ((c : Thread nD τ).loc cc0_scoped3)) :
    (own c (gs s.val) fullShare f : sProp 𝕄) = (((c : Thread nD τ).loc cc0_scoped3) ↦[SB s]{fullShare} f) :=
  congrArg (fun S => (_ ↦[S]{fullShare} f : sProp 𝕄)) (gs_set s)
theorem g_ring_split (c : Dev nD) :
    iprop(∃ f : Buf (Elt F) ((c : Thread nD τ).loc cc0_scoped3), ((c : Thread nD τ).loc cc0_scoped3) ↦{fullShare} f)
      ⊢ (iprop((∃ f, own c (gs 0) fullShare f) ∗ ∃ f, own c (gs 1) fullShare f) : sProp 𝕄) := by
  iintro ⟨%f, H⟩
  ihave H2 := (eq_entails ((Ring.pointsTo_blocks (Ix := Unit) (Name := ℕ) (U := UU nD τ) (Lvl := ℕ) (q := fullShare) (ℓ := (c : Thread nD τ).loc cc0_scoped3) SB SB_disjoint SB_cover f).trans (two_eq _))) $$ H
  icases H2 with ⟨H0, H1⟩
  isplitl [H0]
  · iexists f; iapply (eq_entails (gs_own c 0 f).symm); iexact H0
  · iexists f; iapply (eq_entails (gs_own c 1 f).symm); iexact H1
theorem g_ring_join (c : Dev nD) :
    iprop((∃ f, own c (gs 0) fullShare f) ∗ ∃ f, own c (gs 1) fullShare f)
      ⊢ (iprop(∃ f : Buf (Elt F) ((c : Thread nD τ).loc cc0_scoped3), ((c : Thread nD τ).loc cc0_scoped3) ↦{fullShare} f) : sProp 𝕄) := by
  iintro ⟨⟨%f0, H0⟩, ⟨%f1, H1⟩⟩
  iapply (Ring.pointsTo_blocks_join_exists (ℓ := (c : Thread nD τ).loc cc0_scoped3) SB SB_disjoint SB_cover f0)
  irw [two_eq]
  isplitl [H0]
  · iexists f0; iapply (eq_entails (gs_own c 0 f0)); iexact H0
  · iexists f1; iapply (eq_entails (gs_own c 1 f1)); iexact H1

theorem us_set (s : Fin 2) : (us s.val).view.set = SB s := (View.set_reshape _ _).trans (View.set_slice_whole _ _)
theorem us_own (c : Dev nD) (s : Fin 2) (f : Buf (Elt F) ((c : Thread nD τ).loc cc0_scoped5)) :
    (own c (us s.val) fullShare f : sProp 𝕄) = (((c : Thread nD τ).loc cc0_scoped5) ↦[SB s]{fullShare} f) :=
  congrArg (fun S => (_ ↦[S]{fullShare} f : sProp 𝕄)) (us_set s)
theorem u_ring_split (c : Dev nD) :
    iprop(∃ f : Buf (Elt F) ((c : Thread nD τ).loc cc0_scoped5), ((c : Thread nD τ).loc cc0_scoped5) ↦{fullShare} f)
      ⊢ (iprop((∃ f, own c (us 0) fullShare f) ∗ ∃ f, own c (us 1) fullShare f) : sProp 𝕄) := by
  iintro ⟨%f, H⟩
  ihave H2 := (eq_entails ((Ring.pointsTo_blocks (Ix := Unit) (Name := ℕ) (U := UU nD τ) (Lvl := ℕ) (q := fullShare) (ℓ := (c : Thread nD τ).loc cc0_scoped5) SB SB_disjoint SB_cover f).trans (two_eq _))) $$ H
  icases H2 with ⟨H0, H1⟩
  isplitl [H0]
  · iexists f; iapply (eq_entails (us_own c 0 f).symm); iexact H0
  · iexists f; iapply (eq_entails (us_own c 1 f).symm); iexact H1
theorem u_ring_join (c : Dev nD) :
    iprop((∃ f, own c (us 0) fullShare f) ∗ ∃ f, own c (us 1) fullShare f)
      ⊢ (iprop(∃ f : Buf (Elt F) ((c : Thread nD τ).loc cc0_scoped5), ((c : Thread nD τ).loc cc0_scoped5) ↦{fullShare} f) : sProp 𝕄) := by
  iintro ⟨⟨%f0, H0⟩, ⟨%f1, H1⟩⟩
  iapply (Ring.pointsTo_blocks_join_exists (ℓ := (c : Thread nD τ).loc cc0_scoped5) SB SB_disjoint SB_cover f0)
  irw [two_eq]
  isplitl [H0]
  · iexists f0; iapply (eq_entails (us_own c 0 f0)); iexact H0
  · iexists f1; iapply (eq_entails (us_own c 1 f1)); iexact H1

theorem ds_set (s : Fin 2) : (ds s.val).view.set = SA s := (View.set_reshape _ _).trans (View.set_slice_whole _ _)
theorem ds_own (c : Dev nD) (s : Fin 2) (f : Buf (Elt F) ((c : Thread nD τ).loc cc0_scoped7)) :
    (own c (ds s.val) fullShare f : sProp 𝕄) = (((c : Thread nD τ).loc cc0_scoped7) ↦[SA s]{fullShare} f) :=
  congrArg (fun S => (_ ↦[S]{fullShare} f : sProp 𝕄)) (ds_set s)
theorem d_ring_split (c : Dev nD) :
    iprop(∃ f : Buf (Elt F) ((c : Thread nD τ).loc cc0_scoped7), ((c : Thread nD τ).loc cc0_scoped7) ↦{fullShare} f)
      ⊢ (iprop((∃ f, own c (ds 0) fullShare f) ∗ ∃ f, own c (ds 1) fullShare f) : sProp 𝕄) := by
  iintro ⟨%f, H⟩
  ihave H2 := (eq_entails ((Ring.pointsTo_blocks (Ix := Unit) (Name := ℕ) (U := UU nD τ) (Lvl := ℕ) (q := fullShare) (ℓ := (c : Thread nD τ).loc cc0_scoped7) SA SA_disjoint SA_cover f).trans (two_eq _))) $$ H
  icases H2 with ⟨H0, H1⟩
  isplitl [H0]
  · iexists f; iapply (eq_entails (ds_own c 0 f).symm); iexact H0
  · iexists f; iapply (eq_entails (ds_own c 1 f).symm); iexact H1
theorem d_ring_join (c : Dev nD) :
    iprop((∃ f, own c (ds 0) fullShare f) ∗ ∃ f, own c (ds 1) fullShare f)
      ⊢ (iprop(∃ f : Buf (Elt F) ((c : Thread nD τ).loc cc0_scoped7), ((c : Thread nD τ).loc cc0_scoped7) ↦{fullShare} f) : sProp 𝕄) := by
  iintro ⟨⟨%f0, H0⟩, ⟨%f1, H1⟩⟩
  iapply (Ring.pointsTo_blocks_join_exists (ℓ := (c : Thread nD τ).loc cc0_scoped7) SA SA_disjoint SA_cover f0)
  irw [two_eq]
  isplitl [H0]
  · iexists f0; iapply (eq_entails (ds_own c 0 f0)); iexact H0
  · iexists f1; iapply (eq_entails (ds_own c 1 f1)); iexact H1

theorem os_set (s : Fin 2) : (os s.val).view.set = SA s := (View.set_reshape _ _).trans (View.set_slice_whole _ _)
theorem os_own (c : Dev nD) (s : Fin 2) (f : Buf (Elt F) ((c : Thread nD τ).loc cc0_scoped10)) :
    (own c (os s.val) fullShare f : sProp 𝕄) = (((c : Thread nD τ).loc cc0_scoped10) ↦[SA s]{fullShare} f) :=
  congrArg (fun S => (_ ↦[S]{fullShare} f : sProp 𝕄)) (os_set s)
theorem o_ring_split (c : Dev nD) :
    iprop(∃ f : Buf (Elt F) ((c : Thread nD τ).loc cc0_scoped10), ((c : Thread nD τ).loc cc0_scoped10) ↦{fullShare} f)
      ⊢ (iprop((∃ f, own c (os 0) fullShare f) ∗ ∃ f, own c (os 1) fullShare f) : sProp 𝕄) := by
  iintro ⟨%f, H⟩
  ihave H2 := (eq_entails ((Ring.pointsTo_blocks (Ix := Unit) (Name := ℕ) (U := UU nD τ) (Lvl := ℕ) (q := fullShare) (ℓ := (c : Thread nD τ).loc cc0_scoped10) SA SA_disjoint SA_cover f).trans (two_eq _))) $$ H
  icases H2 with ⟨H0, H1⟩
  isplitl [H0]
  · iexists f; iapply (eq_entails (os_own c 0 f).symm); iexact H0
  · iexists f; iapply (eq_entails (os_own c 1 f).symm); iexact H1
theorem o_ring_join (c : Dev nD) :
    iprop((∃ f, own c (os 0) fullShare f) ∗ ∃ f, own c (os 1) fullShare f)
      ⊢ (iprop(∃ f : Buf (Elt F) ((c : Thread nD τ).loc cc0_scoped10), ((c : Thread nD τ).loc cc0_scoped10) ↦{fullShare} f) : sProp 𝕄) := by
  iintro ⟨⟨%f0, H0⟩, ⟨%f1, H1⟩⟩
  iapply (Ring.pointsTo_blocks_join_exists (ℓ := (c : Thread nD τ).loc cc0_scoped10) SA SA_disjoint SA_cover f0)
  irw [two_eq]
  isplitl [H0]
  · iexists f0; iapply (eq_entails (os_own c 0 f0)); iexact H0
  · iexists f1; iapply (eq_entails (os_own c 1 f1)); iexact H1

/-! ## An operand whole is its two shares -/
theorem x_halves (c : Dev nD) (f : Buf (Elt F) ((c : Thread nD τ).loc main_arg0)) :
    (((c : Thread nD τ).loc main_arg0) ↦{fullShare} f : sProp 𝕄) ⊣⊢ iprop(xW c f (sh 0) ∗ xW c f (sh 1)) :=
  pointsTo_share (PosShare.mem_left_op_right fullShare)
theorem g_halves (c : Dev nD) (f : Buf (Elt F) ((c : Thread nD τ).loc main_arg2)) :
    (((c : Thread nD τ).loc main_arg2) ↦{fullShare} f : sProp 𝕄) ⊣⊢ iprop(gW c f (sh 0) ∗ gW c f (sh 1)) :=
  pointsTo_share (PosShare.mem_left_op_right fullShare)
theorem u_halves (c : Dev nD) (f : Buf (Elt F) ((c : Thread nD τ).loc main_arg3)) :
    (((c : Thread nD τ).loc main_arg3) ↦{fullShare} f : sProp 𝕄) ⊣⊢ iprop(uW c f (sh 0) ∗ uW c f (sh 1)) :=
  pointsTo_share (PosShare.mem_left_op_right fullShare)
theorem d_halves (c : Dev nD) (f : Buf (Elt F) ((c : Thread nD τ).loc main_arg4)) :
    (((c : Thread nD τ).loc main_arg4) ↦{fullShare} f : sProp 𝕄) ⊣⊢ iprop(dW c f (sh 0) ∗ dW c f (sh 1)) :=
  pointsTo_share (PosShare.mem_left_op_right fullShare)
theorem n0M_own (c : Dev nD) (f : Buf (Elt F) ((c : Thread nD τ).loc main_v1)) :
    (own c n0M fullShare f : sProp 𝕄) = (((c : Thread nD τ).loc main_v1) ↦{fullShare} f) := congrArg (fun S => (_ ↦[S]{fullShare} f : sProp 𝕄)) (View.set_whole _)
theorem f0M_own (c : Dev nD) (f : Buf (Elt F) ((c : Thread nD τ).loc main_v2)) :
    (own c f0M fullShare f : sProp 𝕄) = (((c : Thread nD τ).loc main_v2) ↦{fullShare} f) := congrArg (fun S => (_ ↦[S]{fullShare} f : sProp 𝕄)) (View.set_whole _)
theorem nM_own (c : Dev nD) (f : Buf (Elt F) ((c : Thread nD τ).loc cc0_scoped2)) :
    (own c nM fullShare f : sProp 𝕄) = (((c : Thread nD τ).loc cc0_scoped2) ↦{fullShare} f) := congrArg (fun S => (_ ↦[S]{fullShare} f : sProp 𝕄)) (View.set_whole _)
theorem fM_own (c : Dev nD) (f : Buf (Elt F) ((c : Thread nD τ).loc cc0_scoped9)) :
    (own c fM fullShare f : sProp 𝕄) = (((c : Thread nD τ).loc cc0_scoped9) ↦{fullShare} f) := congrArg (fun S => (_ ↦[S]{fullShare} f : sProp 𝕄)) (View.set_whole _)
theorem hM_own (c : Dev nD) (f : Buf (Elt F) ((c : Thread nD τ).loc cc0_scratch0)) :
    (own c hM fullShare f : sProp 𝕄) = (((c : Thread nD τ).loc cc0_scratch0) ↦{fullShare} f) := congrArg (fun S => (_ ↦[S]{fullShare} f : sProp 𝕄)) (View.set_whole _)

/-! ## The kernel's own semaphores -/
abbrev osem : Fin 12 → SemLoc sig := ![.dma (xq 0).sem, .dma (xq 1).sem, .dma (gq 0).sem, .dma (gq 1).sem, .dma (uq 0).sem, .dma (uq 1).sem, .dma (dq 0).sem, .dma (dq 1).sem, .dma (oq 0).sem, .dma (oq 1).sem, .dma (cc0_scoped12).sem, .dma (cc0_scoped13).sem]
theorem ownSemFacts : Pipeline.OwnSemFacts (cfg0.spec) osem := by decide +kernel
theorem ownSems0_eq (c : Dev nD) : (Pipeline.ownSems0 (Ix := Unit) (Name := ℕ) (U := UU nD τ) (Lvl := ℕ) (Val := Elt F) (τ := τ) osem c : sProp 𝕄)
    = iprop(cell c (xq 0) ∗ cell c (xq 1) ∗ cell c (gq 0) ∗ cell c (gq 1) ∗ cell c (uq 0) ∗ cell c (uq 1) ∗ cell c (dq 0) ∗ cell c (dq 1) ∗ cell c (oq 0) ∗ cell c (oq 1) ∗ cell c (cc0_scoped12) ∗ cell c (cc0_scoped13)) := by
  unfold Pipeline.ownSems0
  rw [bigSep_univ_eq_bigSepL [(0 : Fin 12), 1, 2, 3, 4, 5, 6, 7, 8, 9, 10, 11] (by decide) (by decide)]
  rfl

/-! ## The region -/
theorem oW_eq (c : Dev nD) (r : Buf (Elt F) ((c : Thread nD τ).loc main_v3)) : (oW c r : sProp 𝕄) = (((c : Thread nD τ).loc main_v3) ↦{fullShare} r) := rfl
section Region
variable (m : (ℓ : Loc nD τ sig) → Buf (Elt F) ℓ) (ρ : Dev nD → PrngReg)

/-- Core `c`'s buffers when the region is entered: after the three host reshapes. -/
abbrev V (c : Dev nD) (b : Ref sig .tc) : Buf (Elt F) ((c : Thread nD τ).loc b) := StableHlo.after hostOps0 (fun b => m (c, b)) b
theorem hostOps0_fresh : (hostOps0 : List (HloOp τ sig (Elt F))).Forall fun op => op.fresh = ∅ := by
  simp only [List.Forall]; repeat' constructor

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

/-- The result's array after the call. -/
def out (c : Dev nD) : Buf (Elt F) ((c : Thread nD τ).loc main_v3) :=
  Res c (V m c main_arg0) (V m c main_arg2) (V m c main_arg3) (V m c main_arg4) (V m c main_v3) (fnOf c (V m c main_v1)) (ffOf c (V m c main_v2)) 16

/-- What the region owns but for its wait set, the result's array at `r`. -/
def E (c : Dev nD) (r : Buf (Elt F) (oM.view.loc (c : Thread nD τ))) : sProp 𝕄 :=
  iprop(own c n0M fullShare (V m c main_v1) ∗ own c f0M fullShare (V m c main_v2)
    ∗ (∃ f, own c nM fullShare f) ∗ (∃ f, own c fM fullShare f) ∗ cell c cc0_scoped12 ∗ cell c cc0_scoped13
    ∗ xW c (V m c main_arg0) (sh 0) ∗ xW c (V m c main_arg0) (sh 1) ∗ gW c (V m c main_arg2) (sh 0) ∗ gW c (V m c main_arg2) (sh 1)
    ∗ uW c (V m c main_arg3) (sh 0) ∗ uW c (V m c main_arg3) (sh 1) ∗ dW c (V m c main_arg4) (sh 0) ∗ dW c (V m c main_arg4) (sh 1)
    ∗ oW c r ∗ Hany c
    ∗ Xfree c 0 ∗ Xfree c 1 ∗ Gfree c 0 ∗ Gfree c 1 ∗ Ufree c 0 ∗ Ufree c 1 ∗ Dfree c 0 ∗ Dfree c 1 ∗ Ofree c 0 ∗ Ofree c 1)
theorem E_env (c : Dev nD) (r) : iprop(Owes c ∗ E m c r) ⊢ ENV c (V m c main_arg0) (V m c main_arg2) (V m c main_arg3) (V m c main_arg4) (V m c main_v1) (V m c main_v2) r := .rfl
theorem env_E (c : Dev nD) (r) : ENV c (V m c main_arg0) (V m c main_arg2) (V m c main_arg3) (V m c main_arg4) (V m c main_v1) (V m c main_v2) r ⊢ iprop(Owes c ∗ E m c r) := .rfl

theorem env_E' (c : Dev nD) : ENV c (V m c main_arg0) (V m c main_arg2) (V m c main_arg3) (V m c main_arg4) (V m c main_v1) (V m c main_v2)
    (Res c (V m c main_arg0) (V m c main_arg2) (V m c main_arg3) (V m c main_arg4) (V m c main_v3) (fnOf c (V m c main_v1)) (ffOf c (V m c main_v2)) 16)
      ⊢ iprop(Owes c ∗ E m c (out m c)) := .rfl

/-- The operands' and rows' arrays whole at their contents, the result's at `r`. -/
def A (c : Dev nD) (r : Buf (Elt F) ((c : Thread nD τ).loc main_v3)) : sProp 𝕄 :=
  iprop((((c : Thread nD τ).loc main_arg0) ↦{fullShare} V m c main_arg0) ∗ (((c : Thread nD τ).loc main_arg2) ↦{fullShare} V m c main_arg2)
    ∗ (((c : Thread nD τ).loc main_arg3) ↦{fullShare} V m c main_arg3) ∗ (((c : Thread nD τ).loc main_arg4) ↦{fullShare} V m c main_arg4)
    ∗ (((c : Thread nD τ).loc main_v1) ↦{fullShare} V m c main_v1) ∗ (((c : Thread nD τ).loc main_v2) ↦{fullShare} V m c main_v2)
    ∗ (((c : Thread nD τ).loc main_v3) ↦{fullShare} r))

theorem E_in (c : Dev nD) (r) : iprop((A m c r ∗ Pipeline.ownSems0 osem c) ∗ Pipeline.scopedRest (cfg0.spec) c) ⊢ E m c r := by
  rw [scopedRest0_eq, ownSems0_eq]
  unfold A E
  iintro ⟨⟨⟨Ax, Ag, Au, Ad, An, Af, Ao⟩, Cx0, Cx1, Cg0, Cg1, Cu0, Cu1, Cd0, Cd1, Co0, Co1, Cn, Cf⟩, ⟨%fh, Bh⟩, Bx, ⟨%fn, Bn⟩, Bg, Bu, Bd, ⟨%ff, Bf⟩, Bo⟩
  ihave Bx := (x_ring_split c) $$ Bx
  icases Bx with ⟨Bx0, Bx1⟩
  ihave Bg := (g_ring_split c) $$ Bg
  icases Bg with ⟨Bg0, Bg1⟩
  ihave Bu := (u_ring_split c) $$ Bu
  icases Bu with ⟨Bu0, Bu1⟩
  ihave Bd := (d_ring_split c) $$ Bd
  icases Bd with ⟨Bd0, Bd1⟩
  ihave Bo := (o_ring_split c) $$ Bo
  icases Bo with ⟨Bo0, Bo1⟩
  ihave Ax := (x_halves c _).1 $$ Ax
  icases Ax with ⟨Ax0, Ax1⟩
  ihave Ag := (g_halves c _).1 $$ Ag
  icases Ag with ⟨Ag0, Ag1⟩
  ihave Au := (u_halves c _).1 $$ Au
  icases Au with ⟨Au0, Au1⟩
  ihave Ad := (d_halves c _).1 $$ Ad
  icases Ad with ⟨Ad0, Ad1⟩
  isplitl [An]; · iapply (eq_entails (n0M_own c _).symm); iexact An
  isplitl [Af]; · iapply (eq_entails (f0M_own c _).symm); iexact Af
  isplitl [Bn]; · iexists fn; iapply (eq_entails (nM_own c fn).symm); iexact Bn
  isplitl [Bf]; · iexists ff; iapply (eq_entails (fM_own c ff).symm); iexact Bf
  isplitl [Cn]; · iexact Cn
  isplitl [Cf]; · iexact Cf
  isplitl [Ax0]; · iexact Ax0
  isplitl [Ax1]; · iexact Ax1
  isplitl [Ag0]; · iexact Ag0
  isplitl [Ag1]; · iexact Ag1
  isplitl [Au0]; · iexact Au0
  isplitl [Au1]; · iexact Au1
  isplitl [Ad0]; · iexact Ad0
  isplitl [Ad1]; · iexact Ad1
  isplitl [Ao]; · iapply (eq_entails (oW_eq c r).symm); iexact Ao
  isplitl [Bh]; · iexists fh; iapply (eq_entails (hM_own c fh).symm); iexact Bh
  isplitl [Bx0 Cx0]
  · isplitl [Bx0]; · iexact Bx0
    iexact Cx0
  isplitl [Bx1 Cx1]
  · isplitl [Bx1]; · iexact Bx1
    iexact Cx1
  isplitl [Bg0 Cg0]
  · isplitl [Bg0]; · iexact Bg0
    iexact Cg0
  isplitl [Bg1 Cg1]
  · isplitl [Bg1]; · iexact Bg1
    iexact Cg1
  isplitl [Bu0 Cu0]
  · isplitl [Bu0]; · iexact Bu0
    iexact Cu0
  isplitl [Bu1 Cu1]
  · isplitl [Bu1]; · iexact Bu1
    iexact Cu1
  isplitl [Bd0 Cd0]
  · isplitl [Bd0]; · iexact Bd0
    iexact Cd0
  isplitl [Bd1 Cd1]
  · isplitl [Bd1]; · iexact Bd1
    iexact Cd1
  isplitl [Bo0 Co0]
  · isplitl [Bo0]; · iexact Bo0
    iexact Co0
  isplitl [Bo1]; · iexact Bo1
  iexact Co1

theorem E_out (c : Dev nD) (r) : E m c r ⊢ iprop(A m c r ∗ Pipeline.ownSems0 osem c ∗ Pipeline.scopedRest (cfg0.spec) c) := by
  rw [scopedRest0_eq, ownSems0_eq]
  unfold A E
  iintro ⟨An, Af, ⟨%fn, Bn⟩, ⟨%ff, Bf⟩, Cn, Cf, Ax0, Ax1, Ag0, Ag1, Au0, Au1, Ad0, Ad1, Ao, ⟨%fh, Bh⟩, ⟨Bx0, Cx0⟩, ⟨Bx1, Cx1⟩, ⟨Bg0, Cg0⟩, ⟨Bg1, Cg1⟩, ⟨Bu0, Cu0⟩, ⟨Bu1, Cu1⟩, ⟨Bd0, Cd0⟩, ⟨Bd1, Cd1⟩, ⟨Bo0, Co0⟩, ⟨Bo1, Co1⟩⟩
  isplitl [Ax0 Ax1 Ag0 Ag1 Au0 Au1 Ad0 Ad1 An Af Ao]
  · isplitl [Ax0 Ax1]
    · iapply (x_halves c _).2; isplitl [Ax0]; · iexact Ax0
      iexact Ax1
    isplitl [Ag0 Ag1]
    · iapply (g_halves c _).2; isplitl [Ag0]; · iexact Ag0
      iexact Ag1
    isplitl [Au0 Au1]
    · iapply (u_halves c _).2; isplitl [Au0]; · iexact Au0
      iexact Au1
    isplitl [Ad0 Ad1]
    · iapply (d_halves c _).2; isplitl [Ad0]; · iexact Ad0
      iexact Ad1
    isplitl [An]; · iapply (eq_entails (n0M_own c _)); iexact An
    isplitl [Af]; · iapply (eq_entails (f0M_own c _)); iexact Af
    iapply (eq_entails (oW_eq c r)); iexact Ao
  isplitl [Cx0 Cx1 Cg0 Cg1 Cu0 Cu1 Cd0 Cd1 Co0 Co1 Cn Cf]
  · isplitl [Cx0]; · iexact Cx0
    isplitl [Cx1]; · iexact Cx1
    isplitl [Cg0]; · iexact Cg0
    isplitl [Cg1]; · iexact Cg1
    isplitl [Cu0]; · iexact Cu0
    isplitl [Cu1]; · iexact Cu1
    isplitl [Cd0]; · iexact Cd0
    isplitl [Cd1]; · iexact Cd1
    isplitl [Co0]; · iexact Co0
    isplitl [Co1]; · iexact Co1
    isplitl [Cn]; · iexact Cn
    iexact Cf
  isplitl [Bh]; · iexists fh; iapply (eq_entails (hM_own c fh)); iexact Bh
  isplitl [Bx0 Bx1]
  · iapply (x_ring_join c); isplitl [Bx0]; · iexact Bx0
    iexact Bx1
  isplitl [Bn]; · iexists fn; iapply (eq_entails (nM_own c fn)); iexact Bn
  isplitl [Bg0 Bg1]
  · iapply (g_ring_join c); isplitl [Bg0]; · iexact Bg0
    iexact Bg1
  isplitl [Bu0 Bu1]
  · iapply (u_ring_join c); isplitl [Bu0]; · iexact Bu0
    iexact Bu1
  isplitl [Bd0 Bd1]
  · iapply (d_ring_join c); isplitl [Bd0]; · iexact Bd0
    iexact Bd1
  isplitl [Bf]; · iexists ff; iapply (eq_entails (fM_own c ff)); iexact Bf
  iapply (o_ring_join c); isplitl [Bo0]; · iexact Bo0
  iexact Bo1

/-- The region's invariant: the result's array as found, then as the body leaves it. -/
def Φ (c : Dev nD) (n : ℕ) : sProp 𝕄 := if n = 0 then E m c (V m c main_v3) else E m c (out m c)
def dats (_ : Fin 1) (c : Dev nD) : Dat τ (Elt F) Unit ℕ (UU nD τ) ℕ cfg0 c where
  A w := w.elim0
  after w t := w.elim0
  Φ t := Φ m c t.val
  q _ := fullShare
  owed _ := 0

theorem defs_tc : (defs₀ (F := F)) .tc cfg0.body = fun a => bodyG := rfl
theorem prog_eq (t : Fin cfg0.N) : (defs₀ (F := F)) .tc cfg0.body (cfg0.bodyArgs t (cfg0.slots t)) = bodyG := (congrFun defs_tc _).trans rfl

set_option backward.isDefEq.respectTransparency.types false in
theorem body_obligation (c : Dev nD) : BodyObligation (dats (F := F) m 0 c) (defs₀ (F := F)) 𝒱₀ () Set.univ := fun t => by
  have ht : t.val = 0 := by have h := t.isLt; have e := N_0; change t.val < grid0.N at h; omega
  rw [show (Finset.univ : Finset (Fin cfg0.W)) = ∅ from rfl, BI.bigSep_empty, BI.bigSep_empty]
  dsimp only
  rw [show (dats m 0 c).Φ t.castSucc = E m c (V m c main_v3) from by show Φ m c t.val = _; unfold Φ; rw [if_pos ht],
    show (dats m 0 c).Φ t.succ = E m c (out m c) from by show Φ m c (t.val + 1) = _; unfold Φ; rw [if_neg (by omega)]]
  unfold Dat.owesAt Pipeline.owesWithin
  rw [show (dats m 0 c).owed t.castSucc = 0 from rfl, show (dats m 0 c).owed t.succ = 0 from rfl]
  iintro ⟨HE, ⟨%W, -, HW⟩, -⟩
  sl_rw [prog_eq t]
  iapply (bodyRun c (V m c main_arg0) (V m c main_arg2) (V m c main_arg3) (V m c main_arg4) (V m c main_v3) (V m c main_v1) (V m c main_v2))
  isplitl [HE HW]
  · iapply (E_env m c _)
    isplitl [HW]; · iexists W; iexact HW
    iexact HE
  · iintro H
    ihave H := (env_E' m c) $$ H
    icases H with ⟨⟨%W', HW⟩, HE⟩
    isplitl [HE]; · iexact HE
    isplitl [HW]
    · iexists W'; isplitr; · ipureintro; exact fun _ _ => Or.inl trivial
      iexact HW
    iempintro

def u₀ : UU nD τ := (initOf (Pipeline.cells cfgs Cert.Kernel2Ideal.Gen.cellOf_inj) (Pipeline.launchToks cfgs Cert.Kernel2Ideal.Gen.cellOf_inj), 1)
/-- The arrays the region does not touch. -/
def Zr (c : Dev nD) : sProp 𝕄 :=
  iprop((((c : Thread nD τ).loc main_arg1) ↦{fullShare} V m c main_arg1) ∗ (((c : Thread nD τ).loc main_arg5) ↦{fullShare} V m c main_arg5))
def QY (c : Dev nD) (s : MemSt nD τ sig (Elt F)) : Prop :=
  s.mem ((c : Thread nD τ).loc main_v3) = out m c
  ∧ s.mem ((c : Thread nD τ).loc main_arg0) = V m c main_arg0 ∧ s.mem ((c : Thread nD τ).loc main_arg1) = V m c main_arg1
  ∧ s.mem ((c : Thread nD τ).loc main_arg2) = V m c main_arg2 ∧ s.mem ((c : Thread nD τ).loc main_arg3) = V m c main_arg3
  ∧ s.mem ((c : Thread nD τ).loc main_arg4) = V m c main_arg4 ∧ s.mem ((c : Thread nD τ).loc main_arg5) = V m c main_arg5

set_option backward.isDefEq.respectTransparency.types false in
/-- From any memory with zero counters: every run ends, the result's array at `out`, the arguments unchanged, every
    counter at zero. -/
theorem run_main : θ_run defs (onTc (τ := τ) (main (F := F))) ⟨m, fun _ => 0, ρ⟩ (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ w => w.elim0)
    (X := fun c => iprop(A m c (V m c main_v3) ∗ Pipeline.ownSems0 osem c)) (Y := fun c => A m c (out m c)) (Z := Zr m)
    (hX := fun c => by
      rw [unscopedRest0_eq]
      unfold A Zr
      iintro ⟨⟨H0, H1, H2, H3, H4, H5, -, Hv1, Hv2, Hv3⟩, HS, -, -, -⟩; imodintro
      isplitl [H0 H2 H3 H4 Hv1 Hv2 Hv3 HS]
      · isplitl [H0 H2 H3 H4 Hv1 Hv2 Hv3]
        · isplitl [H0]; · iexact H0
          isplitl [H2]; · iexact H2
          isplitl [H3]; · iexact H3
          isplitl [H4]; · iexact H4
          isplitl [Hv1]; · iexact Hv1
          isplitl [Hv2]; · iexact Hv2
          iexact Hv3
        iexact HS
      isplitl [H1]; · iexact H1
      iexact H5)
    (hin := fun c => by
      rw [show (dats m 0 c).Φ 0 = E m c (V m c main_v3) from by show Φ m c 0 = _; unfold Φ; rw [if_pos rfl]]
      exact E_in m c _)
    (hout := fun c => by
      rw [show (dats m 0 c).Φ (Fin.last cfg0.N) = E m c (out m c) from by
        show Φ m c cfg0.N = _; unfold Φ; rw [if_neg (by have e := N_0; show ¬ grid0.N = 0; omega)]]
      exact E_out m c _)
    (QY := QY m)
    (hY := fun c s' => by
      unfold A Zr QY
      iintro ⟨⟨H0, H2, H3, H4, -, -, Ho⟩, ⟨H1, H5⟩, HSI⟩
      icombine HSI Ho gives %ho
      icombine HSI H0 gives %h0
      icombine HSI H1 gives %h1
      icombine HSI H2 gives %h2
      icombine HSI H3 gives %h3
      icombine HSI H4 gives %h4
      icombine HSI H5 gives %h5
      imodintro
      isplitr
      · ipureintro
        exact ⟨Buf.eq_of_forall_mem_univ ho, Buf.eq_of_forall_mem_univ h0, Buf.eq_of_forall_mem_univ h1, Buf.eq_of_forall_mem_univ h2,
          Buf.eq_of_forall_mem_univ h3, Buf.eq_of_forall_mem_univ h4, Buf.eq_of_forall_mem_univ h5⟩
      iexact HSI)
    (hQ := fun _ hh hz => ⟨fun c => (hh c).2, hz⟩)
end Region

end Stream

end
-- ==== Proof.StreamValue.lean ====
/- The streamed feed-forward call's result array at the ideal values, and its agreement with the reference's. -/
module

public import proofs.«01_k».proof.Proof.StreamSpec
public import proofs.«01_k».proof.Proof.StreamLaunch
public import Idealize.ShloMosaic.Lib.ValueLayout

@[expose] public section

set_option maxRecDepth 16384

noncomputable section

namespace Stream

open Cert.Kernel2Ideal Cert.Kernel2Ideal.Gen Idealize.ShloMosaic Idealize.ShloMosaic.TcCoe Idealize.SL.Sem Layer

theorem Er_symm (r : Fin 512) (k : Fin 2048) : Er.symm (ix3 0 r k) = ix2 r k := by
  rw [show (ix3 0 r k : S1x512x2048.Idx) = Er (ix2 r k) from (ValueIdx.reshapeEquiv_ix2_1ab _ r k).symm, Equiv.symm_apply_apply]
theorem Er_at (r : Fin 512) (k : Fin 2048) : Er (ix2 r k) = ix3 0 r k := ValueIdx.reshapeEquiv_ix2_1ab _ r k
theorem Ec_symm (l : Fin 2048) (f : Fin 512) : Ec.symm (ix3 0 l f) = ix2 l f := by
  rw [show (ix3 0 l f : S1x2048x512.Idx) = Ec (ix2 l f) from (ValueIdx.reshapeEquiv_ix2_1ab _ l f).symm, Equiv.symm_apply_apply]

section Blocks
variable (c : Dev nD)
  (XX : Buf (Elt Ideal) (xM.view.loc (c : Thread nD τ))) (XG : Buf (Elt Ideal) (gM.view.loc (c : Thread nD τ)))
  (XU : Buf (Elt Ideal) (uM.view.loc (c : Thread nD τ))) (XD : Buf (Elt Ideal) (dM.view.loc (c : Thread nD τ)))
  (XO : Buf (Elt Ideal) (oM.view.loc (c : Thread nD τ)))
  (XN : Buf (Elt Ideal) (n0M.view.loc (c : Thread nD τ))) (XF : Buf (Elt Ideal) (f0M.view.loc (c : Thread nD τ)))

/-- Row `r` of row block `b`, and column `f` of weight block `n`. -/
def row (b : ℕ) (r : Fin 512) : Fin 8192 := ⟨512 * (b % 16) + r, by omega⟩
def col (n : ℕ) (f : Fin 512) : Fin 5632 := ⟨512 * (n % 11) + f, by omega⟩

theorem xb_at (b : ℕ) (r : Fin 512) (k : Fin 2048) : (xb b).view.read (Elt Ideal) XX (ix2 r k) = XX (ix2 (row b r) k) := by
  refine congrArg XX (funext fun a => Fin.ext ?_)
  fin_cases a
  · show 512 * (b % 16) + 1 * r.val = 512 * (b % 16) + r.val; omega
  · show 0 + 1 * k.val = k.val; omega
theorem ob_at (b : ℕ) (f : Buf (Elt Ideal) (oM.view.loc (c : Thread nD τ))) (r : Fin 512) (k : Fin 2048) :
    (ob b).view.read (Elt Ideal) f (ix2 r k) = f (ix2 (row b r) k) := by
  refine congrArg f (funext fun a => Fin.ext ?_)
  fin_cases a
  · show 512 * (b % 16) + 1 * r.val = 512 * (b % 16) + r.val; omega
  · show 0 + 1 * k.val = k.val; omega
theorem gb_at (n : ℕ) (l : Fin 2048) (f : Fin 512) : (gb n).view.read (Elt Ideal) XG (ix2 l f) = XG (ix2 l (col n f)) := by
  refine congrArg XG (funext fun a => Fin.ext ?_)
  fin_cases a
  · show 0 + 1 * l.val = l.val; omega
  · show 512 * (n % 11) + 1 * f.val = 512 * (n % 11) + f.val; omega
theorem ub_at (n : ℕ) (l : Fin 2048) (f : Fin 512) : (ub n).view.read (Elt Ideal) XU (ix2 l f) = XU (ix2 l (col n f)) := by
  refine congrArg XU (funext fun a => Fin.ext ?_)
  fin_cases a
  · show 0 + 1 * l.val = l.val; omega
  · show 512 * (n % 11) + 1 * f.val = 512 * (n % 11) + f.val; omega
theorem db_at (n : ℕ) (f : Fin 512) (k : Fin 2048) : (db n).view.read (Elt Ideal) XD (ix2 f k) = XD (ix2 (col n f) k) := by
  refine congrArg XD (funext fun a => Fin.ext ?_)
  fin_cases a
  · show 512 * (n % 11) + 1 * f.val = 512 * (n % 11) + f.val; omega
  · show 0 + 1 * k.val = k.val; omega

theorem xT_at (b : ℕ) (r : Fin 512) (k : Fin 2048) : xT c XX b (ix3 0 r k) = XX (ix2 (row b r) k) := by
  unfold xT; rw [Er_symm]; exact xb_at c XX b r k
theorem gT_at (n : ℕ) (l : Fin 2048) (f : Fin 512) : gT c XG n (ix3 0 l f) = XG (ix2 l (col n f)) := by
  unfold gT; rw [Ec_symm]; exact gb_at c XG n l f
theorem uT_at (n : ℕ) (l : Fin 2048) (f : Fin 512) : uT c XU n (ix3 0 l f) = XU (ix2 l (col n f)) := by
  unfold uT; rw [Ec_symm]; exact ub_at c XU n l f
theorem dT_at (n : ℕ) (f : Fin 512) (k : Fin 2048) : dT c XD n (ix3 0 f k) = XD (ix2 (col n f) k) := by
  unfold dT; rw [Er_symm]; exact db_at c XD n f k

theorem rd_n (l : Fin 2048) : rdn c (fnOf c XN) (ix2 0 l) = XN (ix2 0 l) := by
  have h : nM.view.read (Elt Ideal) (fnOf c XN) = n0M.view.read (Elt Ideal) XN := View.read_writes_whole _ _ _
  have e : (Rect.unit (s := S1x2048) ![0, 0] S1x2048.size inb_S1x2048_S1x2048_0_0).toLoadRect.idx (ix2 0 l) = (ix2 0 l : S1x2048.Idx) := by
    funext a; fin_cases a <;> exact Fin.ext (by first | rfl | (show 0 + 1 * l.val = l.val; omega))
  exact (congrArg (nM.view.read (Elt Ideal) (fnOf c XN)) e).trans (congrFun h _)
theorem rd_f (l : Fin 2048) : rdf c (ffOf c XF) (ix2 0 l) = XF (ix2 0 l) := by
  have h : fM.view.read (Elt Ideal) (ffOf c XF) = f0M.view.read (Elt Ideal) XF := View.read_writes_whole _ _ _
  have e : (Rect.unit (s := S1x2048) ![0, 0] S1x2048.size inb_S1x2048_S1x2048_0_0).toLoadRect.idx (ix2 0 l) = (ix2 0 l : S1x2048.Idx) := by
    funext a; fin_cases a <;> exact Fin.ext (by first | rfl | (show 0 + 1 * l.val = l.val; omega))
  exact (congrArg (fM.view.read (Elt Ideal) (ffOf c XF)) e).trans (congrFun h _)

/-! ## The sum over the hidden axis -/

/-- The operands by row and column. -/
abbrev xr (R : Fin 8192) (l : Fin 2048) : EReal := XX (ix2 R l)
abbrev gr (l : Fin 2048) (f : Fin 5632) : EReal := XG (ix2 l f)
abbrev ur (l : Fin 2048) (f : Fin 5632) : EReal := XU (ix2 l f)
abbrev dr (f : Fin 5632) (l : Fin 2048) : EReal := XD (ix2 f l)
abbrev nr (l : Fin 2048) : EReal := XN (ix2 0 l)
abbrev fr (l : Fin 2048) : EReal := XF (ix2 0 l)

/-- The hidden activation at column `f` with the last weight. -/
def prod (R : Fin 8192) (k : Fin 2048) (f : Fin 5632) : EReal :=
  act (nrm (xr c XX R) (nr c XN)) (fun l => gr c XG l f) (fun l => ur c XU l f) * dr c XD f k
/-- Tile `s` of it. -/
def part (R : Fin 8192) (k : Fin 2048) (s : ℕ) : EReal := ∑ f : Fin 512, prod c XX XG XU XD XN R k (col s f)

theorem hT_at (b : ℕ) (r : Fin 512) (l : Fin 2048) : hT c XX (fnOf c XN) b (ix2 r l) = nrm (xr c XX (row b r)) (nr c XN) l := by
  refine (Pay.pay1_at _ _ r l).trans ?_
  rw [show (fun l => xT c XX b (ix3 0 r l)) = xr c XX (row b r) from funext fun l => xT_at c XX b r l,
    show (fun l => rdn c (fnOf c XN) (ix2 0 l)) = nr c XN from funext fun l => rd_n c XN l]

theorem col_par {n s : ℕ} (h : n % 11 = s % 11) (f : Fin 512) : col n f = col s f := by unfold col; simp only [h]

theorem tile_at (b s : ℕ) (a : FVec Ideal S1x512x2048 .f32) (r : Fin 512) (k : Fin 2048) :
    k0_pay4 (F := Ideal) (k0_pay3 (hT c XX (fnOf c XN) b) (gT c XG (11 * b + s)) (uT c XU (11 * b + s))) a (dT c XD (11 * b + s)) (ix3 0 r k)
      = a (ix3 0 r k) + part c XX XG XU XD XN (row b r) k s := by
  refine (Pay.pay4_at _ _ _ r k).trans (congrArg (a (ix3 0 r k) + ·) ?_)
  unfold part prod
  refine Finset.sum_congr rfl fun f _ => ?_
  have hc : col s f = col (11 * b + s) f := col_par (by omega) f
  refine (congrArg (· * _) (Pay.pay3_at _ _ _ r f)).trans ?_
  rw [hc, show (fun l => hT c XX (fnOf c XN) b (ix2 r l)) = nrm (xr c XX (row b r)) (nr c XN) from funext fun l => hT_at c XX XN b r l,
    show (fun l => gT c XG (11 * b + s) (ix3 0 l f)) = fun l => gr c XG l (col (11 * b + s) f) from funext fun l => gT_at c XG _ l f,
    show (fun l => uT c XU (11 * b + s) (ix3 0 l f)) = fun l => ur c XU l (col (11 * b + s) f) from funext fun l => uT_at c XU _ l f]
  exact congrArg _ (dT_at c XD _ f k)

theorem aT_at (b : ℕ) (r : Fin 512) (k : Fin 2048) (j : ℕ) :
    aT c XX XG XU XD (fnOf c XN) b j (ix3 0 r k) = ∑ s ∈ Finset.range j, part c XX XG XU XD XN (row b r) k s := by
  induction j with
  | zero => exact (Pay.pay2_at r k).trans (by simp)
  | succ j ih => rw [Finset.sum_range_succ, ← ih]; exact tile_at c XX XG XU XD XN b j _ r k

theorem aT_last (b : ℕ) (r : Fin 512) (k : Fin 2048) :
    aT c XX XG XU XD (fnOf c XN) b 11 (ix3 0 r k) = ∑ f, prod c XX XG XU XD XN (row b r) k f := by
  rw [aT_at, Finset.sum_range, Fin.sum_univ_tiles 11 512 rfl (prod c XX XG XU XD XN (row b r) k)]
  refine Finset.sum_congr rfl fun s _ => Finset.sum_congr rfl fun f _ => congrArg _ ?_
  apply Fin.ext; simp only [col]; omega

/-- The finished row block. -/
theorem yT_at (b : ℕ) (r : Fin 512) (k : Fin 2048) :
    yT c XX XG XU XD (fnOf c XN) (ffOf c XF) b (ix3 0 r k)
      = nrm (ffn (xr c XX (row b r)) (nr c XN) (gr c XG) (ur c XU) (dr c XD)) (fr c XF) k := by
  refine (Pay.pay5_at _ _ _ r k).trans ?_
  rw [show (fun l => rdf c (ffOf c XF) (ix2 0 l)) = fr c XF from funext fun l => rd_f c XF l]
  refine congrArg (nrm · (fr c XF) k) (funext fun l => ?_)
  rw [aT_last c XX XG XU XD XN b r l]
  exact congrArg (· + _) (xT_at c XX b r l)

/-! ## The result array, block after block -/

theorem not_mem_ob {b n : ℕ} (hb : b < 16) (hn : n < 16) (h : b ≠ n) (r : Fin 512) (k : Fin 2048) : (ix2 (row b r) k : S8192x2048.Idx) ∉ (ob n).view.set := by
  intro hm
  have hm' : (ix2 (row b r) k : S8192x2048.Idx) ∈ (Rect.unit (s := S8192x2048) (rowO n) S512x2048.size (rowO_inb n)).set := by
    have e : (ob n).view.set = (Rect.unit (s := S8192x2048) (rowO n) S512x2048.size (rowO_inb n)).set := View.set_slice_whole _ _
    exact e ▸ hm
  rw [Rect.mem_set_unit] at hm'
  have h0 : 512 * (n % 16) ≤ 512 * (b % 16) + r.val ∧ 512 * (b % 16) + r.val < 512 * (n % 16) + 512 := hm' 0
  have := r.isLt
  omega

theorem res_at (n : ℕ) : n ≤ 16 → ∀ b < n, ∀ (r : Fin 512) (k : Fin 2048),
    res c XX XG XU XD XO (fnOf c XN) (ffOf c XF) n (ix2 (row b r) k)
      = nrm (ffn (xr c XX (row b r)) (nr c XN) (gr c XG) (ur c XU) (dr c XD)) (fr c XF) k := by
  induction n with
  | zero => intro _ b hb; omega
  | succ n ih =>
    intro hn b hb r k
    by_cases e : b = n
    · subst e
      refine (ob_at c b _ r k).symm.trans ?_
      refine (congrFun (View.read_writes_whole (ob b).view (res c XX XG XU XD XO (fnOf c XN) (ffOf c XF) b)
        (fun j => yT c XX XG XU XD (fnOf c XN) (ffOf c XF) b (Er j))) (ix2 r k)).trans ?_
      show yT c XX XG XU XD (fnOf c XN) (ffOf c XF) b (Er (ix2 r k)) = _
      rw [Er_at]; exact yT_at c XX XG XU XD XN XF b r k
    · refine (writes_whole_off (ob n).view (res c XX XG XU XD XO (fnOf c XN) (ffOf c XF) n)
        (fun j => yT c XX XG XU XD (fnOf c XN) (ffOf c XF) n (Er j)) (not_mem_ob (by omega) (by omega) e r k)).trans ?_
      exact ih (by omega) b (by omega) r k

theorem Res_at (R : Fin 8192) (k : Fin 2048) :
    Res c XX XG XU XD XO (fnOf c XN) (ffOf c XF) 16 (ix2 R k)
      = nrm (ffn (xr c XX R) (nr c XN) (gr c XG) (ur c XU) (dr c XD)) (fr c XF) k := by
  have e : R = row (R.val / 512) ⟨R.val % 512, Nat.mod_lt _ (by omega)⟩ := by apply Fin.ext; simp only [row]; omega
  have h := res_at c XX XG XU XD XO XN XF 16 le_rfl (R.val / 512) (by omega) ⟨R.val % 512, Nat.mod_lt _ (by omega)⟩ k
  rw [← e] at h
  exact h
end Blocks

/-! ## The rows the host prepares, and the agreement -/
section Match
variable (m : (ℓ : Loc nD τ sig) → Buf (Elt Ideal) ℓ) (c : Dev nD)

abbrev X0 : FVec Ideal S8192x2048 .f32 := m ((c : Thread nD τ).loc main_arg0)
abbrev X1 : FVec Ideal S1x2048 .f32 := m ((c : Thread nD τ).loc main_arg1)
abbrev X2 : FVec Ideal S2048x5632 .bf16 := m ((c : Thread nD τ).loc main_arg2)
abbrev X3 : FVec Ideal S2048x5632 .bf16 := m ((c : Thread nD τ).loc main_arg3)
abbrev X4 : FVec Ideal S5632x2048 .bf16 := m ((c : Thread nD τ).loc main_arg4)
abbrev X5 : FVec Ideal S2048 .f32 := m ((c : Thread nD τ).loc main_arg5)

theorem V_v1 : V m c main_v1 = (shapeCast S1x2048 (shapeCast S2048 (X1 m c) shapeCasts_S1x2048_S2048 : FVec Ideal S2048 .f32) shapeCasts_S2048_S1x2048 : FVec Ideal S1x2048 .f32) := by
  unfold V hostOps0
  after_results_simp
  rfl
theorem V_v2 : V m c main_v2 = (shapeCast S1x2048 (X5 m c) shapeCasts_S2048_S1x2048 : FVec Ideal S1x2048 .f32) := by
  unfold V hostOps0
  after_results_simp
  rfl

theorem back_at (g : FVec Ideal S1x2048 .f32) (l : Fin 2048) :
    (shapeCast S1x2048 (shapeCast S2048 g shapeCasts_S1x2048_S2048 : FVec Ideal S2048 .f32) shapeCasts_S2048_S1x2048 : FVec Ideal S1x2048 .f32) (ix2 0 l) = g (ix2 0 l) := by
  pointwise
theorem lift_at (g : FVec Ideal S2048 .f32) (l : Fin 2048) :
    (shapeCast S1x2048 g shapeCasts_S2048_S1x2048 : FVec Ideal S1x2048 .f32) (ix2 0 l) = g (ix1 l) := by
  pointwise

/-- The reference's result is the call's. -/
theorem match0 : Cert.Reference2Ideal.Read.O0 (X0 m c) (X1 m c) (X2 m c) (X3 m c) (X4 m c) (X5 m c) = out m c := by
  funext j
  idx_vars j
  refine (Cert.Reference2Ideal.Read.O0_at _ _ _ _ _ _ j0 j1).trans ?_
  refine Eq.trans ?_ (Res_at c (V m c main_arg0) (V m c main_arg2) (V m c main_arg3) (V m c main_arg4) (V m c main_v3) (V m c main_v1) (V m c main_v2) j0 j1).symm
  rw [V_arg0, V_arg2, V_arg3, V_arg4, V_v1, V_v2,
    show nr c (shapeCast S1x2048 (shapeCast S2048 (X1 m c) shapeCasts_S1x2048_S2048 : FVec Ideal S2048 .f32) shapeCasts_S2048_S1x2048 : FVec Ideal S1x2048 .f32) = fun l => X1 m c (ix2 0 l) from
      funext fun l => back_at (X1 m c) l,
    show fr c (shapeCast S1x2048 (X5 m c) shapeCasts_S2048_S1x2048 : FVec Ideal S1x2048 .f32) = fun l => X5 m c (ix1 l) from funext fun l => lift_at (X5 m c) l]
end Match

end Stream

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Final
public import proofs.«01_k».proof.Proof.Pack
public import proofs.«01_k».proof.Proof.RefRead
public import proofs.«01_k».proof.Proof.RefPack
public import proofs.«01_k».proof.Proof.Match
public import proofs.«01_k».proof.Proof.InProj
public import proofs.«01_k».proof.Proof.Merge
public import proofs.«01_k».proof.Proof.GlaFinal
public import proofs.«01_k».proof.Proof.StreamSpec
public import proofs.«01_k».proof.Proof.StreamLaunch
public import proofs.«01_k».proof.Proof.StreamValue

@[expose] public section

noncomputable section

namespace Cert.Proof

open Idealize.ShloMosaic Idealize.SL.Sem Cert.Kernel

/-- The reference runs and changes no argument. -/
theorem frame_r : @Cert.quiescent_ReferenceIdeal Cert.ReferenceIdeal.Gen.facts := by
  intro m ρ _
  exact (θ_run Cert.ReferenceIdeal.defs _ _).mono (fun r h => ⟨fun c => (h c).2.2.2, sem_eq_zero_of_no_sems (by decide) r.2⟩)
    (Cert.ReferenceIdeal.Value.run (F := Ideal) m ρ)

/-- The two idealized programs agree on the three results. -/
theorem algebraic : @Cert.algebraic_KernelIdeal_ReferenceIdeal Cert.KernelIdeal.Gen.facts Cert.ReferenceIdeal.Gen.facts :=
  fun m ρ m' ρ' _ hag => by
  refine ⟨fun c => Cert.KernelIdeal.Blocks.G7 m c, fun c => Cert.KernelIdeal.Blocks.G8 m c, fun c => Cert.KernelIdeal.Blocks.G9 m c, ?_, ?_⟩
  · refine (θ_run Cert.KernelIdeal.defs _ _).mono (fun r h c => ?_) (Cert.KernelIdeal.Value.run_blocks (F := Ideal) m ρ)
    obtain ⟨h7, h8, h9, ha⟩ := h c
    exact ⟨h7.trans (Cert.KernelIdeal.Blocks.final7 m c), h8.trans (Cert.KernelIdeal.Blocks.final8 m c), h9.trans (Cert.KernelIdeal.Blocks.final9 m c), ha⟩
  · refine (θ_run Cert.ReferenceIdeal.defs _ _).mono (fun r h c => ?_) (Cert.ReferenceIdeal.Value.run (F := Ideal) m' ρ')
    obtain ⟨h7, h8, h9, ha⟩ := h c
    obtain ⟨a0, a1, a2, a3, a4, a5, a6⟩ := hag c
    refine ⟨h7.trans ?_, h8.trans ?_, h9.trans ?_, ha⟩
    · rw [a0, a1, a2, a3, a4]; exact Cert.KernelIdeal.Blocks.match7 m c
    · rw [Cert.ReferenceIdeal.Read.res1_eq, a0, a1, a2, a3, a4, a5]; exact Cert.KernelIdeal.Blocks.match8 m c
    · rw [a6]; exact Cert.KernelIdeal.Blocks.match9 m c

theorem frame_r2 : @Cert.quiescent_Reference2Ideal Cert.Reference2Ideal.Gen.facts := by
  intro m ρ _
  exact (θ_run Cert.Reference2Ideal.defs _ _).mono (fun r h => ⟨fun c => (h c).2, sem_eq_zero_of_no_sems (by decide) r.2⟩)
    (Cert.Reference2Ideal.Value.run (F := Ideal) m ρ)

/-- The streamed call runs and changes no argument, whatever the floats are. -/
theorem frame_k2i : @Cert.quiescent_Kernel2Ideal Cert.Kernel2Ideal.Gen.facts := fun m ρ _ =>
  (θ_run Cert.Kernel2Ideal.defs _ _).mono (fun r h => ⟨fun c =>
    ⟨(h.1 c).2.1.trans (Stream.V_arg0 m c), (h.1 c).2.2.1.trans (Stream.V_arg1 m c), (h.1 c).2.2.2.1.trans (Stream.V_arg2 m c),
      (h.1 c).2.2.2.2.1.trans (Stream.V_arg3 m c), (h.1 c).2.2.2.2.2.1.trans (Stream.V_arg4 m c), (h.1 c).2.2.2.2.2.2.trans (Stream.V_arg5 m c)⟩, h.2⟩)
    (Stream.run_main (F := Ideal) m ρ)

theorem frame_k2 : @Cert.quiescent_Kernel2 Cert.Kernel2.Gen.facts := fun m ρ _ =>
  (θ_run Cert.Kernel2Ideal.defs _ _).mono (fun r h => ⟨fun c =>
    ⟨(h.1 c).2.1.trans (Stream.V_arg0 m c), (h.1 c).2.2.1.trans (Stream.V_arg1 m c), (h.1 c).2.2.2.1.trans (Stream.V_arg2 m c),
      (h.1 c).2.2.2.2.1.trans (Stream.V_arg3 m c), (h.1 c).2.2.2.2.2.1.trans (Stream.V_arg4 m c), (h.1 c).2.2.2.2.2.2.trans (Stream.V_arg5 m c)⟩, h.2⟩)
    (Stream.run_main (F := Bits) m ρ)

/-- The second feed-forward block and the last normalisation agree. -/
theorem algebraic2 : @Cert.algebraic_Kernel2Ideal_Reference2Ideal Cert.Kernel2Ideal.Gen.facts Cert.Reference2Ideal.Gen.facts :=
  fun m ρ m' ρ' _ hag => by
  refine ⟨fun c => Stream.out (F := Ideal) m c, ?_, ?_⟩
  · refine (θ_run Cert.Kernel2Ideal.defs _ _).mono (fun r h c => ?_) (Stream.run_main (F := Ideal) m ρ)
    obtain ⟨h3, a0, a1, a2, a3, a4, a5⟩ := h.1 c
    exact ⟨h3, a0.trans (Stream.V_arg0 m c), a1.trans (Stream.V_arg1 m c), a2.trans (Stream.V_arg2 m c), a3.trans (Stream.V_arg3 m c),
      a4.trans (Stream.V_arg4 m c), a5.trans (Stream.V_arg5 m c)⟩
  · refine (θ_run Cert.Reference2Ideal.defs _ _).mono (fun r h c => ?_) (Cert.Reference2Ideal.Value.run (F := Ideal) m' ρ')
    obtain ⟨h0, ha⟩ := h c
    obtain ⟨a0, a1, a2, a3, a4, a5⟩ := hag c
    refine ⟨h0.trans ?_, ha⟩
    rw [Cert.Reference2Ideal.Read.res_eq, a0, a1, a2, a3, a4, a5]; exact Stream.match0 m c

theorem frame_r3 : @Cert.quiescent_Reference3Ideal Cert.Reference3Ideal.Gen.facts := by
  intro m ρ _
  exact (θ_run Cert.Reference3Ideal.defs _ _).mono (fun r h => ⟨fun c => (h c).2.2.2.2.2.2, sem_eq_zero_of_no_sems (by decide) r.2⟩)
    (Cert.Reference3Ideal.Value.run (F := Ideal) m ρ)

theorem frame_r4 : @Cert.quiescent_Reference4Ideal Cert.Reference4Ideal.Gen.facts := by
  intro m ρ _
  exact (θ_run Cert.Reference4Ideal.defs _ _).mono (fun r h => ⟨fun c => (h c).2, sem_eq_zero_of_no_sems (by decide) r.2⟩)
    (Cert.Reference4Ideal.Value.run (F := Ideal) m ρ)

/-- The product with the input weights and the five casts agree. -/
theorem algebraic3 : @Cert.algebraic_Kernel3Ideal_Reference3Ideal Cert.Kernel3Ideal.Gen.facts Cert.Reference3Ideal.Gen.facts :=
  fun m ρ m' ρ' _ hag => by
  refine ⟨fun c => Cert.Kernel3Ideal.Blocks.G7 m c, fun c => Cert.Kernel3Ideal.Blocks.G8 m c, fun c => Cert.Kernel3Ideal.Blocks.G9 m c, fun c => Cert.Kernel3Ideal.Blocks.G10 m c, fun c => Cert.Kernel3Ideal.Blocks.G11 m c, fun c => Cert.Kernel3Ideal.Blocks.G12 m c, ?_, ?_⟩
  · refine (θ_run Cert.Kernel3Ideal.defs _ _).mono (fun r h c => ?_) (Cert.Kernel3Ideal.Value.run_blocks (F := Ideal) m ρ)
    obtain ⟨h7, h8, h9, h10, h11, h12, ha⟩ := h c
    exact ⟨h7.trans (Cert.Kernel3Ideal.Blocks.final7 m c), h8.trans (Cert.Kernel3Ideal.Blocks.final8 m c), h9.trans (Cert.Kernel3Ideal.Blocks.final9 m c), h10.trans (Cert.Kernel3Ideal.Blocks.final10 m c), h11.trans (Cert.Kernel3Ideal.Blocks.final11 m c), h12.trans (Cert.Kernel3Ideal.Blocks.final12 m c), ha⟩
  · refine (θ_run Cert.Reference3Ideal.defs _ _).mono (fun r h c => ?_) (Cert.Reference3Ideal.Value.run (F := Ideal) m' ρ')
    obtain ⟨h7, h8, h9, h10, h11, h12, ha⟩ := h c
    obtain ⟨a0, a1, a2, a3, a4, a5, a6⟩ := hag c
    refine ⟨h7.trans ?_, h8.trans ?_, h9.trans ?_, h10.trans ?_, h11.trans ?_, h12.trans ?_, ha⟩
    · rw [a0, a1]; exact Cert.Kernel3Ideal.Blocks.match7 m c
    · rw [a2]; exact Cert.Kernel3Ideal.Blocks.match8 m c
    · rw [a3]; exact Cert.Kernel3Ideal.Blocks.match9 m c
    · rw [a4]; exact Cert.Kernel3Ideal.Blocks.match10 m c
    · rw [a5]; exact Cert.Kernel3Ideal.Blocks.match11 m c
    · rw [a6]; exact Cert.Kernel3Ideal.Blocks.match12 m c

/-- The merged rows agree. -/
theorem algebraic4 : @Cert.algebraic_Kernel4Ideal_Reference4Ideal Cert.Kernel4Ideal.Gen.facts Cert.Reference4Ideal.Gen.facts :=
  fun m ρ m' ρ' _ hag => by
  refine ⟨fun c => Cert.Kernel4Ideal.Blocks.G11 m c, ?_, ?_⟩
  · refine (θ_run Cert.Kernel4Ideal.defs _ _).mono (fun r h c => ?_) (Cert.Kernel4Ideal.Value.run_blocks (F := Ideal) m ρ)
    obtain ⟨h11, ha⟩ := h c
    exact ⟨h11.trans (Cert.Kernel4Ideal.Blocks.final11 m c), ha⟩
  · refine (θ_run Cert.Reference4Ideal.defs _ _).mono (fun r h c => ?_) (Cert.Reference4Ideal.Value.run (F := Ideal) m' ρ')
    obtain ⟨h11, ha⟩ := h c
    obtain ⟨a0, a1, a2, a3, a4, a5, a6⟩ := hag c
    refine ⟨h11.trans ?_, ha⟩
    rw [a0, a1, a2, a3, a4, a5, a6]; exact Cert.Kernel4Ideal.Blocks.match11 m c

/-- The fifth call's reference runs. -/
theorem frame_r5 : @Cert.quiescent_Reference5Ideal Cert.Reference5Ideal.Gen.facts :=
  fun m ρ _ => (θ_run Cert.Reference5Ideal.defs _ _).mono (fun r h => ⟨fun c => (h c).2, sem_eq_zero_of_no_sems (by decide) r.2⟩)
    (Cert.Reference5Ideal.Value.run (F := Ideal) m ρ)

/-- The gated attention's rows agree. -/
theorem algebraic5 : @Cert.algebraic_Kernel5Ideal_Reference5Ideal Cert.Kernel5Ideal.Gen.facts Cert.Reference5Ideal.Gen.facts :=
  fun m ρ m' ρ' _ hag => by
  refine ⟨fun c => Cert.Kernel5Ideal.Pay.GO m c, ?_, ?_⟩
  · refine (θ_run Cert.Kernel5Ideal.defs _ _).mono (fun r h c => ?_) (Cert.Kernel5Ideal.Value.run_blocks (F := Ideal) m ρ)
    obtain ⟨h4, ha⟩ := h c
    exact ⟨h4.trans (Cert.Kernel5Ideal.Pay.final m c), ha⟩
  · refine (θ_run Cert.Reference5Ideal.defs _ _).mono (fun r h c => ?_) (Cert.Reference5Ideal.Value.run (F := Ideal) m' ρ')
    obtain ⟨h4, ha⟩ := h c
    obtain ⟨e0, e1, e2, e3⟩ := hag c
    refine ⟨(h4.trans (Cert.Reference5Ideal.Read.final m' c)).trans ?_, ha⟩
    have d0 : Cert.Reference5Ideal.Read.a0 m' c = Cert.Kernel5Ideal.Pay.A0 m c := e0
    have d1 : Cert.Reference5Ideal.Read.a1 m' c = Cert.Kernel5Ideal.Pay.A1 m c := e1
    have d2 : Cert.Reference5Ideal.Read.a2 m' c = Cert.Kernel5Ideal.Pay.A2 m c := e2
    have d3 : Cert.Reference5Ideal.Read.a3 m' c = Cert.Kernel5Ideal.Pay.A3 m c := e3
    rw [d0, d1, d2, d3]; rfl

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  fun m ρ _ => Cert.Kernel.Gen.frame m ρ, fun m ρ _ => Cert.KernelIdeal.Gen.frame m ρ, frame_r,
  frame_k2, frame_k2i, frame_r2,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, frame_r4,
  fun m ρ _ => Cert.Kernel5.Gen.frame m ρ, fun m ρ _ => Cert.Kernel5Ideal.Gen.frame m ρ, frame_r5,
  trivial, algebraic, trivial, algebraic2, trivial, algebraic3, trivial, algebraic4, trivial, algebraic5⟩

end Cert.Proof

end
